-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 16384]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![16384, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S8x16x2048 : Shape := ⟨3, ![8, 16, 2048]⟩
abbrev S8 : Shape := ⟨1, ![8]⟩
abbrev S_ : Shape := ⟨0, ![]⟩
abbrev S2 : Shape := ⟨1, ![2]⟩
abbrev S1 : Shape := ⟨1, ![1]⟩
abbrev S64x1024 : Shape := ⟨2, ![64, 1024]⟩
abbrev S64x2048 : Shape := ⟨2, ![64, 2048]⟩
abbrev S16x2048 : Shape := ⟨2, ![16, 2048]⟩
abbrev S1x16x2048 : Shape := ⟨3, ![1, 16, 2048]⟩

abbrev nBuf : Space → Nat
  | .hbm => 3
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .local _ .vmem, ⟨0, _⟩ => ⟨S2048x1024, .f32⟩
  | .local _ .vmem, ⟨1, _⟩ => ⟨S1024x2048, .f32⟩
  | .local _ .vmem, ⟨2, _⟩ => ⟨S2048x2048, .f32⟩
  | .local _ .vmem, ⟨3, _⟩ => ⟨S1024x2048, .bf16⟩
  | .local _ .vmem, ⟨4, _⟩ => ⟨S8x16x2048, .bf16⟩
  | .local _ .vmem, ⟨5, _⟩ => ⟨S8x16x2048, .bf16⟩
  | .local _ .vmem, ⟨6, _⟩ => ⟨S8x16x2048, .bf16⟩
  | .local _ .vmem, ⟨7, _⟩ => ⟨S8x16x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => true
  | ⟨1, _⟩ => true
  | ⟨2, _⟩ => false
  | ⟨3, _⟩ => true
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 4 42 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 2

abbrev nD : Nat := 16
abbrev τ : Topo := Topo.v7x

variable {F : FTy → Type} [FloatOps F]

abbrev grid0 : Pipeline.Grid := .none

def k0_dev1 (d4 : Dev nD) : Nat :=
  let c0_i32_56 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_55 : BitVec 32 := 1#32
  let v72 : BitVec 32 := Scalar.muli v70 c1_i32_55
  let v73 : BitVec 32 := Scalar.addi c0_i32_56 v72
  v73.toNat
def k0_dev2 (d4 : Dev nD) : Nat :=
  let c0_i32_59 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_58 : BitVec 32 := 1#32
  let v74 : BitVec 32 := Scalar.muli v69 c1_i32_58
  let v75 : BitVec 32 := Scalar.addi c0_i32_59 v74
  v75.toNat
def k0_off1 (d4 : Dev nD) : Fin 2 → Nat :=
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c15_i32_51 : BitVec 32 := 15#32
  let c5_i32_46 : BitVec 32 := 5#32
  let v63 : BitVec 1 := Scalar.cmpi .eq v6 c5_i32_46
  let c14_i32_47 : BitVec 32 := 14#32
  let c9_i32_42 : BitVec 32 := 9#32
  let v59 : BitVec 1 := Scalar.cmpi .eq v6 c9_i32_42
  let c13_i32_43 : BitVec 32 := 13#32
  let c13_i32_38 : BitVec 32 := 13#32
  let v55 : BitVec 1 := Scalar.cmpi .eq v6 c13_i32_38
  let c12_i32_39 : BitVec 32 := 12#32
  let c14_i32_35 : BitVec 32 := 14#32
  let v51 : BitVec 1 := Scalar.cmpi .eq v6 c14_i32_35
  let c11_i32_36 : BitVec 32 := 11#32
  let c10_i32_32 : BitVec 32 := 10#32
  let v47 : BitVec 1 := Scalar.cmpi .eq v6 c10_i32_32
  let c10_i32_33 : BitVec 32 := 10#32
  let c6_i32_30 : BitVec 32 := 6#32
  let v43 : BitVec 1 := Scalar.cmpi .eq v6 c6_i32_30
  let c9_i32 : BitVec 32 := 9#32
  let c2_i32_26 : BitVec 32 := 2#32
  let v39 : BitVec 1 := Scalar.cmpi .eq v6 c2_i32_26
  let c8_i32_27 : BitVec 32 := 8#32
  let c3_i32_22 : BitVec 32 := 3#32
  let v35 : BitVec 1 := Scalar.cmpi .eq v6 c3_i32_22
  let c7_i32_23 : BitVec 32 := 7#32
  let c7_i32_19 : BitVec 32 := 7#32
  let v31 : BitVec 1 := Scalar.cmpi .eq v6 c7_i32_19
  let c6_i32 : BitVec 32 := 6#32
  let c11_i32_17 : BitVec 32 := 11#32
  let v27 : BitVec 1 := Scalar.cmpi .eq v6 c11_i32_17
  let c5_i32 : BitVec 32 := 5#32
  let c15_i32_14 : BitVec 32 := 15#32
  let v23 : BitVec 1 := Scalar.cmpi .eq v6 c15_i32_14
  let c4_i32_15 : BitVec 32 := 4#32
  let c12_i32_12 : BitVec 32 := 12#32
  let v19 : BitVec 1 := Scalar.cmpi .eq v6 c12_i32_12
  let c3_i32 : BitVec 32 := 3#32
  let c8_i32_10 : BitVec 32 := 8#32
  let v15 : BitVec 1 := Scalar.cmpi .eq v6 c8_i32_10
  let c2_i32 : BitVec 32 := 2#32
  let c4_i32_7 : BitVec 32 := 4#32
  let v11 : BitVec 1 := Scalar.cmpi .eq v6 c4_i32_7
  let c1_i32_8 : BitVec 32 := 1#32
  let c0_i32_1 : BitVec 32 := 0#32
  let v7 : BitVec 1 := Scalar.cmpi .eq v6 c0_i32_1
  let c0_i32_2 : BitVec 32 := 0#32
  let c0_i32_3 : BitVec 32 := 0#32
  let v8 : BitVec 32 := Scalar.select v7 c0_i32_2 c0_i32_3
  let v12 : BitVec 32 := Scalar.select v11 c1_i32_8 v8
  let v16 : BitVec 32 := Scalar.select v15 c2_i32 v12
  let v20 : BitVec 32 := Scalar.select v19 c3_i32 v16
  let v24 : BitVec 32 := Scalar.select v23 c4_i32_15 v20
  let v28 : BitVec 32 := Scalar.select v27 c5_i32 v24
  let v32 : BitVec 32 := Scalar.select v31 c6_i32 v28
  let v36 : BitVec 32 := Scalar.select v35 c7_i32_23 v32
  let v40 : BitVec 32 := Scalar.select v39 c8_i32_27 v36
  let v44 : BitVec 32 := Scalar.select v43 c9_i32 v40
  let v48 : BitVec 32 := Scalar.select v47 c10_i32_33 v44
  let v52 : BitVec 32 := Scalar.select v51 c11_i32_36 v48
  let v56 : BitVec 32 := Scalar.select v55 c12_i32_39 v52
  let v60 : BitVec 32 := Scalar.select v59 c13_i32_43 v56
  let v64 : BitVec 32 := Scalar.select v63 c14_i32_47 v60
  let v68 : BitVec 32 := Scalar.select v67 c15_i32_51 v64
  let c128_i32 : BitVec 32 := 128#32
  let v85 : BitVec 32 := Scalar.muli v68 c128_i32
  let v86 : Index := Scalar.indexCast v85
  let c0_66 : Index := 0#32
  ![v86.toNat, 0]
def k0_off2 (d4 : Dev nD) : Fin 2 → Nat :=
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c15_i32_51 : BitVec 32 := 15#32
  let c5_i32_46 : BitVec 32 := 5#32
  let v63 : BitVec 1 := Scalar.cmpi .eq v6 c5_i32_46
  let c14_i32_47 : BitVec 32 := 14#32
  let c9_i32_42 : BitVec 32 := 9#32
  let v59 : BitVec 1 := Scalar.cmpi .eq v6 c9_i32_42
  let c13_i32_43 : BitVec 32 := 13#32
  let c13_i32_38 : BitVec 32 := 13#32
  let v55 : BitVec 1 := Scalar.cmpi .eq v6 c13_i32_38
  let c12_i32_39 : BitVec 32 := 12#32
  let c14_i32_35 : BitVec 32 := 14#32
  let v51 : BitVec 1 := Scalar.cmpi .eq v6 c14_i32_35
  let c11_i32_36 : BitVec 32 := 11#32
  let c10_i32_32 : BitVec 32 := 10#32
  let v47 : BitVec 1 := Scalar.cmpi .eq v6 c10_i32_32
  let c10_i32_33 : BitVec 32 := 10#32
  let c6_i32_30 : BitVec 32 := 6#32
  let v43 : BitVec 1 := Scalar.cmpi .eq v6 c6_i32_30
  let c9_i32 : BitVec 32 := 9#32
  let c2_i32_26 : BitVec 32 := 2#32
  let v39 : BitVec 1 := Scalar.cmpi .eq v6 c2_i32_26
  let c8_i32_27 : BitVec 32 := 8#32
  let c3_i32_22 : BitVec 32 := 3#32
  let v35 : BitVec 1 := Scalar.cmpi .eq v6 c3_i32_22
  let c7_i32_23 : BitVec 32 := 7#32
  let c7_i32_19 : BitVec 32 := 7#32
  let v31 : BitVec 1 := Scalar.cmpi .eq v6 c7_i32_19
  let c6_i32 : BitVec 32 := 6#32
  let c11_i32_17 : BitVec 32 := 11#32
  let v27 : BitVec 1 := Scalar.cmpi .eq v6 c11_i32_17
  let c5_i32 : BitVec 32 := 5#32
  let c15_i32_14 : BitVec 32 := 15#32
  let v23 : BitVec 1 := Scalar.cmpi .eq v6 c15_i32_14
  let c4_i32_15 : BitVec 32 := 4#32
  let c12_i32_12 : BitVec 32 := 12#32
  let v19 : BitVec 1 := Scalar.cmpi .eq v6 c12_i32_12
  let c3_i32 : BitVec 32 := 3#32
  let c8_i32_10 : BitVec 32 := 8#32
  let v15 : BitVec 1 := Scalar.cmpi .eq v6 c8_i32_10
  let c2_i32 : BitVec 32 := 2#32
  let c4_i32_7 : BitVec 32 := 4#32
  let v11 : BitVec 1 := Scalar.cmpi .eq v6 c4_i32_7
  let c1_i32_8 : BitVec 32 := 1#32
  let c0_i32_1 : BitVec 32 := 0#32
  let v7 : BitVec 1 := Scalar.cmpi .eq v6 c0_i32_1
  let c0_i32_2 : BitVec 32 := 0#32
  let c0_i32_3 : BitVec 32 := 0#32
  let v8 : BitVec 32 := Scalar.select v7 c0_i32_2 c0_i32_3
  let v12 : BitVec 32 := Scalar.select v11 c1_i32_8 v8
  let v16 : BitVec 32 := Scalar.select v15 c2_i32 v12
  let v20 : BitVec 32 := Scalar.select v19 c3_i32 v16
  let v24 : BitVec 32 := Scalar.select v23 c4_i32_15 v20
  let v28 : BitVec 32 := Scalar.select v27 c5_i32 v24
  let v32 : BitVec 32 := Scalar.select v31 c6_i32 v28
  let v36 : BitVec 32 := Scalar.select v35 c7_i32_23 v32
  let v40 : BitVec 32 := Scalar.select v39 c8_i32_27 v36
  let v44 : BitVec 32 := Scalar.select v43 c9_i32 v40
  let v48 : BitVec 32 := Scalar.select v47 c10_i32_33 v44
  let v52 : BitVec 32 := Scalar.select v51 c11_i32_36 v48
  let v56 : BitVec 32 := Scalar.select v55 c12_i32_39 v52
  let v60 : BitVec 32 := Scalar.select v59 c13_i32_43 v56
  let v64 : BitVec 32 := Scalar.select v63 c14_i32_47 v60
  let v68 : BitVec 32 := Scalar.select v67 c15_i32_51 v64
  let c128_i32 : BitVec 32 := 128#32
  let v85 : BitVec 32 := Scalar.muli v68 c128_i32
  let v91 : Index := Scalar.indexCast v85
  let c0_69 : Index := 0#32
  ![v91.toNat, 0]
def k0_off3 (d4 : Dev nD) : Fin 2 → Nat :=
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c15_i32_51 : BitVec 32 := 15#32
  let c5_i32_46 : BitVec 32 := 5#32
  let v63 : BitVec 1 := Scalar.cmpi .eq v6 c5_i32_46
  let c14_i32_47 : BitVec 32 := 14#32
  let c9_i32_42 : BitVec 32 := 9#32
  let v59 : BitVec 1 := Scalar.cmpi .eq v6 c9_i32_42
  let c13_i32_43 : BitVec 32 := 13#32
  let c13_i32_38 : BitVec 32 := 13#32
  let v55 : BitVec 1 := Scalar.cmpi .eq v6 c13_i32_38
  let c12_i32_39 : BitVec 32 := 12#32
  let c14_i32_35 : BitVec 32 := 14#32
  let v51 : BitVec 1 := Scalar.cmpi .eq v6 c14_i32_35
  let c11_i32_36 : BitVec 32 := 11#32
  let c10_i32_32 : BitVec 32 := 10#32
  let v47 : BitVec 1 := Scalar.cmpi .eq v6 c10_i32_32
  let c10_i32_33 : BitVec 32 := 10#32
  let c6_i32_30 : BitVec 32 := 6#32
  let v43 : BitVec 1 := Scalar.cmpi .eq v6 c6_i32_30
  let c9_i32 : BitVec 32 := 9#32
  let c2_i32_26 : BitVec 32 := 2#32
  let v39 : BitVec 1 := Scalar.cmpi .eq v6 c2_i32_26
  let c8_i32_27 : BitVec 32 := 8#32
  let c3_i32_22 : BitVec 32 := 3#32
  let v35 : BitVec 1 := Scalar.cmpi .eq v6 c3_i32_22
  let c7_i32_23 : BitVec 32 := 7#32
  let c7_i32_19 : BitVec 32 := 7#32
  let v31 : BitVec 1 := Scalar.cmpi .eq v6 c7_i32_19
  let c6_i32 : BitVec 32 := 6#32
  let c11_i32_17 : BitVec 32 := 11#32
  let v27 : BitVec 1 := Scalar.cmpi .eq v6 c11_i32_17
  let c5_i32 : BitVec 32 := 5#32
  let c15_i32_14 : BitVec 32 := 15#32
  let v23 : BitVec 1 := Scalar.cmpi .eq v6 c15_i32_14
  let c4_i32_15 : BitVec 32 := 4#32
  let c12_i32_12 : BitVec 32 := 12#32
  let v19 : BitVec 1 := Scalar.cmpi .eq v6 c12_i32_12
  let c3_i32 : BitVec 32 := 3#32
  let c8_i32_10 : BitVec 32 := 8#32
  let v15 : BitVec 1 := Scalar.cmpi .eq v6 c8_i32_10
  let c2_i32 : BitVec 32 := 2#32
  let c4_i32_7 : BitVec 32 := 4#32
  let v11 : BitVec 1 := Scalar.cmpi .eq v6 c4_i32_7
  let c1_i32_8 : BitVec 32 := 1#32
  let c0_i32_1 : BitVec 32 := 0#32
  let v7 : BitVec 1 := Scalar.cmpi .eq v6 c0_i32_1
  let c0_i32_2 : BitVec 32 := 0#32
  let c0_i32_3 : BitVec 32 := 0#32
  let v8 : BitVec 32 := Scalar.select v7 c0_i32_2 c0_i32_3
  let v12 : BitVec 32 := Scalar.select v11 c1_i32_8 v8
  let v16 : BitVec 32 := Scalar.select v15 c2_i32 v12
  let v20 : BitVec 32 := Scalar.select v19 c3_i32 v16
  let v24 : BitVec 32 := Scalar.select v23 c4_i32_15 v20
  let v28 : BitVec 32 := Scalar.select v27 c5_i32 v24
  let v32 : BitVec 32 := Scalar.select v31 c6_i32 v28
  let v36 : BitVec 32 := Scalar.select v35 c7_i32_23 v32
  let v40 : BitVec 32 := Scalar.select v39 c8_i32_27 v36
  let v44 : BitVec 32 := Scalar.select v43 c9_i32 v40
  let v48 : BitVec 32 := Scalar.select v47 c10_i32_33 v44
  let v52 : BitVec 32 := Scalar.select v51 c11_i32_36 v48
  let v56 : BitVec 32 := Scalar.select v55 c12_i32_39 v52
  let v60 : BitVec 32 := Scalar.select v59 c13_i32_43 v56
  let v64 : BitVec 32 := Scalar.select v63 c14_i32_47 v60
  let v68 : BitVec 32 := Scalar.select v67 c15_i32_51 v64
  let c128_i32_70 : BitVec 32 := 128#32
  let v95 : BitVec 32 := Scalar.muli v68 c128_i32_70
  let c64_i32 : BitVec 32 := 64#32
  let v96 : BitVec 32 := Scalar.addi v95 c64_i32
  let v97 : Index := Scalar.indexCast v96
  let c0_71 : Index := 0#32
  ![v97.toNat, 0]
def k0_off4 (d4 : Dev nD) : Fin 2 → Nat :=
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c15_i32_51 : BitVec 32 := 15#32
  let c5_i32_46 : BitVec 32 := 5#32
  let v63 : BitVec 1 := Scalar.cmpi .eq v6 c5_i32_46
  let c14_i32_47 : BitVec 32 := 14#32
  let c9_i32_42 : BitVec 32 := 9#32
  let v59 : BitVec 1 := Scalar.cmpi .eq v6 c9_i32_42
  let c13_i32_43 : BitVec 32 := 13#32
  let c13_i32_38 : BitVec 32 := 13#32
  let v55 : BitVec 1 := Scalar.cmpi .eq v6 c13_i32_38
  let c12_i32_39 : BitVec 32 := 12#32
  let c14_i32_35 : BitVec 32 := 14#32
  let v51 : BitVec 1 := Scalar.cmpi .eq v6 c14_i32_35
  let c11_i32_36 : BitVec 32 := 11#32
  let c10_i32_32 : BitVec 32 := 10#32
  let v47 : BitVec 1 := Scalar.cmpi .eq v6 c10_i32_32
  let c10_i32_33 : BitVec 32 := 10#32
  let c6_i32_30 : BitVec 32 := 6#32
  let v43 : BitVec 1 := Scalar.cmpi .eq v6 c6_i32_30
  let c9_i32 : BitVec 32 := 9#32
  let c2_i32_26 : BitVec 32 := 2#32
  let v39 : BitVec 1 := Scalar.cmpi .eq v6 c2_i32_26
  let c8_i32_27 : BitVec 32 := 8#32
  let c3_i32_22 : BitVec 32 := 3#32
  let v35 : BitVec 1 := Scalar.cmpi .eq v6 c3_i32_22
  let c7_i32_23 : BitVec 32 := 7#32
  let c7_i32_19 : BitVec 32 := 7#32
  let v31 : BitVec 1 := Scalar.cmpi .eq v6 c7_i32_19
  let c6_i32 : BitVec 32 := 6#32
  let c11_i32_17 : BitVec 32 := 11#32
  let v27 : BitVec 1 := Scalar.cmpi .eq v6 c11_i32_17
  let c5_i32 : BitVec 32 := 5#32
  let c15_i32_14 : BitVec 32 := 15#32
  let v23 : BitVec 1 := Scalar.cmpi .eq v6 c15_i32_14
  let c4_i32_15 : BitVec 32 := 4#32
  let c12_i32_12 : BitVec 32 := 12#32
  let v19 : BitVec 1 := Scalar.cmpi .eq v6 c12_i32_12
  let c3_i32 : BitVec 32 := 3#32
  let c8_i32_10 : BitVec 32 := 8#32
  let v15 : BitVec 1 := Scalar.cmpi .eq v6 c8_i32_10
  let c2_i32 : BitVec 32 := 2#32
  let c4_i32_7 : BitVec 32 := 4#32
  let v11 : BitVec 1 := Scalar.cmpi .eq v6 c4_i32_7
  let c1_i32_8 : BitVec 32 := 1#32
  let c0_i32_1 : BitVec 32 := 0#32
  let v7 : BitVec 1 := Scalar.cmpi .eq v6 c0_i32_1
  let c0_i32_2 : BitVec 32 := 0#32
  let c0_i32_3 : BitVec 32 := 0#32
  let v8 : BitVec 32 := Scalar.select v7 c0_i32_2 c0_i32_3
  let v12 : BitVec 32 := Scalar.select v11 c1_i32_8 v8
  let v16 : BitVec 32 := Scalar.select v15 c2_i32 v12
  let v20 : BitVec 32 := Scalar.select v19 c3_i32 v16
  let v24 : BitVec 32 := Scalar.select v23 c4_i32_15 v20
  let v28 : BitVec 32 := Scalar.select v27 c5_i32 v24
  let v32 : BitVec 32 := Scalar.select v31 c6_i32 v28
  let v36 : BitVec 32 := Scalar.select v35 c7_i32_23 v32
  let v40 : BitVec 32 := Scalar.select v39 c8_i32_27 v36
  let v44 : BitVec 32 := Scalar.select v43 c9_i32 v40
  let v48 : BitVec 32 := Scalar.select v47 c10_i32_33 v44
  let v52 : BitVec 32 := Scalar.select v51 c11_i32_36 v48
  let v56 : BitVec 32 := Scalar.select v55 c12_i32_39 v52
  let v60 : BitVec 32 := Scalar.select v59 c13_i32_43 v56
  let v64 : BitVec 32 := Scalar.select v63 c14_i32_47 v60
  let v68 : BitVec 32 := Scalar.select v67 c15_i32_51 v64
  let c128_i32_70 : BitVec 32 := 128#32
  let v95 : BitVec 32 := Scalar.muli v68 c128_i32_70
  let c64_i32 : BitVec 32 := 64#32
  let v96 : BitVec 32 := Scalar.addi v95 c64_i32
  let v102 : Index := Scalar.indexCast v96
  let c0_75 : Index := 0#32
  ![v102.toNat, 0]
def k0_off5 (d4 : Dev nD) (c0_i32_77 : BitVec 32) : Fin 2 → Nat :=
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c15_i32_51 : BitVec 32 := 15#32
  let c5_i32_46 : BitVec 32 := 5#32
  let v63 : BitVec 1 := Scalar.cmpi .eq v6 c5_i32_46
  let c14_i32_47 : BitVec 32 := 14#32
  let c9_i32_42 : BitVec 32 := 9#32
  let v59 : BitVec 1 := Scalar.cmpi .eq v6 c9_i32_42
  let c13_i32_43 : BitVec 32 := 13#32
  let c13_i32_38 : BitVec 32 := 13#32
  let v55 : BitVec 1 := Scalar.cmpi .eq v6 c13_i32_38
  let c12_i32_39 : BitVec 32 := 12#32
  let c14_i32_35 : BitVec 32 := 14#32
  let v51 : BitVec 1 := Scalar.cmpi .eq v6 c14_i32_35
  let c11_i32_36 : BitVec 32 := 11#32
  let c10_i32_32 : BitVec 32 := 10#32
  let v47 : BitVec 1 := Scalar.cmpi .eq v6 c10_i32_32
  let c10_i32_33 : BitVec 32 := 10#32
  let c6_i32_30 : BitVec 32 := 6#32
  let v43 : BitVec 1 := Scalar.cmpi .eq v6 c6_i32_30
  let c9_i32 : BitVec 32 := 9#32
  let c2_i32_26 : BitVec 32 := 2#32
  let v39 : BitVec 1 := Scalar.cmpi .eq v6 c2_i32_26
  let c8_i32_27 : BitVec 32 := 8#32
  let c3_i32_22 : BitVec 32 := 3#32
  let v35 : BitVec 1 := Scalar.cmpi .eq v6 c3_i32_22
  let c7_i32_23 : BitVec 32 := 7#32
  let c7_i32_19 : BitVec 32 := 7#32
  let v31 : BitVec 1 := Scalar.cmpi .eq v6 c7_i32_19
  let c6_i32 : BitVec 32 := 6#32
  let c11_i32_17 : BitVec 32 := 11#32
  let v27 : BitVec 1 := Scalar.cmpi .eq v6 c11_i32_17
  let c5_i32 : BitVec 32 := 5#32
  let c15_i32_14 : BitVec 32 := 15#32
  let v23 : BitVec 1 := Scalar.cmpi .eq v6 c15_i32_14
  let c4_i32_15 : BitVec 32 := 4#32
  let c12_i32_12 : BitVec 32 := 12#32
  let v19 : BitVec 1 := Scalar.cmpi .eq v6 c12_i32_12
  let c3_i32 : BitVec 32 := 3#32
  let c8_i32_10 : BitVec 32 := 8#32
  let v15 : BitVec 1 := Scalar.cmpi .eq v6 c8_i32_10
  let c2_i32 : BitVec 32 := 2#32
  let c4_i32_7 : BitVec 32 := 4#32
  let v11 : BitVec 1 := Scalar.cmpi .eq v6 c4_i32_7
  let c1_i32_8 : BitVec 32 := 1#32
  let c0_i32_1 : BitVec 32 := 0#32
  let v7 : BitVec 1 := Scalar.cmpi .eq v6 c0_i32_1
  let c0_i32_2 : BitVec 32 := 0#32
  let c0_i32_3 : BitVec 32 := 0#32
  let v8 : BitVec 32 := Scalar.select v7 c0_i32_2 c0_i32_3
  let v12 : BitVec 32 := Scalar.select v11 c1_i32_8 v8
  let v16 : BitVec 32 := Scalar.select v15 c2_i32 v12
  let v20 : BitVec 32 := Scalar.select v19 c3_i32 v16
  let v24 : BitVec 32 := Scalar.select v23 c4_i32_15 v20
  let v28 : BitVec 32 := Scalar.select v27 c5_i32 v24
  let v32 : BitVec 32 := Scalar.select v31 c6_i32 v28
  let v36 : BitVec 32 := Scalar.select v35 c7_i32_23 v32
  let v40 : BitVec 32 := Scalar.select v39 c8_i32_27 v36
  let v44 : BitVec 32 := Scalar.select v43 c9_i32 v40
  let v48 : BitVec 32 := Scalar.select v47 c10_i32_33 v44
  let v52 : BitVec 32 := Scalar.select v51 c11_i32_36 v48
  let v56 : BitVec 32 := Scalar.select v55 c12_i32_39 v52
  let v60 : BitVec 32 := Scalar.select v59 c13_i32_43 v56
  let v64 : BitVec 32 := Scalar.select v63 c14_i32_47 v60
  let v68 : BitVec 32 := Scalar.select v67 c15_i32_51 v64
  let c128_i32_76 : BitVec 32 := 128#32
  let v106 : BitVec 32 := Scalar.muli v68 c128_i32_76
  let v107 : BitVec 32 := Scalar.addi v106 c0_i32_77
  let v108 : Index := Scalar.indexCast v107
  let c0_78 : Index := 0#32
  ![v108.toNat, 0]
def k0_dev3 (d4 : Dev nD) : Nat :=
  let c0_i32_87 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_86 : BitVec 32 := 1#32
  let v114 : BitVec 32 := Scalar.muli v69 c1_i32_86
  let v115 : BitVec 32 := Scalar.addi c0_i32_87 v114
  v115.toNat
def k0_off6 (d4 : Dev nD) (c0_i32_94 : BitVec 32) : Fin 2 → Nat :=
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c15_i32_51 : BitVec 32 := 15#32
  let c5_i32_46 : BitVec 32 := 5#32
  let v63 : BitVec 1 := Scalar.cmpi .eq v6 c5_i32_46
  let c14_i32_47 : BitVec 32 := 14#32
  let c9_i32_42 : BitVec 32 := 9#32
  let v59 : BitVec 1 := Scalar.cmpi .eq v6 c9_i32_42
  let c13_i32_43 : BitVec 32 := 13#32
  let c13_i32_38 : BitVec 32 := 13#32
  let v55 : BitVec 1 := Scalar.cmpi .eq v6 c13_i32_38
  let c12_i32_39 : BitVec 32 := 12#32
  let c14_i32_35 : BitVec 32 := 14#32
  let v51 : BitVec 1 := Scalar.cmpi .eq v6 c14_i32_35
  let c11_i32_36 : BitVec 32 := 11#32
  let c10_i32_32 : BitVec 32 := 10#32
  let v47 : BitVec 1 := Scalar.cmpi .eq v6 c10_i32_32
  let c10_i32_33 : BitVec 32 := 10#32
  let c6_i32_30 : BitVec 32 := 6#32
  let v43 : BitVec 1 := Scalar.cmpi .eq v6 c6_i32_30
  let c9_i32 : BitVec 32 := 9#32
  let c2_i32_26 : BitVec 32 := 2#32
  let v39 : BitVec 1 := Scalar.cmpi .eq v6 c2_i32_26
  let c8_i32_27 : BitVec 32 := 8#32
  let c3_i32_22 : BitVec 32 := 3#32
  let v35 : BitVec 1 := Scalar.cmpi .eq v6 c3_i32_22
  let c7_i32_23 : BitVec 32 := 7#32
  let c7_i32_19 : BitVec 32 := 7#32
  let v31 : BitVec 1 := Scalar.cmpi .eq v6 c7_i32_19
  let c6_i32 : BitVec 32 := 6#32
  let c11_i32_17 : BitVec 32 := 11#32
  let v27 : BitVec 1 := Scalar.cmpi .eq v6 c11_i32_17
  let c5_i32 : BitVec 32 := 5#32
  let c15_i32_14 : BitVec 32 := 15#32
  let v23 : BitVec 1 := Scalar.cmpi .eq v6 c15_i32_14
  let c4_i32_15 : BitVec 32 := 4#32
  let c12_i32_12 : BitVec 32 := 12#32
  let v19 : BitVec 1 := Scalar.cmpi .eq v6 c12_i32_12
  let c3_i32 : BitVec 32 := 3#32
  let c8_i32_10 : BitVec 32 := 8#32
  let v15 : BitVec 1 := Scalar.cmpi .eq v6 c8_i32_10
  let c2_i32 : BitVec 32 := 2#32
  let c4_i32_7 : BitVec 32 := 4#32
  let v11 : BitVec 1 := Scalar.cmpi .eq v6 c4_i32_7
  let c1_i32_8 : BitVec 32 := 1#32
  let c0_i32_1 : BitVec 32 := 0#32
  let v7 : BitVec 1 := Scalar.cmpi .eq v6 c0_i32_1
  let c0_i32_2 : BitVec 32 := 0#32
  let c0_i32_3 : BitVec 32 := 0#32
  let v8 : BitVec 32 := Scalar.select v7 c0_i32_2 c0_i32_3
  let v12 : BitVec 32 := Scalar.select v11 c1_i32_8 v8
  let v16 : BitVec 32 := Scalar.select v15 c2_i32 v12
  let v20 : BitVec 32 := Scalar.select v19 c3_i32 v16
  let v24 : BitVec 32 := Scalar.select v23 c4_i32_15 v20
  let v28 : BitVec 32 := Scalar.select v27 c5_i32 v24
  let v32 : BitVec 32 := Scalar.select v31 c6_i32 v28
  let v36 : BitVec 32 := Scalar.select v35 c7_i32_23 v32
  let v40 : BitVec 32 := Scalar.select v39 c8_i32_27 v36
  let v44 : BitVec 32 := Scalar.select v43 c9_i32 v40
  let v48 : BitVec 32 := Scalar.select v47 c10_i32_33 v44
  let v52 : BitVec 32 := Scalar.select v51 c11_i32_36 v48
  let v56 : BitVec 32 := Scalar.select v55 c12_i32_39 v52
  let v60 : BitVec 32 := Scalar.select v59 c13_i32_43 v56
  let v64 : BitVec 32 := Scalar.select v63 c14_i32_47 v60
  let v68 : BitVec 32 := Scalar.select v67 c15_i32_51 v64
  let c128_i32_92 : BitVec 32 := 128#32
  let v124 : BitVec 32 := Scalar.muli v68 c128_i32_92
  let c64_i32_93 : BitVec 32 := 64#32
  let v125 : BitVec 32 := Scalar.addi v124 c64_i32_93
  let v126 : BitVec 32 := Scalar.addi v125 c0_i32_94
  let v127 : Index := Scalar.indexCast v126
  let c0_95 : Index := 0#32
  ![v127.toNat, 0]
def k0_dev4 (d4 : Dev nD) : Nat :=
  let c0_i32_104 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_103 : BitVec 32 := 1#32
  let v133 : BitVec 32 := Scalar.muli v70 c1_i32_103
  let v134 : BitVec 32 := Scalar.addi c0_i32_104 v133
  v134.toNat
def k0_dev5 (d4 : Dev nD) : Nat :=
  let c0_i32_119 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_118 : BitVec 32 := 1#32
  let v151 : BitVec 32 := Scalar.muli v69 c1_i32_118
  let v152 : BitVec 32 := Scalar.addi c0_i32_119 v151
  v152.toNat
def k0_dev6 (d4 : Dev nD) : Nat :=
  let c0_i32_136 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_135 : BitVec 32 := 1#32
  let v170 : BitVec 32 := Scalar.muli v70 c1_i32_135
  let v171 : BitVec 32 := Scalar.addi c0_i32_136 v170
  v171.toNat
def k0_dev7 (d4 : Dev nD) : Nat :=
  let c0_i32_150 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_149 : BitVec 32 := 1#32
  let v188 : BitVec 32 := Scalar.muli v69 c1_i32_149
  let v189 : BitVec 32 := Scalar.addi c0_i32_150 v188
  v189.toNat
def k0_dev8 (d4 : Dev nD) : Nat :=
  let c0_i32_167 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_166 : BitVec 32 := 1#32
  let v207 : BitVec 32 := Scalar.muli v70 c1_i32_166
  let v208 : BitVec 32 := Scalar.addi c0_i32_167 v207
  v208.toNat
def k0_dev9 (d4 : Dev nD) : Nat :=
  let c0_i32_181 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_180 : BitVec 32 := 1#32
  let v225 : BitVec 32 := Scalar.muli v69 c1_i32_180
  let v226 : BitVec 32 := Scalar.addi c0_i32_181 v225
  v226.toNat
def k0_dev10 (d4 : Dev nD) : Nat :=
  let c0_i32_198 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_197 : BitVec 32 := 1#32
  let v244 : BitVec 32 := Scalar.muli v70 c1_i32_197
  let v245 : BitVec 32 := Scalar.addi c0_i32_198 v244
  v245.toNat
def k0_off7 (d4 : Dev nD) (c0_i32_203 : BitVec 32) : Fin 2 → Nat :=
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c15_i32_51 : BitVec 32 := 15#32
  let c5_i32_46 : BitVec 32 := 5#32
  let v63 : BitVec 1 := Scalar.cmpi .eq v6 c5_i32_46
  let c14_i32_47 : BitVec 32 := 14#32
  let c9_i32_42 : BitVec 32 := 9#32
  let v59 : BitVec 1 := Scalar.cmpi .eq v6 c9_i32_42
  let c13_i32_43 : BitVec 32 := 13#32
  let c13_i32_38 : BitVec 32 := 13#32
  let v55 : BitVec 1 := Scalar.cmpi .eq v6 c13_i32_38
  let c12_i32_39 : BitVec 32 := 12#32
  let c14_i32_35 : BitVec 32 := 14#32
  let v51 : BitVec 1 := Scalar.cmpi .eq v6 c14_i32_35
  let c11_i32_36 : BitVec 32 := 11#32
  let c10_i32_32 : BitVec 32 := 10#32
  let v47 : BitVec 1 := Scalar.cmpi .eq v6 c10_i32_32
  let c10_i32_33 : BitVec 32 := 10#32
  let c6_i32_30 : BitVec 32 := 6#32
  let v43 : BitVec 1 := Scalar.cmpi .eq v6 c6_i32_30
  let c9_i32 : BitVec 32 := 9#32
  let c2_i32_26 : BitVec 32 := 2#32
  let v39 : BitVec 1 := Scalar.cmpi .eq v6 c2_i32_26
  let c8_i32_27 : BitVec 32 := 8#32
  let c3_i32_22 : BitVec 32 := 3#32
  let v35 : BitVec 1 := Scalar.cmpi .eq v6 c3_i32_22
  let c7_i32_23 : BitVec 32 := 7#32
  let c7_i32_19 : BitVec 32 := 7#32
  let v31 : BitVec 1 := Scalar.cmpi .eq v6 c7_i32_19
  let c6_i32 : BitVec 32 := 6#32
  let c11_i32_17 : BitVec 32 := 11#32
  let v27 : BitVec 1 := Scalar.cmpi .eq v6 c11_i32_17
  let c5_i32 : BitVec 32 := 5#32
  let c15_i32_14 : BitVec 32 := 15#32
  let v23 : BitVec 1 := Scalar.cmpi .eq v6 c15_i32_14
  let c4_i32_15 : BitVec 32 := 4#32
  let c12_i32_12 : BitVec 32 := 12#32
  let v19 : BitVec 1 := Scalar.cmpi .eq v6 c12_i32_12
  let c3_i32 : BitVec 32 := 3#32
  let c8_i32_10 : BitVec 32 := 8#32
  let v15 : BitVec 1 := Scalar.cmpi .eq v6 c8_i32_10
  let c2_i32 : BitVec 32 := 2#32
  let c4_i32_7 : BitVec 32 := 4#32
  let v11 : BitVec 1 := Scalar.cmpi .eq v6 c4_i32_7
  let c1_i32_8 : BitVec 32 := 1#32
  let c0_i32_1 : BitVec 32 := 0#32
  let v7 : BitVec 1 := Scalar.cmpi .eq v6 c0_i32_1
  let c0_i32_2 : BitVec 32 := 0#32
  let c0_i32_3 : BitVec 32 := 0#32
  let v8 : BitVec 32 := Scalar.select v7 c0_i32_2 c0_i32_3
  let v12 : BitVec 32 := Scalar.select v11 c1_i32_8 v8
  let v16 : BitVec 32 := Scalar.select v15 c2_i32 v12
  let v20 : BitVec 32 := Scalar.select v19 c3_i32 v16
  let v24 : BitVec 32 := Scalar.select v23 c4_i32_15 v20
  let v28 : BitVec 32 := Scalar.select v27 c5_i32 v24
  let v32 : BitVec 32 := Scalar.select v31 c6_i32 v28
  let v36 : BitVec 32 := Scalar.select v35 c7_i32_23 v32
  let v40 : BitVec 32 := Scalar.select v39 c8_i32_27 v36
  let v44 : BitVec 32 := Scalar.select v43 c9_i32 v40
  let v48 : BitVec 32 := Scalar.select v47 c10_i32_33 v44
  let v52 : BitVec 32 := Scalar.select v51 c11_i32_36 v48
  let v56 : BitVec 32 := Scalar.select v55 c12_i32_39 v52
  let v60 : BitVec 32 := Scalar.select v59 c13_i32_43 v56
  let v64 : BitVec 32 := Scalar.select v63 c14_i32_47 v60
  let v68 : BitVec 32 := Scalar.select v67 c15_i32_51 v64
  let v254 : BitVec 32 := Scalar.subi v68 c0_i32_203
  let c1_i32_204 : BitVec 32 := 1#32
  let v255 : BitVec 32 := Scalar.subi v254 c1_i32_204
  let c16_i32_205 : BitVec 32 := 16#32
  let c0_i32_206 : BitVec 32 := 0#32
  let v256 : BitVec 1 := Scalar.cmpi .eq c16_i32_205 c0_i32_206
  let c1_i32_207 : BitVec 32 := 1#32
  let v257 : BitVec 32 := Scalar.select v256 c1_i32_207 c16_i32_205
  let v258 : BitVec 32 := Scalar.remsi v255 v257
  let c0_i32_209 : BitVec 32 := 0#32
  let v260 : BitVec 1 := Scalar.cmpi .slt v258 c0_i32_209
  let c0_i32_210 : BitVec 32 := 0#32
  let v261 : BitVec 1 := Scalar.cmpi .slt v257 c0_i32_210
  let v262 : BitVec 1 := Scalar.xori v260 v261
  let c0_i32_208 : BitVec 32 := 0#32
  let v259 : BitVec 1 := Scalar.cmpi .ne v258 c0_i32_208
  let v263 : BitVec 1 := Scalar.andi v262 v259
  let v264 : BitVec 32 := Scalar.addi v258 v257
  let v265 : BitVec 32 := Scalar.select v263 v264 v258
  let c128_i32_219 : BitVec 32 := 128#32
  let v278 : BitVec 32 := Scalar.muli v265 c128_i32_219
  let v279 : Index := Scalar.indexCast v278
  let c0_220 : Index := 0#32
  ![v279.toNat, 0]
def k0_off8 (d4 : Dev nD) (c0_i32_203 : BitVec 32) : Fin 2 → Nat :=
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c15_i32_51 : BitVec 32 := 15#32
  let c5_i32_46 : BitVec 32 := 5#32
  let v63 : BitVec 1 := Scalar.cmpi .eq v6 c5_i32_46
  let c14_i32_47 : BitVec 32 := 14#32
  let c9_i32_42 : BitVec 32 := 9#32
  let v59 : BitVec 1 := Scalar.cmpi .eq v6 c9_i32_42
  let c13_i32_43 : BitVec 32 := 13#32
  let c13_i32_38 : BitVec 32 := 13#32
  let v55 : BitVec 1 := Scalar.cmpi .eq v6 c13_i32_38
  let c12_i32_39 : BitVec 32 := 12#32
  let c14_i32_35 : BitVec 32 := 14#32
  let v51 : BitVec 1 := Scalar.cmpi .eq v6 c14_i32_35
  let c11_i32_36 : BitVec 32 := 11#32
  let c10_i32_32 : BitVec 32 := 10#32
  let v47 : BitVec 1 := Scalar.cmpi .eq v6 c10_i32_32
  let c10_i32_33 : BitVec 32 := 10#32
  let c6_i32_30 : BitVec 32 := 6#32
  let v43 : BitVec 1 := Scalar.cmpi .eq v6 c6_i32_30
  let c9_i32 : BitVec 32 := 9#32
  let c2_i32_26 : BitVec 32 := 2#32
  let v39 : BitVec 1 := Scalar.cmpi .eq v6 c2_i32_26
  let c8_i32_27 : BitVec 32 := 8#32
  let c3_i32_22 : BitVec 32 := 3#32
  let v35 : BitVec 1 := Scalar.cmpi .eq v6 c3_i32_22
  let c7_i32_23 : BitVec 32 := 7#32
  let c7_i32_19 : BitVec 32 := 7#32
  let v31 : BitVec 1 := Scalar.cmpi .eq v6 c7_i32_19
  let c6_i32 : BitVec 32 := 6#32
  let c11_i32_17 : BitVec 32 := 11#32
  let v27 : BitVec 1 := Scalar.cmpi .eq v6 c11_i32_17
  let c5_i32 : BitVec 32 := 5#32
  let c15_i32_14 : BitVec 32 := 15#32
  let v23 : BitVec 1 := Scalar.cmpi .eq v6 c15_i32_14
  let c4_i32_15 : BitVec 32 := 4#32
  let c12_i32_12 : BitVec 32 := 12#32
  let v19 : BitVec 1 := Scalar.cmpi .eq v6 c12_i32_12
  let c3_i32 : BitVec 32 := 3#32
  let c8_i32_10 : BitVec 32 := 8#32
  let v15 : BitVec 1 := Scalar.cmpi .eq v6 c8_i32_10
  let c2_i32 : BitVec 32 := 2#32
  let c4_i32_7 : BitVec 32 := 4#32
  let v11 : BitVec 1 := Scalar.cmpi .eq v6 c4_i32_7
  let c1_i32_8 : BitVec 32 := 1#32
  let c0_i32_1 : BitVec 32 := 0#32
  let v7 : BitVec 1 := Scalar.cmpi .eq v6 c0_i32_1
  let c0_i32_2 : BitVec 32 := 0#32
  let c0_i32_3 : BitVec 32 := 0#32
  let v8 : BitVec 32 := Scalar.select v7 c0_i32_2 c0_i32_3
  let v12 : BitVec 32 := Scalar.select v11 c1_i32_8 v8
  let v16 : BitVec 32 := Scalar.select v15 c2_i32 v12
  let v20 : BitVec 32 := Scalar.select v19 c3_i32 v16
  let v24 : BitVec 32 := Scalar.select v23 c4_i32_15 v20
  let v28 : BitVec 32 := Scalar.select v27 c5_i32 v24
  let v32 : BitVec 32 := Scalar.select v31 c6_i32 v28
  let v36 : BitVec 32 := Scalar.select v35 c7_i32_23 v32
  let v40 : BitVec 32 := Scalar.select v39 c8_i32_27 v36
  let v44 : BitVec 32 := Scalar.select v43 c9_i32 v40
  let v48 : BitVec 32 := Scalar.select v47 c10_i32_33 v44
  let v52 : BitVec 32 := Scalar.select v51 c11_i32_36 v48
  let v56 : BitVec 32 := Scalar.select v55 c12_i32_39 v52
  let v60 : BitVec 32 := Scalar.select v59 c13_i32_43 v56
  let v64 : BitVec 32 := Scalar.select v63 c14_i32_47 v60
  let v68 : BitVec 32 := Scalar.select v67 c15_i32_51 v64
  let v254 : BitVec 32 := Scalar.subi v68 c0_i32_203
  let c1_i32_204 : BitVec 32 := 1#32
  let v255 : BitVec 32 := Scalar.subi v254 c1_i32_204
  let c16_i32_205 : BitVec 32 := 16#32
  let c0_i32_206 : BitVec 32 := 0#32
  let v256 : BitVec 1 := Scalar.cmpi .eq c16_i32_205 c0_i32_206
  let c1_i32_207 : BitVec 32 := 1#32
  let v257 : BitVec 32 := Scalar.select v256 c1_i32_207 c16_i32_205
  let v258 : BitVec 32 := Scalar.remsi v255 v257
  let c0_i32_209 : BitVec 32 := 0#32
  let v260 : BitVec 1 := Scalar.cmpi .slt v258 c0_i32_209
  let c0_i32_210 : BitVec 32 := 0#32
  let v261 : BitVec 1 := Scalar.cmpi .slt v257 c0_i32_210
  let v262 : BitVec 1 := Scalar.xori v260 v261
  let c0_i32_208 : BitVec 32 := 0#32
  let v259 : BitVec 1 := Scalar.cmpi .ne v258 c0_i32_208
  let v263 : BitVec 1 := Scalar.andi v262 v259
  let v264 : BitVec 32 := Scalar.addi v258 v257
  let v265 : BitVec 32 := Scalar.select v263 v264 v258
  let c128_i32_219 : BitVec 32 := 128#32
  let v278 : BitVec 32 := Scalar.muli v265 c128_i32_219
  let v284 : Index := Scalar.indexCast v278
  let c0_224 : Index := 0#32
  ![v284.toNat, 0]
def k0_off9 (d4 : Dev nD) (c0_i32_211 : BitVec 32) : Fin 2 → Nat :=
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c15_i32_51 : BitVec 32 := 15#32
  let c5_i32_46 : BitVec 32 := 5#32
  let v63 : BitVec 1 := Scalar.cmpi .eq v6 c5_i32_46
  let c14_i32_47 : BitVec 32 := 14#32
  let c9_i32_42 : BitVec 32 := 9#32
  let v59 : BitVec 1 := Scalar.cmpi .eq v6 c9_i32_42
  let c13_i32_43 : BitVec 32 := 13#32
  let c13_i32_38 : BitVec 32 := 13#32
  let v55 : BitVec 1 := Scalar.cmpi .eq v6 c13_i32_38
  let c12_i32_39 : BitVec 32 := 12#32
  let c14_i32_35 : BitVec 32 := 14#32
  let v51 : BitVec 1 := Scalar.cmpi .eq v6 c14_i32_35
  let c11_i32_36 : BitVec 32 := 11#32
  let c10_i32_32 : BitVec 32 := 10#32
  let v47 : BitVec 1 := Scalar.cmpi .eq v6 c10_i32_32
  let c10_i32_33 : BitVec 32 := 10#32
  let c6_i32_30 : BitVec 32 := 6#32
  let v43 : BitVec 1 := Scalar.cmpi .eq v6 c6_i32_30
  let c9_i32 : BitVec 32 := 9#32
  let c2_i32_26 : BitVec 32 := 2#32
  let v39 : BitVec 1 := Scalar.cmpi .eq v6 c2_i32_26
  let c8_i32_27 : BitVec 32 := 8#32
  let c3_i32_22 : BitVec 32 := 3#32
  let v35 : BitVec 1 := Scalar.cmpi .eq v6 c3_i32_22
  let c7_i32_23 : BitVec 32 := 7#32
  let c7_i32_19 : BitVec 32 := 7#32
  let v31 : BitVec 1 := Scalar.cmpi .eq v6 c7_i32_19
  let c6_i32 : BitVec 32 := 6#32
  let c11_i32_17 : BitVec 32 := 11#32
  let v27 : BitVec 1 := Scalar.cmpi .eq v6 c11_i32_17
  let c5_i32 : BitVec 32 := 5#32
  let c15_i32_14 : BitVec 32 := 15#32
  let v23 : BitVec 1 := Scalar.cmpi .eq v6 c15_i32_14
  let c4_i32_15 : BitVec 32 := 4#32
  let c12_i32_12 : BitVec 32 := 12#32
  let v19 : BitVec 1 := Scalar.cmpi .eq v6 c12_i32_12
  let c3_i32 : BitVec 32 := 3#32
  let c8_i32_10 : BitVec 32 := 8#32
  let v15 : BitVec 1 := Scalar.cmpi .eq v6 c8_i32_10
  let c2_i32 : BitVec 32 := 2#32
  let c4_i32_7 : BitVec 32 := 4#32
  let v11 : BitVec 1 := Scalar.cmpi .eq v6 c4_i32_7
  let c1_i32_8 : BitVec 32 := 1#32
  let c0_i32_1 : BitVec 32 := 0#32
  let v7 : BitVec 1 := Scalar.cmpi .eq v6 c0_i32_1
  let c0_i32_2 : BitVec 32 := 0#32
  let c0_i32_3 : BitVec 32 := 0#32
  let v8 : BitVec 32 := Scalar.select v7 c0_i32_2 c0_i32_3
  let v12 : BitVec 32 := Scalar.select v11 c1_i32_8 v8
  let v16 : BitVec 32 := Scalar.select v15 c2_i32 v12
  let v20 : BitVec 32 := Scalar.select v19 c3_i32 v16
  let v24 : BitVec 32 := Scalar.select v23 c4_i32_15 v20
  let v28 : BitVec 32 := Scalar.select v27 c5_i32 v24
  let v32 : BitVec 32 := Scalar.select v31 c6_i32 v28
  let v36 : BitVec 32 := Scalar.select v35 c7_i32_23 v32
  let v40 : BitVec 32 := Scalar.select v39 c8_i32_27 v36
  let v44 : BitVec 32 := Scalar.select v43 c9_i32 v40
  let v48 : BitVec 32 := Scalar.select v47 c10_i32_33 v44
  let v52 : BitVec 32 := Scalar.select v51 c11_i32_36 v48
  let v56 : BitVec 32 := Scalar.select v55 c12_i32_39 v52
  let v60 : BitVec 32 := Scalar.select v59 c13_i32_43 v56
  let v64 : BitVec 32 := Scalar.select v63 c14_i32_47 v60
  let v68 : BitVec 32 := Scalar.select v67 c15_i32_51 v64
  let v266 : BitVec 32 := Scalar.addi v68 c0_i32_211
  let c1_i32_212 : BitVec 32 := 1#32
  let v267 : BitVec 32 := Scalar.addi v266 c1_i32_212
  let c16_i32_213 : BitVec 32 := 16#32
  let c0_i32_214 : BitVec 32 := 0#32
  let v268 : BitVec 1 := Scalar.cmpi .eq c16_i32_213 c0_i32_214
  let c1_i32_215 : BitVec 32 := 1#32
  let v269 : BitVec 32 := Scalar.select v268 c1_i32_215 c16_i32_213
  let v270 : BitVec 32 := Scalar.remsi v267 v269
  let c0_i32_217 : BitVec 32 := 0#32
  let v272 : BitVec 1 := Scalar.cmpi .slt v270 c0_i32_217
  let c0_i32_218 : BitVec 32 := 0#32
  let v273 : BitVec 1 := Scalar.cmpi .slt v269 c0_i32_218
  let v274 : BitVec 1 := Scalar.xori v272 v273
  let c0_i32_216 : BitVec 32 := 0#32
  let v271 : BitVec 1 := Scalar.cmpi .ne v270 c0_i32_216
  let v275 : BitVec 1 := Scalar.andi v274 v271
  let v276 : BitVec 32 := Scalar.addi v270 v269
  let v277 : BitVec 32 := Scalar.select v275 v276 v270
  let c128_i32_225 : BitVec 32 := 128#32
  let v288 : BitVec 32 := Scalar.muli v277 c128_i32_225
  let c64_i32_226 : BitVec 32 := 64#32
  let v289 : BitVec 32 := Scalar.addi v288 c64_i32_226
  let v290 : Index := Scalar.indexCast v289
  let c0_227 : Index := 0#32
  ![v290.toNat, 0]
def k0_off10 (d4 : Dev nD) (c0_i32_211 : BitVec 32) : Fin 2 → Nat :=
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c15_i32_51 : BitVec 32 := 15#32
  let c5_i32_46 : BitVec 32 := 5#32
  let v63 : BitVec 1 := Scalar.cmpi .eq v6 c5_i32_46
  let c14_i32_47 : BitVec 32 := 14#32
  let c9_i32_42 : BitVec 32 := 9#32
  let v59 : BitVec 1 := Scalar.cmpi .eq v6 c9_i32_42
  let c13_i32_43 : BitVec 32 := 13#32
  let c13_i32_38 : BitVec 32 := 13#32
  let v55 : BitVec 1 := Scalar.cmpi .eq v6 c13_i32_38
  let c12_i32_39 : BitVec 32 := 12#32
  let c14_i32_35 : BitVec 32 := 14#32
  let v51 : BitVec 1 := Scalar.cmpi .eq v6 c14_i32_35
  let c11_i32_36 : BitVec 32 := 11#32
  let c10_i32_32 : BitVec 32 := 10#32
  let v47 : BitVec 1 := Scalar.cmpi .eq v6 c10_i32_32
  let c10_i32_33 : BitVec 32 := 10#32
  let c6_i32_30 : BitVec 32 := 6#32
  let v43 : BitVec 1 := Scalar.cmpi .eq v6 c6_i32_30
  let c9_i32 : BitVec 32 := 9#32
  let c2_i32_26 : BitVec 32 := 2#32
  let v39 : BitVec 1 := Scalar.cmpi .eq v6 c2_i32_26
  let c8_i32_27 : BitVec 32 := 8#32
  let c3_i32_22 : BitVec 32 := 3#32
  let v35 : BitVec 1 := Scalar.cmpi .eq v6 c3_i32_22
  let c7_i32_23 : BitVec 32 := 7#32
  let c7_i32_19 : BitVec 32 := 7#32
  let v31 : BitVec 1 := Scalar.cmpi .eq v6 c7_i32_19
  let c6_i32 : BitVec 32 := 6#32
  let c11_i32_17 : BitVec 32 := 11#32
  let v27 : BitVec 1 := Scalar.cmpi .eq v6 c11_i32_17
  let c5_i32 : BitVec 32 := 5#32
  let c15_i32_14 : BitVec 32 := 15#32
  let v23 : BitVec 1 := Scalar.cmpi .eq v6 c15_i32_14
  let c4_i32_15 : BitVec 32 := 4#32
  let c12_i32_12 : BitVec 32 := 12#32
  let v19 : BitVec 1 := Scalar.cmpi .eq v6 c12_i32_12
  let c3_i32 : BitVec 32 := 3#32
  let c8_i32_10 : BitVec 32 := 8#32
  let v15 : BitVec 1 := Scalar.cmpi .eq v6 c8_i32_10
  let c2_i32 : BitVec 32 := 2#32
  let c4_i32_7 : BitVec 32 := 4#32
  let v11 : BitVec 1 := Scalar.cmpi .eq v6 c4_i32_7
  let c1_i32_8 : BitVec 32 := 1#32
  let c0_i32_1 : BitVec 32 := 0#32
  let v7 : BitVec 1 := Scalar.cmpi .eq v6 c0_i32_1
  let c0_i32_2 : BitVec 32 := 0#32
  let c0_i32_3 : BitVec 32 := 0#32
  let v8 : BitVec 32 := Scalar.select v7 c0_i32_2 c0_i32_3
  let v12 : BitVec 32 := Scalar.select v11 c1_i32_8 v8
  let v16 : BitVec 32 := Scalar.select v15 c2_i32 v12
  let v20 : BitVec 32 := Scalar.select v19 c3_i32 v16
  let v24 : BitVec 32 := Scalar.select v23 c4_i32_15 v20
  let v28 : BitVec 32 := Scalar.select v27 c5_i32 v24
  let v32 : BitVec 32 := Scalar.select v31 c6_i32 v28
  let v36 : BitVec 32 := Scalar.select v35 c7_i32_23 v32
  let v40 : BitVec 32 := Scalar.select v39 c8_i32_27 v36
  let v44 : BitVec 32 := Scalar.select v43 c9_i32 v40
  let v48 : BitVec 32 := Scalar.select v47 c10_i32_33 v44
  let v52 : BitVec 32 := Scalar.select v51 c11_i32_36 v48
  let v56 : BitVec 32 := Scalar.select v55 c12_i32_39 v52
  let v60 : BitVec 32 := Scalar.select v59 c13_i32_43 v56
  let v64 : BitVec 32 := Scalar.select v63 c14_i32_47 v60
  let v68 : BitVec 32 := Scalar.select v67 c15_i32_51 v64
  let v266 : BitVec 32 := Scalar.addi v68 c0_i32_211
  let c1_i32_212 : BitVec 32 := 1#32
  let v267 : BitVec 32 := Scalar.addi v266 c1_i32_212
  let c16_i32_213 : BitVec 32 := 16#32
  let c0_i32_214 : BitVec 32 := 0#32
  let v268 : BitVec 1 := Scalar.cmpi .eq c16_i32_213 c0_i32_214
  let c1_i32_215 : BitVec 32 := 1#32
  let v269 : BitVec 32 := Scalar.select v268 c1_i32_215 c16_i32_213
  let v270 : BitVec 32 := Scalar.remsi v267 v269
  let c0_i32_217 : BitVec 32 := 0#32
  let v272 : BitVec 1 := Scalar.cmpi .slt v270 c0_i32_217
  let c0_i32_218 : BitVec 32 := 0#32
  let v273 : BitVec 1 := Scalar.cmpi .slt v269 c0_i32_218
  let v274 : BitVec 1 := Scalar.xori v272 v273
  let c0_i32_216 : BitVec 32 := 0#32
  let v271 : BitVec 1 := Scalar.cmpi .ne v270 c0_i32_216
  let v275 : BitVec 1 := Scalar.andi v274 v271
  let v276 : BitVec 32 := Scalar.addi v270 v269
  let v277 : BitVec 32 := Scalar.select v275 v276 v270
  let c128_i32_225 : BitVec 32 := 128#32
  let v288 : BitVec 32 := Scalar.muli v277 c128_i32_225
  let c64_i32_226 : BitVec 32 := 64#32
  let v289 : BitVec 32 := Scalar.addi v288 c64_i32_226
  let v295 : Index := Scalar.indexCast v289
  let c0_231 : Index := 0#32
  ![v295.toNat, 0]
def k0_off11 (d4 : Dev nD) (c0_i32_203 : BitVec 32) (c0_i32_243 : BitVec 32) : Fin 2 → Nat :=
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c15_i32_51 : BitVec 32 := 15#32
  let c5_i32_46 : BitVec 32 := 5#32
  let v63 : BitVec 1 := Scalar.cmpi .eq v6 c5_i32_46
  let c14_i32_47 : BitVec 32 := 14#32
  let c9_i32_42 : BitVec 32 := 9#32
  let v59 : BitVec 1 := Scalar.cmpi .eq v6 c9_i32_42
  let c13_i32_43 : BitVec 32 := 13#32
  let c13_i32_38 : BitVec 32 := 13#32
  let v55 : BitVec 1 := Scalar.cmpi .eq v6 c13_i32_38
  let c12_i32_39 : BitVec 32 := 12#32
  let c14_i32_35 : BitVec 32 := 14#32
  let v51 : BitVec 1 := Scalar.cmpi .eq v6 c14_i32_35
  let c11_i32_36 : BitVec 32 := 11#32
  let c10_i32_32 : BitVec 32 := 10#32
  let v47 : BitVec 1 := Scalar.cmpi .eq v6 c10_i32_32
  let c10_i32_33 : BitVec 32 := 10#32
  let c6_i32_30 : BitVec 32 := 6#32
  let v43 : BitVec 1 := Scalar.cmpi .eq v6 c6_i32_30
  let c9_i32 : BitVec 32 := 9#32
  let c2_i32_26 : BitVec 32 := 2#32
  let v39 : BitVec 1 := Scalar.cmpi .eq v6 c2_i32_26
  let c8_i32_27 : BitVec 32 := 8#32
  let c3_i32_22 : BitVec 32 := 3#32
  let v35 : BitVec 1 := Scalar.cmpi .eq v6 c3_i32_22
  let c7_i32_23 : BitVec 32 := 7#32
  let c7_i32_19 : BitVec 32 := 7#32
  let v31 : BitVec 1 := Scalar.cmpi .eq v6 c7_i32_19
  let c6_i32 : BitVec 32 := 6#32
  let c11_i32_17 : BitVec 32 := 11#32
  let v27 : BitVec 1 := Scalar.cmpi .eq v6 c11_i32_17
  let c5_i32 : BitVec 32 := 5#32
  let c15_i32_14 : BitVec 32 := 15#32
  let v23 : BitVec 1 := Scalar.cmpi .eq v6 c15_i32_14
  let c4_i32_15 : BitVec 32 := 4#32
  let c12_i32_12 : BitVec 32 := 12#32
  let v19 : BitVec 1 := Scalar.cmpi .eq v6 c12_i32_12
  let c3_i32 : BitVec 32 := 3#32
  let c8_i32_10 : BitVec 32 := 8#32
  let v15 : BitVec 1 := Scalar.cmpi .eq v6 c8_i32_10
  let c2_i32 : BitVec 32 := 2#32
  let c4_i32_7 : BitVec 32 := 4#32
  let v11 : BitVec 1 := Scalar.cmpi .eq v6 c4_i32_7
  let c1_i32_8 : BitVec 32 := 1#32
  let c0_i32_1 : BitVec 32 := 0#32
  let v7 : BitVec 1 := Scalar.cmpi .eq v6 c0_i32_1
  let c0_i32_2 : BitVec 32 := 0#32
  let c0_i32_3 : BitVec 32 := 0#32
  let v8 : BitVec 32 := Scalar.select v7 c0_i32_2 c0_i32_3
  let v12 : BitVec 32 := Scalar.select v11 c1_i32_8 v8
  let v16 : BitVec 32 := Scalar.select v15 c2_i32 v12
  let v20 : BitVec 32 := Scalar.select v19 c3_i32 v16
  let v24 : BitVec 32 := Scalar.select v23 c4_i32_15 v20
  let v28 : BitVec 32 := Scalar.select v27 c5_i32 v24
  let v32 : BitVec 32 := Scalar.select v31 c6_i32 v28
  let v36 : BitVec 32 := Scalar.select v35 c7_i32_23 v32
  let v40 : BitVec 32 := Scalar.select v39 c8_i32_27 v36
  let v44 : BitVec 32 := Scalar.select v43 c9_i32 v40
  let v48 : BitVec 32 := Scalar.select v47 c10_i32_33 v44
  let v52 : BitVec 32 := Scalar.select v51 c11_i32_36 v48
  let v56 : BitVec 32 := Scalar.select v55 c12_i32_39 v52
  let v60 : BitVec 32 := Scalar.select v59 c13_i32_43 v56
  let v64 : BitVec 32 := Scalar.select v63 c14_i32_47 v60
  let v68 : BitVec 32 := Scalar.select v67 c15_i32_51 v64
  let v254 : BitVec 32 := Scalar.subi v68 c0_i32_203
  let c1_i32_204 : BitVec 32 := 1#32
  let v255 : BitVec 32 := Scalar.subi v254 c1_i32_204
  let c16_i32_205 : BitVec 32 := 16#32
  let c0_i32_206 : BitVec 32 := 0#32
  let v256 : BitVec 1 := Scalar.cmpi .eq c16_i32_205 c0_i32_206
  let c1_i32_207 : BitVec 32 := 1#32
  let v257 : BitVec 32 := Scalar.select v256 c1_i32_207 c16_i32_205
  let v258 : BitVec 32 := Scalar.remsi v255 v257
  let c0_i32_209 : BitVec 32 := 0#32
  let v260 : BitVec 1 := Scalar.cmpi .slt v258 c0_i32_209
  let c0_i32_210 : BitVec 32 := 0#32
  let v261 : BitVec 1 := Scalar.cmpi .slt v257 c0_i32_210
  let v262 : BitVec 1 := Scalar.xori v260 v261
  let c0_i32_208 : BitVec 32 := 0#32
  let v259 : BitVec 1 := Scalar.cmpi .ne v258 c0_i32_208
  let v263 : BitVec 1 := Scalar.andi v262 v259
  let v264 : BitVec 32 := Scalar.addi v258 v257
  let v265 : BitVec 32 := Scalar.select v263 v264 v258
  let c128_i32_242 : BitVec 32 := 128#32
  let v307 : BitVec 32 := Scalar.muli v265 c128_i32_242
  let v308 : BitVec 32 := Scalar.addi v307 c0_i32_243
  let v309 : Index := Scalar.indexCast v308
  let c0_244 : Index := 0#32
  ![v309.toNat, 0]
def k0_dev11 (d4 : Dev nD) : Nat :=
  let c0_i32_255 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_254 : BitVec 32 := 1#32
  let v319 : BitVec 32 := Scalar.muli v69 c1_i32_254
  let v320 : BitVec 32 := Scalar.addi c0_i32_255 v319
  v320.toNat
def k0_dev12 (d4 : Dev nD) : Nat :=
  let c0_i32_262 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_261 : BitVec 32 := 1#32
  let v329 : BitVec 32 := Scalar.muli v70 c1_i32_261
  let v330 : BitVec 32 := Scalar.addi c0_i32_262 v329
  v330.toNat
def k0_off12 (d4 : Dev nD) (c0_i32_211 : BitVec 32) (c0_i32_275 : BitVec 32) : Fin 2 → Nat :=
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c15_i32_51 : BitVec 32 := 15#32
  let c5_i32_46 : BitVec 32 := 5#32
  let v63 : BitVec 1 := Scalar.cmpi .eq v6 c5_i32_46
  let c14_i32_47 : BitVec 32 := 14#32
  let c9_i32_42 : BitVec 32 := 9#32
  let v59 : BitVec 1 := Scalar.cmpi .eq v6 c9_i32_42
  let c13_i32_43 : BitVec 32 := 13#32
  let c13_i32_38 : BitVec 32 := 13#32
  let v55 : BitVec 1 := Scalar.cmpi .eq v6 c13_i32_38
  let c12_i32_39 : BitVec 32 := 12#32
  let c14_i32_35 : BitVec 32 := 14#32
  let v51 : BitVec 1 := Scalar.cmpi .eq v6 c14_i32_35
  let c11_i32_36 : BitVec 32 := 11#32
  let c10_i32_32 : BitVec 32 := 10#32
  let v47 : BitVec 1 := Scalar.cmpi .eq v6 c10_i32_32
  let c10_i32_33 : BitVec 32 := 10#32
  let c6_i32_30 : BitVec 32 := 6#32
  let v43 : BitVec 1 := Scalar.cmpi .eq v6 c6_i32_30
  let c9_i32 : BitVec 32 := 9#32
  let c2_i32_26 : BitVec 32 := 2#32
  let v39 : BitVec 1 := Scalar.cmpi .eq v6 c2_i32_26
  let c8_i32_27 : BitVec 32 := 8#32
  let c3_i32_22 : BitVec 32 := 3#32
  let v35 : BitVec 1 := Scalar.cmpi .eq v6 c3_i32_22
  let c7_i32_23 : BitVec 32 := 7#32
  let c7_i32_19 : BitVec 32 := 7#32
  let v31 : BitVec 1 := Scalar.cmpi .eq v6 c7_i32_19
  let c6_i32 : BitVec 32 := 6#32
  let c11_i32_17 : BitVec 32 := 11#32
  let v27 : BitVec 1 := Scalar.cmpi .eq v6 c11_i32_17
  let c5_i32 : BitVec 32 := 5#32
  let c15_i32_14 : BitVec 32 := 15#32
  let v23 : BitVec 1 := Scalar.cmpi .eq v6 c15_i32_14
  let c4_i32_15 : BitVec 32 := 4#32
  let c12_i32_12 : BitVec 32 := 12#32
  let v19 : BitVec 1 := Scalar.cmpi .eq v6 c12_i32_12
  let c3_i32 : BitVec 32 := 3#32
  let c8_i32_10 : BitVec 32 := 8#32
  let v15 : BitVec 1 := Scalar.cmpi .eq v6 c8_i32_10
  let c2_i32 : BitVec 32 := 2#32
  let c4_i32_7 : BitVec 32 := 4#32
  let v11 : BitVec 1 := Scalar.cmpi .eq v6 c4_i32_7
  let c1_i32_8 : BitVec 32 := 1#32
  let c0_i32_1 : BitVec 32 := 0#32
  let v7 : BitVec 1 := Scalar.cmpi .eq v6 c0_i32_1
  let c0_i32_2 : BitVec 32 := 0#32
  let c0_i32_3 : BitVec 32 := 0#32
  let v8 : BitVec 32 := Scalar.select v7 c0_i32_2 c0_i32_3
  let v12 : BitVec 32 := Scalar.select v11 c1_i32_8 v8
  let v16 : BitVec 32 := Scalar.select v15 c2_i32 v12
  let v20 : BitVec 32 := Scalar.select v19 c3_i32 v16
  let v24 : BitVec 32 := Scalar.select v23 c4_i32_15 v20
  let v28 : BitVec 32 := Scalar.select v27 c5_i32 v24
  let v32 : BitVec 32 := Scalar.select v31 c6_i32 v28
  let v36 : BitVec 32 := Scalar.select v35 c7_i32_23 v32
  let v40 : BitVec 32 := Scalar.select v39 c8_i32_27 v36
  let v44 : BitVec 32 := Scalar.select v43 c9_i32 v40
  let v48 : BitVec 32 := Scalar.select v47 c10_i32_33 v44
  let v52 : BitVec 32 := Scalar.select v51 c11_i32_36 v48
  let v56 : BitVec 32 := Scalar.select v55 c12_i32_39 v52
  let v60 : BitVec 32 := Scalar.select v59 c13_i32_43 v56
  let v64 : BitVec 32 := Scalar.select v63 c14_i32_47 v60
  let v68 : BitVec 32 := Scalar.select v67 c15_i32_51 v64
  let v266 : BitVec 32 := Scalar.addi v68 c0_i32_211
  let c1_i32_212 : BitVec 32 := 1#32
  let v267 : BitVec 32 := Scalar.addi v266 c1_i32_212
  let c16_i32_213 : BitVec 32 := 16#32
  let c0_i32_214 : BitVec 32 := 0#32
  let v268 : BitVec 1 := Scalar.cmpi .eq c16_i32_213 c0_i32_214
  let c1_i32_215 : BitVec 32 := 1#32
  let v269 : BitVec 32 := Scalar.select v268 c1_i32_215 c16_i32_213
  let v270 : BitVec 32 := Scalar.remsi v267 v269
  let c0_i32_217 : BitVec 32 := 0#32
  let v272 : BitVec 1 := Scalar.cmpi .slt v270 c0_i32_217
  let c0_i32_218 : BitVec 32 := 0#32
  let v273 : BitVec 1 := Scalar.cmpi .slt v269 c0_i32_218
  let v274 : BitVec 1 := Scalar.xori v272 v273
  let c0_i32_216 : BitVec 32 := 0#32
  let v271 : BitVec 1 := Scalar.cmpi .ne v270 c0_i32_216
  let v275 : BitVec 1 := Scalar.andi v274 v271
  let v276 : BitVec 32 := Scalar.addi v270 v269
  let v277 : BitVec 32 := Scalar.select v275 v276 v270
  let c128_i32_273 : BitVec 32 := 128#32
  let v339 : BitVec 32 := Scalar.muli v277 c128_i32_273
  let c64_i32_274 : BitVec 32 := 64#32
  let v340 : BitVec 32 := Scalar.addi v339 c64_i32_274
  let v341 : BitVec 32 := Scalar.addi v340 c0_i32_275
  let v342 : Index := Scalar.indexCast v341
  let c0_276 : Index := 0#32
  ![v342.toNat, 0]
def k0_dev13 (d4 : Dev nD) : Nat :=
  let c0_i32_288 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_287 : BitVec 32 := 1#32
  let v352 : BitVec 32 := Scalar.muli v70 c1_i32_287
  let v353 : BitVec 32 := Scalar.addi c0_i32_288 v352
  v353.toNat
def k0_dev14 (d4 : Dev nD) : Nat :=
  let c0_i32_295 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_294 : BitVec 32 := 1#32
  let v362 : BitVec 32 := Scalar.muli v69 c1_i32_294
  let v363 : BitVec 32 := Scalar.addi c0_i32_295 v362
  v363.toNat
def k0_dev15 (d4 : Dev nD) : Nat :=
  let c0_i32_319 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_318 : BitVec 32 := 1#32
  let v384 : BitVec 32 := Scalar.muli v69 c1_i32_318
  let v385 : BitVec 32 := Scalar.addi c0_i32_319 v384
  v385.toNat
def k0_dev16 (d4 : Dev nD) : Nat :=
  let c0_i32_326 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_325 : BitVec 32 := 1#32
  let v394 : BitVec 32 := Scalar.muli v70 c1_i32_325
  let v395 : BitVec 32 := Scalar.addi c0_i32_326 v394
  v395.toNat
def k0_dev17 (d4 : Dev nD) : Nat :=
  let c0_i32_352 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_351 : BitVec 32 := 1#32
  let v417 : BitVec 32 := Scalar.muli v70 c1_i32_351
  let v418 : BitVec 32 := Scalar.addi c0_i32_352 v417
  v418.toNat
def k0_dev18 (d4 : Dev nD) : Nat :=
  let c0_i32_359 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_358 : BitVec 32 := 1#32
  let v427 : BitVec 32 := Scalar.muli v69 c1_i32_358
  let v428 : BitVec 32 := Scalar.addi c0_i32_359 v427
  v428.toNat
def k0_dev19 (d4 : Dev nD) : Nat :=
  let c0_i32_383 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_382 : BitVec 32 := 1#32
  let v449 : BitVec 32 := Scalar.muli v69 c1_i32_382
  let v450 : BitVec 32 := Scalar.addi c0_i32_383 v449
  v450.toNat
def k0_dev20 (d4 : Dev nD) : Nat :=
  let c0_i32_390 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_389 : BitVec 32 := 1#32
  let v459 : BitVec 32 := Scalar.muli v70 c1_i32_389
  let v460 : BitVec 32 := Scalar.addi c0_i32_390 v459
  v460.toNat
def k0_dev21 (d4 : Dev nD) : Nat :=
  let c0_i32_416 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_415 : BitVec 32 := 1#32
  let v482 : BitVec 32 := Scalar.muli v70 c1_i32_415
  let v483 : BitVec 32 := Scalar.addi c0_i32_416 v482
  v483.toNat
def k0_dev22 (d4 : Dev nD) : Nat :=
  let c0_i32_423 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_422 : BitVec 32 := 1#32
  let v492 : BitVec 32 := Scalar.muli v69 c1_i32_422
  let v493 : BitVec 32 := Scalar.addi c0_i32_423 v492
  v493.toNat
def k0_dev23 (d4 : Dev nD) : Nat :=
  let c0_i32_447 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_446 : BitVec 32 := 1#32
  let v514 : BitVec 32 := Scalar.muli v69 c1_i32_446
  let v515 : BitVec 32 := Scalar.addi c0_i32_447 v514
  v515.toNat
def k0_dev24 (d4 : Dev nD) : Nat :=
  let c0_i32_454 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_453 : BitVec 32 := 1#32
  let v524 : BitVec 32 := Scalar.muli v70 c1_i32_453
  let v525 : BitVec 32 := Scalar.addi c0_i32_454 v524
  v525.toNat
def k0_dev25 (d4 : Dev nD) : Nat :=
  let c0_i32_480 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_479 : BitVec 32 := 1#32
  let v547 : BitVec 32 := Scalar.muli v70 c1_i32_479
  let v548 : BitVec 32 := Scalar.addi c0_i32_480 v547
  v548.toNat
def k0_dev26 (d4 : Dev nD) : Nat :=
  let c0_i32_487 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_486 : BitVec 32 := 1#32
  let v557 : BitVec 32 := Scalar.muli v69 c1_i32_486
  let v558 : BitVec 32 := Scalar.addi c0_i32_487 v557
  v558.toNat
def k0_dev27 (d4 : Dev nD) : Nat :=
  let c0_i32_552 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_551 : BitVec 32 := 1#32
  let v630 : BitVec 32 := Scalar.muli v69 c1_i32_551
  let v631 : BitVec 32 := Scalar.addi c0_i32_552 v630
  v631.toNat
def k0_dev28 (d4 : Dev nD) : Nat :=
  let c0_i32_559 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_558 : BitVec 32 := 1#32
  let v640 : BitVec 32 := Scalar.muli v70 c1_i32_558
  let v641 : BitVec 32 := Scalar.addi c0_i32_559 v640
  v641.toNat
def k0_dev29 (d4 : Dev nD) : Nat :=
  let c0_i32_596 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_595 : BitVec 32 := 1#32
  let v669 : BitVec 32 := Scalar.muli v70 c1_i32_595
  let v670 : BitVec 32 := Scalar.addi c0_i32_596 v669
  v670.toNat
def k0_dev30 (d4 : Dev nD) : Nat :=
  let c0_i32_603 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_602 : BitVec 32 := 1#32
  let v679 : BitVec 32 := Scalar.muli v69 c1_i32_602
  let v680 : BitVec 32 := Scalar.addi c0_i32_603 v679
  v680.toNat
def k0_dev31 (d4 : Dev nD) : Nat :=
  let c0_i32_639 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_638 : BitVec 32 := 1#32
  let v707 : BitVec 32 := Scalar.muli v69 c1_i32_638
  let v708 : BitVec 32 := Scalar.addi c0_i32_639 v707
  v708.toNat
def k0_dev32 (d4 : Dev nD) : Nat :=
  let c0_i32_646 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_645 : BitVec 32 := 1#32
  let v717 : BitVec 32 := Scalar.muli v70 c1_i32_645
  let v718 : BitVec 32 := Scalar.addi c0_i32_646 v717
  v718.toNat
def k0_dev33 (d4 : Dev nD) : Nat :=
  let c0_i32_683 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_682 : BitVec 32 := 1#32
  let v746 : BitVec 32 := Scalar.muli v70 c1_i32_682
  let v747 : BitVec 32 := Scalar.addi c0_i32_683 v746
  v747.toNat
def k0_dev34 (d4 : Dev nD) : Nat :=
  let c0_i32_690 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_689 : BitVec 32 := 1#32
  let v756 : BitVec 32 := Scalar.muli v69 c1_i32_689
  let v757 : BitVec 32 := Scalar.addi c0_i32_690 v756
  v757.toNat
def k0_dev35 (d4 : Dev nD) : Nat :=
  let c0_i32_726 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_725 : BitVec 32 := 1#32
  let v784 : BitVec 32 := Scalar.muli v69 c1_i32_725
  let v785 : BitVec 32 := Scalar.addi c0_i32_726 v784
  v785.toNat
def k0_dev36 (d4 : Dev nD) : Nat :=
  let c0_i32_733 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_732 : BitVec 32 := 1#32
  let v794 : BitVec 32 := Scalar.muli v70 c1_i32_732
  let v795 : BitVec 32 := Scalar.addi c0_i32_733 v794
  v795.toNat
def k0_dev37 (d4 : Dev nD) : Nat :=
  let c0_i32_770 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_769 : BitVec 32 := 1#32
  let v823 : BitVec 32 := Scalar.muli v70 c1_i32_769
  let v824 : BitVec 32 := Scalar.addi c0_i32_770 v823
  v824.toNat
def k0_dev38 (d4 : Dev nD) : Nat :=
  let c0_i32_777 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_776 : BitVec 32 := 1#32
  let v833 : BitVec 32 := Scalar.muli v69 c1_i32_776
  let v834 : BitVec 32 := Scalar.addi c0_i32_777 v833
  v834.toNat
def k0_dev39 (d4 : Dev nD) : Nat :=
  let c0_i32_813 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_812 : BitVec 32 := 1#32
  let v861 : BitVec 32 := Scalar.muli v69 c1_i32_812
  let v862 : BitVec 32 := Scalar.addi c0_i32_813 v861
  v862.toNat
def k0_dev40 (d4 : Dev nD) : Nat :=
  let c0_i32_820 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_819 : BitVec 32 := 1#32
  let v871 : BitVec 32 := Scalar.muli v70 c1_i32_819
  let v872 : BitVec 32 := Scalar.addi c0_i32_820 v871
  v872.toNat
def k0_dev41 (d4 : Dev nD) : Nat :=
  let c0_i32_857 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_856 : BitVec 32 := 1#32
  let v900 : BitVec 32 := Scalar.muli v70 c1_i32_856
  let v901 : BitVec 32 := Scalar.addi c0_i32_857 v900
  v901.toNat
def k0_dev42 (d4 : Dev nD) : Nat :=
  let c0_i32_864 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_863 : BitVec 32 := 1#32
  let v910 : BitVec 32 := Scalar.muli v69 c1_i32_863
  let v911 : BitVec 32 := Scalar.addi c0_i32_864 v910
  v911.toNat
def k0_dev43 (d4 : Dev nD) : Nat :=
  let c0_i32_929 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_928 : BitVec 32 := 1#32
  let v983 : BitVec 32 := Scalar.muli v69 c1_i32_928
  let v984 : BitVec 32 := Scalar.addi c0_i32_929 v983
  v984.toNat
def k0_dev44 (d4 : Dev nD) : Nat :=
  let c0_i32_936 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_935 : BitVec 32 := 1#32
  let v993 : BitVec 32 := Scalar.muli v70 c1_i32_935
  let v994 : BitVec 32 := Scalar.addi c0_i32_936 v993
  v994.toNat
def k0_dev45 (d4 : Dev nD) : Nat :=
  let c0_i32_973 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_972 : BitVec 32 := 1#32
  let v1022 : BitVec 32 := Scalar.muli v70 c1_i32_972
  let v1023 : BitVec 32 := Scalar.addi c0_i32_973 v1022
  v1023.toNat
def k0_dev46 (d4 : Dev nD) : Nat :=
  let c0_i32_980 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_979 : BitVec 32 := 1#32
  let v1032 : BitVec 32 := Scalar.muli v69 c1_i32_979
  let v1033 : BitVec 32 := Scalar.addi c0_i32_980 v1032
  v1033.toNat
def k0_dev47 (d4 : Dev nD) : Nat :=
  let c0_i32_1016 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_1015 : BitVec 32 := 1#32
  let v1060 : BitVec 32 := Scalar.muli v69 c1_i32_1015
  let v1061 : BitVec 32 := Scalar.addi c0_i32_1016 v1060
  v1061.toNat
def k0_dev48 (d4 : Dev nD) : Nat :=
  let c0_i32_1023 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_1022 : BitVec 32 := 1#32
  let v1070 : BitVec 32 := Scalar.muli v70 c1_i32_1022
  let v1071 : BitVec 32 := Scalar.addi c0_i32_1023 v1070
  v1071.toNat
def k0_dev49 (d4 : Dev nD) : Nat :=
  let c0_i32_1060 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_1059 : BitVec 32 := 1#32
  let v1099 : BitVec 32 := Scalar.muli v70 c1_i32_1059
  let v1100 : BitVec 32 := Scalar.addi c0_i32_1060 v1099
  v1100.toNat
def k0_dev50 (d4 : Dev nD) : Nat :=
  let c0_i32_1067 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_1066 : BitVec 32 := 1#32
  let v1109 : BitVec 32 := Scalar.muli v69 c1_i32_1066
  let v1110 : BitVec 32 := Scalar.addi c0_i32_1067 v1109
  v1110.toNat
def k0_dev51 (d4 : Dev nD) : Nat :=
  let c0_i32_1103 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_1102 : BitVec 32 := 1#32
  let v1137 : BitVec 32 := Scalar.muli v69 c1_i32_1102
  let v1138 : BitVec 32 := Scalar.addi c0_i32_1103 v1137
  v1138.toNat
def k0_dev52 (d4 : Dev nD) : Nat :=
  let c0_i32_1110 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_1109 : BitVec 32 := 1#32
  let v1147 : BitVec 32 := Scalar.muli v70 c1_i32_1109
  let v1148 : BitVec 32 := Scalar.addi c0_i32_1110 v1147
  v1148.toNat
def k0_dev53 (d4 : Dev nD) : Nat :=
  let c0_i32_1147 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_1146 : BitVec 32 := 1#32
  let v1176 : BitVec 32 := Scalar.muli v70 c1_i32_1146
  let v1177 : BitVec 32 := Scalar.addi c0_i32_1147 v1176
  v1177.toNat
def k0_dev54 (d4 : Dev nD) : Nat :=
  let c0_i32_1154 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_1153 : BitVec 32 := 1#32
  let v1186 : BitVec 32 := Scalar.muli v69 c1_i32_1153
  let v1187 : BitVec 32 := Scalar.addi c0_i32_1154 v1186
  v1187.toNat
def k0_dev55 (d4 : Dev nD) : Nat :=
  let c0_i32_1190 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_1189 : BitVec 32 := 1#32
  let v1214 : BitVec 32 := Scalar.muli v69 c1_i32_1189
  let v1215 : BitVec 32 := Scalar.addi c0_i32_1190 v1214
  v1215.toNat
def k0_dev56 (d4 : Dev nD) : Nat :=
  let c0_i32_1197 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_1196 : BitVec 32 := 1#32
  let v1224 : BitVec 32 := Scalar.muli v70 c1_i32_1196
  let v1225 : BitVec 32 := Scalar.addi c0_i32_1197 v1224
  v1225.toNat
def k0_dev57 (d4 : Dev nD) : Nat :=
  let c0_i32_1234 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_1233 : BitVec 32 := 1#32
  let v1253 : BitVec 32 := Scalar.muli v70 c1_i32_1233
  let v1254 : BitVec 32 := Scalar.addi c0_i32_1234 v1253
  v1254.toNat
def k0_dev58 (d4 : Dev nD) : Nat :=
  let c0_i32_1241 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_1240 : BitVec 32 := 1#32
  let v1263 : BitVec 32 := Scalar.muli v69 c1_i32_1240
  let v1264 : BitVec 32 := Scalar.addi c0_i32_1241 v1263
  v1264.toNat
def k0_dev59 (d4 : Dev nD) : Nat :=
  let c0_i32_1306 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_1305 : BitVec 32 := 1#32
  let v1336 : BitVec 32 := Scalar.muli v69 c1_i32_1305
  let v1337 : BitVec 32 := Scalar.addi c0_i32_1306 v1336
  v1337.toNat
def k0_dev60 (d4 : Dev nD) : Nat :=
  let c0_i32_1313 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_1312 : BitVec 32 := 1#32
  let v1346 : BitVec 32 := Scalar.muli v70 c1_i32_1312
  let v1347 : BitVec 32 := Scalar.addi c0_i32_1313 v1346
  v1347.toNat
def k0_dev61 (d4 : Dev nD) : Nat :=
  let c0_i32_1350 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_1349 : BitVec 32 := 1#32
  let v1375 : BitVec 32 := Scalar.muli v70 c1_i32_1349
  let v1376 : BitVec 32 := Scalar.addi c0_i32_1350 v1375
  v1376.toNat
def k0_dev62 (d4 : Dev nD) : Nat :=
  let c0_i32_1357 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_1356 : BitVec 32 := 1#32
  let v1385 : BitVec 32 := Scalar.muli v69 c1_i32_1356
  let v1386 : BitVec 32 := Scalar.addi c0_i32_1357 v1385
  v1386.toNat
def k0_dev63 (d4 : Dev nD) : Nat :=
  let c0_i32_1393 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_1392 : BitVec 32 := 1#32
  let v1413 : BitVec 32 := Scalar.muli v69 c1_i32_1392
  let v1414 : BitVec 32 := Scalar.addi c0_i32_1393 v1413
  v1414.toNat
def k0_dev64 (d4 : Dev nD) : Nat :=
  let c0_i32_1400 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_1399 : BitVec 32 := 1#32
  let v1423 : BitVec 32 := Scalar.muli v70 c1_i32_1399
  let v1424 : BitVec 32 := Scalar.addi c0_i32_1400 v1423
  v1424.toNat
def k0_dev65 (d4 : Dev nD) : Nat :=
  let c0_i32_1437 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_1436 : BitVec 32 := 1#32
  let v1452 : BitVec 32 := Scalar.muli v70 c1_i32_1436
  let v1453 : BitVec 32 := Scalar.addi c0_i32_1437 v1452
  v1453.toNat
def k0_dev66 (d4 : Dev nD) : Nat :=
  let c0_i32_1444 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_1443 : BitVec 32 := 1#32
  let v1462 : BitVec 32 := Scalar.muli v69 c1_i32_1443
  let v1463 : BitVec 32 := Scalar.addi c0_i32_1444 v1462
  v1463.toNat
def k0_dev67 (d4 : Dev nD) : Nat :=
  let c0_i32_1480 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_1479 : BitVec 32 := 1#32
  let v1490 : BitVec 32 := Scalar.muli v69 c1_i32_1479
  let v1491 : BitVec 32 := Scalar.addi c0_i32_1480 v1490
  v1491.toNat
def k0_dev68 (d4 : Dev nD) : Nat :=
  let c0_i32_1487 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_1486 : BitVec 32 := 1#32
  let v1500 : BitVec 32 := Scalar.muli v70 c1_i32_1486
  let v1501 : BitVec 32 := Scalar.addi c0_i32_1487 v1500
  v1501.toNat
def k0_dev69 (d4 : Dev nD) : Nat :=
  let c0_i32_1524 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_1523 : BitVec 32 := 1#32
  let v1529 : BitVec 32 := Scalar.muli v70 c1_i32_1523
  let v1530 : BitVec 32 := Scalar.addi c0_i32_1524 v1529
  v1530.toNat
def k0_dev70 (d4 : Dev nD) : Nat :=
  let c0_i32_1531 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_1530 : BitVec 32 := 1#32
  let v1539 : BitVec 32 := Scalar.muli v69 c1_i32_1530
  let v1540 : BitVec 32 := Scalar.addi c0_i32_1531 v1539
  v1540.toNat
def k0_dev71 (d4 : Dev nD) : Nat :=
  let c0_i32_1567 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_1566 : BitVec 32 := 1#32
  let v1567 : BitVec 32 := Scalar.muli v69 c1_i32_1566
  let v1568 : BitVec 32 := Scalar.addi c0_i32_1567 v1567
  v1568.toNat
def k0_dev72 (d4 : Dev nD) : Nat :=
  let c0_i32_1574 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_1573 : BitVec 32 := 1#32
  let v1577 : BitVec 32 := Scalar.muli v70 c1_i32_1573
  let v1578 : BitVec 32 := Scalar.addi c0_i32_1574 v1577
  v1578.toNat
def k0_dev73 (d4 : Dev nD) : Nat :=
  let c0_i32_1611 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_1610 : BitVec 32 := 1#32
  let v1606 : BitVec 32 := Scalar.muli v70 c1_i32_1610
  let v1607 : BitVec 32 := Scalar.addi c0_i32_1611 v1606
  v1607.toNat
def k0_dev74 (d4 : Dev nD) : Nat :=
  let c0_i32_1618 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_1617 : BitVec 32 := 1#32
  let v1616 : BitVec 32 := Scalar.muli v69 c1_i32_1617
  let v1617 : BitVec 32 := Scalar.addi c0_i32_1618 v1616
  v1617.toNat
def k0_dev75 (d4 : Dev nD) : Nat :=
  let c0_i32_1683 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_1682 : BitVec 32 := 1#32
  let v1689 : BitVec 32 := Scalar.muli v69 c1_i32_1682
  let v1690 : BitVec 32 := Scalar.addi c0_i32_1683 v1689
  v1690.toNat
def k0_dev76 (d4 : Dev nD) : Nat :=
  let c0_i32_1690 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_1689 : BitVec 32 := 1#32
  let v1699 : BitVec 32 := Scalar.muli v70 c1_i32_1689
  let v1700 : BitVec 32 := Scalar.addi c0_i32_1690 v1699
  v1700.toNat
def k0_dev77 (d4 : Dev nD) : Nat :=
  let c0_i32_1727 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_1726 : BitVec 32 := 1#32
  let v1728 : BitVec 32 := Scalar.muli v70 c1_i32_1726
  let v1729 : BitVec 32 := Scalar.addi c0_i32_1727 v1728
  v1729.toNat
def k0_dev78 (d4 : Dev nD) : Nat :=
  let c0_i32_1734 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_1733 : BitVec 32 := 1#32
  let v1738 : BitVec 32 := Scalar.muli v69 c1_i32_1733
  let v1739 : BitVec 32 := Scalar.addi c0_i32_1734 v1738
  v1739.toNat
def k0_dev79 (d4 : Dev nD) : Nat :=
  let c0_i32_1770 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_1769 : BitVec 32 := 1#32
  let v1766 : BitVec 32 := Scalar.muli v69 c1_i32_1769
  let v1767 : BitVec 32 := Scalar.addi c0_i32_1770 v1766
  v1767.toNat
def k0_dev80 (d4 : Dev nD) : Nat :=
  let c0_i32_1777 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_1776 : BitVec 32 := 1#32
  let v1776 : BitVec 32 := Scalar.muli v70 c1_i32_1776
  let v1777 : BitVec 32 := Scalar.addi c0_i32_1777 v1776
  v1777.toNat
def k0_dev81 (d4 : Dev nD) : Nat :=
  let c0_i32_1814 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_1813 : BitVec 32 := 1#32
  let v1805 : BitVec 32 := Scalar.muli v70 c1_i32_1813
  let v1806 : BitVec 32 := Scalar.addi c0_i32_1814 v1805
  v1806.toNat
def k0_dev82 (d4 : Dev nD) : Nat :=
  let c0_i32_1821 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_1820 : BitVec 32 := 1#32
  let v1815 : BitVec 32 := Scalar.muli v69 c1_i32_1820
  let v1816 : BitVec 32 := Scalar.addi c0_i32_1821 v1815
  v1816.toNat
def k0_dev83 (d4 : Dev nD) : Nat :=
  let c0_i32_1857 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_1856 : BitVec 32 := 1#32
  let v1843 : BitVec 32 := Scalar.muli v69 c1_i32_1856
  let v1844 : BitVec 32 := Scalar.addi c0_i32_1857 v1843
  v1844.toNat
def k0_dev84 (d4 : Dev nD) : Nat :=
  let c0_i32_1864 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_1863 : BitVec 32 := 1#32
  let v1853 : BitVec 32 := Scalar.muli v70 c1_i32_1863
  let v1854 : BitVec 32 := Scalar.addi c0_i32_1864 v1853
  v1854.toNat
def k0_dev85 (d4 : Dev nD) : Nat :=
  let c0_i32_1901 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_1900 : BitVec 32 := 1#32
  let v1882 : BitVec 32 := Scalar.muli v70 c1_i32_1900
  let v1883 : BitVec 32 := Scalar.addi c0_i32_1901 v1882
  v1883.toNat
def k0_dev86 (d4 : Dev nD) : Nat :=
  let c0_i32_1908 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_1907 : BitVec 32 := 1#32
  let v1892 : BitVec 32 := Scalar.muli v69 c1_i32_1907
  let v1893 : BitVec 32 := Scalar.addi c0_i32_1908 v1892
  v1893.toNat
def k0_dev87 (d4 : Dev nD) : Nat :=
  let c0_i32_1944 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_1943 : BitVec 32 := 1#32
  let v1920 : BitVec 32 := Scalar.muli v69 c1_i32_1943
  let v1921 : BitVec 32 := Scalar.addi c0_i32_1944 v1920
  v1921.toNat
def k0_dev88 (d4 : Dev nD) : Nat :=
  let c0_i32_1951 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_1950 : BitVec 32 := 1#32
  let v1930 : BitVec 32 := Scalar.muli v70 c1_i32_1950
  let v1931 : BitVec 32 := Scalar.addi c0_i32_1951 v1930
  v1931.toNat
def k0_dev89 (d4 : Dev nD) : Nat :=
  let c0_i32_1988 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_1987 : BitVec 32 := 1#32
  let v1959 : BitVec 32 := Scalar.muli v70 c1_i32_1987
  let v1960 : BitVec 32 := Scalar.addi c0_i32_1988 v1959
  v1960.toNat
def k0_dev90 (d4 : Dev nD) : Nat :=
  let c0_i32_1995 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_1994 : BitVec 32 := 1#32
  let v1969 : BitVec 32 := Scalar.muli v69 c1_i32_1994
  let v1970 : BitVec 32 := Scalar.addi c0_i32_1995 v1969
  v1970.toNat
def k0_dev91 (d4 : Dev nD) : Nat :=
  let c0_i32_2060 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_2059 : BitVec 32 := 1#32
  let v2042 : BitVec 32 := Scalar.muli v69 c1_i32_2059
  let v2043 : BitVec 32 := Scalar.addi c0_i32_2060 v2042
  v2043.toNat
def k0_dev92 (d4 : Dev nD) : Nat :=
  let c0_i32_2067 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_2066 : BitVec 32 := 1#32
  let v2052 : BitVec 32 := Scalar.muli v70 c1_i32_2066
  let v2053 : BitVec 32 := Scalar.addi c0_i32_2067 v2052
  v2053.toNat
def k0_dev93 (d4 : Dev nD) : Nat :=
  let c0_i32_2104 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_2103 : BitVec 32 := 1#32
  let v2081 : BitVec 32 := Scalar.muli v70 c1_i32_2103
  let v2082 : BitVec 32 := Scalar.addi c0_i32_2104 v2081
  v2082.toNat
def k0_dev94 (d4 : Dev nD) : Nat :=
  let c0_i32_2111 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_2110 : BitVec 32 := 1#32
  let v2091 : BitVec 32 := Scalar.muli v69 c1_i32_2110
  let v2092 : BitVec 32 := Scalar.addi c0_i32_2111 v2091
  v2092.toNat
def k0_dev95 (d4 : Dev nD) : Nat :=
  let c0_i32_2147 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_2146 : BitVec 32 := 1#32
  let v2119 : BitVec 32 := Scalar.muli v69 c1_i32_2146
  let v2120 : BitVec 32 := Scalar.addi c0_i32_2147 v2119
  v2120.toNat
def k0_dev96 (d4 : Dev nD) : Nat :=
  let c0_i32_2154 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_2153 : BitVec 32 := 1#32
  let v2129 : BitVec 32 := Scalar.muli v70 c1_i32_2153
  let v2130 : BitVec 32 := Scalar.addi c0_i32_2154 v2129
  v2130.toNat
def k0_dev97 (d4 : Dev nD) : Nat :=
  let c0_i32_2191 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_2190 : BitVec 32 := 1#32
  let v2158 : BitVec 32 := Scalar.muli v70 c1_i32_2190
  let v2159 : BitVec 32 := Scalar.addi c0_i32_2191 v2158
  v2159.toNat
def k0_dev98 (d4 : Dev nD) : Nat :=
  let c0_i32_2198 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_2197 : BitVec 32 := 1#32
  let v2168 : BitVec 32 := Scalar.muli v69 c1_i32_2197
  let v2169 : BitVec 32 := Scalar.addi c0_i32_2198 v2168
  v2169.toNat
def k0_dev99 (d4 : Dev nD) : Nat :=
  let c0_i32_2234 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_2233 : BitVec 32 := 1#32
  let v2196 : BitVec 32 := Scalar.muli v69 c1_i32_2233
  let v2197 : BitVec 32 := Scalar.addi c0_i32_2234 v2196
  v2197.toNat
def k0_dev100 (d4 : Dev nD) : Nat :=
  let c0_i32_2241 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_2240 : BitVec 32 := 1#32
  let v2206 : BitVec 32 := Scalar.muli v70 c1_i32_2240
  let v2207 : BitVec 32 := Scalar.addi c0_i32_2241 v2206
  v2207.toNat
def k0_dev101 (d4 : Dev nD) : Nat :=
  let c0_i32_2278 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_2277 : BitVec 32 := 1#32
  let v2235 : BitVec 32 := Scalar.muli v70 c1_i32_2277
  let v2236 : BitVec 32 := Scalar.addi c0_i32_2278 v2235
  v2236.toNat
def k0_dev102 (d4 : Dev nD) : Nat :=
  let c0_i32_2285 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_2284 : BitVec 32 := 1#32
  let v2245 : BitVec 32 := Scalar.muli v69 c1_i32_2284
  let v2246 : BitVec 32 := Scalar.addi c0_i32_2285 v2245
  v2246.toNat
def k0_dev103 (d4 : Dev nD) : Nat :=
  let c0_i32_2321 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_2320 : BitVec 32 := 1#32
  let v2273 : BitVec 32 := Scalar.muli v69 c1_i32_2320
  let v2274 : BitVec 32 := Scalar.addi c0_i32_2321 v2273
  v2274.toNat
def k0_dev104 (d4 : Dev nD) : Nat :=
  let c0_i32_2328 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_2327 : BitVec 32 := 1#32
  let v2283 : BitVec 32 := Scalar.muli v70 c1_i32_2327
  let v2284 : BitVec 32 := Scalar.addi c0_i32_2328 v2283
  v2284.toNat
def k0_dev105 (d4 : Dev nD) : Nat :=
  let c0_i32_2365 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_2364 : BitVec 32 := 1#32
  let v2312 : BitVec 32 := Scalar.muli v70 c1_i32_2364
  let v2313 : BitVec 32 := Scalar.addi c0_i32_2365 v2312
  v2313.toNat
def k0_dev106 (d4 : Dev nD) : Nat :=
  let c0_i32_2372 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_2371 : BitVec 32 := 1#32
  let v2322 : BitVec 32 := Scalar.muli v69 c1_i32_2371
  let v2323 : BitVec 32 := Scalar.addi c0_i32_2372 v2322
  v2323.toNat
def k0_dev107 (d4 : Dev nD) : Nat :=
  let c0_i32_2437 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_2436 : BitVec 32 := 1#32
  let v2395 : BitVec 32 := Scalar.muli v69 c1_i32_2436
  let v2396 : BitVec 32 := Scalar.addi c0_i32_2437 v2395
  v2396.toNat
def k0_dev108 (d4 : Dev nD) : Nat :=
  let c0_i32_2444 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_2443 : BitVec 32 := 1#32
  let v2405 : BitVec 32 := Scalar.muli v70 c1_i32_2443
  let v2406 : BitVec 32 := Scalar.addi c0_i32_2444 v2405
  v2406.toNat
def k0_dev109 (d4 : Dev nD) : Nat :=
  let c0_i32_2481 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_2480 : BitVec 32 := 1#32
  let v2434 : BitVec 32 := Scalar.muli v70 c1_i32_2480
  let v2435 : BitVec 32 := Scalar.addi c0_i32_2481 v2434
  v2435.toNat
def k0_dev110 (d4 : Dev nD) : Nat :=
  let c0_i32_2488 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_2487 : BitVec 32 := 1#32
  let v2444 : BitVec 32 := Scalar.muli v69 c1_i32_2487
  let v2445 : BitVec 32 := Scalar.addi c0_i32_2488 v2444
  v2445.toNat
def k0_dev111 (d4 : Dev nD) : Nat :=
  let c0_i32_2524 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_2523 : BitVec 32 := 1#32
  let v2472 : BitVec 32 := Scalar.muli v69 c1_i32_2523
  let v2473 : BitVec 32 := Scalar.addi c0_i32_2524 v2472
  v2473.toNat
def k0_dev112 (d4 : Dev nD) : Nat :=
  let c0_i32_2531 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_2530 : BitVec 32 := 1#32
  let v2482 : BitVec 32 := Scalar.muli v70 c1_i32_2530
  let v2483 : BitVec 32 := Scalar.addi c0_i32_2531 v2482
  v2483.toNat
def k0_dev113 (d4 : Dev nD) : Nat :=
  let c0_i32_2568 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_2567 : BitVec 32 := 1#32
  let v2511 : BitVec 32 := Scalar.muli v70 c1_i32_2567
  let v2512 : BitVec 32 := Scalar.addi c0_i32_2568 v2511
  v2512.toNat
def k0_dev114 (d4 : Dev nD) : Nat :=
  let c0_i32_2575 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_2574 : BitVec 32 := 1#32
  let v2521 : BitVec 32 := Scalar.muli v69 c1_i32_2574
  let v2522 : BitVec 32 := Scalar.addi c0_i32_2575 v2521
  v2522.toNat
def k0_dev115 (d4 : Dev nD) : Nat :=
  let c0_i32_2611 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_2610 : BitVec 32 := 1#32
  let v2549 : BitVec 32 := Scalar.muli v69 c1_i32_2610
  let v2550 : BitVec 32 := Scalar.addi c0_i32_2611 v2549
  v2550.toNat
def k0_dev116 (d4 : Dev nD) : Nat :=
  let c0_i32_2618 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_2617 : BitVec 32 := 1#32
  let v2559 : BitVec 32 := Scalar.muli v70 c1_i32_2617
  let v2560 : BitVec 32 := Scalar.addi c0_i32_2618 v2559
  v2560.toNat
def k0_dev117 (d4 : Dev nD) : Nat :=
  let c0_i32_2655 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_2654 : BitVec 32 := 1#32
  let v2588 : BitVec 32 := Scalar.muli v70 c1_i32_2654
  let v2589 : BitVec 32 := Scalar.addi c0_i32_2655 v2588
  v2589.toNat
def k0_dev118 (d4 : Dev nD) : Nat :=
  let c0_i32_2662 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_2661 : BitVec 32 := 1#32
  let v2598 : BitVec 32 := Scalar.muli v69 c1_i32_2661
  let v2599 : BitVec 32 := Scalar.addi c0_i32_2662 v2598
  v2599.toNat
def k0_dev119 (d4 : Dev nD) : Nat :=
  let c0_i32_2698 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_2697 : BitVec 32 := 1#32
  let v2626 : BitVec 32 := Scalar.muli v69 c1_i32_2697
  let v2627 : BitVec 32 := Scalar.addi c0_i32_2698 v2626
  v2627.toNat
def k0_dev120 (d4 : Dev nD) : Nat :=
  let c0_i32_2705 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_2704 : BitVec 32 := 1#32
  let v2636 : BitVec 32 := Scalar.muli v70 c1_i32_2704
  let v2637 : BitVec 32 := Scalar.addi c0_i32_2705 v2636
  v2637.toNat
def k0_dev121 (d4 : Dev nD) : Nat :=
  let c0_i32_2742 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_2741 : BitVec 32 := 1#32
  let v2665 : BitVec 32 := Scalar.muli v70 c1_i32_2741
  let v2666 : BitVec 32 := Scalar.addi c0_i32_2742 v2665
  v2666.toNat
def k0_dev122 (d4 : Dev nD) : Nat :=
  let c0_i32_2749 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_2748 : BitVec 32 := 1#32
  let v2675 : BitVec 32 := Scalar.muli v69 c1_i32_2748
  let v2676 : BitVec 32 := Scalar.addi c0_i32_2749 v2675
  v2676.toNat
def k0_dev123 (d4 : Dev nD) : Nat :=
  let c0_i32_2814 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_2813 : BitVec 32 := 1#32
  let v2748 : BitVec 32 := Scalar.muli v69 c1_i32_2813
  let v2749 : BitVec 32 := Scalar.addi c0_i32_2814 v2748
  v2749.toNat
def k0_dev124 (d4 : Dev nD) : Nat :=
  let c0_i32_2821 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_2820 : BitVec 32 := 1#32
  let v2758 : BitVec 32 := Scalar.muli v70 c1_i32_2820
  let v2759 : BitVec 32 := Scalar.addi c0_i32_2821 v2758
  v2759.toNat
def k0_dev125 (d4 : Dev nD) : Nat :=
  let c0_i32_2858 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_2857 : BitVec 32 := 1#32
  let v2787 : BitVec 32 := Scalar.muli v70 c1_i32_2857
  let v2788 : BitVec 32 := Scalar.addi c0_i32_2858 v2787
  v2788.toNat
def k0_dev126 (d4 : Dev nD) : Nat :=
  let c0_i32_2865 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_2864 : BitVec 32 := 1#32
  let v2797 : BitVec 32 := Scalar.muli v69 c1_i32_2864
  let v2798 : BitVec 32 := Scalar.addi c0_i32_2865 v2797
  v2798.toNat
def k0_dev127 (d4 : Dev nD) : Nat :=
  let c0_i32_2901 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_2900 : BitVec 32 := 1#32
  let v2825 : BitVec 32 := Scalar.muli v69 c1_i32_2900
  let v2826 : BitVec 32 := Scalar.addi c0_i32_2901 v2825
  v2826.toNat
def k0_dev128 (d4 : Dev nD) : Nat :=
  let c0_i32_2908 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_2907 : BitVec 32 := 1#32
  let v2835 : BitVec 32 := Scalar.muli v70 c1_i32_2907
  let v2836 : BitVec 32 := Scalar.addi c0_i32_2908 v2835
  v2836.toNat
def k0_dev129 (d4 : Dev nD) : Nat :=
  let c0_i32_2945 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_2944 : BitVec 32 := 1#32
  let v2864 : BitVec 32 := Scalar.muli v70 c1_i32_2944
  let v2865 : BitVec 32 := Scalar.addi c0_i32_2945 v2864
  v2865.toNat
def k0_dev130 (d4 : Dev nD) : Nat :=
  let c0_i32_2952 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_2951 : BitVec 32 := 1#32
  let v2874 : BitVec 32 := Scalar.muli v69 c1_i32_2951
  let v2875 : BitVec 32 := Scalar.addi c0_i32_2952 v2874
  v2875.toNat
def k0_dev131 (d4 : Dev nD) : Nat :=
  let c0_i32_2988 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_2987 : BitVec 32 := 1#32
  let v2902 : BitVec 32 := Scalar.muli v69 c1_i32_2987
  let v2903 : BitVec 32 := Scalar.addi c0_i32_2988 v2902
  v2903.toNat
def k0_dev132 (d4 : Dev nD) : Nat :=
  let c0_i32_2995 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_2994 : BitVec 32 := 1#32
  let v2912 : BitVec 32 := Scalar.muli v70 c1_i32_2994
  let v2913 : BitVec 32 := Scalar.addi c0_i32_2995 v2912
  v2913.toNat
def k0_dev133 (d4 : Dev nD) : Nat :=
  let c0_i32_3032 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_3031 : BitVec 32 := 1#32
  let v2941 : BitVec 32 := Scalar.muli v70 c1_i32_3031
  let v2942 : BitVec 32 := Scalar.addi c0_i32_3032 v2941
  v2942.toNat
def k0_dev134 (d4 : Dev nD) : Nat :=
  let c0_i32_3039 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_3038 : BitVec 32 := 1#32
  let v2951 : BitVec 32 := Scalar.muli v69 c1_i32_3038
  let v2952 : BitVec 32 := Scalar.addi c0_i32_3039 v2951
  v2952.toNat
def k0_dev135 (d4 : Dev nD) : Nat :=
  let c0_i32_3075 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_3074 : BitVec 32 := 1#32
  let v2979 : BitVec 32 := Scalar.muli v69 c1_i32_3074
  let v2980 : BitVec 32 := Scalar.addi c0_i32_3075 v2979
  v2980.toNat
def k0_dev136 (d4 : Dev nD) : Nat :=
  let c0_i32_3082 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_3081 : BitVec 32 := 1#32
  let v2989 : BitVec 32 := Scalar.muli v70 c1_i32_3081
  let v2990 : BitVec 32 := Scalar.addi c0_i32_3082 v2989
  v2990.toNat
def k0_dev137 (d4 : Dev nD) : Nat :=
  let c0_i32_3119 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_3118 : BitVec 32 := 1#32
  let v3018 : BitVec 32 := Scalar.muli v70 c1_i32_3118
  let v3019 : BitVec 32 := Scalar.addi c0_i32_3119 v3018
  v3019.toNat
def k0_dev138 (d4 : Dev nD) : Nat :=
  let c0_i32_3126 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_3125 : BitVec 32 := 1#32
  let v3028 : BitVec 32 := Scalar.muli v69 c1_i32_3125
  let v3029 : BitVec 32 := Scalar.addi c0_i32_3126 v3028
  v3029.toNat
def k0_dev139 (d4 : Dev nD) : Nat :=
  let c0_i32_3191 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_3190 : BitVec 32 := 1#32
  let v3101 : BitVec 32 := Scalar.muli v69 c1_i32_3190
  let v3102 : BitVec 32 := Scalar.addi c0_i32_3191 v3101
  v3102.toNat
def k0_dev140 (d4 : Dev nD) : Nat :=
  let c0_i32_3198 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_3197 : BitVec 32 := 1#32
  let v3111 : BitVec 32 := Scalar.muli v70 c1_i32_3197
  let v3112 : BitVec 32 := Scalar.addi c0_i32_3198 v3111
  v3112.toNat
def k0_dev141 (d4 : Dev nD) : Nat :=
  let c0_i32_3235 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_3234 : BitVec 32 := 1#32
  let v3140 : BitVec 32 := Scalar.muli v70 c1_i32_3234
  let v3141 : BitVec 32 := Scalar.addi c0_i32_3235 v3140
  v3141.toNat
def k0_dev142 (d4 : Dev nD) : Nat :=
  let c0_i32_3242 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_3241 : BitVec 32 := 1#32
  let v3150 : BitVec 32 := Scalar.muli v69 c1_i32_3241
  let v3151 : BitVec 32 := Scalar.addi c0_i32_3242 v3150
  v3151.toNat
def k0_dev143 (d4 : Dev nD) : Nat :=
  let c0_i32_3278 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_3277 : BitVec 32 := 1#32
  let v3178 : BitVec 32 := Scalar.muli v69 c1_i32_3277
  let v3179 : BitVec 32 := Scalar.addi c0_i32_3278 v3178
  v3179.toNat
def k0_dev144 (d4 : Dev nD) : Nat :=
  let c0_i32_3285 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_3284 : BitVec 32 := 1#32
  let v3188 : BitVec 32 := Scalar.muli v70 c1_i32_3284
  let v3189 : BitVec 32 := Scalar.addi c0_i32_3285 v3188
  v3189.toNat
def k0_dev145 (d4 : Dev nD) : Nat :=
  let c0_i32_3322 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_3321 : BitVec 32 := 1#32
  let v3217 : BitVec 32 := Scalar.muli v70 c1_i32_3321
  let v3218 : BitVec 32 := Scalar.addi c0_i32_3322 v3217
  v3218.toNat
def k0_dev146 (d4 : Dev nD) : Nat :=
  let c0_i32_3329 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_3328 : BitVec 32 := 1#32
  let v3227 : BitVec 32 := Scalar.muli v69 c1_i32_3328
  let v3228 : BitVec 32 := Scalar.addi c0_i32_3329 v3227
  v3228.toNat
def k0_dev147 (d4 : Dev nD) : Nat :=
  let c0_i32_3365 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_3364 : BitVec 32 := 1#32
  let v3255 : BitVec 32 := Scalar.muli v69 c1_i32_3364
  let v3256 : BitVec 32 := Scalar.addi c0_i32_3365 v3255
  v3256.toNat
def k0_dev148 (d4 : Dev nD) : Nat :=
  let c0_i32_3372 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_3371 : BitVec 32 := 1#32
  let v3265 : BitVec 32 := Scalar.muli v70 c1_i32_3371
  let v3266 : BitVec 32 := Scalar.addi c0_i32_3372 v3265
  v3266.toNat
def k0_dev149 (d4 : Dev nD) : Nat :=
  let c0_i32_3409 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_3408 : BitVec 32 := 1#32
  let v3294 : BitVec 32 := Scalar.muli v70 c1_i32_3408
  let v3295 : BitVec 32 := Scalar.addi c0_i32_3409 v3294
  v3295.toNat
def k0_dev150 (d4 : Dev nD) : Nat :=
  let c0_i32_3416 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_3415 : BitVec 32 := 1#32
  let v3304 : BitVec 32 := Scalar.muli v69 c1_i32_3415
  let v3305 : BitVec 32 := Scalar.addi c0_i32_3416 v3304
  v3305.toNat
def k0_dev151 (d4 : Dev nD) : Nat :=
  let c0_i32_3452 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_3451 : BitVec 32 := 1#32
  let v3332 : BitVec 32 := Scalar.muli v69 c1_i32_3451
  let v3333 : BitVec 32 := Scalar.addi c0_i32_3452 v3332
  v3333.toNat
def k0_dev152 (d4 : Dev nD) : Nat :=
  let c0_i32_3459 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_3458 : BitVec 32 := 1#32
  let v3342 : BitVec 32 := Scalar.muli v70 c1_i32_3458
  let v3343 : BitVec 32 := Scalar.addi c0_i32_3459 v3342
  v3343.toNat
def k0_dev153 (d4 : Dev nD) : Nat :=
  let c0_i32_3496 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_3495 : BitVec 32 := 1#32
  let v3371 : BitVec 32 := Scalar.muli v70 c1_i32_3495
  let v3372 : BitVec 32 := Scalar.addi c0_i32_3496 v3371
  v3372.toNat
def k0_dev154 (d4 : Dev nD) : Nat :=
  let c0_i32_3503 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_3502 : BitVec 32 := 1#32
  let v3381 : BitVec 32 := Scalar.muli v69 c1_i32_3502
  let v3382 : BitVec 32 := Scalar.addi c0_i32_3503 v3381
  v3382.toNat
def k0_dev155 (d4 : Dev nD) : Nat :=
  let c0_i32_3568 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_3567 : BitVec 32 := 1#32
  let v3454 : BitVec 32 := Scalar.muli v69 c1_i32_3567
  let v3455 : BitVec 32 := Scalar.addi c0_i32_3568 v3454
  v3455.toNat
def k0_dev156 (d4 : Dev nD) : Nat :=
  let c0_i32_3575 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_3574 : BitVec 32 := 1#32
  let v3464 : BitVec 32 := Scalar.muli v70 c1_i32_3574
  let v3465 : BitVec 32 := Scalar.addi c0_i32_3575 v3464
  v3465.toNat
def k0_dev157 (d4 : Dev nD) : Nat :=
  let c0_i32_3612 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_3611 : BitVec 32 := 1#32
  let v3493 : BitVec 32 := Scalar.muli v70 c1_i32_3611
  let v3494 : BitVec 32 := Scalar.addi c0_i32_3612 v3493
  v3494.toNat
def k0_dev158 (d4 : Dev nD) : Nat :=
  let c0_i32_3619 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_3618 : BitVec 32 := 1#32
  let v3503 : BitVec 32 := Scalar.muli v69 c1_i32_3618
  let v3504 : BitVec 32 := Scalar.addi c0_i32_3619 v3503
  v3504.toNat
def k0_dev159 (d4 : Dev nD) : Nat :=
  let c0_i32_3655 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_3654 : BitVec 32 := 1#32
  let v3531 : BitVec 32 := Scalar.muli v69 c1_i32_3654
  let v3532 : BitVec 32 := Scalar.addi c0_i32_3655 v3531
  v3532.toNat
def k0_dev160 (d4 : Dev nD) : Nat :=
  let c0_i32_3662 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_3661 : BitVec 32 := 1#32
  let v3541 : BitVec 32 := Scalar.muli v70 c1_i32_3661
  let v3542 : BitVec 32 := Scalar.addi c0_i32_3662 v3541
  v3542.toNat
def k0_dev161 (d4 : Dev nD) : Nat :=
  let c0_i32_3699 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_3698 : BitVec 32 := 1#32
  let v3570 : BitVec 32 := Scalar.muli v70 c1_i32_3698
  let v3571 : BitVec 32 := Scalar.addi c0_i32_3699 v3570
  v3571.toNat
def k0_dev162 (d4 : Dev nD) : Nat :=
  let c0_i32_3706 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_3705 : BitVec 32 := 1#32
  let v3580 : BitVec 32 := Scalar.muli v69 c1_i32_3705
  let v3581 : BitVec 32 := Scalar.addi c0_i32_3706 v3580
  v3581.toNat
def k0_dev163 (d4 : Dev nD) : Nat :=
  let c0_i32_3742 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_3741 : BitVec 32 := 1#32
  let v3608 : BitVec 32 := Scalar.muli v69 c1_i32_3741
  let v3609 : BitVec 32 := Scalar.addi c0_i32_3742 v3608
  v3609.toNat
def k0_dev164 (d4 : Dev nD) : Nat :=
  let c0_i32_3749 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_3748 : BitVec 32 := 1#32
  let v3618 : BitVec 32 := Scalar.muli v70 c1_i32_3748
  let v3619 : BitVec 32 := Scalar.addi c0_i32_3749 v3618
  v3619.toNat
def k0_dev165 (d4 : Dev nD) : Nat :=
  let c0_i32_3786 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_3785 : BitVec 32 := 1#32
  let v3647 : BitVec 32 := Scalar.muli v70 c1_i32_3785
  let v3648 : BitVec 32 := Scalar.addi c0_i32_3786 v3647
  v3648.toNat
def k0_dev166 (d4 : Dev nD) : Nat :=
  let c0_i32_3793 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_3792 : BitVec 32 := 1#32
  let v3657 : BitVec 32 := Scalar.muli v69 c1_i32_3792
  let v3658 : BitVec 32 := Scalar.addi c0_i32_3793 v3657
  v3658.toNat
def k0_dev167 (d4 : Dev nD) : Nat :=
  let c0_i32_3829 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_3828 : BitVec 32 := 1#32
  let v3685 : BitVec 32 := Scalar.muli v69 c1_i32_3828
  let v3686 : BitVec 32 := Scalar.addi c0_i32_3829 v3685
  v3686.toNat
def k0_dev168 (d4 : Dev nD) : Nat :=
  let c0_i32_3836 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_3835 : BitVec 32 := 1#32
  let v3695 : BitVec 32 := Scalar.muli v70 c1_i32_3835
  let v3696 : BitVec 32 := Scalar.addi c0_i32_3836 v3695
  v3696.toNat
def k0_dev169 (d4 : Dev nD) : Nat :=
  let c0_i32_3873 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_3872 : BitVec 32 := 1#32
  let v3724 : BitVec 32 := Scalar.muli v70 c1_i32_3872
  let v3725 : BitVec 32 := Scalar.addi c0_i32_3873 v3724
  v3725.toNat
def k0_dev170 (d4 : Dev nD) : Nat :=
  let c0_i32_3880 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_3879 : BitVec 32 := 1#32
  let v3734 : BitVec 32 := Scalar.muli v69 c1_i32_3879
  let v3735 : BitVec 32 := Scalar.addi c0_i32_3880 v3734
  v3735.toNat
def k0_dev171 (d4 : Dev nD) : Nat :=
  let c0_i32_3945 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_3944 : BitVec 32 := 1#32
  let v3807 : BitVec 32 := Scalar.muli v69 c1_i32_3944
  let v3808 : BitVec 32 := Scalar.addi c0_i32_3945 v3807
  v3808.toNat
def k0_dev172 (d4 : Dev nD) : Nat :=
  let c0_i32_3952 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_3951 : BitVec 32 := 1#32
  let v3817 : BitVec 32 := Scalar.muli v70 c1_i32_3951
  let v3818 : BitVec 32 := Scalar.addi c0_i32_3952 v3817
  v3818.toNat
def k0_dev173 (d4 : Dev nD) : Nat :=
  let c0_i32_3989 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_3988 : BitVec 32 := 1#32
  let v3846 : BitVec 32 := Scalar.muli v70 c1_i32_3988
  let v3847 : BitVec 32 := Scalar.addi c0_i32_3989 v3846
  v3847.toNat
def k0_dev174 (d4 : Dev nD) : Nat :=
  let c0_i32_3996 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_3995 : BitVec 32 := 1#32
  let v3856 : BitVec 32 := Scalar.muli v69 c1_i32_3995
  let v3857 : BitVec 32 := Scalar.addi c0_i32_3996 v3856
  v3857.toNat
def k0_dev175 (d4 : Dev nD) : Nat :=
  let c0_i32_4032 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_4031 : BitVec 32 := 1#32
  let v3884 : BitVec 32 := Scalar.muli v69 c1_i32_4031
  let v3885 : BitVec 32 := Scalar.addi c0_i32_4032 v3884
  v3885.toNat
def k0_dev176 (d4 : Dev nD) : Nat :=
  let c0_i32_4039 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_4038 : BitVec 32 := 1#32
  let v3894 : BitVec 32 := Scalar.muli v70 c1_i32_4038
  let v3895 : BitVec 32 := Scalar.addi c0_i32_4039 v3894
  v3895.toNat
def k0_dev177 (d4 : Dev nD) : Nat :=
  let c0_i32_4076 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_4075 : BitVec 32 := 1#32
  let v3923 : BitVec 32 := Scalar.muli v70 c1_i32_4075
  let v3924 : BitVec 32 := Scalar.addi c0_i32_4076 v3923
  v3924.toNat
def k0_dev178 (d4 : Dev nD) : Nat :=
  let c0_i32_4083 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_4082 : BitVec 32 := 1#32
  let v3933 : BitVec 32 := Scalar.muli v69 c1_i32_4082
  let v3934 : BitVec 32 := Scalar.addi c0_i32_4083 v3933
  v3934.toNat
def k0_dev179 (d4 : Dev nD) : Nat :=
  let c0_i32_4119 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_4118 : BitVec 32 := 1#32
  let v3961 : BitVec 32 := Scalar.muli v69 c1_i32_4118
  let v3962 : BitVec 32 := Scalar.addi c0_i32_4119 v3961
  v3962.toNat
def k0_dev180 (d4 : Dev nD) : Nat :=
  let c0_i32_4126 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_4125 : BitVec 32 := 1#32
  let v3971 : BitVec 32 := Scalar.muli v70 c1_i32_4125
  let v3972 : BitVec 32 := Scalar.addi c0_i32_4126 v3971
  v3972.toNat
def k0_dev181 (d4 : Dev nD) : Nat :=
  let c0_i32_4163 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_4162 : BitVec 32 := 1#32
  let v4000 : BitVec 32 := Scalar.muli v70 c1_i32_4162
  let v4001 : BitVec 32 := Scalar.addi c0_i32_4163 v4000
  v4001.toNat
def k0_dev182 (d4 : Dev nD) : Nat :=
  let c0_i32_4170 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_4169 : BitVec 32 := 1#32
  let v4010 : BitVec 32 := Scalar.muli v69 c1_i32_4169
  let v4011 : BitVec 32 := Scalar.addi c0_i32_4170 v4010
  v4011.toNat
def k0_dev183 (d4 : Dev nD) : Nat :=
  let c0_i32_4206 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_4205 : BitVec 32 := 1#32
  let v4038 : BitVec 32 := Scalar.muli v69 c1_i32_4205
  let v4039 : BitVec 32 := Scalar.addi c0_i32_4206 v4038
  v4039.toNat
def k0_dev184 (d4 : Dev nD) : Nat :=
  let c0_i32_4213 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_4212 : BitVec 32 := 1#32
  let v4048 : BitVec 32 := Scalar.muli v70 c1_i32_4212
  let v4049 : BitVec 32 := Scalar.addi c0_i32_4213 v4048
  v4049.toNat
def k0_dev185 (d4 : Dev nD) : Nat :=
  let c0_i32_4250 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_4249 : BitVec 32 := 1#32
  let v4077 : BitVec 32 := Scalar.muli v70 c1_i32_4249
  let v4078 : BitVec 32 := Scalar.addi c0_i32_4250 v4077
  v4078.toNat
def k0_dev186 (d4 : Dev nD) : Nat :=
  let c0_i32_4257 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_4256 : BitVec 32 := 1#32
  let v4087 : BitVec 32 := Scalar.muli v69 c1_i32_4256
  let v4088 : BitVec 32 := Scalar.addi c0_i32_4257 v4087
  v4088.toNat
def k0_dev187 (d4 : Dev nD) : Nat :=
  let c0_i32_4322 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_4321 : BitVec 32 := 1#32
  let v4160 : BitVec 32 := Scalar.muli v69 c1_i32_4321
  let v4161 : BitVec 32 := Scalar.addi c0_i32_4322 v4160
  v4161.toNat
def k0_dev188 (d4 : Dev nD) : Nat :=
  let c0_i32_4329 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_4328 : BitVec 32 := 1#32
  let v4170 : BitVec 32 := Scalar.muli v70 c1_i32_4328
  let v4171 : BitVec 32 := Scalar.addi c0_i32_4329 v4170
  v4171.toNat
def k0_dev189 (d4 : Dev nD) : Nat :=
  let c0_i32_4366 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_4365 : BitVec 32 := 1#32
  let v4199 : BitVec 32 := Scalar.muli v70 c1_i32_4365
  let v4200 : BitVec 32 := Scalar.addi c0_i32_4366 v4199
  v4200.toNat
def k0_dev190 (d4 : Dev nD) : Nat :=
  let c0_i32_4373 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_4372 : BitVec 32 := 1#32
  let v4209 : BitVec 32 := Scalar.muli v69 c1_i32_4372
  let v4210 : BitVec 32 := Scalar.addi c0_i32_4373 v4209
  v4210.toNat
def k0_dev191 (d4 : Dev nD) : Nat :=
  let c0_i32_4409 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_4408 : BitVec 32 := 1#32
  let v4237 : BitVec 32 := Scalar.muli v69 c1_i32_4408
  let v4238 : BitVec 32 := Scalar.addi c0_i32_4409 v4237
  v4238.toNat
def k0_dev192 (d4 : Dev nD) : Nat :=
  let c0_i32_4416 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_4415 : BitVec 32 := 1#32
  let v4247 : BitVec 32 := Scalar.muli v70 c1_i32_4415
  let v4248 : BitVec 32 := Scalar.addi c0_i32_4416 v4247
  v4248.toNat
def k0_dev193 (d4 : Dev nD) : Nat :=
  let c0_i32_4453 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_4452 : BitVec 32 := 1#32
  let v4276 : BitVec 32 := Scalar.muli v70 c1_i32_4452
  let v4277 : BitVec 32 := Scalar.addi c0_i32_4453 v4276
  v4277.toNat
def k0_dev194 (d4 : Dev nD) : Nat :=
  let c0_i32_4460 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_4459 : BitVec 32 := 1#32
  let v4286 : BitVec 32 := Scalar.muli v69 c1_i32_4459
  let v4287 : BitVec 32 := Scalar.addi c0_i32_4460 v4286
  v4287.toNat
def k0_dev195 (d4 : Dev nD) : Nat :=
  let c0_i32_4496 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_4495 : BitVec 32 := 1#32
  let v4314 : BitVec 32 := Scalar.muli v69 c1_i32_4495
  let v4315 : BitVec 32 := Scalar.addi c0_i32_4496 v4314
  v4315.toNat
def k0_dev196 (d4 : Dev nD) : Nat :=
  let c0_i32_4503 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_4502 : BitVec 32 := 1#32
  let v4324 : BitVec 32 := Scalar.muli v70 c1_i32_4502
  let v4325 : BitVec 32 := Scalar.addi c0_i32_4503 v4324
  v4325.toNat
def k0_dev197 (d4 : Dev nD) : Nat :=
  let c0_i32_4540 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_4539 : BitVec 32 := 1#32
  let v4353 : BitVec 32 := Scalar.muli v70 c1_i32_4539
  let v4354 : BitVec 32 := Scalar.addi c0_i32_4540 v4353
  v4354.toNat
def k0_dev198 (d4 : Dev nD) : Nat :=
  let c0_i32_4547 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_4546 : BitVec 32 := 1#32
  let v4363 : BitVec 32 := Scalar.muli v69 c1_i32_4546
  let v4364 : BitVec 32 := Scalar.addi c0_i32_4547 v4363
  v4364.toNat
def k0_dev199 (d4 : Dev nD) : Nat :=
  let c0_i32_4583 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_4582 : BitVec 32 := 1#32
  let v4391 : BitVec 32 := Scalar.muli v69 c1_i32_4582
  let v4392 : BitVec 32 := Scalar.addi c0_i32_4583 v4391
  v4392.toNat
def k0_dev200 (d4 : Dev nD) : Nat :=
  let c0_i32_4590 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_4589 : BitVec 32 := 1#32
  let v4401 : BitVec 32 := Scalar.muli v70 c1_i32_4589
  let v4402 : BitVec 32 := Scalar.addi c0_i32_4590 v4401
  v4402.toNat
def k0_dev201 (d4 : Dev nD) : Nat :=
  let c0_i32_4627 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_4626 : BitVec 32 := 1#32
  let v4430 : BitVec 32 := Scalar.muli v70 c1_i32_4626
  let v4431 : BitVec 32 := Scalar.addi c0_i32_4627 v4430
  v4431.toNat
def k0_dev202 (d4 : Dev nD) : Nat :=
  let c0_i32_4634 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_4633 : BitVec 32 := 1#32
  let v4440 : BitVec 32 := Scalar.muli v69 c1_i32_4633
  let v4441 : BitVec 32 := Scalar.addi c0_i32_4634 v4440
  v4441.toNat
def k0_dev203 (d4 : Dev nD) : Nat :=
  let c0_i32_4699 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_4698 : BitVec 32 := 1#32
  let v4513 : BitVec 32 := Scalar.muli v69 c1_i32_4698
  let v4514 : BitVec 32 := Scalar.addi c0_i32_4699 v4513
  v4514.toNat
def k0_dev204 (d4 : Dev nD) : Nat :=
  let c0_i32_4706 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_4705 : BitVec 32 := 1#32
  let v4523 : BitVec 32 := Scalar.muli v70 c1_i32_4705
  let v4524 : BitVec 32 := Scalar.addi c0_i32_4706 v4523
  v4524.toNat
def k0_dev205 (d4 : Dev nD) : Nat :=
  let c0_i32_4743 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_4742 : BitVec 32 := 1#32
  let v4552 : BitVec 32 := Scalar.muli v70 c1_i32_4742
  let v4553 : BitVec 32 := Scalar.addi c0_i32_4743 v4552
  v4553.toNat
def k0_dev206 (d4 : Dev nD) : Nat :=
  let c0_i32_4750 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_4749 : BitVec 32 := 1#32
  let v4562 : BitVec 32 := Scalar.muli v69 c1_i32_4749
  let v4563 : BitVec 32 := Scalar.addi c0_i32_4750 v4562
  v4563.toNat
def k0_dev207 (d4 : Dev nD) : Nat :=
  let c0_i32_4786 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_4785 : BitVec 32 := 1#32
  let v4590 : BitVec 32 := Scalar.muli v69 c1_i32_4785
  let v4591 : BitVec 32 := Scalar.addi c0_i32_4786 v4590
  v4591.toNat
def k0_dev208 (d4 : Dev nD) : Nat :=
  let c0_i32_4793 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_4792 : BitVec 32 := 1#32
  let v4600 : BitVec 32 := Scalar.muli v70 c1_i32_4792
  let v4601 : BitVec 32 := Scalar.addi c0_i32_4793 v4600
  v4601.toNat
def k0_dev209 (d4 : Dev nD) : Nat :=
  let c0_i32_4830 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_4829 : BitVec 32 := 1#32
  let v4629 : BitVec 32 := Scalar.muli v70 c1_i32_4829
  let v4630 : BitVec 32 := Scalar.addi c0_i32_4830 v4629
  v4630.toNat
def k0_dev210 (d4 : Dev nD) : Nat :=
  let c0_i32_4837 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_4836 : BitVec 32 := 1#32
  let v4639 : BitVec 32 := Scalar.muli v69 c1_i32_4836
  let v4640 : BitVec 32 := Scalar.addi c0_i32_4837 v4639
  v4640.toNat
def k0_dev211 (d4 : Dev nD) : Nat :=
  let c0_i32_4873 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_4872 : BitVec 32 := 1#32
  let v4667 : BitVec 32 := Scalar.muli v69 c1_i32_4872
  let v4668 : BitVec 32 := Scalar.addi c0_i32_4873 v4667
  v4668.toNat
def k0_dev212 (d4 : Dev nD) : Nat :=
  let c0_i32_4880 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_4879 : BitVec 32 := 1#32
  let v4677 : BitVec 32 := Scalar.muli v70 c1_i32_4879
  let v4678 : BitVec 32 := Scalar.addi c0_i32_4880 v4677
  v4678.toNat
def k0_dev213 (d4 : Dev nD) : Nat :=
  let c0_i32_4917 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_4916 : BitVec 32 := 1#32
  let v4706 : BitVec 32 := Scalar.muli v70 c1_i32_4916
  let v4707 : BitVec 32 := Scalar.addi c0_i32_4917 v4706
  v4707.toNat
def k0_dev214 (d4 : Dev nD) : Nat :=
  let c0_i32_4924 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_4923 : BitVec 32 := 1#32
  let v4716 : BitVec 32 := Scalar.muli v69 c1_i32_4923
  let v4717 : BitVec 32 := Scalar.addi c0_i32_4924 v4716
  v4717.toNat
def k0_dev215 (d4 : Dev nD) : Nat :=
  let c0_i32_4960 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_4959 : BitVec 32 := 1#32
  let v4744 : BitVec 32 := Scalar.muli v69 c1_i32_4959
  let v4745 : BitVec 32 := Scalar.addi c0_i32_4960 v4744
  v4745.toNat
def k0_dev216 (d4 : Dev nD) : Nat :=
  let c0_i32_4967 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_4966 : BitVec 32 := 1#32
  let v4754 : BitVec 32 := Scalar.muli v70 c1_i32_4966
  let v4755 : BitVec 32 := Scalar.addi c0_i32_4967 v4754
  v4755.toNat
def k0_dev217 (d4 : Dev nD) : Nat :=
  let c0_i32_5004 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_5003 : BitVec 32 := 1#32
  let v4783 : BitVec 32 := Scalar.muli v70 c1_i32_5003
  let v4784 : BitVec 32 := Scalar.addi c0_i32_5004 v4783
  v4784.toNat
def k0_dev218 (d4 : Dev nD) : Nat :=
  let c0_i32_5011 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_5010 : BitVec 32 := 1#32
  let v4793 : BitVec 32 := Scalar.muli v69 c1_i32_5010
  let v4794 : BitVec 32 := Scalar.addi c0_i32_5011 v4793
  v4794.toNat
def k0_dev219 (d4 : Dev nD) : Nat :=
  let c0_i32_5076 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_5075 : BitVec 32 := 1#32
  let v4866 : BitVec 32 := Scalar.muli v69 c1_i32_5075
  let v4867 : BitVec 32 := Scalar.addi c0_i32_5076 v4866
  v4867.toNat
def k0_dev220 (d4 : Dev nD) : Nat :=
  let c0_i32_5083 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_5082 : BitVec 32 := 1#32
  let v4876 : BitVec 32 := Scalar.muli v70 c1_i32_5082
  let v4877 : BitVec 32 := Scalar.addi c0_i32_5083 v4876
  v4877.toNat
def k0_dev221 (d4 : Dev nD) : Nat :=
  let c0_i32_5120 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_5119 : BitVec 32 := 1#32
  let v4905 : BitVec 32 := Scalar.muli v70 c1_i32_5119
  let v4906 : BitVec 32 := Scalar.addi c0_i32_5120 v4905
  v4906.toNat
def k0_dev222 (d4 : Dev nD) : Nat :=
  let c0_i32_5127 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_5126 : BitVec 32 := 1#32
  let v4915 : BitVec 32 := Scalar.muli v69 c1_i32_5126
  let v4916 : BitVec 32 := Scalar.addi c0_i32_5127 v4915
  v4916.toNat
def k0_dev223 (d4 : Dev nD) : Nat :=
  let c0_i32_5163 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_5162 : BitVec 32 := 1#32
  let v4943 : BitVec 32 := Scalar.muli v69 c1_i32_5162
  let v4944 : BitVec 32 := Scalar.addi c0_i32_5163 v4943
  v4944.toNat
def k0_dev224 (d4 : Dev nD) : Nat :=
  let c0_i32_5170 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_5169 : BitVec 32 := 1#32
  let v4953 : BitVec 32 := Scalar.muli v70 c1_i32_5169
  let v4954 : BitVec 32 := Scalar.addi c0_i32_5170 v4953
  v4954.toNat
def k0_dev225 (d4 : Dev nD) : Nat :=
  let c0_i32_5207 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_5206 : BitVec 32 := 1#32
  let v4982 : BitVec 32 := Scalar.muli v70 c1_i32_5206
  let v4983 : BitVec 32 := Scalar.addi c0_i32_5207 v4982
  v4983.toNat
def k0_dev226 (d4 : Dev nD) : Nat :=
  let c0_i32_5214 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_5213 : BitVec 32 := 1#32
  let v4992 : BitVec 32 := Scalar.muli v69 c1_i32_5213
  let v4993 : BitVec 32 := Scalar.addi c0_i32_5214 v4992
  v4993.toNat
def k0_dev227 (d4 : Dev nD) : Nat :=
  let c0_i32_5250 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_5249 : BitVec 32 := 1#32
  let v5020 : BitVec 32 := Scalar.muli v69 c1_i32_5249
  let v5021 : BitVec 32 := Scalar.addi c0_i32_5250 v5020
  v5021.toNat
def k0_dev228 (d4 : Dev nD) : Nat :=
  let c0_i32_5257 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_5256 : BitVec 32 := 1#32
  let v5030 : BitVec 32 := Scalar.muli v70 c1_i32_5256
  let v5031 : BitVec 32 := Scalar.addi c0_i32_5257 v5030
  v5031.toNat
def k0_dev229 (d4 : Dev nD) : Nat :=
  let c0_i32_5294 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_5293 : BitVec 32 := 1#32
  let v5059 : BitVec 32 := Scalar.muli v70 c1_i32_5293
  let v5060 : BitVec 32 := Scalar.addi c0_i32_5294 v5059
  v5060.toNat
def k0_dev230 (d4 : Dev nD) : Nat :=
  let c0_i32_5301 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_5300 : BitVec 32 := 1#32
  let v5069 : BitVec 32 := Scalar.muli v69 c1_i32_5300
  let v5070 : BitVec 32 := Scalar.addi c0_i32_5301 v5069
  v5070.toNat
def k0_dev231 (d4 : Dev nD) : Nat :=
  let c0_i32_5337 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_5336 : BitVec 32 := 1#32
  let v5097 : BitVec 32 := Scalar.muli v69 c1_i32_5336
  let v5098 : BitVec 32 := Scalar.addi c0_i32_5337 v5097
  v5098.toNat
def k0_dev232 (d4 : Dev nD) : Nat :=
  let c0_i32_5344 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_5343 : BitVec 32 := 1#32
  let v5107 : BitVec 32 := Scalar.muli v70 c1_i32_5343
  let v5108 : BitVec 32 := Scalar.addi c0_i32_5344 v5107
  v5108.toNat
def k0_dev233 (d4 : Dev nD) : Nat :=
  let c0_i32_5381 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_5380 : BitVec 32 := 1#32
  let v5136 : BitVec 32 := Scalar.muli v70 c1_i32_5380
  let v5137 : BitVec 32 := Scalar.addi c0_i32_5381 v5136
  v5137.toNat
def k0_dev234 (d4 : Dev nD) : Nat :=
  let c0_i32_5388 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_5387 : BitVec 32 := 1#32
  let v5146 : BitVec 32 := Scalar.muli v69 c1_i32_5387
  let v5147 : BitVec 32 := Scalar.addi c0_i32_5388 v5146
  v5147.toNat
def k0_dev235 (d4 : Dev nD) : Nat :=
  let c0_i32_5463 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_5462 : BitVec 32 := 1#32
  let v5242 : BitVec 32 := Scalar.muli v69 c1_i32_5462
  let v5243 : BitVec 32 := Scalar.addi c0_i32_5463 v5242
  v5243.toNat
def k0_dev236 (d4 : Dev nD) : Nat :=
  let c0_i32_5470 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_5469 : BitVec 32 := 1#32
  let v5252 : BitVec 32 := Scalar.muli v70 c1_i32_5469
  let v5253 : BitVec 32 := Scalar.addi c0_i32_5470 v5252
  v5253.toNat
def k0_dev237 (d4 : Dev nD) : Nat :=
  let c0_i32_5519 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_5518 : BitVec 32 := 1#32
  let v5306 : BitVec 32 := Scalar.muli v70 c1_i32_5518
  let v5307 : BitVec 32 := Scalar.addi c0_i32_5519 v5306
  v5307.toNat
def k0_dev238 (d4 : Dev nD) : Nat :=
  let c0_i32_5526 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_5525 : BitVec 32 := 1#32
  let v5316 : BitVec 32 := Scalar.muli v69 c1_i32_5525
  let v5317 : BitVec 32 := Scalar.addi c0_i32_5526 v5316
  v5317.toNat
def k0_dev239 (d4 : Dev nD) : Nat :=
  let c0_i32_5572 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_5571 : BitVec 32 := 1#32
  let v5367 : BitVec 32 := Scalar.muli v69 c1_i32_5571
  let v5368 : BitVec 32 := Scalar.addi c0_i32_5572 v5367
  v5368.toNat
def k0_dev240 (d4 : Dev nD) : Nat :=
  let c0_i32_5579 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_5578 : BitVec 32 := 1#32
  let v5377 : BitVec 32 := Scalar.muli v70 c1_i32_5578
  let v5378 : BitVec 32 := Scalar.addi c0_i32_5579 v5377
  v5378.toNat
def k0_dev241 (d4 : Dev nD) : Nat :=
  let c0_i32_5628 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_5627 : BitVec 32 := 1#32
  let v5431 : BitVec 32 := Scalar.muli v70 c1_i32_5627
  let v5432 : BitVec 32 := Scalar.addi c0_i32_5628 v5431
  v5432.toNat
def k0_dev242 (d4 : Dev nD) : Nat :=
  let c0_i32_5635 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_5634 : BitVec 32 := 1#32
  let v5441 : BitVec 32 := Scalar.muli v69 c1_i32_5634
  let v5442 : BitVec 32 := Scalar.addi c0_i32_5635 v5441
  v5442.toNat
def k0_dev243 (d4 : Dev nD) : Nat :=
  let c0_i32_5681 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_5680 : BitVec 32 := 1#32
  let v5492 : BitVec 32 := Scalar.muli v69 c1_i32_5680
  let v5493 : BitVec 32 := Scalar.addi c0_i32_5681 v5492
  v5493.toNat
def k0_dev244 (d4 : Dev nD) : Nat :=
  let c0_i32_5688 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_5687 : BitVec 32 := 1#32
  let v5502 : BitVec 32 := Scalar.muli v70 c1_i32_5687
  let v5503 : BitVec 32 := Scalar.addi c0_i32_5688 v5502
  v5503.toNat
def k0_dev245 (d4 : Dev nD) : Nat :=
  let c0_i32_5737 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_5736 : BitVec 32 := 1#32
  let v5556 : BitVec 32 := Scalar.muli v70 c1_i32_5736
  let v5557 : BitVec 32 := Scalar.addi c0_i32_5737 v5556
  v5557.toNat
def k0_dev246 (d4 : Dev nD) : Nat :=
  let c0_i32_5744 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_5743 : BitVec 32 := 1#32
  let v5566 : BitVec 32 := Scalar.muli v69 c1_i32_5743
  let v5567 : BitVec 32 := Scalar.addi c0_i32_5744 v5566
  v5567.toNat
def k0_dev247 (d4 : Dev nD) : Nat :=
  let c0_i32_5790 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_5789 : BitVec 32 := 1#32
  let v5617 : BitVec 32 := Scalar.muli v69 c1_i32_5789
  let v5618 : BitVec 32 := Scalar.addi c0_i32_5790 v5617
  v5618.toNat
def k0_dev248 (d4 : Dev nD) : Nat :=
  let c0_i32_5797 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_5796 : BitVec 32 := 1#32
  let v5627 : BitVec 32 := Scalar.muli v70 c1_i32_5796
  let v5628 : BitVec 32 := Scalar.addi c0_i32_5797 v5627
  v5628.toNat
def k0_dev249 (d4 : Dev nD) : Nat :=
  let c0_i32_5846 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_5845 : BitVec 32 := 1#32
  let v5681 : BitVec 32 := Scalar.muli v70 c1_i32_5845
  let v5682 : BitVec 32 := Scalar.addi c0_i32_5846 v5681
  v5682.toNat
def k0_dev250 (d4 : Dev nD) : Nat :=
  let c0_i32_5853 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_5852 : BitVec 32 := 1#32
  let v5691 : BitVec 32 := Scalar.muli v69 c1_i32_5852
  let v5692 : BitVec 32 := Scalar.addi c0_i32_5853 v5691
  v5692.toNat
def k0_off13 (d4 : Dev nD) : Fin 2 → Nat :=
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c15_i32_51 : BitVec 32 := 15#32
  let c5_i32_46 : BitVec 32 := 5#32
  let v63 : BitVec 1 := Scalar.cmpi .eq v6 c5_i32_46
  let c14_i32_47 : BitVec 32 := 14#32
  let c9_i32_42 : BitVec 32 := 9#32
  let v59 : BitVec 1 := Scalar.cmpi .eq v6 c9_i32_42
  let c13_i32_43 : BitVec 32 := 13#32
  let c13_i32_38 : BitVec 32 := 13#32
  let v55 : BitVec 1 := Scalar.cmpi .eq v6 c13_i32_38
  let c12_i32_39 : BitVec 32 := 12#32
  let c14_i32_35 : BitVec 32 := 14#32
  let v51 : BitVec 1 := Scalar.cmpi .eq v6 c14_i32_35
  let c11_i32_36 : BitVec 32 := 11#32
  let c10_i32_32 : BitVec 32 := 10#32
  let v47 : BitVec 1 := Scalar.cmpi .eq v6 c10_i32_32
  let c10_i32_33 : BitVec 32 := 10#32
  let c6_i32_30 : BitVec 32 := 6#32
  let v43 : BitVec 1 := Scalar.cmpi .eq v6 c6_i32_30
  let c9_i32 : BitVec 32 := 9#32
  let c2_i32_26 : BitVec 32 := 2#32
  let v39 : BitVec 1 := Scalar.cmpi .eq v6 c2_i32_26
  let c8_i32_27 : BitVec 32 := 8#32
  let c3_i32_22 : BitVec 32 := 3#32
  let v35 : BitVec 1 := Scalar.cmpi .eq v6 c3_i32_22
  let c7_i32_23 : BitVec 32 := 7#32
  let c7_i32_19 : BitVec 32 := 7#32
  let v31 : BitVec 1 := Scalar.cmpi .eq v6 c7_i32_19
  let c6_i32 : BitVec 32 := 6#32
  let c11_i32_17 : BitVec 32 := 11#32
  let v27 : BitVec 1 := Scalar.cmpi .eq v6 c11_i32_17
  let c5_i32 : BitVec 32 := 5#32
  let c15_i32_14 : BitVec 32 := 15#32
  let v23 : BitVec 1 := Scalar.cmpi .eq v6 c15_i32_14
  let c4_i32_15 : BitVec 32 := 4#32
  let c12_i32_12 : BitVec 32 := 12#32
  let v19 : BitVec 1 := Scalar.cmpi .eq v6 c12_i32_12
  let c3_i32 : BitVec 32 := 3#32
  let c8_i32_10 : BitVec 32 := 8#32
  let v15 : BitVec 1 := Scalar.cmpi .eq v6 c8_i32_10
  let c2_i32 : BitVec 32 := 2#32
  let c4_i32_7 : BitVec 32 := 4#32
  let v11 : BitVec 1 := Scalar.cmpi .eq v6 c4_i32_7
  let c1_i32_8 : BitVec 32 := 1#32
  let c0_i32_1 : BitVec 32 := 0#32
  let v7 : BitVec 1 := Scalar.cmpi .eq v6 c0_i32_1
  let c0_i32_2 : BitVec 32 := 0#32
  let c0_i32_3 : BitVec 32 := 0#32
  let v8 : BitVec 32 := Scalar.select v7 c0_i32_2 c0_i32_3
  let v12 : BitVec 32 := Scalar.select v11 c1_i32_8 v8
  let v16 : BitVec 32 := Scalar.select v15 c2_i32 v12
  let v20 : BitVec 32 := Scalar.select v19 c3_i32 v16
  let v24 : BitVec 32 := Scalar.select v23 c4_i32_15 v20
  let v28 : BitVec 32 := Scalar.select v27 c5_i32 v24
  let v32 : BitVec 32 := Scalar.select v31 c6_i32 v28
  let v36 : BitVec 32 := Scalar.select v35 c7_i32_23 v32
  let v40 : BitVec 32 := Scalar.select v39 c8_i32_27 v36
  let v44 : BitVec 32 := Scalar.select v43 c9_i32 v40
  let v48 : BitVec 32 := Scalar.select v47 c10_i32_33 v44
  let v52 : BitVec 32 := Scalar.select v51 c11_i32_36 v48
  let v56 : BitVec 32 := Scalar.select v55 c12_i32_39 v52
  let v60 : BitVec 32 := Scalar.select v59 c13_i32_43 v56
  let v64 : BitVec 32 := Scalar.select v63 c14_i32_47 v60
  let v68 : BitVec 32 := Scalar.select v67 c15_i32_51 v64
  let c1_i32_5854 : BitVec 32 := 1#32
  let v5693 : BitVec 32 := Scalar.addi v68 c1_i32_5854
  let c16_i32_5855 : BitVec 32 := 16#32
  let c0_i32_5856 : BitVec 32 := 0#32
  let v5694 : BitVec 1 := Scalar.cmpi .eq c16_i32_5855 c0_i32_5856
  let c1_i32_5857 : BitVec 32 := 1#32
  let v5695 : BitVec 32 := Scalar.select v5694 c1_i32_5857 c16_i32_5855
  let v5696 : BitVec 32 := Scalar.remsi v5693 v5695
  let c0_i32_5859 : BitVec 32 := 0#32
  let v5698 : BitVec 1 := Scalar.cmpi .slt v5696 c0_i32_5859
  let c0_i32_5860 : BitVec 32 := 0#32
  let v5699 : BitVec 1 := Scalar.cmpi .slt v5695 c0_i32_5860
  let v5700 : BitVec 1 := Scalar.xori v5698 v5699
  let c0_i32_5858 : BitVec 32 := 0#32
  let v5697 : BitVec 1 := Scalar.cmpi .ne v5696 c0_i32_5858
  let v5701 : BitVec 1 := Scalar.andi v5700 v5697
  let v5702 : BitVec 32 := Scalar.addi v5696 v5695
  let v5703 : BitVec 32 := Scalar.select v5701 v5702 v5696
  let c128_i32_5868 : BitVec 32 := 128#32
  let v5715 : BitVec 32 := Scalar.muli v5703 c128_i32_5868
  let c0_i32_5870 : BitVec 32 := 0#32
  ![v5715.toNat, 0]
def k0_off14 (d4 : Dev nD) : Fin 2 → Nat :=
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c15_i32_51 : BitVec 32 := 15#32
  let c5_i32_46 : BitVec 32 := 5#32
  let v63 : BitVec 1 := Scalar.cmpi .eq v6 c5_i32_46
  let c14_i32_47 : BitVec 32 := 14#32
  let c9_i32_42 : BitVec 32 := 9#32
  let v59 : BitVec 1 := Scalar.cmpi .eq v6 c9_i32_42
  let c13_i32_43 : BitVec 32 := 13#32
  let c13_i32_38 : BitVec 32 := 13#32
  let v55 : BitVec 1 := Scalar.cmpi .eq v6 c13_i32_38
  let c12_i32_39 : BitVec 32 := 12#32
  let c14_i32_35 : BitVec 32 := 14#32
  let v51 : BitVec 1 := Scalar.cmpi .eq v6 c14_i32_35
  let c11_i32_36 : BitVec 32 := 11#32
  let c10_i32_32 : BitVec 32 := 10#32
  let v47 : BitVec 1 := Scalar.cmpi .eq v6 c10_i32_32
  let c10_i32_33 : BitVec 32 := 10#32
  let c6_i32_30 : BitVec 32 := 6#32
  let v43 : BitVec 1 := Scalar.cmpi .eq v6 c6_i32_30
  let c9_i32 : BitVec 32 := 9#32
  let c2_i32_26 : BitVec 32 := 2#32
  let v39 : BitVec 1 := Scalar.cmpi .eq v6 c2_i32_26
  let c8_i32_27 : BitVec 32 := 8#32
  let c3_i32_22 : BitVec 32 := 3#32
  let v35 : BitVec 1 := Scalar.cmpi .eq v6 c3_i32_22
  let c7_i32_23 : BitVec 32 := 7#32
  let c7_i32_19 : BitVec 32 := 7#32
  let v31 : BitVec 1 := Scalar.cmpi .eq v6 c7_i32_19
  let c6_i32 : BitVec 32 := 6#32
  let c11_i32_17 : BitVec 32 := 11#32
  let v27 : BitVec 1 := Scalar.cmpi .eq v6 c11_i32_17
  let c5_i32 : BitVec 32 := 5#32
  let c15_i32_14 : BitVec 32 := 15#32
  let v23 : BitVec 1 := Scalar.cmpi .eq v6 c15_i32_14
  let c4_i32_15 : BitVec 32 := 4#32
  let c12_i32_12 : BitVec 32 := 12#32
  let v19 : BitVec 1 := Scalar.cmpi .eq v6 c12_i32_12
  let c3_i32 : BitVec 32 := 3#32
  let c8_i32_10 : BitVec 32 := 8#32
  let v15 : BitVec 1 := Scalar.cmpi .eq v6 c8_i32_10
  let c2_i32 : BitVec 32 := 2#32
  let c4_i32_7 : BitVec 32 := 4#32
  let v11 : BitVec 1 := Scalar.cmpi .eq v6 c4_i32_7
  let c1_i32_8 : BitVec 32 := 1#32
  let c0_i32_1 : BitVec 32 := 0#32
  let v7 : BitVec 1 := Scalar.cmpi .eq v6 c0_i32_1
  let c0_i32_2 : BitVec 32 := 0#32
  let c0_i32_3 : BitVec 32 := 0#32
  let v8 : BitVec 32 := Scalar.select v7 c0_i32_2 c0_i32_3
  let v12 : BitVec 32 := Scalar.select v11 c1_i32_8 v8
  let v16 : BitVec 32 := Scalar.select v15 c2_i32 v12
  let v20 : BitVec 32 := Scalar.select v19 c3_i32 v16
  let v24 : BitVec 32 := Scalar.select v23 c4_i32_15 v20
  let v28 : BitVec 32 := Scalar.select v27 c5_i32 v24
  let v32 : BitVec 32 := Scalar.select v31 c6_i32 v28
  let v36 : BitVec 32 := Scalar.select v35 c7_i32_23 v32
  let v40 : BitVec 32 := Scalar.select v39 c8_i32_27 v36
  let v44 : BitVec 32 := Scalar.select v43 c9_i32 v40
  let v48 : BitVec 32 := Scalar.select v47 c10_i32_33 v44
  let v52 : BitVec 32 := Scalar.select v51 c11_i32_36 v48
  let v56 : BitVec 32 := Scalar.select v55 c12_i32_39 v52
  let v60 : BitVec 32 := Scalar.select v59 c13_i32_43 v56
  let v64 : BitVec 32 := Scalar.select v63 c14_i32_47 v60
  let v68 : BitVec 32 := Scalar.select v67 c15_i32_51 v64
  let c1_i32_5861 : BitVec 32 := 1#32
  let v5704 : BitVec 32 := Scalar.subi v68 c1_i32_5861
  let c16_i32_5862 : BitVec 32 := 16#32
  let c0_i32_5863 : BitVec 32 := 0#32
  let v5705 : BitVec 1 := Scalar.cmpi .eq c16_i32_5862 c0_i32_5863
  let c1_i32_5864 : BitVec 32 := 1#32
  let v5706 : BitVec 32 := Scalar.select v5705 c1_i32_5864 c16_i32_5862
  let v5707 : BitVec 32 := Scalar.remsi v5704 v5706
  let c0_i32_5866 : BitVec 32 := 0#32
  let v5709 : BitVec 1 := Scalar.cmpi .slt v5707 c0_i32_5866
  let c0_i32_5867 : BitVec 32 := 0#32
  let v5710 : BitVec 1 := Scalar.cmpi .slt v5706 c0_i32_5867
  let v5711 : BitVec 1 := Scalar.xori v5709 v5710
  let c0_i32_5865 : BitVec 32 := 0#32
  let v5708 : BitVec 1 := Scalar.cmpi .ne v5707 c0_i32_5865
  let v5712 : BitVec 1 := Scalar.andi v5711 v5708
  let v5713 : BitVec 32 := Scalar.addi v5707 v5706
  let v5714 : BitVec 32 := Scalar.select v5712 v5713 v5707
  let c128_i32_5872 : BitVec 32 := 128#32
  let v5720 : BitVec 32 := Scalar.muli v5714 c128_i32_5872
  let c64_i32_5873 : BitVec 32 := 64#32
  let v5721 : BitVec 32 := Scalar.addi v5720 c64_i32_5873
  let c0_i32_5875 : BitVec 32 := 0#32
  ![v5721.toNat, 0]
def k0_dev251 (d4 : Dev nD) : Nat :=
  let c0_i32_5923 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_5922 : BitVec 32 := 1#32
  let v5767 : BitVec 32 := Scalar.muli v69 c1_i32_5922
  let v5768 : BitVec 32 := Scalar.addi c0_i32_5923 v5767
  v5768.toNat
def k0_off15 (d4 : Dev nD) (c0_i32_5877 : BitVec 32) (c0_i32_5932 : BitVec 32) : Fin 2 → Nat :=
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c15_i32_51 : BitVec 32 := 15#32
  let c5_i32_46 : BitVec 32 := 5#32
  let v63 : BitVec 1 := Scalar.cmpi .eq v6 c5_i32_46
  let c14_i32_47 : BitVec 32 := 14#32
  let c9_i32_42 : BitVec 32 := 9#32
  let v59 : BitVec 1 := Scalar.cmpi .eq v6 c9_i32_42
  let c13_i32_43 : BitVec 32 := 13#32
  let c13_i32_38 : BitVec 32 := 13#32
  let v55 : BitVec 1 := Scalar.cmpi .eq v6 c13_i32_38
  let c12_i32_39 : BitVec 32 := 12#32
  let c14_i32_35 : BitVec 32 := 14#32
  let v51 : BitVec 1 := Scalar.cmpi .eq v6 c14_i32_35
  let c11_i32_36 : BitVec 32 := 11#32
  let c10_i32_32 : BitVec 32 := 10#32
  let v47 : BitVec 1 := Scalar.cmpi .eq v6 c10_i32_32
  let c10_i32_33 : BitVec 32 := 10#32
  let c6_i32_30 : BitVec 32 := 6#32
  let v43 : BitVec 1 := Scalar.cmpi .eq v6 c6_i32_30
  let c9_i32 : BitVec 32 := 9#32
  let c2_i32_26 : BitVec 32 := 2#32
  let v39 : BitVec 1 := Scalar.cmpi .eq v6 c2_i32_26
  let c8_i32_27 : BitVec 32 := 8#32
  let c3_i32_22 : BitVec 32 := 3#32
  let v35 : BitVec 1 := Scalar.cmpi .eq v6 c3_i32_22
  let c7_i32_23 : BitVec 32 := 7#32
  let c7_i32_19 : BitVec 32 := 7#32
  let v31 : BitVec 1 := Scalar.cmpi .eq v6 c7_i32_19
  let c6_i32 : BitVec 32 := 6#32
  let c11_i32_17 : BitVec 32 := 11#32
  let v27 : BitVec 1 := Scalar.cmpi .eq v6 c11_i32_17
  let c5_i32 : BitVec 32 := 5#32
  let c15_i32_14 : BitVec 32 := 15#32
  let v23 : BitVec 1 := Scalar.cmpi .eq v6 c15_i32_14
  let c4_i32_15 : BitVec 32 := 4#32
  let c12_i32_12 : BitVec 32 := 12#32
  let v19 : BitVec 1 := Scalar.cmpi .eq v6 c12_i32_12
  let c3_i32 : BitVec 32 := 3#32
  let c8_i32_10 : BitVec 32 := 8#32
  let v15 : BitVec 1 := Scalar.cmpi .eq v6 c8_i32_10
  let c2_i32 : BitVec 32 := 2#32
  let c4_i32_7 : BitVec 32 := 4#32
  let v11 : BitVec 1 := Scalar.cmpi .eq v6 c4_i32_7
  let c1_i32_8 : BitVec 32 := 1#32
  let c0_i32_1 : BitVec 32 := 0#32
  let v7 : BitVec 1 := Scalar.cmpi .eq v6 c0_i32_1
  let c0_i32_2 : BitVec 32 := 0#32
  let c0_i32_3 : BitVec 32 := 0#32
  let v8 : BitVec 32 := Scalar.select v7 c0_i32_2 c0_i32_3
  let v12 : BitVec 32 := Scalar.select v11 c1_i32_8 v8
  let v16 : BitVec 32 := Scalar.select v15 c2_i32 v12
  let v20 : BitVec 32 := Scalar.select v19 c3_i32 v16
  let v24 : BitVec 32 := Scalar.select v23 c4_i32_15 v20
  let v28 : BitVec 32 := Scalar.select v27 c5_i32 v24
  let v32 : BitVec 32 := Scalar.select v31 c6_i32 v28
  let v36 : BitVec 32 := Scalar.select v35 c7_i32_23 v32
  let v40 : BitVec 32 := Scalar.select v39 c8_i32_27 v36
  let v44 : BitVec 32 := Scalar.select v43 c9_i32 v40
  let v48 : BitVec 32 := Scalar.select v47 c10_i32_33 v44
  let v52 : BitVec 32 := Scalar.select v51 c11_i32_36 v48
  let v56 : BitVec 32 := Scalar.select v55 c12_i32_39 v52
  let v60 : BitVec 32 := Scalar.select v59 c13_i32_43 v56
  let v64 : BitVec 32 := Scalar.select v63 c14_i32_47 v60
  let v68 : BitVec 32 := Scalar.select v67 c15_i32_51 v64
  let v5726 : BitVec 32 := Scalar.subi v68 c0_i32_5877
  let c16_i32_5878 : BitVec 32 := 16#32
  let c0_i32_5879 : BitVec 32 := 0#32
  let v5727 : BitVec 1 := Scalar.cmpi .eq c16_i32_5878 c0_i32_5879
  let c1_i32_5880 : BitVec 32 := 1#32
  let v5728 : BitVec 32 := Scalar.select v5727 c1_i32_5880 c16_i32_5878
  let v5729 : BitVec 32 := Scalar.remsi v5726 v5728
  let c0_i32_5882 : BitVec 32 := 0#32
  let v5731 : BitVec 1 := Scalar.cmpi .slt v5729 c0_i32_5882
  let c0_i32_5883 : BitVec 32 := 0#32
  let v5732 : BitVec 1 := Scalar.cmpi .slt v5728 c0_i32_5883
  let v5733 : BitVec 1 := Scalar.xori v5731 v5732
  let c0_i32_5881 : BitVec 32 := 0#32
  let v5730 : BitVec 1 := Scalar.cmpi .ne v5729 c0_i32_5881
  let v5734 : BitVec 1 := Scalar.andi v5733 v5730
  let v5735 : BitVec 32 := Scalar.addi v5729 v5728
  let v5736 : BitVec 32 := Scalar.select v5734 v5735 v5729
  let c128_i32_5931 : BitVec 32 := 128#32
  let v5780 : BitVec 32 := Scalar.muli v5736 c128_i32_5931
  let v5781 : BitVec 32 := Scalar.addi v5780 c0_i32_5932
  let v5782 : Index := Scalar.indexCast v5781
  let c0_5933 : Index := 0#32
  ![v5782.toNat, 0]
def k0_dev252 (d4 : Dev nD) : Nat :=
  let c0_i32_5936 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_5935 : BitVec 32 := 1#32
  let v5786 : BitVec 32 := Scalar.muli v70 c1_i32_5935
  let v5787 : BitVec 32 := Scalar.addi c0_i32_5936 v5786
  v5787.toNat
def k0_off16 (d4 : Dev nD) (c0_i32_5877 : BitVec 32) (c0_i32_5938 : BitVec 32) : Fin 2 → Nat :=
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c15_i32_51 : BitVec 32 := 15#32
  let c5_i32_46 : BitVec 32 := 5#32
  let v63 : BitVec 1 := Scalar.cmpi .eq v6 c5_i32_46
  let c14_i32_47 : BitVec 32 := 14#32
  let c9_i32_42 : BitVec 32 := 9#32
  let v59 : BitVec 1 := Scalar.cmpi .eq v6 c9_i32_42
  let c13_i32_43 : BitVec 32 := 13#32
  let c13_i32_38 : BitVec 32 := 13#32
  let v55 : BitVec 1 := Scalar.cmpi .eq v6 c13_i32_38
  let c12_i32_39 : BitVec 32 := 12#32
  let c14_i32_35 : BitVec 32 := 14#32
  let v51 : BitVec 1 := Scalar.cmpi .eq v6 c14_i32_35
  let c11_i32_36 : BitVec 32 := 11#32
  let c10_i32_32 : BitVec 32 := 10#32
  let v47 : BitVec 1 := Scalar.cmpi .eq v6 c10_i32_32
  let c10_i32_33 : BitVec 32 := 10#32
  let c6_i32_30 : BitVec 32 := 6#32
  let v43 : BitVec 1 := Scalar.cmpi .eq v6 c6_i32_30
  let c9_i32 : BitVec 32 := 9#32
  let c2_i32_26 : BitVec 32 := 2#32
  let v39 : BitVec 1 := Scalar.cmpi .eq v6 c2_i32_26
  let c8_i32_27 : BitVec 32 := 8#32
  let c3_i32_22 : BitVec 32 := 3#32
  let v35 : BitVec 1 := Scalar.cmpi .eq v6 c3_i32_22
  let c7_i32_23 : BitVec 32 := 7#32
  let c7_i32_19 : BitVec 32 := 7#32
  let v31 : BitVec 1 := Scalar.cmpi .eq v6 c7_i32_19
  let c6_i32 : BitVec 32 := 6#32
  let c11_i32_17 : BitVec 32 := 11#32
  let v27 : BitVec 1 := Scalar.cmpi .eq v6 c11_i32_17
  let c5_i32 : BitVec 32 := 5#32
  let c15_i32_14 : BitVec 32 := 15#32
  let v23 : BitVec 1 := Scalar.cmpi .eq v6 c15_i32_14
  let c4_i32_15 : BitVec 32 := 4#32
  let c12_i32_12 : BitVec 32 := 12#32
  let v19 : BitVec 1 := Scalar.cmpi .eq v6 c12_i32_12
  let c3_i32 : BitVec 32 := 3#32
  let c8_i32_10 : BitVec 32 := 8#32
  let v15 : BitVec 1 := Scalar.cmpi .eq v6 c8_i32_10
  let c2_i32 : BitVec 32 := 2#32
  let c4_i32_7 : BitVec 32 := 4#32
  let v11 : BitVec 1 := Scalar.cmpi .eq v6 c4_i32_7
  let c1_i32_8 : BitVec 32 := 1#32
  let c0_i32_1 : BitVec 32 := 0#32
  let v7 : BitVec 1 := Scalar.cmpi .eq v6 c0_i32_1
  let c0_i32_2 : BitVec 32 := 0#32
  let c0_i32_3 : BitVec 32 := 0#32
  let v8 : BitVec 32 := Scalar.select v7 c0_i32_2 c0_i32_3
  let v12 : BitVec 32 := Scalar.select v11 c1_i32_8 v8
  let v16 : BitVec 32 := Scalar.select v15 c2_i32 v12
  let v20 : BitVec 32 := Scalar.select v19 c3_i32 v16
  let v24 : BitVec 32 := Scalar.select v23 c4_i32_15 v20
  let v28 : BitVec 32 := Scalar.select v27 c5_i32 v24
  let v32 : BitVec 32 := Scalar.select v31 c6_i32 v28
  let v36 : BitVec 32 := Scalar.select v35 c7_i32_23 v32
  let v40 : BitVec 32 := Scalar.select v39 c8_i32_27 v36
  let v44 : BitVec 32 := Scalar.select v43 c9_i32 v40
  let v48 : BitVec 32 := Scalar.select v47 c10_i32_33 v44
  let v52 : BitVec 32 := Scalar.select v51 c11_i32_36 v48
  let v56 : BitVec 32 := Scalar.select v55 c12_i32_39 v52
  let v60 : BitVec 32 := Scalar.select v59 c13_i32_43 v56
  let v64 : BitVec 32 := Scalar.select v63 c14_i32_47 v60
  let v68 : BitVec 32 := Scalar.select v67 c15_i32_51 v64
  let v5726 : BitVec 32 := Scalar.subi v68 c0_i32_5877
  let c16_i32_5878 : BitVec 32 := 16#32
  let c0_i32_5879 : BitVec 32 := 0#32
  let v5727 : BitVec 1 := Scalar.cmpi .eq c16_i32_5878 c0_i32_5879
  let c1_i32_5880 : BitVec 32 := 1#32
  let v5728 : BitVec 32 := Scalar.select v5727 c1_i32_5880 c16_i32_5878
  let v5729 : BitVec 32 := Scalar.remsi v5726 v5728
  let c0_i32_5882 : BitVec 32 := 0#32
  let v5731 : BitVec 1 := Scalar.cmpi .slt v5729 c0_i32_5882
  let c0_i32_5883 : BitVec 32 := 0#32
  let v5732 : BitVec 1 := Scalar.cmpi .slt v5728 c0_i32_5883
  let v5733 : BitVec 1 := Scalar.xori v5731 v5732
  let c0_i32_5881 : BitVec 32 := 0#32
  let v5730 : BitVec 1 := Scalar.cmpi .ne v5729 c0_i32_5881
  let v5734 : BitVec 1 := Scalar.andi v5733 v5730
  let v5735 : BitVec 32 := Scalar.addi v5729 v5728
  let v5736 : BitVec 32 := Scalar.select v5734 v5735 v5729
  let c128_i32_5937 : BitVec 32 := 128#32
  let v5788 : BitVec 32 := Scalar.muli v5736 c128_i32_5937
  let v5789 : BitVec 32 := Scalar.addi v5788 c0_i32_5938
  let c0_i32_5940 : BitVec 32 := 0#32
  ![v5789.toNat, 0]
def k0_dev253 (d4 : Dev nD) : Nat :=
  let c0_i32_5974 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_5973 : BitVec 32 := 1#32
  let v5813 : BitVec 32 := Scalar.muli v70 c1_i32_5973
  let v5814 : BitVec 32 := Scalar.addi c0_i32_5974 v5813
  v5814.toNat
def k0_off17 (d4 : Dev nD) (c0_i32_5884 : BitVec 32) (c0_i32_5984 : BitVec 32) : Fin 2 → Nat :=
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c15_i32_51 : BitVec 32 := 15#32
  let c5_i32_46 : BitVec 32 := 5#32
  let v63 : BitVec 1 := Scalar.cmpi .eq v6 c5_i32_46
  let c14_i32_47 : BitVec 32 := 14#32
  let c9_i32_42 : BitVec 32 := 9#32
  let v59 : BitVec 1 := Scalar.cmpi .eq v6 c9_i32_42
  let c13_i32_43 : BitVec 32 := 13#32
  let c13_i32_38 : BitVec 32 := 13#32
  let v55 : BitVec 1 := Scalar.cmpi .eq v6 c13_i32_38
  let c12_i32_39 : BitVec 32 := 12#32
  let c14_i32_35 : BitVec 32 := 14#32
  let v51 : BitVec 1 := Scalar.cmpi .eq v6 c14_i32_35
  let c11_i32_36 : BitVec 32 := 11#32
  let c10_i32_32 : BitVec 32 := 10#32
  let v47 : BitVec 1 := Scalar.cmpi .eq v6 c10_i32_32
  let c10_i32_33 : BitVec 32 := 10#32
  let c6_i32_30 : BitVec 32 := 6#32
  let v43 : BitVec 1 := Scalar.cmpi .eq v6 c6_i32_30
  let c9_i32 : BitVec 32 := 9#32
  let c2_i32_26 : BitVec 32 := 2#32
  let v39 : BitVec 1 := Scalar.cmpi .eq v6 c2_i32_26
  let c8_i32_27 : BitVec 32 := 8#32
  let c3_i32_22 : BitVec 32 := 3#32
  let v35 : BitVec 1 := Scalar.cmpi .eq v6 c3_i32_22
  let c7_i32_23 : BitVec 32 := 7#32
  let c7_i32_19 : BitVec 32 := 7#32
  let v31 : BitVec 1 := Scalar.cmpi .eq v6 c7_i32_19
  let c6_i32 : BitVec 32 := 6#32
  let c11_i32_17 : BitVec 32 := 11#32
  let v27 : BitVec 1 := Scalar.cmpi .eq v6 c11_i32_17
  let c5_i32 : BitVec 32 := 5#32
  let c15_i32_14 : BitVec 32 := 15#32
  let v23 : BitVec 1 := Scalar.cmpi .eq v6 c15_i32_14
  let c4_i32_15 : BitVec 32 := 4#32
  let c12_i32_12 : BitVec 32 := 12#32
  let v19 : BitVec 1 := Scalar.cmpi .eq v6 c12_i32_12
  let c3_i32 : BitVec 32 := 3#32
  let c8_i32_10 : BitVec 32 := 8#32
  let v15 : BitVec 1 := Scalar.cmpi .eq v6 c8_i32_10
  let c2_i32 : BitVec 32 := 2#32
  let c4_i32_7 : BitVec 32 := 4#32
  let v11 : BitVec 1 := Scalar.cmpi .eq v6 c4_i32_7
  let c1_i32_8 : BitVec 32 := 1#32
  let c0_i32_1 : BitVec 32 := 0#32
  let v7 : BitVec 1 := Scalar.cmpi .eq v6 c0_i32_1
  let c0_i32_2 : BitVec 32 := 0#32
  let c0_i32_3 : BitVec 32 := 0#32
  let v8 : BitVec 32 := Scalar.select v7 c0_i32_2 c0_i32_3
  let v12 : BitVec 32 := Scalar.select v11 c1_i32_8 v8
  let v16 : BitVec 32 := Scalar.select v15 c2_i32 v12
  let v20 : BitVec 32 := Scalar.select v19 c3_i32 v16
  let v24 : BitVec 32 := Scalar.select v23 c4_i32_15 v20
  let v28 : BitVec 32 := Scalar.select v27 c5_i32 v24
  let v32 : BitVec 32 := Scalar.select v31 c6_i32 v28
  let v36 : BitVec 32 := Scalar.select v35 c7_i32_23 v32
  let v40 : BitVec 32 := Scalar.select v39 c8_i32_27 v36
  let v44 : BitVec 32 := Scalar.select v43 c9_i32 v40
  let v48 : BitVec 32 := Scalar.select v47 c10_i32_33 v44
  let v52 : BitVec 32 := Scalar.select v51 c11_i32_36 v48
  let v56 : BitVec 32 := Scalar.select v55 c12_i32_39 v52
  let v60 : BitVec 32 := Scalar.select v59 c13_i32_43 v56
  let v64 : BitVec 32 := Scalar.select v63 c14_i32_47 v60
  let v68 : BitVec 32 := Scalar.select v67 c15_i32_51 v64
  let v5737 : BitVec 32 := Scalar.addi v68 c0_i32_5884
  let c16_i32_5885 : BitVec 32 := 16#32
  let c0_i32_5886 : BitVec 32 := 0#32
  let v5738 : BitVec 1 := Scalar.cmpi .eq c16_i32_5885 c0_i32_5886
  let c1_i32_5887 : BitVec 32 := 1#32
  let v5739 : BitVec 32 := Scalar.select v5738 c1_i32_5887 c16_i32_5885
  let v5740 : BitVec 32 := Scalar.remsi v5737 v5739
  let c0_i32_5889 : BitVec 32 := 0#32
  let v5742 : BitVec 1 := Scalar.cmpi .slt v5740 c0_i32_5889
  let c0_i32_5890 : BitVec 32 := 0#32
  let v5743 : BitVec 1 := Scalar.cmpi .slt v5739 c0_i32_5890
  let v5744 : BitVec 1 := Scalar.xori v5742 v5743
  let c0_i32_5888 : BitVec 32 := 0#32
  let v5741 : BitVec 1 := Scalar.cmpi .ne v5740 c0_i32_5888
  let v5745 : BitVec 1 := Scalar.andi v5744 v5741
  let v5746 : BitVec 32 := Scalar.addi v5740 v5739
  let v5747 : BitVec 32 := Scalar.select v5745 v5746 v5740
  let c128_i32_5982 : BitVec 32 := 128#32
  let v5826 : BitVec 32 := Scalar.muli v5747 c128_i32_5982
  let c64_i32_5983 : BitVec 32 := 64#32
  let v5827 : BitVec 32 := Scalar.addi v5826 c64_i32_5983
  let v5828 : BitVec 32 := Scalar.addi v5827 c0_i32_5984
  let v5829 : Index := Scalar.indexCast v5828
  let c0_5985 : Index := 0#32
  ![v5829.toNat, 0]
def k0_dev254 (d4 : Dev nD) : Nat :=
  let c0_i32_5988 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_5987 : BitVec 32 := 1#32
  let v5833 : BitVec 32 := Scalar.muli v69 c1_i32_5987
  let v5834 : BitVec 32 := Scalar.addi c0_i32_5988 v5833
  v5834.toNat
def k0_off18 (d4 : Dev nD) (c0_i32_5884 : BitVec 32) (c0_i32_5991 : BitVec 32) : Fin 2 → Nat :=
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c15_i32_51 : BitVec 32 := 15#32
  let c5_i32_46 : BitVec 32 := 5#32
  let v63 : BitVec 1 := Scalar.cmpi .eq v6 c5_i32_46
  let c14_i32_47 : BitVec 32 := 14#32
  let c9_i32_42 : BitVec 32 := 9#32
  let v59 : BitVec 1 := Scalar.cmpi .eq v6 c9_i32_42
  let c13_i32_43 : BitVec 32 := 13#32
  let c13_i32_38 : BitVec 32 := 13#32
  let v55 : BitVec 1 := Scalar.cmpi .eq v6 c13_i32_38
  let c12_i32_39 : BitVec 32 := 12#32
  let c14_i32_35 : BitVec 32 := 14#32
  let v51 : BitVec 1 := Scalar.cmpi .eq v6 c14_i32_35
  let c11_i32_36 : BitVec 32 := 11#32
  let c10_i32_32 : BitVec 32 := 10#32
  let v47 : BitVec 1 := Scalar.cmpi .eq v6 c10_i32_32
  let c10_i32_33 : BitVec 32 := 10#32
  let c6_i32_30 : BitVec 32 := 6#32
  let v43 : BitVec 1 := Scalar.cmpi .eq v6 c6_i32_30
  let c9_i32 : BitVec 32 := 9#32
  let c2_i32_26 : BitVec 32 := 2#32
  let v39 : BitVec 1 := Scalar.cmpi .eq v6 c2_i32_26
  let c8_i32_27 : BitVec 32 := 8#32
  let c3_i32_22 : BitVec 32 := 3#32
  let v35 : BitVec 1 := Scalar.cmpi .eq v6 c3_i32_22
  let c7_i32_23 : BitVec 32 := 7#32
  let c7_i32_19 : BitVec 32 := 7#32
  let v31 : BitVec 1 := Scalar.cmpi .eq v6 c7_i32_19
  let c6_i32 : BitVec 32 := 6#32
  let c11_i32_17 : BitVec 32 := 11#32
  let v27 : BitVec 1 := Scalar.cmpi .eq v6 c11_i32_17
  let c5_i32 : BitVec 32 := 5#32
  let c15_i32_14 : BitVec 32 := 15#32
  let v23 : BitVec 1 := Scalar.cmpi .eq v6 c15_i32_14
  let c4_i32_15 : BitVec 32 := 4#32
  let c12_i32_12 : BitVec 32 := 12#32
  let v19 : BitVec 1 := Scalar.cmpi .eq v6 c12_i32_12
  let c3_i32 : BitVec 32 := 3#32
  let c8_i32_10 : BitVec 32 := 8#32
  let v15 : BitVec 1 := Scalar.cmpi .eq v6 c8_i32_10
  let c2_i32 : BitVec 32 := 2#32
  let c4_i32_7 : BitVec 32 := 4#32
  let v11 : BitVec 1 := Scalar.cmpi .eq v6 c4_i32_7
  let c1_i32_8 : BitVec 32 := 1#32
  let c0_i32_1 : BitVec 32 := 0#32
  let v7 : BitVec 1 := Scalar.cmpi .eq v6 c0_i32_1
  let c0_i32_2 : BitVec 32 := 0#32
  let c0_i32_3 : BitVec 32 := 0#32
  let v8 : BitVec 32 := Scalar.select v7 c0_i32_2 c0_i32_3
  let v12 : BitVec 32 := Scalar.select v11 c1_i32_8 v8
  let v16 : BitVec 32 := Scalar.select v15 c2_i32 v12
  let v20 : BitVec 32 := Scalar.select v19 c3_i32 v16
  let v24 : BitVec 32 := Scalar.select v23 c4_i32_15 v20
  let v28 : BitVec 32 := Scalar.select v27 c5_i32 v24
  let v32 : BitVec 32 := Scalar.select v31 c6_i32 v28
  let v36 : BitVec 32 := Scalar.select v35 c7_i32_23 v32
  let v40 : BitVec 32 := Scalar.select v39 c8_i32_27 v36
  let v44 : BitVec 32 := Scalar.select v43 c9_i32 v40
  let v48 : BitVec 32 := Scalar.select v47 c10_i32_33 v44
  let v52 : BitVec 32 := Scalar.select v51 c11_i32_36 v48
  let v56 : BitVec 32 := Scalar.select v55 c12_i32_39 v52
  let v60 : BitVec 32 := Scalar.select v59 c13_i32_43 v56
  let v64 : BitVec 32 := Scalar.select v63 c14_i32_47 v60
  let v68 : BitVec 32 := Scalar.select v67 c15_i32_51 v64
  let v5737 : BitVec 32 := Scalar.addi v68 c0_i32_5884
  let c16_i32_5885 : BitVec 32 := 16#32
  let c0_i32_5886 : BitVec 32 := 0#32
  let v5738 : BitVec 1 := Scalar.cmpi .eq c16_i32_5885 c0_i32_5886
  let c1_i32_5887 : BitVec 32 := 1#32
  let v5739 : BitVec 32 := Scalar.select v5738 c1_i32_5887 c16_i32_5885
  let v5740 : BitVec 32 := Scalar.remsi v5737 v5739
  let c0_i32_5889 : BitVec 32 := 0#32
  let v5742 : BitVec 1 := Scalar.cmpi .slt v5740 c0_i32_5889
  let c0_i32_5890 : BitVec 32 := 0#32
  let v5743 : BitVec 1 := Scalar.cmpi .slt v5739 c0_i32_5890
  let v5744 : BitVec 1 := Scalar.xori v5742 v5743
  let c0_i32_5888 : BitVec 32 := 0#32
  let v5741 : BitVec 1 := Scalar.cmpi .ne v5740 c0_i32_5888
  let v5745 : BitVec 1 := Scalar.andi v5744 v5741
  let v5746 : BitVec 32 := Scalar.addi v5740 v5739
  let v5747 : BitVec 32 := Scalar.select v5745 v5746 v5740
  let c128_i32_5989 : BitVec 32 := 128#32
  let v5835 : BitVec 32 := Scalar.muli v5747 c128_i32_5989
  let c64_i32_5990 : BitVec 32 := 64#32
  let v5836 : BitVec 32 := Scalar.addi v5835 c64_i32_5990
  let v5837 : BitVec 32 := Scalar.addi v5836 c0_i32_5991
  let c0_i32_5993 : BitVec 32 := 0#32
  ![v5837.toNat, 0]
def k0_dev255 (d4 : Dev nD) : Nat :=
  let c0_i32_6027 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_6026 : BitVec 32 := 1#32
  let v5861 : BitVec 32 := Scalar.muli v69 c1_i32_6026
  let v5862 : BitVec 32 := Scalar.addi c0_i32_6027 v5861
  v5862.toNat
def k0_dev256 (d4 : Dev nD) : Nat :=
  let c0_i32_6040 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_6039 : BitVec 32 := 1#32
  let v5880 : BitVec 32 := Scalar.muli v70 c1_i32_6039
  let v5881 : BitVec 32 := Scalar.addi c0_i32_6040 v5880
  v5881.toNat
def k0_dev257 (d4 : Dev nD) : Nat :=
  let c0_i32_6078 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_6077 : BitVec 32 := 1#32
  let v5907 : BitVec 32 := Scalar.muli v70 c1_i32_6077
  let v5908 : BitVec 32 := Scalar.addi c0_i32_6078 v5907
  v5908.toNat
def k0_dev258 (d4 : Dev nD) : Nat :=
  let c0_i32_6092 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_6091 : BitVec 32 := 1#32
  let v5927 : BitVec 32 := Scalar.muli v69 c1_i32_6091
  let v5928 : BitVec 32 := Scalar.addi c0_i32_6092 v5927
  v5928.toNat
def k0_dev259 (d4 : Dev nD) : Nat :=
  let c0_i32_6131 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_6130 : BitVec 32 := 1#32
  let v5955 : BitVec 32 := Scalar.muli v69 c1_i32_6130
  let v5956 : BitVec 32 := Scalar.addi c0_i32_6131 v5955
  v5956.toNat
def k0_dev260 (d4 : Dev nD) : Nat :=
  let c0_i32_6144 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_6143 : BitVec 32 := 1#32
  let v5974 : BitVec 32 := Scalar.muli v70 c1_i32_6143
  let v5975 : BitVec 32 := Scalar.addi c0_i32_6144 v5974
  v5975.toNat
def k0_dev261 (d4 : Dev nD) : Nat :=
  let c0_i32_6182 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_6181 : BitVec 32 := 1#32
  let v6001 : BitVec 32 := Scalar.muli v70 c1_i32_6181
  let v6002 : BitVec 32 := Scalar.addi c0_i32_6182 v6001
  v6002.toNat
def k0_dev262 (d4 : Dev nD) : Nat :=
  let c0_i32_6196 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_6195 : BitVec 32 := 1#32
  let v6021 : BitVec 32 := Scalar.muli v69 c1_i32_6195
  let v6022 : BitVec 32 := Scalar.addi c0_i32_6196 v6021
  v6022.toNat
def k0_dev263 (d4 : Dev nD) : Nat :=
  let c0_i32_6235 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_6234 : BitVec 32 := 1#32
  let v6049 : BitVec 32 := Scalar.muli v69 c1_i32_6234
  let v6050 : BitVec 32 := Scalar.addi c0_i32_6235 v6049
  v6050.toNat
def k0_dev264 (d4 : Dev nD) : Nat :=
  let c0_i32_6248 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_6247 : BitVec 32 := 1#32
  let v6068 : BitVec 32 := Scalar.muli v70 c1_i32_6247
  let v6069 : BitVec 32 := Scalar.addi c0_i32_6248 v6068
  v6069.toNat
def k0_dev265 (d4 : Dev nD) : Nat :=
  let c0_i32_6289 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_6288 : BitVec 32 := 1#32
  let v6099 : BitVec 32 := Scalar.muli v70 c1_i32_6288
  let v6100 : BitVec 32 := Scalar.addi c0_i32_6289 v6099
  v6100.toNat
def k0_dev266 (d4 : Dev nD) : Nat :=
  let c0_i32_6303 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_6302 : BitVec 32 := 1#32
  let v6119 : BitVec 32 := Scalar.muli v69 c1_i32_6302
  let v6120 : BitVec 32 := Scalar.addi c0_i32_6303 v6119
  v6120.toNat
def k0_dev267 (d4 : Dev nD) : Nat :=
  let c0_i32_6359 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_6358 : BitVec 32 := 1#32
  let v6173 : BitVec 32 := Scalar.muli v69 c1_i32_6358
  let v6174 : BitVec 32 := Scalar.addi c0_i32_6359 v6173
  v6174.toNat
def k0_dev268 (d4 : Dev nD) : Nat :=
  let c0_i32_6372 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_6371 : BitVec 32 := 1#32
  let v6192 : BitVec 32 := Scalar.muli v70 c1_i32_6371
  let v6193 : BitVec 32 := Scalar.addi c0_i32_6372 v6192
  v6193.toNat
def k0_dev269 (d4 : Dev nD) : Nat :=
  let c0_i32_6413 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_6412 : BitVec 32 := 1#32
  let v6223 : BitVec 32 := Scalar.muli v70 c1_i32_6412
  let v6224 : BitVec 32 := Scalar.addi c0_i32_6413 v6223
  v6224.toNat
def k0_dev270 (d4 : Dev nD) : Nat :=
  let c0_i32_6427 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_6426 : BitVec 32 := 1#32
  let v6243 : BitVec 32 := Scalar.muli v69 c1_i32_6426
  let v6244 : BitVec 32 := Scalar.addi c0_i32_6427 v6243
  v6244.toNat
def k0_dev271 (d4 : Dev nD) : Nat :=
  let c0_i32_6469 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_6468 : BitVec 32 := 1#32
  let v6275 : BitVec 32 := Scalar.muli v69 c1_i32_6468
  let v6276 : BitVec 32 := Scalar.addi c0_i32_6469 v6275
  v6276.toNat
def k0_dev272 (d4 : Dev nD) : Nat :=
  let c0_i32_6482 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_6481 : BitVec 32 := 1#32
  let v6294 : BitVec 32 := Scalar.muli v70 c1_i32_6481
  let v6295 : BitVec 32 := Scalar.addi c0_i32_6482 v6294
  v6295.toNat
def k0_dev273 (d4 : Dev nD) : Nat :=
  let c0_i32_6523 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_6522 : BitVec 32 := 1#32
  let v6325 : BitVec 32 := Scalar.muli v70 c1_i32_6522
  let v6326 : BitVec 32 := Scalar.addi c0_i32_6523 v6325
  v6326.toNat
def k0_dev274 (d4 : Dev nD) : Nat :=
  let c0_i32_6537 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_6536 : BitVec 32 := 1#32
  let v6345 : BitVec 32 := Scalar.muli v69 c1_i32_6536
  let v6346 : BitVec 32 := Scalar.addi c0_i32_6537 v6345
  v6346.toNat
def k0_dev275 (d4 : Dev nD) : Nat :=
  let c0_i32_6579 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_6578 : BitVec 32 := 1#32
  let v6377 : BitVec 32 := Scalar.muli v69 c1_i32_6578
  let v6378 : BitVec 32 := Scalar.addi c0_i32_6579 v6377
  v6378.toNat
def k0_dev276 (d4 : Dev nD) : Nat :=
  let c0_i32_6592 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_6591 : BitVec 32 := 1#32
  let v6396 : BitVec 32 := Scalar.muli v70 c1_i32_6591
  let v6397 : BitVec 32 := Scalar.addi c0_i32_6592 v6396
  v6397.toNat
def k0_dev277 (d4 : Dev nD) : Nat :=
  let c0_i32_6633 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_6632 : BitVec 32 := 1#32
  let v6427 : BitVec 32 := Scalar.muli v70 c1_i32_6632
  let v6428 : BitVec 32 := Scalar.addi c0_i32_6633 v6427
  v6428.toNat
def k0_dev278 (d4 : Dev nD) : Nat :=
  let c0_i32_6647 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_6646 : BitVec 32 := 1#32
  let v6447 : BitVec 32 := Scalar.muli v69 c1_i32_6646
  let v6448 : BitVec 32 := Scalar.addi c0_i32_6647 v6447
  v6448.toNat
def k0_dev279 (d4 : Dev nD) : Nat :=
  let c0_i32_6689 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_6688 : BitVec 32 := 1#32
  let v6479 : BitVec 32 := Scalar.muli v69 c1_i32_6688
  let v6480 : BitVec 32 := Scalar.addi c0_i32_6689 v6479
  v6480.toNat
def k0_dev280 (d4 : Dev nD) : Nat :=
  let c0_i32_6702 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_6701 : BitVec 32 := 1#32
  let v6498 : BitVec 32 := Scalar.muli v70 c1_i32_6701
  let v6499 : BitVec 32 := Scalar.addi c0_i32_6702 v6498
  v6499.toNat
def k0_dev281 (d4 : Dev nD) : Nat :=
  let c0_i32_6743 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_6742 : BitVec 32 := 1#32
  let v6529 : BitVec 32 := Scalar.muli v70 c1_i32_6742
  let v6530 : BitVec 32 := Scalar.addi c0_i32_6743 v6529
  v6530.toNat
def k0_dev282 (d4 : Dev nD) : Nat :=
  let c0_i32_6757 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_6756 : BitVec 32 := 1#32
  let v6549 : BitVec 32 := Scalar.muli v69 c1_i32_6756
  let v6550 : BitVec 32 := Scalar.addi c0_i32_6757 v6549
  v6550.toNat
def k0_dev283 (d4 : Dev nD) : Nat :=
  let c0_i32_6813 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_6812 : BitVec 32 := 1#32
  let v6603 : BitVec 32 := Scalar.muli v69 c1_i32_6812
  let v6604 : BitVec 32 := Scalar.addi c0_i32_6813 v6603
  v6604.toNat
def k0_dev284 (d4 : Dev nD) : Nat :=
  let c0_i32_6826 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_6825 : BitVec 32 := 1#32
  let v6622 : BitVec 32 := Scalar.muli v70 c1_i32_6825
  let v6623 : BitVec 32 := Scalar.addi c0_i32_6826 v6622
  v6623.toNat
def k0_dev285 (d4 : Dev nD) : Nat :=
  let c0_i32_6867 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_6866 : BitVec 32 := 1#32
  let v6653 : BitVec 32 := Scalar.muli v70 c1_i32_6866
  let v6654 : BitVec 32 := Scalar.addi c0_i32_6867 v6653
  v6654.toNat
def k0_dev286 (d4 : Dev nD) : Nat :=
  let c0_i32_6881 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_6880 : BitVec 32 := 1#32
  let v6673 : BitVec 32 := Scalar.muli v69 c1_i32_6880
  let v6674 : BitVec 32 := Scalar.addi c0_i32_6881 v6673
  v6674.toNat
def k0_dev287 (d4 : Dev nD) : Nat :=
  let c0_i32_6923 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_6922 : BitVec 32 := 1#32
  let v6705 : BitVec 32 := Scalar.muli v69 c1_i32_6922
  let v6706 : BitVec 32 := Scalar.addi c0_i32_6923 v6705
  v6706.toNat
def k0_dev288 (d4 : Dev nD) : Nat :=
  let c0_i32_6936 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_6935 : BitVec 32 := 1#32
  let v6724 : BitVec 32 := Scalar.muli v70 c1_i32_6935
  let v6725 : BitVec 32 := Scalar.addi c0_i32_6936 v6724
  v6725.toNat
def k0_dev289 (d4 : Dev nD) : Nat :=
  let c0_i32_6977 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_6976 : BitVec 32 := 1#32
  let v6755 : BitVec 32 := Scalar.muli v70 c1_i32_6976
  let v6756 : BitVec 32 := Scalar.addi c0_i32_6977 v6755
  v6756.toNat
def k0_dev290 (d4 : Dev nD) : Nat :=
  let c0_i32_6991 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_6990 : BitVec 32 := 1#32
  let v6775 : BitVec 32 := Scalar.muli v69 c1_i32_6990
  let v6776 : BitVec 32 := Scalar.addi c0_i32_6991 v6775
  v6776.toNat
def k0_dev291 (d4 : Dev nD) : Nat :=
  let c0_i32_7033 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_7032 : BitVec 32 := 1#32
  let v6807 : BitVec 32 := Scalar.muli v69 c1_i32_7032
  let v6808 : BitVec 32 := Scalar.addi c0_i32_7033 v6807
  v6808.toNat
def k0_dev292 (d4 : Dev nD) : Nat :=
  let c0_i32_7046 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_7045 : BitVec 32 := 1#32
  let v6826 : BitVec 32 := Scalar.muli v70 c1_i32_7045
  let v6827 : BitVec 32 := Scalar.addi c0_i32_7046 v6826
  v6827.toNat
def k0_dev293 (d4 : Dev nD) : Nat :=
  let c0_i32_7087 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_7086 : BitVec 32 := 1#32
  let v6857 : BitVec 32 := Scalar.muli v70 c1_i32_7086
  let v6858 : BitVec 32 := Scalar.addi c0_i32_7087 v6857
  v6858.toNat
def k0_dev294 (d4 : Dev nD) : Nat :=
  let c0_i32_7101 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_7100 : BitVec 32 := 1#32
  let v6877 : BitVec 32 := Scalar.muli v69 c1_i32_7100
  let v6878 : BitVec 32 := Scalar.addi c0_i32_7101 v6877
  v6878.toNat
def k0_dev295 (d4 : Dev nD) : Nat :=
  let c0_i32_7143 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_7142 : BitVec 32 := 1#32
  let v6909 : BitVec 32 := Scalar.muli v69 c1_i32_7142
  let v6910 : BitVec 32 := Scalar.addi c0_i32_7143 v6909
  v6910.toNat
def k0_dev296 (d4 : Dev nD) : Nat :=
  let c0_i32_7156 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_7155 : BitVec 32 := 1#32
  let v6928 : BitVec 32 := Scalar.muli v70 c1_i32_7155
  let v6929 : BitVec 32 := Scalar.addi c0_i32_7156 v6928
  v6929.toNat
def k0_dev297 (d4 : Dev nD) : Nat :=
  let c0_i32_7197 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_7196 : BitVec 32 := 1#32
  let v6959 : BitVec 32 := Scalar.muli v70 c1_i32_7196
  let v6960 : BitVec 32 := Scalar.addi c0_i32_7197 v6959
  v6960.toNat
def k0_dev298 (d4 : Dev nD) : Nat :=
  let c0_i32_7211 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_7210 : BitVec 32 := 1#32
  let v6979 : BitVec 32 := Scalar.muli v69 c1_i32_7210
  let v6980 : BitVec 32 := Scalar.addi c0_i32_7211 v6979
  v6980.toNat
def k0_dev299 (d4 : Dev nD) : Nat :=
  let c0_i32_7267 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_7266 : BitVec 32 := 1#32
  let v7033 : BitVec 32 := Scalar.muli v69 c1_i32_7266
  let v7034 : BitVec 32 := Scalar.addi c0_i32_7267 v7033
  v7034.toNat
def k0_dev300 (d4 : Dev nD) : Nat :=
  let c0_i32_7280 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_7279 : BitVec 32 := 1#32
  let v7052 : BitVec 32 := Scalar.muli v70 c1_i32_7279
  let v7053 : BitVec 32 := Scalar.addi c0_i32_7280 v7052
  v7053.toNat
def k0_dev301 (d4 : Dev nD) : Nat :=
  let c0_i32_7321 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_7320 : BitVec 32 := 1#32
  let v7083 : BitVec 32 := Scalar.muli v70 c1_i32_7320
  let v7084 : BitVec 32 := Scalar.addi c0_i32_7321 v7083
  v7084.toNat
def k0_dev302 (d4 : Dev nD) : Nat :=
  let c0_i32_7335 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_7334 : BitVec 32 := 1#32
  let v7103 : BitVec 32 := Scalar.muli v69 c1_i32_7334
  let v7104 : BitVec 32 := Scalar.addi c0_i32_7335 v7103
  v7104.toNat
def k0_dev303 (d4 : Dev nD) : Nat :=
  let c0_i32_7377 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_7376 : BitVec 32 := 1#32
  let v7135 : BitVec 32 := Scalar.muli v69 c1_i32_7376
  let v7136 : BitVec 32 := Scalar.addi c0_i32_7377 v7135
  v7136.toNat
def k0_dev304 (d4 : Dev nD) : Nat :=
  let c0_i32_7390 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_7389 : BitVec 32 := 1#32
  let v7154 : BitVec 32 := Scalar.muli v70 c1_i32_7389
  let v7155 : BitVec 32 := Scalar.addi c0_i32_7390 v7154
  v7155.toNat
def k0_dev305 (d4 : Dev nD) : Nat :=
  let c0_i32_7431 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_7430 : BitVec 32 := 1#32
  let v7185 : BitVec 32 := Scalar.muli v70 c1_i32_7430
  let v7186 : BitVec 32 := Scalar.addi c0_i32_7431 v7185
  v7186.toNat
def k0_dev306 (d4 : Dev nD) : Nat :=
  let c0_i32_7445 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_7444 : BitVec 32 := 1#32
  let v7205 : BitVec 32 := Scalar.muli v69 c1_i32_7444
  let v7206 : BitVec 32 := Scalar.addi c0_i32_7445 v7205
  v7206.toNat
def k0_dev307 (d4 : Dev nD) : Nat :=
  let c0_i32_7487 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_7486 : BitVec 32 := 1#32
  let v7237 : BitVec 32 := Scalar.muli v69 c1_i32_7486
  let v7238 : BitVec 32 := Scalar.addi c0_i32_7487 v7237
  v7238.toNat
def k0_dev308 (d4 : Dev nD) : Nat :=
  let c0_i32_7500 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_7499 : BitVec 32 := 1#32
  let v7256 : BitVec 32 := Scalar.muli v70 c1_i32_7499
  let v7257 : BitVec 32 := Scalar.addi c0_i32_7500 v7256
  v7257.toNat
def k0_dev309 (d4 : Dev nD) : Nat :=
  let c0_i32_7541 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_7540 : BitVec 32 := 1#32
  let v7287 : BitVec 32 := Scalar.muli v70 c1_i32_7540
  let v7288 : BitVec 32 := Scalar.addi c0_i32_7541 v7287
  v7288.toNat
def k0_dev310 (d4 : Dev nD) : Nat :=
  let c0_i32_7555 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_7554 : BitVec 32 := 1#32
  let v7307 : BitVec 32 := Scalar.muli v69 c1_i32_7554
  let v7308 : BitVec 32 := Scalar.addi c0_i32_7555 v7307
  v7308.toNat
def k0_dev311 (d4 : Dev nD) : Nat :=
  let c0_i32_7597 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_7596 : BitVec 32 := 1#32
  let v7339 : BitVec 32 := Scalar.muli v69 c1_i32_7596
  let v7340 : BitVec 32 := Scalar.addi c0_i32_7597 v7339
  v7340.toNat
def k0_dev312 (d4 : Dev nD) : Nat :=
  let c0_i32_7610 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_7609 : BitVec 32 := 1#32
  let v7358 : BitVec 32 := Scalar.muli v70 c1_i32_7609
  let v7359 : BitVec 32 := Scalar.addi c0_i32_7610 v7358
  v7359.toNat
def k0_dev313 (d4 : Dev nD) : Nat :=
  let c0_i32_7651 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_7650 : BitVec 32 := 1#32
  let v7389 : BitVec 32 := Scalar.muli v70 c1_i32_7650
  let v7390 : BitVec 32 := Scalar.addi c0_i32_7651 v7389
  v7390.toNat
def k0_dev314 (d4 : Dev nD) : Nat :=
  let c0_i32_7665 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_7664 : BitVec 32 := 1#32
  let v7409 : BitVec 32 := Scalar.muli v69 c1_i32_7664
  let v7410 : BitVec 32 := Scalar.addi c0_i32_7665 v7409
  v7410.toNat
def k0_dev315 (d4 : Dev nD) : Nat :=
  let c0_i32_7721 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_7720 : BitVec 32 := 1#32
  let v7463 : BitVec 32 := Scalar.muli v69 c1_i32_7720
  let v7464 : BitVec 32 := Scalar.addi c0_i32_7721 v7463
  v7464.toNat
def k0_dev316 (d4 : Dev nD) : Nat :=
  let c0_i32_7734 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_7733 : BitVec 32 := 1#32
  let v7482 : BitVec 32 := Scalar.muli v70 c1_i32_7733
  let v7483 : BitVec 32 := Scalar.addi c0_i32_7734 v7482
  v7483.toNat
def k0_dev317 (d4 : Dev nD) : Nat :=
  let c0_i32_7775 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_7774 : BitVec 32 := 1#32
  let v7513 : BitVec 32 := Scalar.muli v70 c1_i32_7774
  let v7514 : BitVec 32 := Scalar.addi c0_i32_7775 v7513
  v7514.toNat
def k0_dev318 (d4 : Dev nD) : Nat :=
  let c0_i32_7789 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_7788 : BitVec 32 := 1#32
  let v7533 : BitVec 32 := Scalar.muli v69 c1_i32_7788
  let v7534 : BitVec 32 := Scalar.addi c0_i32_7789 v7533
  v7534.toNat
def k0_dev319 (d4 : Dev nD) : Nat :=
  let c0_i32_7831 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_7830 : BitVec 32 := 1#32
  let v7565 : BitVec 32 := Scalar.muli v69 c1_i32_7830
  let v7566 : BitVec 32 := Scalar.addi c0_i32_7831 v7565
  v7566.toNat
def k0_dev320 (d4 : Dev nD) : Nat :=
  let c0_i32_7844 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_7843 : BitVec 32 := 1#32
  let v7584 : BitVec 32 := Scalar.muli v70 c1_i32_7843
  let v7585 : BitVec 32 := Scalar.addi c0_i32_7844 v7584
  v7585.toNat
def k0_dev321 (d4 : Dev nD) : Nat :=
  let c0_i32_7885 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_7884 : BitVec 32 := 1#32
  let v7615 : BitVec 32 := Scalar.muli v70 c1_i32_7884
  let v7616 : BitVec 32 := Scalar.addi c0_i32_7885 v7615
  v7616.toNat
def k0_dev322 (d4 : Dev nD) : Nat :=
  let c0_i32_7899 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_7898 : BitVec 32 := 1#32
  let v7635 : BitVec 32 := Scalar.muli v69 c1_i32_7898
  let v7636 : BitVec 32 := Scalar.addi c0_i32_7899 v7635
  v7636.toNat
def k0_dev323 (d4 : Dev nD) : Nat :=
  let c0_i32_7941 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_7940 : BitVec 32 := 1#32
  let v7667 : BitVec 32 := Scalar.muli v69 c1_i32_7940
  let v7668 : BitVec 32 := Scalar.addi c0_i32_7941 v7667
  v7668.toNat
def k0_dev324 (d4 : Dev nD) : Nat :=
  let c0_i32_7954 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_7953 : BitVec 32 := 1#32
  let v7686 : BitVec 32 := Scalar.muli v70 c1_i32_7953
  let v7687 : BitVec 32 := Scalar.addi c0_i32_7954 v7686
  v7687.toNat
def k0_dev325 (d4 : Dev nD) : Nat :=
  let c0_i32_7995 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_7994 : BitVec 32 := 1#32
  let v7717 : BitVec 32 := Scalar.muli v70 c1_i32_7994
  let v7718 : BitVec 32 := Scalar.addi c0_i32_7995 v7717
  v7718.toNat
def k0_dev326 (d4 : Dev nD) : Nat :=
  let c0_i32_8009 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_8008 : BitVec 32 := 1#32
  let v7737 : BitVec 32 := Scalar.muli v69 c1_i32_8008
  let v7738 : BitVec 32 := Scalar.addi c0_i32_8009 v7737
  v7738.toNat
def k0_dev327 (d4 : Dev nD) : Nat :=
  let c0_i32_8051 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_8050 : BitVec 32 := 1#32
  let v7769 : BitVec 32 := Scalar.muli v69 c1_i32_8050
  let v7770 : BitVec 32 := Scalar.addi c0_i32_8051 v7769
  v7770.toNat
def k0_dev328 (d4 : Dev nD) : Nat :=
  let c0_i32_8064 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_8063 : BitVec 32 := 1#32
  let v7788 : BitVec 32 := Scalar.muli v70 c1_i32_8063
  let v7789 : BitVec 32 := Scalar.addi c0_i32_8064 v7788
  v7789.toNat
def k0_dev329 (d4 : Dev nD) : Nat :=
  let c0_i32_8105 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_8104 : BitVec 32 := 1#32
  let v7819 : BitVec 32 := Scalar.muli v70 c1_i32_8104
  let v7820 : BitVec 32 := Scalar.addi c0_i32_8105 v7819
  v7820.toNat
def k0_dev330 (d4 : Dev nD) : Nat :=
  let c0_i32_8119 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_8118 : BitVec 32 := 1#32
  let v7839 : BitVec 32 := Scalar.muli v69 c1_i32_8118
  let v7840 : BitVec 32 := Scalar.addi c0_i32_8119 v7839
  v7840.toNat
def k0_dev331 (d4 : Dev nD) : Nat :=
  let c0_i32_8175 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_8174 : BitVec 32 := 1#32
  let v7893 : BitVec 32 := Scalar.muli v69 c1_i32_8174
  let v7894 : BitVec 32 := Scalar.addi c0_i32_8175 v7893
  v7894.toNat
def k0_dev332 (d4 : Dev nD) : Nat :=
  let c0_i32_8188 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_8187 : BitVec 32 := 1#32
  let v7912 : BitVec 32 := Scalar.muli v70 c1_i32_8187
  let v7913 : BitVec 32 := Scalar.addi c0_i32_8188 v7912
  v7913.toNat
def k0_dev333 (d4 : Dev nD) : Nat :=
  let c0_i32_8229 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_8228 : BitVec 32 := 1#32
  let v7943 : BitVec 32 := Scalar.muli v70 c1_i32_8228
  let v7944 : BitVec 32 := Scalar.addi c0_i32_8229 v7943
  v7944.toNat
def k0_dev334 (d4 : Dev nD) : Nat :=
  let c0_i32_8243 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_8242 : BitVec 32 := 1#32
  let v7963 : BitVec 32 := Scalar.muli v69 c1_i32_8242
  let v7964 : BitVec 32 := Scalar.addi c0_i32_8243 v7963
  v7964.toNat
def k0_dev335 (d4 : Dev nD) : Nat :=
  let c0_i32_8285 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_8284 : BitVec 32 := 1#32
  let v7995 : BitVec 32 := Scalar.muli v69 c1_i32_8284
  let v7996 : BitVec 32 := Scalar.addi c0_i32_8285 v7995
  v7996.toNat
def k0_dev336 (d4 : Dev nD) : Nat :=
  let c0_i32_8298 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_8297 : BitVec 32 := 1#32
  let v8014 : BitVec 32 := Scalar.muli v70 c1_i32_8297
  let v8015 : BitVec 32 := Scalar.addi c0_i32_8298 v8014
  v8015.toNat
def k0_dev337 (d4 : Dev nD) : Nat :=
  let c0_i32_8339 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_8338 : BitVec 32 := 1#32
  let v8045 : BitVec 32 := Scalar.muli v70 c1_i32_8338
  let v8046 : BitVec 32 := Scalar.addi c0_i32_8339 v8045
  v8046.toNat
def k0_dev338 (d4 : Dev nD) : Nat :=
  let c0_i32_8353 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_8352 : BitVec 32 := 1#32
  let v8065 : BitVec 32 := Scalar.muli v69 c1_i32_8352
  let v8066 : BitVec 32 := Scalar.addi c0_i32_8353 v8065
  v8066.toNat
def k0_dev339 (d4 : Dev nD) : Nat :=
  let c0_i32_8395 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_8394 : BitVec 32 := 1#32
  let v8097 : BitVec 32 := Scalar.muli v69 c1_i32_8394
  let v8098 : BitVec 32 := Scalar.addi c0_i32_8395 v8097
  v8098.toNat
def k0_dev340 (d4 : Dev nD) : Nat :=
  let c0_i32_8408 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_8407 : BitVec 32 := 1#32
  let v8116 : BitVec 32 := Scalar.muli v70 c1_i32_8407
  let v8117 : BitVec 32 := Scalar.addi c0_i32_8408 v8116
  v8117.toNat
def k0_dev341 (d4 : Dev nD) : Nat :=
  let c0_i32_8449 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_8448 : BitVec 32 := 1#32
  let v8147 : BitVec 32 := Scalar.muli v70 c1_i32_8448
  let v8148 : BitVec 32 := Scalar.addi c0_i32_8449 v8147
  v8148.toNat
def k0_dev342 (d4 : Dev nD) : Nat :=
  let c0_i32_8463 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_8462 : BitVec 32 := 1#32
  let v8167 : BitVec 32 := Scalar.muli v69 c1_i32_8462
  let v8168 : BitVec 32 := Scalar.addi c0_i32_8463 v8167
  v8168.toNat
def k0_dev343 (d4 : Dev nD) : Nat :=
  let c0_i32_8505 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_8504 : BitVec 32 := 1#32
  let v8199 : BitVec 32 := Scalar.muli v69 c1_i32_8504
  let v8200 : BitVec 32 := Scalar.addi c0_i32_8505 v8199
  v8200.toNat
def k0_dev344 (d4 : Dev nD) : Nat :=
  let c0_i32_8518 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_8517 : BitVec 32 := 1#32
  let v8218 : BitVec 32 := Scalar.muli v70 c1_i32_8517
  let v8219 : BitVec 32 := Scalar.addi c0_i32_8518 v8218
  v8219.toNat
def k0_dev345 (d4 : Dev nD) : Nat :=
  let c0_i32_8559 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_8558 : BitVec 32 := 1#32
  let v8249 : BitVec 32 := Scalar.muli v70 c1_i32_8558
  let v8250 : BitVec 32 := Scalar.addi c0_i32_8559 v8249
  v8250.toNat
def k0_dev346 (d4 : Dev nD) : Nat :=
  let c0_i32_8573 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_8572 : BitVec 32 := 1#32
  let v8269 : BitVec 32 := Scalar.muli v69 c1_i32_8572
  let v8270 : BitVec 32 := Scalar.addi c0_i32_8573 v8269
  v8270.toNat
def k0_dev347 (d4 : Dev nD) : Nat :=
  let c0_i32_8629 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_8628 : BitVec 32 := 1#32
  let v8323 : BitVec 32 := Scalar.muli v69 c1_i32_8628
  let v8324 : BitVec 32 := Scalar.addi c0_i32_8629 v8323
  v8324.toNat
def k0_dev348 (d4 : Dev nD) : Nat :=
  let c0_i32_8642 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_8641 : BitVec 32 := 1#32
  let v8342 : BitVec 32 := Scalar.muli v70 c1_i32_8641
  let v8343 : BitVec 32 := Scalar.addi c0_i32_8642 v8342
  v8343.toNat
def k0_dev349 (d4 : Dev nD) : Nat :=
  let c0_i32_8683 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_8682 : BitVec 32 := 1#32
  let v8373 : BitVec 32 := Scalar.muli v70 c1_i32_8682
  let v8374 : BitVec 32 := Scalar.addi c0_i32_8683 v8373
  v8374.toNat
def k0_dev350 (d4 : Dev nD) : Nat :=
  let c0_i32_8697 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_8696 : BitVec 32 := 1#32
  let v8393 : BitVec 32 := Scalar.muli v69 c1_i32_8696
  let v8394 : BitVec 32 := Scalar.addi c0_i32_8697 v8393
  v8394.toNat
def k0_dev351 (d4 : Dev nD) : Nat :=
  let c0_i32_8739 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_8738 : BitVec 32 := 1#32
  let v8425 : BitVec 32 := Scalar.muli v69 c1_i32_8738
  let v8426 : BitVec 32 := Scalar.addi c0_i32_8739 v8425
  v8426.toNat
def k0_dev352 (d4 : Dev nD) : Nat :=
  let c0_i32_8752 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_8751 : BitVec 32 := 1#32
  let v8444 : BitVec 32 := Scalar.muli v70 c1_i32_8751
  let v8445 : BitVec 32 := Scalar.addi c0_i32_8752 v8444
  v8445.toNat
def k0_dev353 (d4 : Dev nD) : Nat :=
  let c0_i32_8793 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_8792 : BitVec 32 := 1#32
  let v8475 : BitVec 32 := Scalar.muli v70 c1_i32_8792
  let v8476 : BitVec 32 := Scalar.addi c0_i32_8793 v8475
  v8476.toNat
def k0_dev354 (d4 : Dev nD) : Nat :=
  let c0_i32_8807 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_8806 : BitVec 32 := 1#32
  let v8495 : BitVec 32 := Scalar.muli v69 c1_i32_8806
  let v8496 : BitVec 32 := Scalar.addi c0_i32_8807 v8495
  v8496.toNat
def k0_dev355 (d4 : Dev nD) : Nat :=
  let c0_i32_8849 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_8848 : BitVec 32 := 1#32
  let v8527 : BitVec 32 := Scalar.muli v69 c1_i32_8848
  let v8528 : BitVec 32 := Scalar.addi c0_i32_8849 v8527
  v8528.toNat
def k0_dev356 (d4 : Dev nD) : Nat :=
  let c0_i32_8862 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_8861 : BitVec 32 := 1#32
  let v8546 : BitVec 32 := Scalar.muli v70 c1_i32_8861
  let v8547 : BitVec 32 := Scalar.addi c0_i32_8862 v8546
  v8547.toNat
def k0_dev357 (d4 : Dev nD) : Nat :=
  let c0_i32_8903 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_8902 : BitVec 32 := 1#32
  let v8577 : BitVec 32 := Scalar.muli v70 c1_i32_8902
  let v8578 : BitVec 32 := Scalar.addi c0_i32_8903 v8577
  v8578.toNat
def k0_dev358 (d4 : Dev nD) : Nat :=
  let c0_i32_8917 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_8916 : BitVec 32 := 1#32
  let v8597 : BitVec 32 := Scalar.muli v69 c1_i32_8916
  let v8598 : BitVec 32 := Scalar.addi c0_i32_8917 v8597
  v8598.toNat
def k0_dev359 (d4 : Dev nD) : Nat :=
  let c0_i32_8959 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_8958 : BitVec 32 := 1#32
  let v8629 : BitVec 32 := Scalar.muli v69 c1_i32_8958
  let v8630 : BitVec 32 := Scalar.addi c0_i32_8959 v8629
  v8630.toNat
def k0_dev360 (d4 : Dev nD) : Nat :=
  let c0_i32_8972 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_8971 : BitVec 32 := 1#32
  let v8648 : BitVec 32 := Scalar.muli v70 c1_i32_8971
  let v8649 : BitVec 32 := Scalar.addi c0_i32_8972 v8648
  v8649.toNat
def k0_dev361 (d4 : Dev nD) : Nat :=
  let c0_i32_9013 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_9012 : BitVec 32 := 1#32
  let v8679 : BitVec 32 := Scalar.muli v70 c1_i32_9012
  let v8680 : BitVec 32 := Scalar.addi c0_i32_9013 v8679
  v8680.toNat
def k0_dev362 (d4 : Dev nD) : Nat :=
  let c0_i32_9027 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_9026 : BitVec 32 := 1#32
  let v8699 : BitVec 32 := Scalar.muli v69 c1_i32_9026
  let v8700 : BitVec 32 := Scalar.addi c0_i32_9027 v8699
  v8700.toNat
def k0_dev363 (d4 : Dev nD) : Nat :=
  let c0_i32_9083 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_9082 : BitVec 32 := 1#32
  let v8753 : BitVec 32 := Scalar.muli v69 c1_i32_9082
  let v8754 : BitVec 32 := Scalar.addi c0_i32_9083 v8753
  v8754.toNat
def k0_dev364 (d4 : Dev nD) : Nat :=
  let c0_i32_9096 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_9095 : BitVec 32 := 1#32
  let v8772 : BitVec 32 := Scalar.muli v70 c1_i32_9095
  let v8773 : BitVec 32 := Scalar.addi c0_i32_9096 v8772
  v8773.toNat
def k0_dev365 (d4 : Dev nD) : Nat :=
  let c0_i32_9137 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_9136 : BitVec 32 := 1#32
  let v8803 : BitVec 32 := Scalar.muli v70 c1_i32_9136
  let v8804 : BitVec 32 := Scalar.addi c0_i32_9137 v8803
  v8804.toNat
def k0_dev366 (d4 : Dev nD) : Nat :=
  let c0_i32_9151 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_9150 : BitVec 32 := 1#32
  let v8823 : BitVec 32 := Scalar.muli v69 c1_i32_9150
  let v8824 : BitVec 32 := Scalar.addi c0_i32_9151 v8823
  v8824.toNat
def k0_dev367 (d4 : Dev nD) : Nat :=
  let c0_i32_9193 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_9192 : BitVec 32 := 1#32
  let v8855 : BitVec 32 := Scalar.muli v69 c1_i32_9192
  let v8856 : BitVec 32 := Scalar.addi c0_i32_9193 v8855
  v8856.toNat
def k0_dev368 (d4 : Dev nD) : Nat :=
  let c0_i32_9206 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_9205 : BitVec 32 := 1#32
  let v8874 : BitVec 32 := Scalar.muli v70 c1_i32_9205
  let v8875 : BitVec 32 := Scalar.addi c0_i32_9206 v8874
  v8875.toNat
def k0_dev369 (d4 : Dev nD) : Nat :=
  let c0_i32_9247 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_9246 : BitVec 32 := 1#32
  let v8905 : BitVec 32 := Scalar.muli v70 c1_i32_9246
  let v8906 : BitVec 32 := Scalar.addi c0_i32_9247 v8905
  v8906.toNat
def k0_dev370 (d4 : Dev nD) : Nat :=
  let c0_i32_9261 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_9260 : BitVec 32 := 1#32
  let v8925 : BitVec 32 := Scalar.muli v69 c1_i32_9260
  let v8926 : BitVec 32 := Scalar.addi c0_i32_9261 v8925
  v8926.toNat
def k0_dev371 (d4 : Dev nD) : Nat :=
  let c0_i32_9303 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_9302 : BitVec 32 := 1#32
  let v8957 : BitVec 32 := Scalar.muli v69 c1_i32_9302
  let v8958 : BitVec 32 := Scalar.addi c0_i32_9303 v8957
  v8958.toNat
def k0_dev372 (d4 : Dev nD) : Nat :=
  let c0_i32_9316 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_9315 : BitVec 32 := 1#32
  let v8976 : BitVec 32 := Scalar.muli v70 c1_i32_9315
  let v8977 : BitVec 32 := Scalar.addi c0_i32_9316 v8976
  v8977.toNat
def k0_dev373 (d4 : Dev nD) : Nat :=
  let c0_i32_9357 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_9356 : BitVec 32 := 1#32
  let v9007 : BitVec 32 := Scalar.muli v70 c1_i32_9356
  let v9008 : BitVec 32 := Scalar.addi c0_i32_9357 v9007
  v9008.toNat
def k0_dev374 (d4 : Dev nD) : Nat :=
  let c0_i32_9371 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_9370 : BitVec 32 := 1#32
  let v9027 : BitVec 32 := Scalar.muli v69 c1_i32_9370
  let v9028 : BitVec 32 := Scalar.addi c0_i32_9371 v9027
  v9028.toNat
def k0_dev375 (d4 : Dev nD) : Nat :=
  let c0_i32_9413 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_9412 : BitVec 32 := 1#32
  let v9059 : BitVec 32 := Scalar.muli v69 c1_i32_9412
  let v9060 : BitVec 32 := Scalar.addi c0_i32_9413 v9059
  v9060.toNat
def k0_dev376 (d4 : Dev nD) : Nat :=
  let c0_i32_9426 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_9425 : BitVec 32 := 1#32
  let v9078 : BitVec 32 := Scalar.muli v70 c1_i32_9425
  let v9079 : BitVec 32 := Scalar.addi c0_i32_9426 v9078
  v9079.toNat
def k0_dev377 (d4 : Dev nD) : Nat :=
  let c0_i32_9467 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_9466 : BitVec 32 := 1#32
  let v9109 : BitVec 32 := Scalar.muli v70 c1_i32_9466
  let v9110 : BitVec 32 := Scalar.addi c0_i32_9467 v9109
  v9110.toNat
def k0_dev378 (d4 : Dev nD) : Nat :=
  let c0_i32_9481 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_9480 : BitVec 32 := 1#32
  let v9129 : BitVec 32 := Scalar.muli v69 c1_i32_9480
  let v9130 : BitVec 32 := Scalar.addi c0_i32_9481 v9129
  v9130.toNat
def k0_dev379 (d4 : Dev nD) : Nat :=
  let c0_i32_9537 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_9536 : BitVec 32 := 1#32
  let v9183 : BitVec 32 := Scalar.muli v69 c1_i32_9536
  let v9184 : BitVec 32 := Scalar.addi c0_i32_9537 v9183
  v9184.toNat
def k0_dev380 (d4 : Dev nD) : Nat :=
  let c0_i32_9550 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_9549 : BitVec 32 := 1#32
  let v9202 : BitVec 32 := Scalar.muli v70 c1_i32_9549
  let v9203 : BitVec 32 := Scalar.addi c0_i32_9550 v9202
  v9203.toNat
def k0_dev381 (d4 : Dev nD) : Nat :=
  let c0_i32_9591 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_9590 : BitVec 32 := 1#32
  let v9233 : BitVec 32 := Scalar.muli v70 c1_i32_9590
  let v9234 : BitVec 32 := Scalar.addi c0_i32_9591 v9233
  v9234.toNat
def k0_dev382 (d4 : Dev nD) : Nat :=
  let c0_i32_9605 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_9604 : BitVec 32 := 1#32
  let v9253 : BitVec 32 := Scalar.muli v69 c1_i32_9604
  let v9254 : BitVec 32 := Scalar.addi c0_i32_9605 v9253
  v9254.toNat
def k0_dev383 (d4 : Dev nD) : Nat :=
  let c0_i32_9647 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_9646 : BitVec 32 := 1#32
  let v9285 : BitVec 32 := Scalar.muli v69 c1_i32_9646
  let v9286 : BitVec 32 := Scalar.addi c0_i32_9647 v9285
  v9286.toNat
def k0_dev384 (d4 : Dev nD) : Nat :=
  let c0_i32_9660 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_9659 : BitVec 32 := 1#32
  let v9304 : BitVec 32 := Scalar.muli v70 c1_i32_9659
  let v9305 : BitVec 32 := Scalar.addi c0_i32_9660 v9304
  v9305.toNat
def k0_dev385 (d4 : Dev nD) : Nat :=
  let c0_i32_9701 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_9700 : BitVec 32 := 1#32
  let v9335 : BitVec 32 := Scalar.muli v70 c1_i32_9700
  let v9336 : BitVec 32 := Scalar.addi c0_i32_9701 v9335
  v9336.toNat
def k0_dev386 (d4 : Dev nD) : Nat :=
  let c0_i32_9715 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_9714 : BitVec 32 := 1#32
  let v9355 : BitVec 32 := Scalar.muli v69 c1_i32_9714
  let v9356 : BitVec 32 := Scalar.addi c0_i32_9715 v9355
  v9356.toNat
def k0_dev387 (d4 : Dev nD) : Nat :=
  let c0_i32_9757 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_9756 : BitVec 32 := 1#32
  let v9387 : BitVec 32 := Scalar.muli v69 c1_i32_9756
  let v9388 : BitVec 32 := Scalar.addi c0_i32_9757 v9387
  v9388.toNat
def k0_dev388 (d4 : Dev nD) : Nat :=
  let c0_i32_9770 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_9769 : BitVec 32 := 1#32
  let v9406 : BitVec 32 := Scalar.muli v70 c1_i32_9769
  let v9407 : BitVec 32 := Scalar.addi c0_i32_9770 v9406
  v9407.toNat
def k0_dev389 (d4 : Dev nD) : Nat :=
  let c0_i32_9811 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_9810 : BitVec 32 := 1#32
  let v9437 : BitVec 32 := Scalar.muli v70 c1_i32_9810
  let v9438 : BitVec 32 := Scalar.addi c0_i32_9811 v9437
  v9438.toNat
def k0_dev390 (d4 : Dev nD) : Nat :=
  let c0_i32_9825 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_9824 : BitVec 32 := 1#32
  let v9457 : BitVec 32 := Scalar.muli v69 c1_i32_9824
  let v9458 : BitVec 32 := Scalar.addi c0_i32_9825 v9457
  v9458.toNat
def k0_dev391 (d4 : Dev nD) : Nat :=
  let c0_i32_9867 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_9866 : BitVec 32 := 1#32
  let v9489 : BitVec 32 := Scalar.muli v69 c1_i32_9866
  let v9490 : BitVec 32 := Scalar.addi c0_i32_9867 v9489
  v9490.toNat
def k0_dev392 (d4 : Dev nD) : Nat :=
  let c0_i32_9880 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_9879 : BitVec 32 := 1#32
  let v9508 : BitVec 32 := Scalar.muli v70 c1_i32_9879
  let v9509 : BitVec 32 := Scalar.addi c0_i32_9880 v9508
  v9509.toNat
def k0_dev393 (d4 : Dev nD) : Nat :=
  let c0_i32_9921 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_9920 : BitVec 32 := 1#32
  let v9539 : BitVec 32 := Scalar.muli v70 c1_i32_9920
  let v9540 : BitVec 32 := Scalar.addi c0_i32_9921 v9539
  v9540.toNat
def k0_dev394 (d4 : Dev nD) : Nat :=
  let c0_i32_9935 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_9934 : BitVec 32 := 1#32
  let v9559 : BitVec 32 := Scalar.muli v69 c1_i32_9934
  let v9560 : BitVec 32 := Scalar.addi c0_i32_9935 v9559
  v9560.toNat
def k0_dev395 (d4 : Dev nD) : Nat :=
  let c0_i32_9991 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_9990 : BitVec 32 := 1#32
  let v9613 : BitVec 32 := Scalar.muli v69 c1_i32_9990
  let v9614 : BitVec 32 := Scalar.addi c0_i32_9991 v9613
  v9614.toNat
def k0_dev396 (d4 : Dev nD) : Nat :=
  let c0_i32_10004 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_10003 : BitVec 32 := 1#32
  let v9632 : BitVec 32 := Scalar.muli v70 c1_i32_10003
  let v9633 : BitVec 32 := Scalar.addi c0_i32_10004 v9632
  v9633.toNat
def k0_dev397 (d4 : Dev nD) : Nat :=
  let c0_i32_10045 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_10044 : BitVec 32 := 1#32
  let v9663 : BitVec 32 := Scalar.muli v70 c1_i32_10044
  let v9664 : BitVec 32 := Scalar.addi c0_i32_10045 v9663
  v9664.toNat
def k0_dev398 (d4 : Dev nD) : Nat :=
  let c0_i32_10059 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_10058 : BitVec 32 := 1#32
  let v9683 : BitVec 32 := Scalar.muli v69 c1_i32_10058
  let v9684 : BitVec 32 := Scalar.addi c0_i32_10059 v9683
  v9684.toNat
def k0_dev399 (d4 : Dev nD) : Nat :=
  let c0_i32_10101 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_10100 : BitVec 32 := 1#32
  let v9715 : BitVec 32 := Scalar.muli v69 c1_i32_10100
  let v9716 : BitVec 32 := Scalar.addi c0_i32_10101 v9715
  v9716.toNat
def k0_dev400 (d4 : Dev nD) : Nat :=
  let c0_i32_10114 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_10113 : BitVec 32 := 1#32
  let v9734 : BitVec 32 := Scalar.muli v70 c1_i32_10113
  let v9735 : BitVec 32 := Scalar.addi c0_i32_10114 v9734
  v9735.toNat
def k0_dev401 (d4 : Dev nD) : Nat :=
  let c0_i32_10155 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_10154 : BitVec 32 := 1#32
  let v9765 : BitVec 32 := Scalar.muli v70 c1_i32_10154
  let v9766 : BitVec 32 := Scalar.addi c0_i32_10155 v9765
  v9766.toNat
def k0_dev402 (d4 : Dev nD) : Nat :=
  let c0_i32_10169 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_10168 : BitVec 32 := 1#32
  let v9785 : BitVec 32 := Scalar.muli v69 c1_i32_10168
  let v9786 : BitVec 32 := Scalar.addi c0_i32_10169 v9785
  v9786.toNat
def k0_dev403 (d4 : Dev nD) : Nat :=
  let c0_i32_10211 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_10210 : BitVec 32 := 1#32
  let v9817 : BitVec 32 := Scalar.muli v69 c1_i32_10210
  let v9818 : BitVec 32 := Scalar.addi c0_i32_10211 v9817
  v9818.toNat
def k0_dev404 (d4 : Dev nD) : Nat :=
  let c0_i32_10224 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_10223 : BitVec 32 := 1#32
  let v9836 : BitVec 32 := Scalar.muli v70 c1_i32_10223
  let v9837 : BitVec 32 := Scalar.addi c0_i32_10224 v9836
  v9837.toNat
def k0_dev405 (d4 : Dev nD) : Nat :=
  let c0_i32_10265 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_10264 : BitVec 32 := 1#32
  let v9867 : BitVec 32 := Scalar.muli v70 c1_i32_10264
  let v9868 : BitVec 32 := Scalar.addi c0_i32_10265 v9867
  v9868.toNat
def k0_dev406 (d4 : Dev nD) : Nat :=
  let c0_i32_10279 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_10278 : BitVec 32 := 1#32
  let v9887 : BitVec 32 := Scalar.muli v69 c1_i32_10278
  let v9888 : BitVec 32 := Scalar.addi c0_i32_10279 v9887
  v9888.toNat
def k0_dev407 (d4 : Dev nD) : Nat :=
  let c0_i32_10321 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_10320 : BitVec 32 := 1#32
  let v9919 : BitVec 32 := Scalar.muli v69 c1_i32_10320
  let v9920 : BitVec 32 := Scalar.addi c0_i32_10321 v9919
  v9920.toNat
def k0_dev408 (d4 : Dev nD) : Nat :=
  let c0_i32_10334 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_10333 : BitVec 32 := 1#32
  let v9938 : BitVec 32 := Scalar.muli v70 c1_i32_10333
  let v9939 : BitVec 32 := Scalar.addi c0_i32_10334 v9938
  v9939.toNat
def k0_dev409 (d4 : Dev nD) : Nat :=
  let c0_i32_10375 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_10374 : BitVec 32 := 1#32
  let v9969 : BitVec 32 := Scalar.muli v70 c1_i32_10374
  let v9970 : BitVec 32 := Scalar.addi c0_i32_10375 v9969
  v9970.toNat
def k0_dev410 (d4 : Dev nD) : Nat :=
  let c0_i32_10389 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_10388 : BitVec 32 := 1#32
  let v9989 : BitVec 32 := Scalar.muli v69 c1_i32_10388
  let v9990 : BitVec 32 := Scalar.addi c0_i32_10389 v9989
  v9990.toNat
def k0_dev411 (d4 : Dev nD) : Nat :=
  let c0_i32_10445 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_10444 : BitVec 32 := 1#32
  let v10043 : BitVec 32 := Scalar.muli v69 c1_i32_10444
  let v10044 : BitVec 32 := Scalar.addi c0_i32_10445 v10043
  v10044.toNat
def k0_dev412 (d4 : Dev nD) : Nat :=
  let c0_i32_10458 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_10457 : BitVec 32 := 1#32
  let v10062 : BitVec 32 := Scalar.muli v70 c1_i32_10457
  let v10063 : BitVec 32 := Scalar.addi c0_i32_10458 v10062
  v10063.toNat
def k0_dev413 (d4 : Dev nD) : Nat :=
  let c0_i32_10499 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_10498 : BitVec 32 := 1#32
  let v10093 : BitVec 32 := Scalar.muli v70 c1_i32_10498
  let v10094 : BitVec 32 := Scalar.addi c0_i32_10499 v10093
  v10094.toNat
def k0_dev414 (d4 : Dev nD) : Nat :=
  let c0_i32_10513 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_10512 : BitVec 32 := 1#32
  let v10113 : BitVec 32 := Scalar.muli v69 c1_i32_10512
  let v10114 : BitVec 32 := Scalar.addi c0_i32_10513 v10113
  v10114.toNat
def k0_dev415 (d4 : Dev nD) : Nat :=
  let c0_i32_10555 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_10554 : BitVec 32 := 1#32
  let v10145 : BitVec 32 := Scalar.muli v69 c1_i32_10554
  let v10146 : BitVec 32 := Scalar.addi c0_i32_10555 v10145
  v10146.toNat
def k0_dev416 (d4 : Dev nD) : Nat :=
  let c0_i32_10568 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_10567 : BitVec 32 := 1#32
  let v10164 : BitVec 32 := Scalar.muli v70 c1_i32_10567
  let v10165 : BitVec 32 := Scalar.addi c0_i32_10568 v10164
  v10165.toNat
def k0_dev417 (d4 : Dev nD) : Nat :=
  let c0_i32_10609 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_10608 : BitVec 32 := 1#32
  let v10195 : BitVec 32 := Scalar.muli v70 c1_i32_10608
  let v10196 : BitVec 32 := Scalar.addi c0_i32_10609 v10195
  v10196.toNat
def k0_dev418 (d4 : Dev nD) : Nat :=
  let c0_i32_10623 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_10622 : BitVec 32 := 1#32
  let v10215 : BitVec 32 := Scalar.muli v69 c1_i32_10622
  let v10216 : BitVec 32 := Scalar.addi c0_i32_10623 v10215
  v10216.toNat
def k0_dev419 (d4 : Dev nD) : Nat :=
  let c0_i32_10665 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_10664 : BitVec 32 := 1#32
  let v10247 : BitVec 32 := Scalar.muli v69 c1_i32_10664
  let v10248 : BitVec 32 := Scalar.addi c0_i32_10665 v10247
  v10248.toNat
def k0_dev420 (d4 : Dev nD) : Nat :=
  let c0_i32_10678 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_10677 : BitVec 32 := 1#32
  let v10266 : BitVec 32 := Scalar.muli v70 c1_i32_10677
  let v10267 : BitVec 32 := Scalar.addi c0_i32_10678 v10266
  v10267.toNat
def k0_dev421 (d4 : Dev nD) : Nat :=
  let c0_i32_10719 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_10718 : BitVec 32 := 1#32
  let v10297 : BitVec 32 := Scalar.muli v70 c1_i32_10718
  let v10298 : BitVec 32 := Scalar.addi c0_i32_10719 v10297
  v10298.toNat
def k0_dev422 (d4 : Dev nD) : Nat :=
  let c0_i32_10733 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_10732 : BitVec 32 := 1#32
  let v10317 : BitVec 32 := Scalar.muli v69 c1_i32_10732
  let v10318 : BitVec 32 := Scalar.addi c0_i32_10733 v10317
  v10318.toNat
def k0_dev423 (d4 : Dev nD) : Nat :=
  let c0_i32_10775 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_10774 : BitVec 32 := 1#32
  let v10349 : BitVec 32 := Scalar.muli v69 c1_i32_10774
  let v10350 : BitVec 32 := Scalar.addi c0_i32_10775 v10349
  v10350.toNat
def k0_dev424 (d4 : Dev nD) : Nat :=
  let c0_i32_10788 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_10787 : BitVec 32 := 1#32
  let v10368 : BitVec 32 := Scalar.muli v70 c1_i32_10787
  let v10369 : BitVec 32 := Scalar.addi c0_i32_10788 v10368
  v10369.toNat
def k0_dev425 (d4 : Dev nD) : Nat :=
  let c0_i32_10829 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_10828 : BitVec 32 := 1#32
  let v10399 : BitVec 32 := Scalar.muli v70 c1_i32_10828
  let v10400 : BitVec 32 := Scalar.addi c0_i32_10829 v10399
  v10400.toNat
def k0_dev426 (d4 : Dev nD) : Nat :=
  let c0_i32_10843 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_10842 : BitVec 32 := 1#32
  let v10419 : BitVec 32 := Scalar.muli v69 c1_i32_10842
  let v10420 : BitVec 32 := Scalar.addi c0_i32_10843 v10419
  v10420.toNat
def k0_dev427 (d4 : Dev nD) : Nat :=
  let c0_i32_10899 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_10898 : BitVec 32 := 1#32
  let v10473 : BitVec 32 := Scalar.muli v69 c1_i32_10898
  let v10474 : BitVec 32 := Scalar.addi c0_i32_10899 v10473
  v10474.toNat
def k0_dev428 (d4 : Dev nD) : Nat :=
  let c0_i32_10912 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_10911 : BitVec 32 := 1#32
  let v10492 : BitVec 32 := Scalar.muli v70 c1_i32_10911
  let v10493 : BitVec 32 := Scalar.addi c0_i32_10912 v10492
  v10493.toNat
def k0_dev429 (d4 : Dev nD) : Nat :=
  let c0_i32_10953 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_10952 : BitVec 32 := 1#32
  let v10523 : BitVec 32 := Scalar.muli v70 c1_i32_10952
  let v10524 : BitVec 32 := Scalar.addi c0_i32_10953 v10523
  v10524.toNat
def k0_dev430 (d4 : Dev nD) : Nat :=
  let c0_i32_10967 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_10966 : BitVec 32 := 1#32
  let v10543 : BitVec 32 := Scalar.muli v69 c1_i32_10966
  let v10544 : BitVec 32 := Scalar.addi c0_i32_10967 v10543
  v10544.toNat
def k0_dev431 (d4 : Dev nD) : Nat :=
  let c0_i32_11009 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_11008 : BitVec 32 := 1#32
  let v10575 : BitVec 32 := Scalar.muli v69 c1_i32_11008
  let v10576 : BitVec 32 := Scalar.addi c0_i32_11009 v10575
  v10576.toNat
def k0_dev432 (d4 : Dev nD) : Nat :=
  let c0_i32_11022 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_11021 : BitVec 32 := 1#32
  let v10594 : BitVec 32 := Scalar.muli v70 c1_i32_11021
  let v10595 : BitVec 32 := Scalar.addi c0_i32_11022 v10594
  v10595.toNat
def k0_dev433 (d4 : Dev nD) : Nat :=
  let c0_i32_11063 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_11062 : BitVec 32 := 1#32
  let v10625 : BitVec 32 := Scalar.muli v70 c1_i32_11062
  let v10626 : BitVec 32 := Scalar.addi c0_i32_11063 v10625
  v10626.toNat
def k0_dev434 (d4 : Dev nD) : Nat :=
  let c0_i32_11077 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_11076 : BitVec 32 := 1#32
  let v10645 : BitVec 32 := Scalar.muli v69 c1_i32_11076
  let v10646 : BitVec 32 := Scalar.addi c0_i32_11077 v10645
  v10646.toNat
def k0_dev435 (d4 : Dev nD) : Nat :=
  let c0_i32_11119 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_11118 : BitVec 32 := 1#32
  let v10677 : BitVec 32 := Scalar.muli v69 c1_i32_11118
  let v10678 : BitVec 32 := Scalar.addi c0_i32_11119 v10677
  v10678.toNat
def k0_dev436 (d4 : Dev nD) : Nat :=
  let c0_i32_11132 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_11131 : BitVec 32 := 1#32
  let v10696 : BitVec 32 := Scalar.muli v70 c1_i32_11131
  let v10697 : BitVec 32 := Scalar.addi c0_i32_11132 v10696
  v10697.toNat
def k0_dev437 (d4 : Dev nD) : Nat :=
  let c0_i32_11173 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_11172 : BitVec 32 := 1#32
  let v10727 : BitVec 32 := Scalar.muli v70 c1_i32_11172
  let v10728 : BitVec 32 := Scalar.addi c0_i32_11173 v10727
  v10728.toNat
def k0_dev438 (d4 : Dev nD) : Nat :=
  let c0_i32_11187 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_11186 : BitVec 32 := 1#32
  let v10747 : BitVec 32 := Scalar.muli v69 c1_i32_11186
  let v10748 : BitVec 32 := Scalar.addi c0_i32_11187 v10747
  v10748.toNat
def k0_dev439 (d4 : Dev nD) : Nat :=
  let c0_i32_11229 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_11228 : BitVec 32 := 1#32
  let v10779 : BitVec 32 := Scalar.muli v69 c1_i32_11228
  let v10780 : BitVec 32 := Scalar.addi c0_i32_11229 v10779
  v10780.toNat
def k0_dev440 (d4 : Dev nD) : Nat :=
  let c0_i32_11242 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_11241 : BitVec 32 := 1#32
  let v10798 : BitVec 32 := Scalar.muli v70 c1_i32_11241
  let v10799 : BitVec 32 := Scalar.addi c0_i32_11242 v10798
  v10799.toNat
def k0_dev441 (d4 : Dev nD) : Nat :=
  let c0_i32_11283 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_11282 : BitVec 32 := 1#32
  let v10829 : BitVec 32 := Scalar.muli v70 c1_i32_11282
  let v10830 : BitVec 32 := Scalar.addi c0_i32_11283 v10829
  v10830.toNat
def k0_dev442 (d4 : Dev nD) : Nat :=
  let c0_i32_11297 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_11296 : BitVec 32 := 1#32
  let v10849 : BitVec 32 := Scalar.muli v69 c1_i32_11296
  let v10850 : BitVec 32 := Scalar.addi c0_i32_11297 v10849
  v10850.toNat
def k0_dev443 (d4 : Dev nD) : Nat :=
  let c0_i32_11353 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_11352 : BitVec 32 := 1#32
  let v10903 : BitVec 32 := Scalar.muli v69 c1_i32_11352
  let v10904 : BitVec 32 := Scalar.addi c0_i32_11353 v10903
  v10904.toNat
def k0_dev444 (d4 : Dev nD) : Nat :=
  let c0_i32_11366 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_11365 : BitVec 32 := 1#32
  let v10922 : BitVec 32 := Scalar.muli v70 c1_i32_11365
  let v10923 : BitVec 32 := Scalar.addi c0_i32_11366 v10922
  v10923.toNat
def k0_dev445 (d4 : Dev nD) : Nat :=
  let c0_i32_11407 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_11406 : BitVec 32 := 1#32
  let v10953 : BitVec 32 := Scalar.muli v70 c1_i32_11406
  let v10954 : BitVec 32 := Scalar.addi c0_i32_11407 v10953
  v10954.toNat
def k0_dev446 (d4 : Dev nD) : Nat :=
  let c0_i32_11421 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_11420 : BitVec 32 := 1#32
  let v10973 : BitVec 32 := Scalar.muli v69 c1_i32_11420
  let v10974 : BitVec 32 := Scalar.addi c0_i32_11421 v10973
  v10974.toNat
def k0_dev447 (d4 : Dev nD) : Nat :=
  let c0_i32_11463 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_11462 : BitVec 32 := 1#32
  let v11005 : BitVec 32 := Scalar.muli v69 c1_i32_11462
  let v11006 : BitVec 32 := Scalar.addi c0_i32_11463 v11005
  v11006.toNat
def k0_dev448 (d4 : Dev nD) : Nat :=
  let c0_i32_11476 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_11475 : BitVec 32 := 1#32
  let v11024 : BitVec 32 := Scalar.muli v70 c1_i32_11475
  let v11025 : BitVec 32 := Scalar.addi c0_i32_11476 v11024
  v11025.toNat
def k0_dev449 (d4 : Dev nD) : Nat :=
  let c0_i32_11517 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_11516 : BitVec 32 := 1#32
  let v11055 : BitVec 32 := Scalar.muli v70 c1_i32_11516
  let v11056 : BitVec 32 := Scalar.addi c0_i32_11517 v11055
  v11056.toNat
def k0_dev450 (d4 : Dev nD) : Nat :=
  let c0_i32_11531 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_11530 : BitVec 32 := 1#32
  let v11075 : BitVec 32 := Scalar.muli v69 c1_i32_11530
  let v11076 : BitVec 32 := Scalar.addi c0_i32_11531 v11075
  v11076.toNat
def k0_dev451 (d4 : Dev nD) : Nat :=
  let c0_i32_11573 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_11572 : BitVec 32 := 1#32
  let v11107 : BitVec 32 := Scalar.muli v69 c1_i32_11572
  let v11108 : BitVec 32 := Scalar.addi c0_i32_11573 v11107
  v11108.toNat
def k0_dev452 (d4 : Dev nD) : Nat :=
  let c0_i32_11586 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_11585 : BitVec 32 := 1#32
  let v11126 : BitVec 32 := Scalar.muli v70 c1_i32_11585
  let v11127 : BitVec 32 := Scalar.addi c0_i32_11586 v11126
  v11127.toNat
def k0_dev453 (d4 : Dev nD) : Nat :=
  let c0_i32_11627 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_11626 : BitVec 32 := 1#32
  let v11157 : BitVec 32 := Scalar.muli v70 c1_i32_11626
  let v11158 : BitVec 32 := Scalar.addi c0_i32_11627 v11157
  v11158.toNat
def k0_dev454 (d4 : Dev nD) : Nat :=
  let c0_i32_11641 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_11640 : BitVec 32 := 1#32
  let v11177 : BitVec 32 := Scalar.muli v69 c1_i32_11640
  let v11178 : BitVec 32 := Scalar.addi c0_i32_11641 v11177
  v11178.toNat
def k0_dev455 (d4 : Dev nD) : Nat :=
  let c0_i32_11683 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_11682 : BitVec 32 := 1#32
  let v11209 : BitVec 32 := Scalar.muli v69 c1_i32_11682
  let v11210 : BitVec 32 := Scalar.addi c0_i32_11683 v11209
  v11210.toNat
def k0_dev456 (d4 : Dev nD) : Nat :=
  let c0_i32_11696 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_11695 : BitVec 32 := 1#32
  let v11228 : BitVec 32 := Scalar.muli v70 c1_i32_11695
  let v11229 : BitVec 32 := Scalar.addi c0_i32_11696 v11228
  v11229.toNat
def k0_dev457 (d4 : Dev nD) : Nat :=
  let c0_i32_11737 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_11736 : BitVec 32 := 1#32
  let v11259 : BitVec 32 := Scalar.muli v70 c1_i32_11736
  let v11260 : BitVec 32 := Scalar.addi c0_i32_11737 v11259
  v11260.toNat
def k0_dev458 (d4 : Dev nD) : Nat :=
  let c0_i32_11751 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_11750 : BitVec 32 := 1#32
  let v11279 : BitVec 32 := Scalar.muli v69 c1_i32_11750
  let v11280 : BitVec 32 := Scalar.addi c0_i32_11751 v11279
  v11280.toNat
def k0_dev459 (d4 : Dev nD) : Nat :=
  let c0_i32_11807 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_11806 : BitVec 32 := 1#32
  let v11333 : BitVec 32 := Scalar.muli v69 c1_i32_11806
  let v11334 : BitVec 32 := Scalar.addi c0_i32_11807 v11333
  v11334.toNat
def k0_dev460 (d4 : Dev nD) : Nat :=
  let c0_i32_11858 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_11857 : BitVec 32 := 1#32
  let v11381 : BitVec 32 := Scalar.muli v70 c1_i32_11857
  let v11382 : BitVec 32 := Scalar.addi c0_i32_11858 v11381
  v11382.toNat
def k0_dev461 (d4 : Dev nD) : Nat :=
  let c0_i32_11911 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_11910 : BitVec 32 := 1#32
  let v11431 : BitVec 32 := Scalar.muli v69 c1_i32_11910
  let v11432 : BitVec 32 := Scalar.addi c0_i32_11911 v11431
  v11432.toNat
def k0_dev462 (d4 : Dev nD) : Nat :=
  let c0_i32_11962 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_11961 : BitVec 32 := 1#32
  let v11479 : BitVec 32 := Scalar.muli v70 c1_i32_11961
  let v11480 : BitVec 32 := Scalar.addi c0_i32_11962 v11479
  v11480.toNat
def k0_dev463 (d4 : Dev nD) : Nat :=
  let c0_i32_12015 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_12014 : BitVec 32 := 1#32
  let v11529 : BitVec 32 := Scalar.muli v69 c1_i32_12014
  let v11530 : BitVec 32 := Scalar.addi c0_i32_12015 v11529
  v11530.toNat
def k0_dev464 (d4 : Dev nD) : Nat :=
  let c0_i32_12066 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_12065 : BitVec 32 := 1#32
  let v11577 : BitVec 32 := Scalar.muli v70 c1_i32_12065
  let v11578 : BitVec 32 := Scalar.addi c0_i32_12066 v11577
  v11578.toNat
def k0_dev465 (d4 : Dev nD) : Nat :=
  let c0_i32_12119 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_12118 : BitVec 32 := 1#32
  let v11627 : BitVec 32 := Scalar.muli v69 c1_i32_12118
  let v11628 : BitVec 32 := Scalar.addi c0_i32_12119 v11627
  v11628.toNat
def k0_dev466 (d4 : Dev nD) : Nat :=
  let c0_i32_12170 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_12169 : BitVec 32 := 1#32
  let v11675 : BitVec 32 := Scalar.muli v70 c1_i32_12169
  let v11676 : BitVec 32 := Scalar.addi c0_i32_12170 v11675
  v11676.toNat
def k0_dev467 (d4 : Dev nD) : Nat :=
  let c0_i32_12575_r0 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c5_i32_53 : BitVec 32 := 5#32
  let c5_i32_46 : BitVec 32 := 5#32
  let v63 : BitVec 1 := Scalar.cmpi .eq v6 c5_i32_46
  let c9_i32_49 : BitVec 32 := 9#32
  let c9_i32_42 : BitVec 32 := 9#32
  let v59 : BitVec 1 := Scalar.cmpi .eq v6 c9_i32_42
  let c13_i32_45 : BitVec 32 := 13#32
  let c13_i32_38 : BitVec 32 := 13#32
  let v55 : BitVec 1 := Scalar.cmpi .eq v6 c13_i32_38
  let c14_i32_41 : BitVec 32 := 14#32
  let c14_i32_35 : BitVec 32 := 14#32
  let v51 : BitVec 1 := Scalar.cmpi .eq v6 c14_i32_35
  let c10_i32_37 : BitVec 32 := 10#32
  let c10_i32_32 : BitVec 32 := 10#32
  let v47 : BitVec 1 := Scalar.cmpi .eq v6 c10_i32_32
  let c6_i32_34 : BitVec 32 := 6#32
  let c6_i32_30 : BitVec 32 := 6#32
  let v43 : BitVec 1 := Scalar.cmpi .eq v6 c6_i32_30
  let c2_i32_31 : BitVec 32 := 2#32
  let c2_i32_26 : BitVec 32 := 2#32
  let v39 : BitVec 1 := Scalar.cmpi .eq v6 c2_i32_26
  let c3_i32_29 : BitVec 32 := 3#32
  let c3_i32_22 : BitVec 32 := 3#32
  let v35 : BitVec 1 := Scalar.cmpi .eq v6 c3_i32_22
  let c7_i32_25 : BitVec 32 := 7#32
  let c7_i32_19 : BitVec 32 := 7#32
  let v31 : BitVec 1 := Scalar.cmpi .eq v6 c7_i32_19
  let c11_i32_21 : BitVec 32 := 11#32
  let c11_i32_17 : BitVec 32 := 11#32
  let v27 : BitVec 1 := Scalar.cmpi .eq v6 c11_i32_17
  let c15_i32_18 : BitVec 32 := 15#32
  let c15_i32_14 : BitVec 32 := 15#32
  let v23 : BitVec 1 := Scalar.cmpi .eq v6 c15_i32_14
  let c12_i32_16 : BitVec 32 := 12#32
  let c12_i32_12 : BitVec 32 := 12#32
  let v19 : BitVec 1 := Scalar.cmpi .eq v6 c12_i32_12
  let c8_i32_13 : BitVec 32 := 8#32
  let c8_i32_10 : BitVec 32 := 8#32
  let v15 : BitVec 1 := Scalar.cmpi .eq v6 c8_i32_10
  let c4_i32_11 : BitVec 32 := 4#32
  let c4_i32_7 : BitVec 32 := 4#32
  let v11 : BitVec 1 := Scalar.cmpi .eq v6 c4_i32_7
  let c0_i32_9 : BitVec 32 := 0#32
  let c0_i32_1 : BitVec 32 := 0#32
  let v7 : BitVec 1 := Scalar.cmpi .eq v6 c0_i32_1
  let c1_i32_5 : BitVec 32 := 1#32
  let c0_i32_6 : BitVec 32 := 0#32
  let v10 : BitVec 32 := Scalar.select v7 c1_i32_5 c0_i32_6
  let v14 : BitVec 32 := Scalar.select v11 c0_i32_9 v10
  let v18 : BitVec 32 := Scalar.select v15 c4_i32_11 v14
  let v22 : BitVec 32 := Scalar.select v19 c8_i32_13 v18
  let v26 : BitVec 32 := Scalar.select v23 c12_i32_16 v22
  let v30 : BitVec 32 := Scalar.select v27 c15_i32_18 v26
  let v34 : BitVec 32 := Scalar.select v31 c11_i32_21 v30
  let v38 : BitVec 32 := Scalar.select v35 c7_i32_25 v34
  let v42 : BitVec 32 := Scalar.select v39 c3_i32_29 v38
  let v46 : BitVec 32 := Scalar.select v43 c2_i32_31 v42
  let v50 : BitVec 32 := Scalar.select v47 c6_i32_34 v46
  let v54 : BitVec 32 := Scalar.select v51 c10_i32_37 v50
  let v58 : BitVec 32 := Scalar.select v55 c14_i32_41 v54
  let v62 : BitVec 32 := Scalar.select v59 c13_i32_45 v58
  let v66 : BitVec 32 := Scalar.select v63 c9_i32_49 v62
  let v70 : BitVec 32 := Scalar.select v67 c5_i32_53 v66
  let c1_i32_12574_r0 : BitVec 32 := 1#32
  let v12081_r0 : BitVec 32 := Scalar.muli v70 c1_i32_12574_r0
  let v12082_r0 : BitVec 32 := Scalar.addi c0_i32_12575_r0 v12081_r0
  v12082_r0.toNat
def k0_dev468 (d4 : Dev nD) : Nat :=
  let c0_i32_12578_r0 : BitVec 32 := 0#32
  let v4 : BitVec 32 := Dev.word d4
  let c1_i32_0 : BitVec 32 := 1#32
  let v5 : BitVec 32 := Scalar.divsi v4 c1_i32_0
  let c16_i32 : BitVec 32 := 16#32
  let v6 : BitVec 32 := Scalar.remsi v5 c16_i32
  let c1_i32_50 : BitVec 32 := 1#32
  let v67 : BitVec 1 := Scalar.cmpi .eq v6 c1_i32_50
  let c0_i32_52 : BitVec 32 := 0#32
  let c5_i32_46 : BitVec 32 := 5#32
  let v63 : BitVec 1 := Scalar.cmpi .eq v6 c5_i32_46
  let c1_i32_48 : BitVec 32 := 1#32
  let c9_i32_42 : BitVec 32 := 9#32
  let v59 : BitVec 1 := Scalar.cmpi .eq v6 c9_i32_42
  let c5_i32_44 : BitVec 32 := 5#32
  let c13_i32_38 : BitVec 32 := 13#32
  let v55 : BitVec 1 := Scalar.cmpi .eq v6 c13_i32_38
  let c9_i32_40 : BitVec 32 := 9#32
  let c14_i32_35 : BitVec 32 := 14#32
  let v51 : BitVec 1 := Scalar.cmpi .eq v6 c14_i32_35
  let c13_i32 : BitVec 32 := 13#32
  let c10_i32_32 : BitVec 32 := 10#32
  let v47 : BitVec 1 := Scalar.cmpi .eq v6 c10_i32_32
  let c14_i32 : BitVec 32 := 14#32
  let c6_i32_30 : BitVec 32 := 6#32
  let v43 : BitVec 1 := Scalar.cmpi .eq v6 c6_i32_30
  let c10_i32 : BitVec 32 := 10#32
  let c2_i32_26 : BitVec 32 := 2#32
  let v39 : BitVec 1 := Scalar.cmpi .eq v6 c2_i32_26
  let c6_i32_28 : BitVec 32 := 6#32
  let c3_i32_22 : BitVec 32 := 3#32
  let v35 : BitVec 1 := Scalar.cmpi .eq v6 c3_i32_22
  let c2_i32_24 : BitVec 32 := 2#32
  let c7_i32_19 : BitVec 32 := 7#32
  let v31 : BitVec 1 := Scalar.cmpi .eq v6 c7_i32_19
  let c3_i32_20 : BitVec 32 := 3#32
  let c11_i32_17 : BitVec 32 := 11#32
  let v27 : BitVec 1 := Scalar.cmpi .eq v6 c11_i32_17
  let c7_i32 : BitVec 32 := 7#32
  let c15_i32_14 : BitVec 32 := 15#32
  let v23 : BitVec 1 := Scalar.cmpi .eq v6 c15_i32_14
  let c11_i32 : BitVec 32 := 11#32
  let c12_i32_12 : BitVec 32 := 12#32
  let v19 : BitVec 1 := Scalar.cmpi .eq v6 c12_i32_12
  let c15_i32 : BitVec 32 := 15#32
  let c8_i32_10 : BitVec 32 := 8#32
  let v15 : BitVec 1 := Scalar.cmpi .eq v6 c8_i32_10
  let c12_i32 : BitVec 32 := 12#32
  let c4_i32_7 : BitVec 32 := 4#32
  let v11 : BitVec 1 := Scalar.cmpi .eq v6 c4_i32_7
  let c8_i32 : BitVec 32 := 8#32
  let c0_i32_1 : BitVec 32 := 0#32
  let v7 : BitVec 1 := Scalar.cmpi .eq v6 c0_i32_1
  let c4_i32 : BitVec 32 := 4#32
  let c0_i32_4 : BitVec 32 := 0#32
  let v9 : BitVec 32 := Scalar.select v7 c4_i32 c0_i32_4
  let v13 : BitVec 32 := Scalar.select v11 c8_i32 v9
  let v17 : BitVec 32 := Scalar.select v15 c12_i32 v13
  let v21 : BitVec 32 := Scalar.select v19 c15_i32 v17
  let v25 : BitVec 32 := Scalar.select v23 c11_i32 v21
  let v29 : BitVec 32 := Scalar.select v27 c7_i32 v25
  let v33 : BitVec 32 := Scalar.select v31 c3_i32_20 v29
  let v37 : BitVec 32 := Scalar.select v35 c2_i32_24 v33
  let v41 : BitVec 32 := Scalar.select v39 c6_i32_28 v37
  let v45 : BitVec 32 := Scalar.select v43 c10_i32 v41
  let v49 : BitVec 32 := Scalar.select v47 c14_i32 v45
  let v53 : BitVec 32 := Scalar.select v51 c13_i32 v49
  let v57 : BitVec 32 := Scalar.select v55 c9_i32_40 v53
  let v61 : BitVec 32 := Scalar.select v59 c5_i32_44 v57
  let v65 : BitVec 32 := Scalar.select v63 c1_i32_48 v61
  let v69 : BitVec 32 := Scalar.select v67 c0_i32_52 v65
  let c1_i32_12577_r0 : BitVec 32 := 1#32
  let v12083_r0 : BitVec 32 := Scalar.muli v69 c1_i32_12577_r0
  let v12084_r0 : BitVec 32 := Scalar.addi c0_i32_12578_r0 v12083_r0
  v12084_r0.toNat
-- ==== ReferenceIdeal.lean ====
abbrev S2048x16384 : Shape := ⟨2, ![2048, 16384]⟩
abbrev S16384x2048 : Shape := ⟨2, ![16384, 2048]⟩
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S16384x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Steps.lean ====
module
public import proofs.«01_k».proof.Proof.Gen.KernelIdeal.Points

@[expose] public section

noncomputable section

namespace Cert.KernelIdeal.Ring

open Idealize.ShloMosaic Idealize.SL.Sem Cert.KernelIdeal Cert.KernelIdeal.Gen

variable {F : FTy → Type} [FloatOps F]

/-- Programs of the kernel's body that return nothing. -/
abbrev PR (F : FTy → Type) [FloatOps F] : Type 1 := Prog (TpuEff nD τ sig (Elt F) Λ₀ .tc) PUnit

/-! ## The buffers of the two directions: `true` travels to the right neighbour, `false` to the left -/

abbrev aM : Memref sig .tc .hbm S2048x1024 .f32 := Memref.whole main_arg0
abbrev bM : Memref sig .tc .hbm S1024x2048 .f32 := Memref.whole main_arg1
abbrev oM : Memref sig .tc .hbm S2048x2048 .f32 := Memref.whole main_v1
abbrev aV : Memref sig .tc .vmem S2048x1024 .f32 := Memref.whole cc0_scratch0
abbrev bV : Memref sig .tc .vmem S1024x2048 .f32 := Memref.whole cc0_scratch1
abbrev accV : Memref sig .tc .vmem S2048x2048 .f32 := Memref.whole cc0_scratch2
abbrev b16V : Memref sig .tc .vmem S1024x2048 .bf16 := Memref.whole cc0_scratch3

/-- The buffers a direction's messages leave from. -/
abbrev sbRef : Bool → Ref sig .tc | true => cc0_scratch4 | false => cc0_scratch6
/-- The buffers a direction's messages arrive in. -/
abbrev rbRef : Bool → Ref sig .tc | true => cc0_scratch5 | false => cc0_scratch7

abbrev sbM : Bool → Memref sig .tc .vmem S8x16x2048 .bf16
  | true => Memref.whole cc0_scratch4 | false => Memref.whole cc0_scratch6
abbrev rbM : Bool → Memref sig .tc .vmem S8x16x2048 .bf16
  | true => Memref.whole cc0_scratch5 | false => Memref.whole cc0_scratch7
abbrev sendA : Bool → DmaSems sig S8 | true => cc0_scratch8 | false => cc0_scratch10
abbrev recvA : Bool → DmaSems sig S8 | true => cc0_scratch9 | false => cc0_scratch11
abbrev creditA : Bool → Sems sig S_ | true => cc0_scratch12 | false => cc0_scratch13

/-- A sending buffer is a whole buffer, -/
theorem sb_whole (X : Bool) : (sbM X).IsWhole := by cases X <;> exact Memref.isWhole_whole _
/-- and so is an arrival buffer. -/
theorem rb_whole (X : Bool) : (rbM X).IsWhole := by cases X <;> exact Memref.isWhole_whole _

/-- One slot of a message buffer. -/
theorem slot_inb (k : Fin 8) : ∀ a, (![k.val, 0, 0] : Fin 3 → Nat) a + S1x16x2048.size a ≤ S8x16x2048.size a := by
  revert k; decide
abbrev slotR (k : Fin 8) : Rect S8x16x2048 := Rect.unit (s := S8x16x2048) ![k.val, 0, 0] S1x16x2048.size (slot_inb k)
/-- A slot has whole packed rows -/
theorem slot_packed (k : Fin 8) : (slotR k).PackedRows (EltTy.packing .bf16) := by revert k; decide
/-- and whole words. -/
theorem slot_words (k : Fin 8) : (slotR k).WholeWords (EltTy.packing .bf16) := by revert k; decide

abbrev slotV (m : Memref sig .tc .vmem S8x16x2048 .bf16) (k : Fin 8) : Memref sig .tc .vmem S16x2048 .bf16 :=
  (m.slice (slotR k) (fun _ => rfl)).squeeze S16x2048 squeezes_S1x16x2048_S16x2048

/-- One of eight semaphores is among them, -/
theorem sem8_inb (k : Fin 8) : ∀ a, (![k.val] : Fin 1 → Nat) a + S1.size a ≤ S8.size a := by revert k; decide
/-- and one of two. -/
theorem sem2_inb (k : Fin 2) : ∀ a, (![k.val] : Fin 1 → Nat) a + S1.size a ≤ S2.size a := by revert k; decide
abbrev sem8 (A : DmaSems sig S8) (k : Fin 8) : DmaSem sig :=
  ((A.slice (Rect.unit (s := S8) ![k.val] S1.size (sem8_inb k))).squeeze S_ squeezes_S1_S_).sem
abbrev inSem (k : Fin 2) : DmaSem sig :=
  ((cc0_scratch14.slice (Rect.unit (s := S2) ![k.val] S1.size (sem2_inb k))).squeeze S_ squeezes_S1_S_).sem
abbrev outSem (k : Fin 8) : DmaSem sig := sem8 cc0_scratch15 k
abbrev barSem : Sem sig := (SemArray.scalar (sig.barrier 0 rfl) : Sems sig S_).sem
abbrev exitSem : Sem sig := (cc0_scoped0 : Sems sig S_).sem
abbrev creditSem (X : Bool) : Sem sig := (creditA X).sem

/-- The neighbours on the ring. -/
def rightOf (d : Dev nD) : Dev nD := ⟨k0_dev3 d, k0_dev3_lt d⟩
def leftOf (d : Dev nD) : Dev nD := ⟨k0_dev4 d, k0_dev4_lt d⟩
/-- Where a direction's messages go, and where they come from. -/
abbrev dstOf (X : Bool) (d : Dev nD) : Dev nD := match X with | true => rightOf d | false => leftOf d
abbrev srcOf (X : Bool) (d : Dev nD) : Dev nD := match X with | true => leftOf d | false => rightOf d

/-! ## Payloads -/

def b16Pay (v : Vec F S1024x2048 .f32) : FVec F S1024x2048 .bf16 :=
  shapeCast S1024x2048 (truncf .bf16 v bitsLt_bf16_f32) shapeCasts_S1024x2048_S1024x2048
def dotPay (a : Vec F S64x1024 .f32) (b : Vec F S1024x2048 .bf16) : FVec F S64x2048 .f32 :=
  shapeCast S64x2048 (matmul dot_S64x1024_S1024x2048_S64x2048_1_0_0_1_n_n none (truncf .bf16 a bitsLt_bf16_f32) b
    (constant S64x2048 .f32 0x00000000#32)) shapeCasts_S64x2048_S64x2048
def cutPay (v : Vec F S16x2048 .f32) : FVec F S1x16x2048 .bf16 :=
  shapeCast S1x16x2048 (truncf .bf16 v bitsLt_bf16_f32) shapeCasts_S16x2048_S1x16x2048
/-- What a row block becomes once the arrived partial sum is added. -/
def sumPay (v : Vec F S16x2048 .f32) (r : Vec F S1x16x2048 .bf16) : FVec F S16x2048 .f32 :=
  addf v (extf .f32 (shapeCast S16x2048 r shapeCasts_S1x16x2048_S16x2048) bitsLt_bf16_f32)
def geluPay (x : FVec F S16x2048 .f32) : FVec F S16x2048 .f32 :=
  shapeCast S16x2048 (mulf (mulf (broadcast S16x2048 (Scalar.ofBits .f32 0x3F000000#32)) x)
    (addf (broadcast S16x2048 (Scalar.ofBits .f32 0x3F800000#32))
      (tanh (mulf (broadcast S16x2048 (Scalar.ofBits .f32 0x3F4C422A#32))
        (addf x (mulf (mulf (mulf (broadcast S16x2048 (Scalar.ofBits .f32 0x3D372713#32)) x) x) x))))))
    shapeCasts_S16x2048_S16x2048
def passPay (r : Vec F S1x16x2048 .bf16) : FVec F S1x16x2048 .bf16 :=
  shapeCast S1x16x2048 (shapeCast S16x2048 r shapeCasts_S1x16x2048_S16x2048 : FVec F S16x2048 .bf16) shapeCasts_S16x2048_S1x16x2048
def widePay (r : Vec F S1x16x2048 .bf16) : FVec F S16x2048 .f32 :=
  shapeCast S16x2048 (extf .f32 (shapeCast S16x2048 r shapeCasts_S1x16x2048_S16x2048 : FVec F S16x2048 .bf16) bitsLt_bf16_f32)
    shapeCasts_S16x2048_S16x2048

/-! ## The operations, each followed by what comes next -/

abbrev accR (off : Fin 2 → Nat) (h : ∀ a, off a + S16x2048.size a ≤ S2048x2048.size a) : Rect S2048x2048 :=
  Rect.unit (s := S2048x2048) off S16x2048.size h
abbrev rowsR (off : Fin 2 → Nat) (h : ∀ a, off a + S64x2048.size a ≤ S2048x2048.size a) : Rect S2048x2048 :=
  Rect.unit (s := S2048x2048) off S64x2048.size h
abbrev aR (off : Fin 2 → Nat) (h : ∀ a, off a + S64x1024.size a ≤ S2048x1024.size a) : Rect S2048x1024 :=
  Rect.unit (s := S2048x1024) off S64x1024.size h
abbrev b16R : Rect S1024x2048 := Rect.unit (s := S1024x2048) ![0, 0] S1024x2048.size inb_S1024x2048_S1024x2048_0_0

/-- Wait for one message of a direction. -/
def waitRecvK (X : Bool) (k : Fin 8) (K : PR F) : PR F :=
  .op (.waitDma2 (sem8 (recvA X) k) (slotV (sbM X) k) (slotV (rbM X) k)
    (((sb_whole X).wordExact_slice rfl _ (slot_words k)).reshape _ _) (((rb_whole X).wordExact_slice rfl _ (slot_words k)).reshape _ _)) fun _ => K
/-- Wait until one's own message has left. -/
def waitSendK (X : Bool) (k : Fin 8) (K : PR F) : PR F :=
  .op (.waitDma2 (sem8 (sendA X) k) (slotV (rbM X) k) (slotV (sbM X) k)
    (((rb_whole X).wordExact_slice rfl _ (slot_words k)).reshape _ _) (((sb_whole X).wordExact_slice rfl _ (slot_words k)).reshape _ _)) fun _ => K
/-- Before a slot is used again: its last message has left, and the reader has room. -/
def reuseK (X : Bool) (mm : ℕ) (k : Fin 8) (K : PR F) : PR F :=
  bif Nat.ble 8 mm then waitSendK X k (.op (.semWait (creditSem X) (1#32 : BitVec 32).toInt) fun _ => K) else K
/-- Put a payload into a slot and send it. -/
def sendK (X : Bool) (k : Fin 8) (d : Dev nD) (v : FVec F S1x16x2048 .bf16) (K : PR F) : PR F :=
  .op (.load (sbM X) (slotR k).toLoadRect (View.loadsAt_vmem h_S1x16x2048)) fun _ =>
  .op (.store (sbM X) (slotR k) v Finset.univ
    (View.stores_vmem h_S1x16x2048 ((sb_whole X).storeExact_slice rfl _ (slot_packed k)) (fun _ => rfl)) (.inl rfl)) fun _ =>
  .op (.enqueueDma (slotV (sbM X) k) (.remote (Dev.tc (dstOf X d)) (slotV (rbM X) k) (.dma (sem8 (sendA X) k))) (.dma (sem8 (recvA X) k))
    (((sb_whole X).wordExact_slice rfl _ (slot_words k)).reshape _ _) (((rb_whole X).wordExact_slice rfl _ (slot_words k)).reshape _ _)
    ⟨⟨rfl, Or.inl rfl⟩, trivial⟩) fun _ => K
/-- Tell the writer of a slot that it has been read, unless no message of its is to come. -/
def creditK (X : Bool) (mm : ℕ) (d : Dev nD) (K : PR F) : PR F :=
  bif Nat.blt mm 112 then .op (.semSignal (srcOf X d, .tc) (creditSem X) (1#32 : BitVec 32).toInt) fun _ => K else K

abbrev slotOf (mm : ℕ) : Fin 8 := ⟨mm % 8, Nat.mod_lt _ (by decide)⟩
abbrev sF (s : ℕ) : Fin 15 := ⟨s % 15, Nat.mod_lt _ (by decide)⟩
abbrev qF (q : ℕ) : Fin 4 := ⟨q % 4, Nat.mod_lt _ (by decide)⟩

/-- One product of a 64-row block, put at its rows of the accumulator. -/
def dotK (offa offc : Fin 2 → Nat) (ha : ∀ a, offa a + S64x1024.size a ≤ S2048x1024.size a)
    (hc : ∀ a, offc a + S64x2048.size a ≤ S2048x2048.size a) (K : PR F) : PR F :=
  .op (.load aV (aR offa ha).toLoadRect (View.loadsAt_vmem h_S64x1024)) fun (a : Vec F S64x1024 .f32) =>
  .op (.load b16V b16R.toLoadRect (View.loadsAt_vmem h_S1024x2048)) fun (b : Vec F S1024x2048 .bf16) =>
  .op (.load accV (rowsR offc hc).toLoadRect (View.loadsAt_vmem h_S64x2048)) fun _ =>
  .op (.store accV (rowsR offc hc) (dotPay a b) Finset.univ (View.stores_vmem_bits_univ h_S64x2048 rfl) (.inl rfl)) fun _ => K

def firstOff (X : Bool) (d : Dev nD) (q : Fin 4) : Fin 2 → Nat :=
  match X with | true => k0_off5 d (BitVec.ofNat 32 (16 * q.val)) | false => k0_off6 d (BitVec.ofNat 32 (16 * q.val))
/-- The rows of the first messages lie inside the array, -/
theorem firstOff_inb (X : Bool) (d : Dev nD) (q : Fin 4) : ∀ a, firstOff X d q a + S16x2048.size a ≤ S2048x2048.size a := by
  cases X; exacts [k0_off6_inb d q, k0_off5_inb d q]
def rsOff (X : Bool) (d : Dev nD) (s : Fin 15) (q : Fin 4) : Fin 2 → Nat :=
  match X with
  | true => k0_off11 d (BitVec.ofNat 32 s.val) (BitVec.ofNat 32 (16 * q.val))
  | false => k0_off12 d (BitVec.ofNat 32 s.val) (BitVec.ofNat 32 (16 * q.val))
/-- those of the later hops of the reduction, -/
theorem rsOff_inb (X : Bool) (d : Dev nD) (s : Fin 15) (q : Fin 4) : ∀ a, rsOff X d s q a + S16x2048.size a ≤ S2048x2048.size a := by
  cases X; exacts [k0_off12_inb d s q, k0_off11_inb d s q]
def ownOff (X : Bool) (d : Dev nD) : Fin 2 → Nat := match X with | true => k0_off13 d | false => k0_off14 d
/-- the rows that the device finishes, -/
theorem ownOff_inb (X : Bool) (d : Dev nD) : ∀ a, ownOff X d a + S64x2048.size a ≤ S2048x2048.size a := by
  cases X; exacts [k0_off14_inb d, k0_off13_inb d]
def agOff (X : Bool) (d : Dev nD) (s : Fin 15) (q : Fin 4) : Fin 2 → Nat :=
  match X with
  | true => k0_off15 d (BitVec.ofNat 32 s.val) (BitVec.ofNat 32 (16 * q.val))
  | false => k0_off17 d (BitVec.ofNat 32 s.val) (BitVec.ofNat 32 (16 * q.val))
/-- the rows that the gathering brings, -/
theorem agOff_inb (X : Bool) (d : Dev nD) (s : Fin 15) (q : Fin 4) : ∀ a, agOff X d s q a + S16x2048.size a ≤ S2048x2048.size a := by
  cases X; exacts [k0_off17_inb d s q, k0_off15_inb d s q]
def outOff (X : Bool) (d : Dev nD) (s : Fin 15) (q : Fin 4) : Fin 2 → Nat :=
  match X with
  | true => k0_off16 d (BitVec.ofNat 32 s.val) (BitVec.ofNat 32 (16 * q.val))
  | false => k0_off18 d (BitVec.ofNat 32 s.val) (BitVec.ofNat 32 (16 * q.val))
/-- and those that are copied out. -/
theorem outOff_inb (X : Bool) (d : Dev nD) (s : Fin 15) (q : Fin 4) : ∀ a, outOff X d s q a + S16x2048.size a ≤ S2048x2048.size a := by
  cases X; exacts [k0_off18_inb d s q, k0_off16_inb d s q]

/-- The first message of a row block. -/
def issueK (X : Bool) (mm : ℕ) (d : Dev nD) (off : Fin 2 → Nat)
    (h : ∀ a, off a + S16x2048.size a ≤ S2048x2048.size a) (K : PR F) : PR F :=
  .op (.load accV (accR off h).toLoadRect (View.loadsAt_vmem h_S16x2048)) fun (v : Vec F S16x2048 .f32) =>
  sendK X (slotOf mm) d (cutPay v) K

/-- One row block of a reduce-scatter step: receive, add, pass on. -/
def rsK (X : Bool) (mr : ℕ) (d : Dev nD) (off : Fin 2 → Nat)
    (h : ∀ a, off a + S16x2048.size a ≤ S2048x2048.size a) (K : PR F) : PR F :=
  waitRecvK X (slotOf mr) <|
  .op (.load accV (accR off h).toLoadRect (View.loadsAt_vmem h_S16x2048)) fun (v : Vec F S16x2048 .f32) =>
  .op (.load (rbM X) (slotR (slotOf mr)).toLoadRect (View.loadsAt_vmem h_S1x16x2048)) fun (r : Vec F S1x16x2048 .bf16) =>
  reuseK X (mr + 4) (slotOf (mr + 4)) <|
  sendK X (slotOf (mr + 4)) d (cutPay (sumPay v r)) <|
  creditK X mr d K

/-- The last reduce-scatter step: the finished rows stay, and their rounding starts the gathering. -/
def rsLastK (X : Bool) (mr : ℕ) (d : Dev nD) (off : Fin 2 → Nat)
    (h : ∀ a, off a + S16x2048.size a ≤ S2048x2048.size a) (K : PR F) : PR F :=
  waitRecvK X (slotOf mr) <|
  .op (.load accV (accR off h).toLoadRect (View.loadsAt_vmem h_S16x2048)) fun (v : Vec F S16x2048 .f32) =>
  .op (.load (rbM X) (slotR (slotOf mr)).toLoadRect (View.loadsAt_vmem h_S1x16x2048)) fun (r : Vec F S1x16x2048 .bf16) =>
  .op (.load accV (accR off h).toLoadRect (View.loadsAt_vmem h_S16x2048)) fun _ =>
  .op (.store accV (accR off h) (geluPay (sumPay v r)) Finset.univ (View.stores_vmem_bits_univ h_S16x2048 rfl) (.inl rfl)) fun _ =>
  .op (.load accV (accR off h).toLoadRect (View.loadsAt_vmem h_S16x2048)) fun (g : Vec F S16x2048 .f32) =>
  reuseK X (mr + 4) (slotOf (mr + 4)) <|
  sendK X (slotOf (mr + 4)) d (cutPay g) <|
  creditK X mr d K

/-- The device's own finished rows go to the result. -/
def ownK (k : Fin 8) (off : Fin 2 → Nat) (h : ∀ a, off a + S64x2048.size a ≤ S2048x2048.size a) (K : PR F) : PR F :=
  .op (.enqueueDma (accV.slice (rowsR off h) (fun _ => rfl)) (.here (oM.slice (rowsR off h) (fun _ => rfl))) (.dma (outSem k))
    (View.wordExact_bits rfl) (View.wordExact_bits rfl) ⟨Or.inl rfl, trivial⟩) fun _ => K

def waitOutK (k : Fin 8) (off : Fin 2 → Nat) (h : ∀ a, off a + S16x2048.size a ≤ S2048x2048.size a) (K : PR F) : PR F :=
  .op (.waitDma2 (outSem k) (accV.slice (accR off h) (fun _ => rfl)) (oM.slice (accR off h) (fun _ => rfl))
    (View.wordExact_bits rfl) (View.wordExact_bits rfl)) fun _ => K
def waitOwnK (k : Fin 8) (off : Fin 2 → Nat) (h : ∀ a, off a + S64x2048.size a ≤ S2048x2048.size a) (K : PR F) : PR F :=
  .op (.waitDma2 (outSem k) (accV.slice (rowsR off h) (fun _ => rfl)) (oM.slice (rowsR off h) (fun _ => rfl))
    (View.wordExact_bits rfl) (View.wordExact_bits rfl)) fun _ => K
/-- Gathered rows go to the result. -/
def outK (k : Fin 8) (off : Fin 2 → Nat) (h : ∀ a, off a + S16x2048.size a ≤ S2048x2048.size a) (K : PR F) : PR F :=
  .op (.enqueueDma (accV.slice (accR off h) (fun _ => rfl)) (.here (oM.slice (accR off h) (fun _ => rfl))) (.dma (outSem k))
    (View.wordExact_bits rfl) (View.wordExact_bits rfl) ⟨Or.inl rfl, trivial⟩) fun _ => K

/-- The semaphore slot of the copy to the result of block `n` of a direction. -/
abbrev outSlot (X : Bool) (n : ℕ) : Fin 8 := slotOf (2 + 2 * n + bif X then 0 else 1)

/-- Wait for the copy to the result whose semaphore is needed again: each copy waits for the eighth before it. -/
def roomK (X : Bool) (d : Dev nD) (n : ℕ) (K : PR F) : PR F :=
  bif Nat.ble 4 n then waitOutK (outSlot X n) (outOff X d (sF ((n - 4) / 4)) (qF (n - 4))) (outOff_inb X d _ _) K
  else bif Nat.ble 3 n then waitOwnK (outSlot X n) (ownOff X d) (ownOff_inb X d) K else K

/-- A gathered row block is kept, and goes to the result. -/
def keepK (X : Bool) (n : ℕ) (d : Dev nD) (r : Vec F S1x16x2048 .bf16) (K : PR F) : PR F :=
  .op (.load accV (accR (agOff X d (sF (n / 4)) (qF n)) (agOff_inb X d _ _)).toLoadRect (View.loadsAt_vmem h_S16x2048)) fun _ =>
  .op (.store accV (accR (agOff X d (sF (n / 4)) (qF n)) (agOff_inb X d _ _)) (widePay r) Finset.univ
    (View.stores_vmem_bits_univ h_S16x2048 rfl) (.inl rfl)) fun _ =>
  creditK X (60 + n) d <| roomK X d n <|
  outK (outSlot X n) (outOff X d (sF (n / 4)) (qF n)) (outOff_inb X d _ _) K

/-- One row block of an all-gather step, block `n` of its direction: receive, pass on, keep. -/
def agK (X : Bool) (n : ℕ) (d : Dev nD) (K : PR F) : PR F :=
  waitRecvK X (slotOf (60 + n)) <|
  .op (.load (rbM X) (slotR (slotOf (60 + n))).toLoadRect (View.loadsAt_vmem h_S1x16x2048)) fun (r : Vec F S1x16x2048 .bf16) =>
  reuseK X (64 + n) (slotOf (64 + n)) <| sendK X (slotOf (64 + n)) d (passPay r) <|
  .op (.load (rbM X) (slotR (slotOf (60 + n))).toLoadRect (View.loadsAt_vmem h_S1x16x2048)) fun (r' : Vec F S1x16x2048 .bf16) =>
  keepK X n d r' K

/-- The last all-gather step passes nothing on. -/
def agLastK (X : Bool) (n : ℕ) (d : Dev nD) (K : PR F) : PR F :=
  waitRecvK X (slotOf (60 + n)) <|
  .op (.load (rbM X) (slotR (slotOf (60 + n))).toLoadRect (View.loadsAt_vmem h_S1x16x2048)) fun (r : Vec F S1x16x2048 .bf16) =>
  keepK X n d r K

/-- `n` rounds of a step, from round `i`, then what follows. -/
def loopK (body : ℕ → PR F → PR F) : ℕ → ℕ → PR F → PR F
  | 0, _, K => K
  | n + 1, i, K => body i (loopK body n (i + 1) K)

def rsOne (X : Bool) (d : Dev nD) (s q : ℕ) (K : PR F) : PR F :=
  rsK X (4 * s + q) d (rsOff X d (sF s) (qF q)) (rsOff_inb X d _ _) K
def rsLastOne (X : Bool) (d : Dev nD) (q : ℕ) (K : PR F) : PR F :=
  rsLastK X (56 + q) d (rsOff X d (sF 14) (qF q)) (rsOff_inb X d _ _) K

def dotsK (d : Dev nD) (s : ℕ) (K : PR F) : PR F :=
  dotK (k0_off7 d (BitVec.ofNat 32 (sF s).val)) (k0_off8 d (BitVec.ofNat 32 (sF s).val)) (k0_off7_inb d _) (k0_off8_inb d _) <|
  dotK (k0_off9 d (BitVec.ofNat 32 (sF s).val)) (k0_off10 d (BitVec.ofNat 32 (sF s).val)) (k0_off9_inb d _) (k0_off10_inb d _) K

/-- The reduce-scatter phase. -/
def rsPhase (d : Dev nD) (K : PR F) : PR F :=
  loopK (fun q K => issueK true q d (firstOff true d (qF q)) (firstOff_inb true d _) <|
    issueK false q d (firstOff false d (qF q)) (firstOff_inb false d _) K) 4 0 <|
  loopK (fun s K => dotsK d s <| loopK (fun q K => rsOne true d s q <| rsOne false d s q K) 4 0 K) 14 0 <|
  dotsK d 14 <| loopK (fun q K => rsLastOne true d q <| rsLastOne false d q K) 4 0 K

/-- The all-gather phase. -/
def agPhase (d : Dev nD) (K : PR F) : PR F :=
  ownK (slotOf 0) (ownOff true d) (ownOff_inb true d) <| ownK (slotOf 1) (ownOff false d) (ownOff_inb false d) <|
  loopK (fun n K => agK true n d <| agK false n d K) 56 0 <|
  loopK (fun n K => agLastK true n d <| agLastK false n d K) 4 56 K

def lastOut (X : Bool) (d : Dev nD) (n : ℕ) (K : PR F) : PR F :=
  waitOutK (outSlot X n) (outOff X d (sF (n / 4)) (qF n)) (outOff_inb X d _ _) K

/-- What is left at the end: every message and every copy of one's own has left, and the neighbours are done. -/
def finish (d : Dev nD) : PR F :=
  loopK (fun k K => waitSendK true (slotOf k) <| waitSendK false (slotOf k) K) 8 0 <|
  loopK (fun n K => lastOut true d n <| lastOut false d n K) 4 56 <|
  .op (.semSignal (leftOf d, .tc) exitSem (1#32 : BitVec 32).toInt) fun _ =>
  .op (.semSignal (rightOf d, .tc) exitSem (1#32 : BitVec 32).toInt) fun _ =>
  .op (.semWait exitSem (2#32 : BitVec 32).toInt) fun _ => .ret ⟨⟩

/-- Load the operands, meet the neighbours, round the right operand. -/
def enter (K : Dev nD → PR F) : PR F :=
  .op (.enqueueDma aM (.here aV) (.dma (inSem 0)) (Memref.isWhole_whole _).wordExact (Memref.isWhole_whole _).wordExact ⟨Or.inl rfl, trivial⟩) fun _ =>
  .op (.enqueueDma bM (.here bV) (.dma (inSem 1)) (Memref.isWhole_whole _).wordExact (Memref.isWhole_whole _).wordExact ⟨Or.inl rfl, trivial⟩) fun _ =>
  .op .deviceId fun d =>
  .op (.semSignal (leftOf d, .tc) barSem (1#32 : BitVec 32).toInt) fun _ =>
  .op (.semSignal (rightOf d, .tc) barSem (1#32 : BitVec 32).toInt) fun _ =>
  .op (.semWait barSem (2#32 : BitVec 32).toInt) fun _ =>
  .op (.waitDma2 (inSem 1) bM bV (Memref.isWhole_whole _).wordExact (Memref.isWhole_whole _).wordExact) fun _ =>
  .op (.load bV b16R.toLoadRect (View.loadsAt_vmem h_S1024x2048)) fun (v : Vec F S1024x2048 .f32) =>
  .op (.load b16V b16R.toLoadRect (View.loadsAt_vmem h_S1024x2048)) fun _ =>
  .op (.store b16V b16R (b16Pay v) Finset.univ
    (View.stores_vmem h_S1024x2048 ((Memref.isWhole_whole _).storeExact_slice rfl _ packedbf16_S1024x2048_S1024x2048_0_0) (fun _ => rfl)) (.inl rfl)) fun _ =>
  .op (.waitDma2 (inSem 0) aM aV (Memref.isWhole_whole _).wordExact (Memref.isWhole_whole _).wordExact) fun _ =>
  K d

/-- The kernel's body as its steps, a step a definition. -/
def body : PR F :=
  enter fun d =>
  dotK (k0_off1 d) (k0_off2 d) (k0_off1_inb d) (k0_off2_inb d) <|
  dotK (k0_off3 d) (k0_off4 d) (k0_off3_inb d) (k0_off4_inb d) <|
  rsPhase d <| agPhase d <| finish d

end Cert.KernelIdeal.Ring
end
-- ==== Proof.Place.lean ====
module
public import proofs.«01_k».proof.Proof.Steps

@[expose] public section

namespace Cert.KernelIdeal.Ring

open Idealize.ShloMosaic Idealize.SL.Sem Cert.KernelIdeal Cert.KernelIdeal.Gen

/-! # Places on the ring, and the rows each step works on -/

/-- The place of a device on the ring. -/
def pos (d : Dev nD) : ℕ := [0, 15, 8, 7, 1, 14, 9, 6, 2, 13, 10, 5, 3, 12, 11, 4].getD d.val 0

/-- The chunk of rows a direction works on at hop `t`: to the right the chunks come in falling order, to the left in rising. -/
def chunk (X : Bool) (d : Dev nD) (t : ℕ) : ℕ := (pos d + bif X then 16 - t else t) % 16

/-- The first row of quarter `q` of hop `t` of a direction. The right-going direction has the upper half of each chunk. -/
def row (X : Bool) (d : Dev nD) (t q : ℕ) : ℕ := 128 * chunk X d t + (bif X then 0 else 64) + 16 * q

/-- A position is one of sixteen, -/
theorem pos_lt (d : Dev nD) : pos d < 16 := by revert d; decide
/-- and of one device only. -/
theorem pos_inj : Function.Injective pos := by
  have h : ∀ a b : Dev nD, pos a = pos b → a = b := by decide
  exact fun a b => h a b
/-- There are sixteen chunks. -/
theorem chunk_lt (X : Bool) (d : Dev nD) (t : ℕ) : chunk X d t < 16 := Nat.mod_lt _ (by decide)

/-- A chunk's half ends inside the array, -/
theorem row_le64 (X : Bool) (d : Dev nD) (t : ℕ) : row X d t 0 + 64 ≤ 2048 := by
  have := chunk_lt X d t
  unfold row; cases X <;> simp only [cond_true, cond_false] <;> omega
/-- and so does a quarter of it. -/
theorem row_le (X : Bool) (d : Dev nD) (t : ℕ) (q : Fin 4) : row X d t q.val + 16 ≤ 2048 := by
  have := chunk_lt X d t; have := q.isLt
  unfold row; cases X <;> simp only [cond_true, cond_false] <;> omega
/-- A quarter's first row, from the half's. -/
theorem row_quarter (X : Bool) (d : Dev nD) (t q : ℕ) : row X d t q = row X d t 0 + 16 * q := by unfold row; omega

/-! ## The printed offsets -/

/-- The right neighbour is the next on the ring, -/
theorem rightOf_pos (d : Dev nD) : pos (rightOf d) = (pos d + 1) % 16 := by revert d; decide +kernel
/-- the left one the one before. -/
theorem leftOf_pos (d : Dev nD) : pos (leftOf d) = (pos d + 15) % 16 := by revert d; decide +kernel
/-- They undo each other, -/
theorem left_right (d : Dev nD) : leftOf (rightOf d) = d := by revert d; decide +kernel
/-- either way round; -/
theorem right_left (d : Dev nD) : rightOf (leftOf d) = d := by revert d; decide +kernel
/-- so whom a device receives from sends to it, -/
theorem src_dst (X : Bool) (d : Dev nD) : srcOf X (dstOf X d) = d := by cases X; exacts [right_left d, left_right d]
/-- and whom it sends to receives from it. -/
theorem dst_src (X : Bool) (d : Dev nD) : dstOf X (srcOf X d) = d := by cases X; exacts [left_right d, right_left d]

/-- Where the first messages' rows are read, -/
theorem firstOff_eq (X : Bool) (d : Dev nD) (q : Fin 4) : firstOff X d q = ![row X d 0 q.val, 0] := by
  revert X d q; decide +kernel
/-- those of the later hops of the reduction, -/
theorem rsOff_eq (X : Bool) (d : Dev nD) (s : Fin 15) (q : Fin 4) : rsOff X d s q = ![row X d (s.val + 1) q.val, 0] := by
  revert X d s q; decide +kernel
/-- the rows that the device finishes, -/
theorem ownOff_eq (X : Bool) (d : Dev nD) : ownOff X d = ![row X d 15 0, 0] := by revert X d; decide +kernel
/-- the rows that the gathering brings, -/
theorem agOff_eq (X : Bool) (d : Dev nD) (s : Fin 15) (q : Fin 4) : agOff X d s q = ![row X d s.val q.val, 0] := by
  revert X d s q; decide +kernel
/-- and where they are copied out. -/
theorem outOff_eq (X : Bool) (d : Dev nD) (s : Fin 15) (q : Fin 4) : outOff X d s q = ![row X d s.val q.val, 0] := by
  revert X d s q; decide +kernel
/-- The first product of the one direction is read here -/
theorem off1_eq (d : Dev nD) : k0_off1 d = ![row true d 0 0, 0] := by revert d; decide +kernel
/-- and stored here; -/
theorem off2_eq (d : Dev nD) : k0_off2 d = ![row true d 0 0, 0] := by revert d; decide +kernel
/-- that of the other is read here -/
theorem off3_eq (d : Dev nD) : k0_off3 d = ![row false d 0 0, 0] := by revert d; decide +kernel
/-- and stored here. -/
theorem off4_eq (d : Dev nD) : k0_off4 d = ![row false d 0 0, 0] := by revert d; decide +kernel
/-- A later hop's product of the one direction is read here -/
theorem off7_eq (d : Dev nD) (s : Fin 15) : k0_off7 d (BitVec.ofNat 32 s.val) = ![row true d (s.val + 1) 0, 0] := by
  revert d s; decide +kernel
/-- and stored here; -/
theorem off8_eq (d : Dev nD) (s : Fin 15) : k0_off8 d (BitVec.ofNat 32 s.val) = ![row true d (s.val + 1) 0, 0] := by
  revert d s; decide +kernel
/-- that of the other is read here -/
theorem off9_eq (d : Dev nD) (s : Fin 15) : k0_off9 d (BitVec.ofNat 32 s.val) = ![row false d (s.val + 1) 0, 0] := by
  revert d s; decide +kernel
/-- and stored here. -/
theorem off10_eq (d : Dev nD) (s : Fin 15) : k0_off10 d (BitVec.ofNat 32 s.val) = ![row false d (s.val + 1) 0, 0] := by
  revert d s; decide +kernel

/-- A hop later than the sender's is the receiver's same chunk. -/
theorem row_src (X : Bool) (d : Dev nD) (t q : ℕ) (ht : t < 16) : row X (srcOf X d) t q = row X d (t + 1) q := by
  unfold row chunk
  cases X
  · simp only [cond_false]; rw [show srcOf false d = rightOf d from rfl, rightOf_pos]; omega
  · simp only [cond_true]; rw [show srcOf true d = leftOf d from rfl, leftOf_pos]; have := pos_lt d; omega

end Cert.KernelIdeal.Ring
end
-- ==== Proof.Vals.lean ====
module
public import proofs.«01_k».proof.Proof.Place

@[expose] public section

noncomputable section

namespace Cert.KernelIdeal.Ring

open Idealize.ShloMosaic Idealize.SL.Sem Cert.KernelIdeal Cert.KernelIdeal.Gen

/-! # What the kernel computes, for any float values -/

variable {F : FTy → Type} [FloatOps F]

/-- 64 rows of the result lie inside it, -/
theorem inb64 (X : Bool) (d : Dev nD) (t : ℕ) : ∀ a, (![row X d t 0, 0] : Fin 2 → ℕ) a + S64x2048.size a ≤ S2048x2048.size a := by
  have h := row_le64 X d t
  intro a; match a with
  | 0 => exact h
  | 1 => exact le_refl 2048
/-- 64 rows of the left operand inside that, -/
theorem inb64a (X : Bool) (d : Dev nD) (t : ℕ) : ∀ a, (![row X d t 0, 0] : Fin 2 → ℕ) a + S64x1024.size a ≤ S2048x1024.size a := by
  have h := row_le64 X d t
  intro a; match a with
  | 0 => exact h
  | 1 => exact le_refl 1024
/-- 16 rows of the result inside it, -/
theorem inb16 (X : Bool) (d : Dev nD) (t : ℕ) (q : Fin 4) :
    ∀ a, (![row X d t q.val, 0] : Fin 2 → ℕ) a + S16x2048.size a ≤ S2048x2048.size a := by
  have h := row_le X d t q
  intro a; match a with
  | 0 => exact h
  | 1 => exact le_refl 2048

/-- and a quarter inside 64 rows. -/
theorem inbq (q : Fin 4) : ∀ a, (![16 * q.val, 0] : Fin 2 → ℕ) a + S16x2048.size a ≤ S64x2048.size a := by revert q; decide

/-- The rectangles the blocks of rows lie in. -/
abbrev R64 (X : Bool) (d : Dev nD) (t : ℕ) : Rect S2048x2048 := rowsR ![row X d t 0, 0] (inb64 X d t)
abbrev R16 (X : Bool) (d : Dev nD) (t : ℕ) (q : Fin 4) : Rect S2048x2048 := accR ![row X d t q.val, 0] (inb16 X d t q)
abbrev Rq (q : Fin 4) : Rect S64x2048 := Rect.unit (s := S64x2048) ![16 * q.val, 0] S16x2048.size (inbq q)

variable (m : (ℓ : Loc nD τ sig) → Buf (Elt F) ℓ)

/-- A device's block of the left operand, and of the right one rounded. -/
def aOf (c : Dev nD) : Vec F S2048x1024 .f32 := m ((c.tc : Thread nD τ).loc main_arg0)
def bOf (c : Dev nD) : Vec F S1024x2048 .f32 := m ((c.tc : Thread nD τ).loc main_arg1)
def b16 (c : Dev nD) : FVec F S1024x2048 .bf16 := b16Pay (bOf m c)

/-- The product of 64 rows of the device's left block with its right block. -/
def dotBlk (X : Bool) (c : Dev nD) (t : ℕ) : FVec F S64x2048 .f32 :=
  dotPay (fun i => aOf m c ((aR ![row X c t 0, 0] (inb64a X c t)).emb i)) (b16 m c)
/-- A quarter of it. -/
def dotQ (c : Dev nD) (X : Bool) (t : ℕ) (q : Fin 4) : FVec F S16x2048 .f32 := fun i => dotBlk m X c t ((Rq q).emb i)

/-- The partial sum a device sends at hop `n` of the reduction. -/
def rsHop (X : Bool) (q : Fin 4) : ℕ → Dev nD → FVec F S1x16x2048 .bf16
  | 0, c => cutPay (dotQ m c X 0 q)
  | n + 1, c => cutPay (sumPay (dotQ m c X (n + 1) q) (rsHop X q n (srcOf X c)))
/-- The finished rows a device ends the reduction with. -/
def gel (X : Bool) (q : Fin 4) (c : Dev nD) : FVec F S16x2048 .f32 :=
  geluPay (sumPay (dotQ m c X 15 q) (rsHop m X q 14 (srcOf X c)))
/-- The finished rows a device sends at hop `n` of the gathering. -/
def agHop (X : Bool) (q : Fin 4) : ℕ → Dev nD → FVec F S1x16x2048 .bf16
  | 0, c => cutPay (gel m X q c)
  | n + 1, c => passPay (agHop X q n (srcOf X c))

/-- Message `k` of a direction, as its sender makes it. -/
def msg (X : Bool) (c : Dev nD) (k : ℕ) : FVec F S1x16x2048 .bf16 :=
  if k < 60 then rsHop m X (qF k) (k / 4) c else agHop m X (qF k) (k / 4 - 15) c

/-- The rows of the result that hop `t` of a direction brings; the last are the device's own. -/
def outQ (c : Dev nD) (X : Bool) (t : ℕ) (q : Fin 4) : FVec F S16x2048 .f32 :=
  if t < 15 then widePay (agHop m X q t (srcOf X c)) else gel m X q c

/-! ## A whole array from its blocks -/

/-- The hop of a direction at which a chunk is worked on. -/
def hopOf (X : Bool) (c : Dev nD) (k : ℕ) : ℕ := (bif X then pos c + 16 - k else k + 16 - pos c) % 16

/-- The array whose block at hop `t`, quarter `q`, of a direction is `v X t q`. -/
def asm (c : Dev nD) (v : Bool → ℕ → Fin 4 → FVec F S16x2048 .f32) : FVec F S2048x2048 .f32 := fun i =>
  v (decide ((i 0).val % 128 < 64)) (hopOf (decide ((i 0).val % 128 < 64)) c ((i 0).val / 128)) (qF ((i 0).val % 64 / 16))
    (fun | 0 => (⟨(i 0).val % 16, Nat.mod_lt _ (by decide)⟩ : Fin 16) | 1 => (i 1 : Fin 2048))

omit [FloatOps F] in
/-- The assembled array holds the block's entry at the block's place; -/
theorem asm_at (c : Dev nD) (v : Bool → ℕ → Fin 4 → FVec F S16x2048 .f32) (X : Bool) (t : ℕ) (ht : t < 16) (q : Fin 4)
    (i : S2048x2048.Idx) (y : S16x2048.Idx) (h0 : (i 0).val = row X c t q.val + (y 0).val) (h1 : (i 1).val = (y 1).val) :
    asm c v i = v X t q y := by
  have hy : (y 0).val < 16 := (y 0).isLt
  have hq := q.isLt
  have hc := chunk_lt X c t
  have hp := pos_lt c
  have eX : decide ((i 0).val % 128 < 64) = X := by
    rw [h0]; unfold row
    cases X <;> simp only [cond_true, cond_false, decide_eq_true_eq, decide_eq_false_iff_not] <;> omega
  have ek : (i 0).val / 128 = chunk X c t := by
    rw [h0]; unfold row
    cases X <;> simp only [cond_true, cond_false] <;> omega
  have et : hopOf X c (chunk X c t) = t := by
    unfold hopOf chunk
    cases X <;> simp only [cond_true, cond_false] <;> omega
  have eq : qF ((i 0).val % 64 / 16) = q := Fin.ext (by
    show (i 0).val % 64 / 16 % 4 = q.val
    rw [h0]; unfold row
    cases X <;> simp only [cond_true, cond_false] <;> omega)
  unfold asm
  rw [eX, ek, et, eq]
  congr 1
  funext a
  match a with
  | 0 => exact Fin.ext (by
      show (i 0).val % 16 = (y 0).val
      rw [h0]; unfold row
      cases X <;> simp only [cond_true, cond_false] <;> omega)
  | 1 => exact Fin.ext h1

omit [FloatOps F] in
/-- so the block is read back from where it lies, -/
theorem asm_emb (c : Dev nD) (v : Bool → ℕ → Fin 4 → FVec F S16x2048 .f32) (X : Bool) (t : ℕ) (ht : t < 16) (q : Fin 4)
    (y : S16x2048.Idx) : asm c v ((R16 X c t q).emb y) = v X t q y :=
  asm_at c v X t ht q _ y
    (by rw [Rect.emb_apply]; show row X c t q.val + 1 * (y 0).val = _; rw [Nat.one_mul])
    (by rw [Rect.emb_apply]; show 0 + 1 * (y 1).val = _; omega)

/-- The array of all the device's products. -/
def dotAll (c : Dev nD) : FVec F S2048x2048 .f32 := asm c (dotQ m c)
/-- The result on a device. -/
def outAll (c : Dev nD) : FVec F S2048x2048 .f32 := asm c (outQ m c)

/-- and so is the product of a hop. -/
theorem dotAll_emb (c : Dev nD) (X : Bool) (t : ℕ) (ht : t < 16) (y : S64x2048.Idx) :
    dotAll m c ((R64 X c t).emb y) = dotBlk m X c t y := by
  have hy : (y 0).val < 64 := (y 0).isLt
  have h := asm_at c (dotQ m c) X t ht (qF ((y 0).val / 16)) ((R64 X c t).emb y)
    (fun | 0 => (⟨(y 0).val % 16, Nat.mod_lt _ (by decide)⟩ : Fin 16) | 1 => (y 1 : Fin 2048))
    (by
      rw [Rect.emb_apply, row_quarter]
      show row X c t 0 + 1 * (y 0).val = row X c t 0 + 16 * ((y 0).val / 16 % 4) + (y 0).val % 16
      omega)
    (by rw [Rect.emb_apply]; show 0 + 1 * (y 1).val = (y 1).val; omega)
  unfold dotAll; rw [h]; unfold dotQ
  congr 1
  funext a
  match a with
  | 0 => exact Fin.ext (by
      rw [Rect.emb_apply]
      show 16 * ((y 0).val / 16 % 4) + 1 * ((y 0).val % 16) = (y 0).val
      omega)
  | 1 => exact Fin.ext (by rw [Rect.emb_apply]; show 0 + 1 * (y 1).val = (y 1).val; omega)

end Cert.KernelIdeal.Ring
end
-- ==== Proof.Cells.lean ====
module
public import proofs.«01_k».proof.Proof.Vals
public import proofs.«01_k».proof.Proof.Gen.KernelIdeal.Launch
public import Idealize.ShloMosaic.Lib.Release
public import Idealize.ShloMosaic.Lib.Pipeline.Launch
public import Idealize.ShloMosaic.Lib.Pipeline.Kit
public import Idealize.ShloMosaic.Lib.Tactic

@[expose] public section

noncomputable section

namespace Cert.KernelIdeal.Ring

open Idealize.ShloMosaic Idealize.SL.Sem Cert.KernelIdeal Cert.KernelIdeal.Gen

/-! # The semaphores of the protocol -/

/-- The semaphores a device has, by what they are for. -/
inductive Kind where
  | bar | exit | credit (X : Bool) | send (X : Bool) (k : Fin 8) | recv (X : Bool) (k : Fin 8) | inn (k : Fin 2) | out (k : Fin 8)
  deriving DecidableEq

/-- Every use there is, in a list. -/
def kinds : List Kind :=
  [.bar, .exit, .credit true, .credit false] ++ (List.finRange 8).map (.send true) ++ (List.finRange 8).map (.send false)
    ++ (List.finRange 8).map (.recv true) ++ (List.finRange 8).map (.recv false) ++ (List.finRange 2).map .inn ++ (List.finRange 8).map .out

/-- The list of kinds of semaphores is complete. -/
theorem mem_kinds (k : Kind) : k ∈ kinds := by
  cases k <;> first | decide | (rename_i X k; cases X <;> simp [kinds]) | (rename_i X; cases X <;> simp [kinds]) | (rename_i k; simp [kinds])

instance : Fintype Kind := ⟨kinds.toFinset, fun k => List.mem_toFinset.mpr (mem_kinds k)⟩

/-- The printed semaphore of each. -/
def csem : Kind → SemLoc sig
  | .bar => .reg barSem
  | .exit => .reg exitSem
  | .credit X => .reg (creditSem X)
  | .send X k => .dma (sem8 (sendA X) k)
  | .recv X k => .dma (sem8 (recvA X) k)
  | .inn k => .dma (inSem k)
  | .out k => .dma (outSem k)

/-- Different kinds are different semaphores, -/
theorem csem_inj : Function.Injective csem := by
  have h : ∀ a b : Kind, csem a = csem b → a = b := by
    intro a b h
    have h0 : ∀ a ∈ kinds, ∀ b ∈ kinds, csem a = csem b → a = b := by decide +kernel
    exact h0 a (mem_kinds a) b (mem_kinds b) h
  exact fun a b => h a b

/-- The cell of a device's semaphore. -/
def kcell (x : Dev nD × Kind) : GSem nD τ sig := ((x.1.tc : Thread nD τ), csem x.2)

/-- and so are those of different devices. -/
theorem kcell_inj : Function.Injective kcell := by
  rintro ⟨c, k⟩ ⟨c', k'⟩ h
  have h1 : c = c' := congrArg (fun g : GSem nD τ sig => g.1.1) h
  have h2 : csem k = csem k' := congrArg Prod.snd h
  rw [h1, csem_inj h2]

/-- The device and use of a cell, if it is one of the protocol's. -/
def cellInvOf : GSem nD τ sig → Option (Dev nD × Kind) := Function.partialInv kcell
/-- A semaphore tells the device and kind it belongs to. -/
theorem cellInvOf_kcell (x : Dev nD × Kind) : cellInvOf (kcell x) = some x := Function.partialInv_left kcell_inj x

/-- What one message counts on its semaphores; the operands' loads; the result's copies. -/
def nMsg : ℕ := (slotV (rbM true) 0).view.dmaCredit
def nA : ℕ := aV.view.dmaCredit
def nB : ℕ := bV.view.dmaCredit
def nOwn : ℕ := (oM.slice (rowsR ![0, 0] (by decide)) (fun _ => rfl)).view.dmaCredit
def nOut : ℕ := (oM.slice (accR ![0, 0] (by decide)) (fun _ => rfl)).view.dmaCredit

/-- A message moves something; -/
theorem nMsg_pos : 0 < nMsg := View.dmaCredit_pos _ (by decide)
/-- so does the load of the left operand, -/
theorem nA_pos : 0 < nA := View.dmaCredit_pos _ (by decide)
/-- that of the right one, -/
theorem nB_pos : 0 < nB := View.dmaCredit_pos _ (by decide)
/-- the copy of a device's own finished rows, -/
theorem nOwn_pos : 0 < nOwn := View.dmaCredit_pos _ (by decide)
/-- and the copy of a quarter of rows that arrived. -/
theorem nOut_pos : 0 < nOut := View.dmaCredit_pos _ (by decide)

/-- Every arrival slot is of a message's size, -/
theorem rb_credit (X : Bool) (k : Fin 8) : (slotV (rbM X) k).view.dmaCredit = nMsg := by cases X <;> rfl
/-- and every sending slot. -/
theorem sb_credit (X : Bool) (k : Fin 8) : (slotV (sbM X) k).view.dmaCredit = nMsg := by cases X <;> rfl
/-- Wherever a device's own rows lie, their copy is of one size; -/
theorem own_credit (off : Fin 2 → ℕ) (h) : (oM.slice (rowsR off h) (fun _ => rfl)).view.dmaCredit = nOwn := rfl
/-- so is that of a quarter. -/
theorem out_credit (off : Fin 2 → ℕ) (h) : (oM.slice (accR off h) (fun _ => rfl)).view.dmaCredit = nOut := rfl

end Cert.KernelIdeal.Ring
end
-- ==== Proof.Sched.lean ====
module
public import proofs.«01_k».proof.Proof.Cells

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! # The schedule: who pays what into which semaphore, and what comes with it

Message `mm` of a direction uses slot `mm % 8` for the `mm / 8`-th time. A writer may write a reader's slot once the reader
has released it; that it has is a fact kept for good, and comes with the barrier for the first use of every slot, and with the
credit signals for the later ones. Two credit signals may arrive in either order, so signal `k` says that the reader has
released the slots of ALL messages up to `k + 8`: of the first `k + 1` signals to arrive one is at least the `k`-th. -/

/-- A slot of a device's receive buffer of a direction. -/
abbrev Key : Type := Dev nD × Bool × Fin 8
abbrev UB : Type := URounds (GSem nD τ sig) ℕ × Release.USlots Key
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb (URounds (GSem nD τ sig) ℕ) (MT nD τ sig ℕ (Elt F) ℕ UU ℕ) := (Emb.inl : Emb _ UB).trans embR
abbrev ES : Emb (Release.USlots Key) (MT nD τ sig ℕ (Elt F) ℕ UU ℕ) := (Emb.inr : Emb _ UB).trans embR

variable (m : (ℓ : Loc nD τ sig) → Buf (Elt F) ℓ)

/-! ## Pieces of memory -/

abbrev aLoc (c : Dev nD) : Loc nD τ sig := (c.tc : Thread nD τ).loc main_arg0
abbrev bLoc (c : Dev nD) : Loc nD τ sig := (c.tc : Thread nD τ).loc main_arg1
abbrev oLoc (c : Dev nD) : Loc nD τ sig := (c.tc : Thread nD τ).loc main_v1
abbrev avLoc (c : Dev nD) : Loc nD τ sig := (c.tc : Thread nD τ).loc cc0_scratch0
abbrev bvLoc (c : Dev nD) : Loc nD τ sig := (c.tc : Thread nD τ).loc cc0_scratch1
abbrev accLoc (c : Dev nD) : Loc nD τ sig := (c.tc : Thread nD τ).loc cc0_scratch2
abbrev b16Loc (c : Dev nD) : Loc nD τ sig := (c.tc : Thread nD τ).loc cc0_scratch3

/-- The rows of the result that copy `j` of a direction carries: the device's own 64 first, then 16 gathered at a time. -/
def cpSet (c : Dev nD) (X : Bool) : ℕ → Finset S2048x2048.Idx
  | 0 => (R64 X c 15).set
  | n + 1 => (R16 X c (n / 4) (qF n)).set

abbrev sbLoc (X : Bool) (c : Dev nD) (k : Fin 8) : Loc nD τ sig := (slotV (sbM X) k).view.loc (c.tc : Thread nD τ)
abbrev rbLoc (X : Bool) (c : Dev nD) (k : Fin 8) : Loc nD τ sig := (slotV (rbM X) k).view.loc (c.tc : Thread nD τ)

/-- A slot of a send buffer, whatever it holds. -/
def sbSlot (X : Bool) (c : Dev nD) (k : Fin 8) : sProp 𝕄 := Release.slot (sbLoc X c k) (slotV (sbM X) k).view.set
/-- A slot of a receive buffer, whatever it holds. -/
def rbSlot (X : Bool) (c : Dev nD) (k : Fin 8) : sProp 𝕄 := Release.slot (rbLoc X c k) (slotV (rbM X) k).view.set
/-- A slot of a receive buffer holding a message. -/
def rbHas (X : Bool) (c : Dev nD) (k : Fin 8) (v : FVec F S1x16x2048 .bf16) : sProp 𝕄 :=
  iprop(∃ f : Buf (Elt F) (rbLoc X c k), ⌜((rbM X).access (slotR k)).read (Elt F) f = v⌝ ∗ (rbLoc X c k ↦[(slotV (rbM X) k).view.set]{fullShare} f))

instance sbSlot_storable (X : Bool) (c : Dev nD) (k : Fin 8) : Storable (upEmb : UEmb _ 𝕄) (sbSlot (F := F) X c k) := by unfold sbSlot; infer_instance
instance rbSlot_storable (X : Bool) (c : Dev nD) (k : Fin 8) : Storable (upEmb : UEmb _ 𝕄) (rbSlot (F := F) X c k) := by unfold rbSlot; infer_instance
instance rbHas_storable (X : Bool) (c : Dev nD) (k : Fin 8) (v : FVec F S1x16x2048 .bf16) : Storable (upEmb : UEmb _ 𝕄) (rbHas X c k v) := by
  unfold rbHas; infer_instance

/-! ## Payloads -/

/-- Reader `c` has released the slot of message `mm` of a direction for that message. -/
def mine (X : Bool) (c : Dev nD) (mm : ℕ) : sProp 𝕄 :=
  iprop(Release.released ES (c, X, slotOf mm) (mm / 8 + 1) ∗ reached ER (kcell (c, .recv X (slotOf mm))) (mm / 8))
/-- Writer `w` may send message `mm` of a direction. -/
def room (X : Bool) (w : Dev nD) (mm : ℕ) : sProp 𝕄 := mine X (dstOf X w) mm

instance mine_persistent (X : Bool) (c : Dev nD) (mm : ℕ) : Persistent (mine (F := F) X c mm) := by unfold mine; infer_instance
instance room_persistent (X : Bool) (c : Dev nD) (mm : ℕ) : Persistent (room (F := F) X c mm) := by unfold room; infer_instance
instance mine_storable (X : Bool) (c : Dev nD) (mm : ℕ) : Storable (upEmb : UEmb _ 𝕄) (mine (F := F) X c mm) := by unfold mine; infer_instance
instance room_storable (X : Bool) (c : Dev nD) (mm : ℕ) : Storable (upEmb : UEmb _ 𝕄) (room (F := F) X c mm) := by unfold room; infer_instance

/-- The direction and the number of the copy to the result that uses semaphore `k` for the `r`-th time. -/
def cpDir (k r : ℕ) : Bool := decide ((8 * r + k) % 2 = 0)
def cpNum (k r : ℕ) : ℕ := (8 * r + k) / 2

/-- What copy `j` of a direction to the result gives back. -/
def cpDone (c : Dev nD) (X : Bool) (j : ℕ) : sProp 𝕄 :=
  iprop((oLoc c ↦[cpSet c X j]{fullShare} outAll m c) ∗ (accLoc c ↦[cpSet c X j]{fullShare} outAll m c))
instance cpDone_storable (c : Dev nD) (X : Bool) (j : ℕ) : Storable (upEmb : UEmb _ 𝕄) (cpDone m c X j) := by unfold cpDone; infer_instance

/-- The load of an operand gives it back with its copy. -/
def innDone (c : Dev nD) (k : Fin 2) : sProp 𝕄 :=
  if k = 0 then iprop((avLoc c ↦{fullShare} aOf m c) ∗ (aLoc c ↦{fullShare} aOf m c))
  else iprop((bvLoc c ↦{fullShare} bOf m c) ∗ (bLoc c ↦{fullShare} bOf m c))
instance innDone_storable (c : Dev nD) (k : Fin 2) : Storable (upEmb : UEmb _ 𝕄) (innDone m c k) := by unfold innDone; split <;> infer_instance

/-- The duties of a round. -/
def kduties : Kind → ℕ → Finset ℕ
  | .bar, r => if r = 0 then {0, 1} else ∅
  | .exit, r => if r = 0 then {0, 1} else ∅
  | .credit _, r => if r = 0 then Finset.range 112 else ∅
  | .send _ _, r => if r < 15 then {0} else ∅
  | .recv _ _, r => if r < 15 then {0} else ∅
  | .inn _, r => if r = 0 then {0} else ∅
  | .out k, r => if 8 * r + k.val < 122 then {0} else ∅

/-- The units of a duty. -/
def kamount : Kind → ℕ → ℕ
  | .bar, _ => 1 | .exit, _ => 1 | .credit _, _ => 1
  | .send _ _, _ => nMsg | .recv _ _, _ => nMsg
  | .inn k, _ => if k = 0 then nA else nB
  | .out k, r => if 8 * r + k.val < 2 then nOwn else nOut

/-- Every duty adds something. -/
theorem kamount_pos (k : Kind) (r : ℕ) : 0 < kamount k r := by
  have h1 := nMsg_pos; have h2 := nA_pos; have h3 := nB_pos; have h4 := nOwn_pos; have h5 := nOut_pos
  cases k <;> dsimp only [kamount] <;> (try split) <;> first | assumption | exact Nat.one_pos

/-- What comes with it. -/
def kpay (c : Dev nD) : Kind → ℕ → ℕ → sProp 𝕄
  | .bar, _, d => bigSep (Finset.range 8) (room (decide (d = 1)) c)
  | .exit, _, _ => iprop(emp)
  | .credit X, _, d => bigSep (Finset.range (d + 9)) (room X c)
  | .send X k, _, _ => sbSlot X c k
  | .recv X k, r, _ => rbHas X c k (msg m X (srcOf X c) (8 * r + k.val))
  | .inn k, _, _ => innDone m c k
  | .out k, r, _ => cpDone m c (cpDir k.val r) (cpNum k.val r)

instance kpay_storable (c : Dev nD) (k : Kind) (r d : ℕ) : Storable (upEmb : UEmb _ 𝕄) (kpay m c k r d) := by
  cases k <;> unfold kpay <;> infer_instance

/-- The schedule of all the semaphores. -/
def Rd : Schedule (GSem nD τ sig) ℕ 𝕄 where
  duties g r := match cellInvOf g with | some x => kduties x.2 r | none => ∅
  amount g r _ := match cellInvOf g with | some x => kamount x.2 r | none => 1
  payload g r d := match cellInvOf g with | some x => kpay m x.1 x.2 r d | none => iprop(emp)
  amount_pos g r d _ := by split; exacts [kamount_pos _ _, Nat.one_pos]

instance Rd_payload_storable (g : GSem nD τ sig) (r d : ℕ) : Storable (upEmb : UEmb _ 𝕄) ((Rd m).payload g r d) := by
  show Storable upEmb (match cellInvOf g with | some x => kpay m x.1 x.2 r d | none => iprop(emp))
  split <;> infer_instance

/-- The protocol of a semaphore is that of its kind: its duties, -/
theorem Rd_duties (x : Dev nD × Kind) (r : ℕ) : (Rd m).duties (kcell x) r = kduties x.2 r := by
  show (match cellInvOf (kcell x) with | some x => kduties x.2 r | none => ∅) = _
  rw [cellInvOf_kcell]
/-- what each adds, -/
theorem Rd_amount (x : Dev nD × Kind) (r d : ℕ) : (Rd m).amount (kcell x) r d = kamount x.2 r := by
  show (match cellInvOf (kcell x) with | some x => kamount x.2 r | none => 1) = _
  rw [cellInvOf_kcell]
/-- what each brings, -/
theorem Rd_payload (x : Dev nD × Kind) (r d : ℕ) : (Rd m).payload (kcell x) r d = kpay m x.1 x.2 r d := by
  show (match cellInvOf (kcell x) with | some x => kpay m x.1 x.2 r d | none => iprop(emp)) = _
  rw [cellInvOf_kcell]
/-- and what a wait takes off. -/
theorem Rd_expect (x : Dev nD × Kind) (r : ℕ) : (Rd m).expect (kcell x) r = (kduties x.2 r).card * kamount x.2 r := by
  unfold Schedule.expect Schedule.amountOf
  rw [Rd_duties, Finset.sum_congr rfl fun d _ => Rd_amount m x r d, Finset.sum_const, smul_eq_mul]

/-- No semaphore has more than sixteen rounds. -/
theorem kduties_late (k : Kind) (r : ℕ) (h : 16 ≤ r) : kduties k r = ∅ := by
  cases k <;> dsimp only [kduties] <;> rw [if_neg (by omega)]

/-! ## Levels, and what a device owes -/

/-- Every wait has its level as its index. -/
@[irreducible] def L (g : GSem nD τ sig) : Finset ℕ := if g.1.2 = .tc then Finset.range 1001 else ∅
def lv (_ : GSem nD τ sig) (n : ℕ) : ℕ := n
/-- Only the devices' main threads have levels, -/
theorem L_of_ne (g : GSem nD τ sig) (h : g.1.2 ≠ .tc) : L g = ∅ := by unfold L; exact if_neg h
/-- and they have 1001. -/
theorem L_tc (c : Dev nD) (sm : SemLoc sig) : L ((c.tc : Thread nD τ), sm) = Finset.range 1001 := by unfold L; exact if_pos rfl

abbrev Owed : Type := CellTallies nD τ sig ℕ

/-- Everything owed is owed at an index above `n`. -/
def Above (n : ℕ) (O : Owed) : Prop := ∀ g u, 0 < O g u → u ∈ L g ∧ n < u

/-- Owing nothing is above every level. -/
theorem Above.zero (n : ℕ) : Above n 0 := fun _ _ h => absurd h (Nat.lt_irrefl 0)
/-- What is above a level is above every lower one. -/
theorem Above.mono {n n' : ℕ} (h : n' ≤ n) {O : Owed} (hO : Above n O) : Above n' O := fun g u hu => ⟨(hO g u hu).1, lt_of_le_of_lt h (hO g u hu).2⟩
/-- Two debts above a level are together above it. -/
theorem Above.add {n : ℕ} {O O' : Owed} (h : Above n O) (h' : Above n O') : Above n (O + O') := fun g u hu => by
  rw [Pi.add_apply, Finsupp.add_apply] at hu
  by_cases e : 0 < O g u
  · exact h g u e
  · exact h' g u (by omega)
/-- A debt on one semaphore at a higher level is above it. -/
theorem Above.tally {n : ℕ} (x : Dev nD × Kind) {u : ℕ} (hu : n < u) (hu' : u < 1001) (k : ℕ) : Above n (tallyAt (kcell x) u k) := fun g v hv => by
  rw [tallyAt_apply] at hv
  split at hv
  · next h => rw [h.1, h.2]; exact ⟨by rw [kcell, L_tc]; exact Finset.mem_range.mpr hu', hu⟩
  · exact absurd hv (Nat.lt_irrefl 0)
/-- Debts above a level sum to one above it. -/
theorem Above.sum {n : ℕ} (S : Finset ℕ) (f : ℕ → Owed) (h : ∀ i ∈ S, Above n (f i)) : Above n (∑ i ∈ S, f i) := by
  classical
  induction S using Finset.induction_on with
  | empty => rw [Finset.sum_empty]; exact Above.zero n
  | insert a S ha ih =>
    rw [Finset.sum_insert ha]
    exact (h a (Finset.mem_insert_self _ _)).add (ih fun i hi => h i (Finset.mem_insert_of_mem hi))

/-- What a device owes its neighbours in one direction once it has sent the messages below `a` and answered those below `b`. -/
def sendOwed (c : Dev nD) (X : Bool) (mm : ℕ) : Owed := tallyAt (kcell (dstOf X c, .recv X (slotOf mm))) (2 * mm + 10) nMsg
def creditOwed (c : Dev nD) (X : Bool) (k : ℕ) : Owed := tallyAt (kcell (srcOf X c, .credit X)) (2 * k + 11) 1
def owedX (c : Dev nD) (X : Bool) (a b : ℕ) : Owed := (∑ mm ∈ Finset.Ico a 120, sendOwed c X mm) + ∑ k ∈ Finset.Ico b 112, creditOwed c X k

/-- What a direction still owes lies above the waits made until then. -/
theorem owedX_above (c : Dev nD) (X : Bool) {a b n : ℕ} (ha : n < 2 * a + 10) (hb : n < 2 * b + 11) : Above n (owedX c X a b) :=
  (Above.sum _ _ fun mm h => Above.tally _ (by have := (Finset.mem_Ico.mp h).1; omega) (by have := (Finset.mem_Ico.mp h).2; omega) _).add
    (Above.sum _ _ fun mm h => Above.tally _ (by have := (Finset.mem_Ico.mp h).1; omega) (by have := (Finset.mem_Ico.mp h).2; omega) _)

/-- A run of numbers is its first and the rest, -/
theorem ico_peel {a b : ℕ} (h : a < b) : Finset.Ico a b = insert a (Finset.Ico (a + 1) b) := by
  ext i; rw [Finset.mem_insert, Finset.mem_Ico, Finset.mem_Ico]; omega
/-- and a longer run its last and the rest; -/
theorem ico_grow {a b : ℕ} (h : a ≤ b) : Finset.Ico a (b + 1) = insert b (Finset.Ico a b) := by
  ext i; rw [Finset.mem_insert, Finset.mem_Ico, Finset.mem_Ico]; omega
/-- the first is none of the rest, -/
theorem ico_peel_not {a b : ℕ} : a ∉ Finset.Ico (a + 1) b := by rw [Finset.mem_Ico]; omega
/-- nor is the last. -/
theorem ico_grow_not {a b : ℕ} : b ∉ Finset.Ico a b := by rw [Finset.mem_Ico]; omega

/-- Sending a message pays what is owed for it; -/
theorem owedX_send (c : Dev nD) (X : Bool) {a b : ℕ} (ha : a < 120) : owedX c X a b = owedX c X (a + 1) b + sendOwed c X a := by
  unfold owedX; rw [ico_peel ha, Finset.sum_insert ico_peel_not, add_comm (sendOwed c X a), add_right_comm]
/-- giving a credit pays what is owed for that; -/
theorem owedX_credit (c : Dev nD) (X : Bool) {a b : ℕ} (hb : b < 112) : owedX c X a b = owedX c X a (b + 1) + creditOwed c X b := by
  unfold owedX; rw [ico_peel hb, Finset.sum_insert ico_peel_not, add_comm (creditOwed c X b), add_assoc]
/-- when all is sent and given nothing is owed. -/
theorem owedX_done (c : Dev nD) (X : Bool) : owedX c X 120 112 = 0 := by
  unfold owedX; rw [Finset.Ico_self, Finset.Ico_self, Finset.sum_empty, Finset.sum_empty, add_zero]

/-- The level of every wait. -/
@[irreducible] def Lev : sProp 𝕄 := levAts L lv
instance Lev_persistent : Persistent (Lev (F := F)) := by unfold Lev; infer_instance

/-- A device that owes only above a level may wait at it. -/
theorem mayWait (c : Dev nD) (sm : SemLoc sig) {n : ℕ} (hn : n < 1001) {O : Owed} (hO : Above n O) :
    (Lev : sProp 𝕄) ⊢ MayWait (c.tc : Thread nD τ) sm n O := by
  unfold Lev
  exact MayOwe.of_cut (L := L) (lev := lv) n (fun p hp => by rw [Finset.mem_singleton.mp hp, L_tc]; exact Finset.mem_range.mpr hn)
    (fun g u hg => (hO g u hg).1) (fun p hp => by rw [Finset.mem_singleton.mp hp]; exact le_refl n) (fun g u hg => (hO g u hg).2)

end Cert.KernelIdeal.Ring
end
-- ==== Proof.Res.lean ====
module
public import proofs.«01_k».proof.Proof.Sched

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Dev nD × Kind → ℕ) (κs : Key → ℕ)

/-! # What a device holds between two steps -/

/-! ## Taking one off a run of resources -/

omit [FloatOps F] in
/-- The first of a run of numbers is taken from a family, -/
theorem bs_peel {a b : ℕ} (h : a < b) (Φ : ℕ → sProp 𝕄) : bigSep (Finset.Ico a b) Φ = iprop(Φ a ∗ bigSep (Finset.Ico (a + 1) b) Φ) := by
  rw [ico_peel h, bigSep_insert ico_peel_not]; rfl
omit [FloatOps F] in
/-- the next one is added to it, -/
theorem bs_grow {a b : ℕ} (h : a ≤ b) (Φ : ℕ → sProp 𝕄) : bigSep (Finset.Ico a (b + 1)) Φ = iprop(Φ b ∗ bigSep (Finset.Ico a b) Φ) := by
  rw [ico_grow h, bigSep_insert ico_grow_not]; rfl
omit [FloatOps F] in
/-- and so for a run from zero. -/
theorem bs_range_succ (n : ℕ) (Φ : ℕ → sProp 𝕄) : bigSep (Finset.range (n + 1)) Φ = iprop(Φ n ∗ bigSep (Finset.range n) Φ) := by
  rw [Finset.range_add_one, bigSep_insert Finset.notMem_range_self]; rfl

/-! ## What every device knows -/

/-- The invariants of all semaphores and of all receive slots, that every semaphore is in use, and the levels. -/
@[irreducible] def Ctx : sProp 𝕄 :=
  iprop((bigSep Finset.univ fun x : Dev nD × Kind => cellInv ER (Rd m) (K x) (kcell x))
    ∗ (bigSep Finset.univ fun x : Dev nD × Kind => reached ER (kcell x) 0)
    ∗ (bigSep Finset.univ fun k : Key => Release.slotInv ES (κs k) k (rbSlot k.2.1 k.1 k.2.2))
    ∗ Lev)

instance Ctx_persistent : Persistent (Ctx m K κs) := by unfold Ctx; infer_instance

/-- What is known holds each semaphore's protocol, -/
theorem ctx_inv (x : Dev nD × Kind) : Ctx m K κs ⊢ cellInv ER (Rd m) (K x) (kcell x) := by
  unfold Ctx
  exact sep_elim_left.trans (bigSep_elim (Finset.mem_univ x))
/-- that its first round is reached, -/
theorem ctx_reached (x : Dev nD × Kind) : Ctx m K κs ⊢ reached ER (kcell x) 0 := by
  unfold Ctx
  exact (sep_elim_right.trans sep_elim_left).trans (bigSep_elim (Finset.mem_univ x))
/-- each arrival slot's protocol, -/
theorem ctx_slot (k : Key) : Ctx m K κs ⊢ Release.slotInv ES (κs k) k (rbSlot k.2.1 k.1 k.2.2) := by
  unfold Ctx
  exact (sep_elim_right.trans (sep_elim_right.trans sep_elim_left)).trans (bigSep_elim (Finset.mem_univ k))
/-- and the order of the waits. -/
theorem ctx_level : Ctx m K κs ⊢ Lev (F := F) := by
  unfold Ctx
  exact sep_elim_right.trans (sep_elim_right.trans sep_elim_right)

/-! ## The resources -/

/-- The device owes `O`. -/
def Ow (c : Dev nD) (O : Owed) : sProp 𝕄 := iprop(∃ W, owes (c.tc : Thread nD τ) O W)

/-- A message on its way. -/
def inFlight (X : Bool) (c : Dev nD) (mm : ℕ) : sProp 𝕄 :=
  iprop(cred (tallyAt (kcell (c, .send X (slotOf mm))) 0 nMsg) ∗ atPos ER (kcell (c, .send X (slotOf mm))) (mm / 8) ∅ 0)
/-- A send slot free for message `mm`. -/
def idle (X : Bool) (c : Dev nD) (mm : ℕ) : sProp 𝕄 :=
  iprop(atPos ER (kcell (c, .send X (slotOf mm))) (mm / 8) ∅ 0 ∗ reached ER (kcell (c, .send X (slotOf mm))) (mm / 8) ∗ sbSlot X c (slotOf mm))
/-- The right to send message `mm`. -/
def sendTok (X : Bool) (c : Dev nD) (mm : ℕ) : sProp 𝕄 :=
  iprop(dutyTok ER (kcell (c, .send X (slotOf mm))) (mm / 8) 0 ∗ dutyTok ER (kcell (dstOf X c, .recv X (slotOf mm))) (mm / 8) 0
    ∗ Release.writeTok ES (dstOf X c, X, slotOf mm) (mm / 8 + 1))

/-- Messages `lo .. a - 1` are on their way, the slots of the next ones free. -/
@[irreducible] def Snd (X : Bool) (c : Dev nD) (lo a : ℕ) : sProp 𝕄 :=
  iprop(bigSep (Finset.Ico lo a) (inFlight X c) ∗ bigSep (Finset.Ico a (lo + 8)) (idle X c) ∗ bigSep (Finset.Ico a 120) (sendTok X c))

/-- `w` credit signals have been waited for. -/
@[irreducible] def Crd (X : Bool) (c : Dev nD) (w : ℕ) : sProp 𝕄 :=
  iprop((∃ T : Finset ℕ, ⌜w ≤ T.card ∧ T ⊆ Finset.range 112⌝ ∗ atPos ER (kcell (c, .credit X)) 0 T w
      ∗ bigSep T fun d => bigSep (Finset.range (d + 9)) (room X c))
    ∗ (bigSep (Finset.Ico w 112) fun k => cred (tallyAt (kcell (c, .credit X)) (2 * k + 11) 1))
    ∗ bigSep (Finset.range 8) (room X c))

/-- Ready to make room for message `a`; room made for it. -/
@[irreducible] def Out (X : Bool) (c : Dev nD) (a : ℕ) : sProp 𝕄 := iprop(Snd X c (a - 8) a ∗ Crd X c (a - 8))
@[irreducible] def OutR (X : Bool) (c : Dev nD) (a : ℕ) : sProp 𝕄 := iprop(Snd X c (a - 7) a ∗ Crd X c (a - 7) ∗ room X c a)

/-- Of a direction's arriving messages those below `b` are dealt with. -/
@[irreducible] def Rcv (X : Bool) (c : Dev nD) (b : ℕ) : sProp 𝕄 :=
  iprop((bigSep (Finset.Ico b (b + 8)) fun mm => atPos ER (kcell (c, .recv X (slotOf mm))) (mm / 8) ∅ 0)
    ∗ (bigSep (Finset.Ico b 120) fun mm => cred (tallyAt (kcell (c, .recv X (slotOf mm))) (2 * mm + 10) nMsg))
    ∗ (bigSep (Finset.Ico b (min (b + 8) 120)) fun mm => Release.readerAt ES (c, X, slotOf mm) (mm / 8 + 1))
    ∗ (bigSep (Finset.range (min (b + 8) 120)) (mine X c))
    ∗ (bigSep (Finset.Ico 112 b) fun mm => rbSlot X c (slotOf mm))
    ∗ (bigSep (Finset.Ico b 112) fun k => dutyTok ER (kcell (srcOf X c, .credit X)) 0 k))
/-- Message `b` is in its slot, and not yet dealt with. -/
@[irreducible] def RcvW (X : Bool) (c : Dev nD) (b : ℕ) : sProp 𝕄 :=
  iprop((bigSep (Finset.Ico (b + 1) (b + 1 + 8)) fun mm => atPos ER (kcell (c, .recv X (slotOf mm))) (mm / 8) ∅ 0)
    ∗ (bigSep (Finset.Ico (b + 1) 120) fun mm => cred (tallyAt (kcell (c, .recv X (slotOf mm))) (2 * mm + 10) nMsg))
    ∗ (bigSep (Finset.Ico b (min (b + 8) 120)) fun mm => Release.readerAt ES (c, X, slotOf mm) (mm / 8 + 1))
    ∗ (bigSep (Finset.range (min (b + 8) 120)) (mine X c))
    ∗ (bigSep (Finset.Ico 112 b) fun mm => rbSlot X c (slotOf mm))
    ∗ (bigSep (Finset.Ico b 112) fun k => dutyTok ER (kcell (srcOf X c, .credit X)) 0 k)
    ∗ reached ER (kcell (c, .recv X (slotOf b))) (b / 8 + 1))

/-! ## Steps -/

abbrev 𝒱₀ : Variants := Variants.none

/-- Device `c`, running `P`, ends as `Q` says. -/
abbrev WP (c : Dev nD) (P : PR F) (Q : PUnit → sProp 𝕄) : sProp 𝕄 := wp frame (wpE (defs₀ (F := F)) 𝒱₀ (c.tc : Thread nD τ) none) Set.univ P Q

/-- The step `f` takes `P` to `P'`. -/
def Step (c : Dev nD) (P P' : sProp 𝕄) (f : PR F → PR F) : Prop :=
  ∀ (k : PR F) (Q : PUnit → sProp 𝕄), iprop(Ctx m K κs ∗ P ∗ (P' -∗ WP c k Q)) ⊢ WP c (f k) Q

variable {m K κs} {c : Dev nD}

/-- Two steps one after the other are a step. -/
theorem Step.comp {P P' P'' : sProp 𝕄} {f g : PR F → PR F} (hf : Step m K κs c P P' f) (hg : Step m K κs c P' P'' g) :
    Step m K κs c P P'' (fun k => f (g k)) := fun k Q => by
  iintro ⟨#HC, HP, Hk⟩
  iapply (hf (g k) Q)
  isplitr; · iexact HC
  isplitl [HP]; · iexact HP
  iintro HP'
  iapply (hg k Q)
  isplitr; · iexact HC
  isplitl [HP'] <;> iassumption

/-- What a step does not need is left as it was. -/
theorem Step.frame {P P' : sProp 𝕄} {f : PR F → PR F} (hf : Step m K κs c P P' f) (R : sProp 𝕄) :
    Step m K κs c iprop(P ∗ R) iprop(P' ∗ R) f := fun k Q => by
  iintro ⟨#HC, ⟨HP, HR⟩, Hk⟩
  iapply (hf k Q)
  isplitr; · iexact HC
  isplitl [HP]; · iexact HP
  iintro HP'
  iapply Hk
  isplitl [HP'] <;> iassumption

/-- A step may begin with more and end with less. -/
theorem Step.conseq {P P' P₁ P₁' : sProp 𝕄} {f : PR F → PR F} (hf : Step m K κs c P P' f) (h : P₁ ⊢ P) (h' : P' ⊢ P₁') :
    Step m K κs c P₁ P₁' f := fun k Q => by
  iintro ⟨#HC, HP, Hk⟩
  iapply (hf k Q)
  isplitr; · iexact HC
  isplitl [HP]; · iapply h; iexact HP
  iintro HP'
  iapply Hk
  iapply h'; iexact HP'

/-- Doing nothing is a step. -/
theorem Step.id (P : sProp 𝕄) : Step m K κs c P P (fun k => k) := fun k Q => by
  iintro ⟨-, HP, Hk⟩
  iapply Hk; iexact HP

/-- A loop whose every round keeps the invariant. -/
theorem Step.loop (I : ℕ → sProp 𝕄) (body : ℕ → PR F → PR F) (n i : ℕ)
    (h : ∀ j, i ≤ j → j < i + n → Step m K κs c (I j) (I (j + 1)) (body j)) : Step m K κs c (I i) (I (i + n)) (loopK body n i) := by
  induction n generalizing i with
  | zero => exact Step.id _
  | succ n ih =>
    have h1 := (h i (le_refl i) (by omega)).comp (ih (i + 1) fun j hj hj' => h j (by omega) (by omega))
    rw [show i + (n + 1) = i + 1 + n by omega]
    exact h1

/-- A wait for the whole of a round of one of the device's semaphores. -/
theorem wait_cell (kd : Kind) {w : TpuEff nD τ sig (Elt F) Λ₀ .tc PUnit} {k' : ℕ}
    (hw : ∀ Kt : PUnit → sProp 𝕄, wpE (defs₀ (F := F)) 𝒱₀ (c.tc : Thread nD τ) none Set.univ w Kt = waitSpec (c.tc : Thread nD τ) Set.univ (csem kd) k' Kt)
    (r ι : ℕ) (hk : k' = (kduties kd r).card * kamount kd r) {O : Owed} (hι : ι < 1001) (hO : Above ι O)
    (k : PUnit → PR F) (Q : PUnit → sProp 𝕄) :
    iprop(Ctx m K κs ∗ cred (tallyAt (kcell (c, kd)) ι k') ∗ Ow c O ∗ atPos ER (kcell (c, kd)) r ∅ 0)
      ⊢ iprop(((Ow c O ∗ atPos ER (kcell (c, kd)) (r + 1) ∅ 0 ∗ reached ER (kcell (c, kd)) (r + 1) ∗ bigSep (kduties kd r) (fun d => kpay m c kd r d))
            -∗ WP c (k ⟨⟩) Q) -∗ WP c (.op w k) Q) := by
  have hx : 0 + k' = (Rd m).expect ((c.tc : Thread nD τ), csem kd) r := by
    rw [Nat.zero_add, hk, ← Rd_expect m (c, kd) r, kcell]
  have hm : Ctx m K κs ⊢ MayWait (c.tc : Thread nD τ) (csem kd) ι O := by
    exact (ctx_level m K κs).trans (mayWait c (csem kd) hι hO)
  unfold Ow
  iintro ⟨#HC, Hc, ⟨%W, HO⟩, Hat⟩ Hk
  iapply (Rounds.wp_wait_rest_token 𝒱₀ ER (Rd m) (c.tc : Thread nD τ) none (κ := K (c, kd)) (sm := csem kd) (k' := k') hw (Set.mem_univ _) ι
      (O := O) (W := W) (R := r) (m := 0) (T := ∅) hx) $$ [Hc HO Hat]
  · isplitr; · iapply (ctx_inv m K κs (c, kd)); iexact HC
    isplitl [Hc]; · iexact Hc
    isplitl [HO]; · iexact HO
    isplitr; · iapply hm; iexact HC
    iexact Hat
  iintro ⟨HO, Hat, Hr, Hpay⟩
  iapply Hk
  isplitl [HO]; · iexists _; iexact HO
  isplitl [Hat]; · iexact Hat
  isplitl [Hr]; · iexact Hr
  ihave Hp := (Entails.of_eq (show (bigSep ((Rd m).duties ((c.tc : Thread nD τ), csem kd) r \ ∅) (fun d => (Rd m).payload ((c.tc : Thread nD τ), csem kd) r d) : sProp 𝕄)
      = bigSep (kduties kd r) (fun d => kpay m c kd r d) by
    rw [Finset.sdiff_empty, show (Rd m).duties ((c.tc : Thread nD τ), csem kd) r = kduties kd r from Rd_duties m (c, kd) r]; exact bigSep_congr fun d _ => Rd_payload m (c, kd) r d)) $$ Hpay
  iexact Hp

end Cert.KernelIdeal.Ring
end
-- ==== Proof.Views.lean ====
module
public import proofs.«01_k».proof.Proof.Res

@[expose] public section

noncomputable section

namespace Cert.KernelIdeal.Ring

open Idealize.ShloMosaic
open Idealize.ShloMosaic.TcCoe
open Cert.KernelIdeal Cert.KernelIdeal.Gen

variable {F : FTy → Type} [FloatOps F]

/-! # Slots and row blocks as sets of elements, and what is read of them -/

/-- A slot seen without its leading axis has the elements of the slot. -/
theorem slot_set (M : Memref sig .tc .vmem S8x16x2048 .bf16) (k : Fin 8) : (M.access (slotR k)).set = (slotV M k).view.set :=
  (View.set_reshape _ _).symm

/-- A slot is not empty. -/
theorem slot_ne (M : Memref sig .tc .vmem S8x16x2048 .bf16) (k : Fin 8) : (slotV M k).view.set.Nonempty :=
  ⟨_, View.emb_mem_set _ (fun a => ⟨0, by revert a; decide⟩)⟩

omit [FloatOps F] in
/-- A slot copied whole to another reads there as it did here. -/
theorem slot_pass (M M' : Memref sig .tc .vmem S8x16x2048 .bf16) (k : Fin 8) (fd : (slotV M k).view.ty.Contents (Elt F))
    (f : (slotV M' k).view.ty.Contents (Elt F)) :
    (M.access (slotR k)).read (Elt F) ((slotV M k).view.write (Elt F) fd ((slotV M' k).view.read (Elt F) f) Finset.univ)
      = (M'.access (slotR k)).read (Elt F) f := by
  funext x
  obtain ⟨y, rfl⟩ : ∃ y, Shape.reshapeEquiv (squeezes_S1x16x2048_S16x2048).numel_eq y = x :=
    ⟨(Shape.reshapeEquiv _).symm x, Equiv.apply_symm_apply _ x⟩
  exact View.read_write_of_mem (v := (slotV M k).view) fd _ (Finset.mem_univ y)

end Cert.KernelIdeal.Ring
end
-- ==== Proof.Msgs.lean ====
module
public import proofs.«01_k».proof.Proof.Views

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable {m : (ℓ : Loc nD τ sig) → Buf (Elt F) ℓ} {K : Dev nD × Kind → ℕ} {κs : Key → ℕ} {c : Dev nD}

/-! # The messages: waiting for one, making room, sending, giving credit -/

/-- Eight messages later the same slot is used, -/
theorem slotOf_next (b : ℕ) : slotOf (b + 8) = slotOf b := Fin.ext (Nat.add_mod_right b 8)
/-- in its next round. -/
theorem round_next (b : ℕ) : (b + 8) / 8 = b / 8 + 1 := Nat.add_div_right b (by decide)
/-- A message's number from its round and slot. -/
theorem msgNum (b : ℕ) : 8 * (b / 8) + (slotOf b).val = b := Nat.div_add_mod b 8

/-- Waiting for message `b` brings it. -/
theorem step_waitRecv (X : Bool) (b : ℕ) (hb : b < 120) {O : Owed} (hO : Above (2 * b + 10) O) :
    Step m K κs c iprop(Ow c O ∗ Rcv X c b) iprop(Ow c O ∗ RcvW X c b ∗ rbHas X c (slotOf b) (msg m X (srcOf X c) b)) (waitRecvK X (slotOf b)) := fun k Q => by
  unfold Rcv RcvW waitRecvK
  rw [bs_peel (show b < b + 8 by omega), bs_peel hb, show b + 1 + 8 = b + 8 + 1 by omega, bs_grow (show b + 1 ≤ b + 8 by omega), slotOf_next, round_next]
  iintro ⟨#HC, ⟨HO, ⟨Hat, Hats⟩, ⟨Hc, Hcs⟩, Hrd, Hmine, Hkept, Htok⟩, Hk⟩
  iapply (wait_cell (K := K) (κs := κs) (m := m) (c := c) (.recv X (slotOf b)) (k' := nMsg)
    (fun Kt => (wpE_waitDma2_eq 𝒱₀ (c.tc : Thread nD τ) none Set.univ Kt).trans (by rw [rb_credit]; rfl)) (b / 8) (2 * b + 10)
    (by dsimp only [kduties, kamount]; rw [if_pos (by omega), Finset.card_singleton, Nat.one_mul]) (by omega) hO) $$ [HO Hat Hc]
  · isplitr; · iexact HC
    isplitl [Hc]; · iexact Hc
    isplitl [HO]; · iexact HO
    iexact Hat
  iintro ⟨HO, Hat, Hr, Hp⟩
  iapply Hk
  isplitl [HO]; · iexact HO
  isplitr [Hp]
  · isplitl [Hat Hats]; · isplitl [Hat] <;> iassumption
    isplitl [Hcs]; · iexact Hcs
    isplitl [Hrd]; · iexact Hrd
    isplitl [Hmine]; · iexact Hmine
    isplitl [Hkept]; · iexact Hkept
    isplitl [Htok]; · iexact Htok
    iexact Hr
  · ihave Hp' := (Entails.of_eq (show (bigSep (kduties (.recv X (slotOf b)) (b / 8)) (fun d => kpay m c (.recv X (slotOf b)) (b / 8) d) : sProp 𝕄)
        = rbHas X c (slotOf b) (msg m X (srcOf X c) b) by
      dsimp only [kduties]; rw [if_pos (by omega), bigSep_singleton]; dsimp only [kpay]; rw [msgNum])) $$ Hp
    iexact Hp'

/-- Waiting for one's own message to have left frees its slot. -/
theorem step_waitSend (X : Bool) (lo a : ℕ) (h : lo < a) (ha : a ≤ lo + 8) (hlo : lo < 120) {O : Owed} (hO : Above 0 O) :
    Step m K κs c iprop(Ow c O ∗ Snd X c lo a) iprop(Ow c O ∗ Snd X c (lo + 1) a) (waitSendK X (slotOf lo)) := fun k Q => by
  unfold Snd waitSendK
  rw [bs_peel h, show lo + 1 + 8 = lo + 8 + 1 by omega, bs_grow ha]
  unfold inFlight idle
  rw [slotOf_next, round_next]
  iintro ⟨#HC, ⟨HO, ⟨⟨Hc, Hat⟩, Hfl⟩, Hid, Htok⟩, Hk⟩
  iapply (wait_cell (K := K) (κs := κs) (m := m) (c := c) (.send X (slotOf lo)) (k' := nMsg)
    (fun Kt => (wpE_waitDma2_eq 𝒱₀ (c.tc : Thread nD τ) none Set.univ Kt).trans (by rw [sb_credit]; rfl)) (lo / 8) 0
    (by dsimp only [kduties, kamount]; rw [if_pos (by omega), Finset.card_singleton, Nat.one_mul]) (by omega) hO) $$ [HO Hat Hc]
  · isplitr; · iexact HC
    isplitl [Hc]; · iexact Hc
    isplitl [HO]; · iexact HO
    iexact Hat
  iintro ⟨HO, Hat, Hr, Hp⟩
  iapply Hk
  isplitl [HO]; · iexact HO
  isplitl [Hfl]; · iexact Hfl
  isplitr [Htok]
  · isplitr [Hid]
    · isplitl [Hat]; · iexact Hat
      isplitl [Hr]; · iexact Hr
      ihave Hp' := (Entails.of_eq (show (bigSep (kduties (.send X (slotOf lo)) (lo / 8)) (fun d => kpay m c (.send X (slotOf lo)) (lo / 8) d) : sProp 𝕄)
          = sbSlot X c (slotOf lo) by
        dsimp only [kduties]; rw [if_pos (by omega), bigSep_singleton]; rfl)) $$ Hp
      iexact Hp'
    · iexact Hid
  iexact Htok

omit [FloatOps F] in
/-- Of more than `w` different numbers one is at least `w`. -/
theorem exists_ge {S : Finset ℕ} {w : ℕ} (h : w < S.card) : ∃ d ∈ S, w ≤ d := by
  by_contra hc
  have : S ⊆ Finset.range w := fun d hd => Finset.mem_range.mpr (by by_contra hn; exact hc ⟨d, hd, by omega⟩)
  have := Finset.card_le_card this
  rw [Finset.card_range] at this; omega

/-- Waiting for one more credit signal: there is room for one more message. -/
theorem step_credit (X : Bool) (w : ℕ) (hw : w < 112) {O : Owed} (hO : Above (2 * w + 11) O) :
    Step m K κs c iprop(Ow c O ∗ Crd X c w) iprop(Ow c O ∗ Crd X c (w + 1) ∗ room X c (w + 8))
      (fun k => .op (.semWait (creditSem X) (1#32 : BitVec 32).toInt) fun _ => k) := fun k Q => by
  have hm : Ctx m K κs ⊢ MayWait (c.tc : Thread nD τ) (csem (.credit X)) (2 * w + 11) O :=
    (ctx_level m K κs).trans (mayWait c _ (by omega) hO)
  unfold Crd Ow
  rw [bs_peel hw]
  iintro ⟨#HC, ⟨⟨%W, HO⟩, ⟨%T, %hT, Hat, #Hpays⟩, ⟨Hc, Hcs⟩, #Hroom⟩, Hk⟩
  iapply (Rounds.wp_wait 𝒱₀ ER (Rd m) (c.tc : Thread nD τ) none (κ := K (c, .credit X)) (sm := csem (.credit X)) (k' := 1)
      (wpE_semWait_eq 𝒱₀ (c.tc : Thread nD τ) none Set.univ) (Set.mem_univ _) (cr := Finsupp.single (2 * w + 11) 1)
      (O := O) (W := W) {(csem (.credit X), 2 * w + 11)} (R := 0) (m := w) (T := T) (by simp) (by simp)) $$ [Hc HO Hat]
  · isplitr; · iapply (ctx_inv m K κs (c, .credit X)); iexact HC
    isplitl [Hc]; · iexact Hc
    isplitl [HO]; · iexact HO
    isplitr; · iapply hm; iexact HC
    iexact Hat
  iintro %S ⟨%hS, HO, Hat, Hp⟩
  obtain ⟨hTS, hSd, hle⟩ := hS
  have hd : (Rd m).duties ((c.tc : Thread nD τ), csem (.credit X)) 0 = Finset.range 112 := Rd_duties m (c, .credit X) 0
  have he : (Rd m).expect ((c.tc : Thread nD τ), csem (.credit X)) 0 = 112 := (Rd_expect m (c, .credit X) 0).trans (by
    dsimp only [kduties, kamount]; rw [if_pos rfl, Finset.card_range])
  rw [hd] at hSd hle
  rw [he, Finset.card_sdiff_of_subset hSd, Finset.card_range] at hle
  have hcS := Finset.card_le_card hSd
  rw [Finset.card_range] at hcS
  have hcard : w + 1 ≤ S.card := by omega
  obtain ⟨d, hdS, hdw⟩ := exists_ge (show w < S.card by omega)
  ihave #Hp' := (Entails.of_eq (show (bigSep (S \ T) (fun d => (Rd m).payload ((c.tc : Thread nD τ), csem (.credit X)) 0 d) : sProp 𝕄)
      = bigSep (S \ T) (fun d => bigSep (Finset.range (d + 9)) (room X c)) from bigSep_congr fun d _ => Rd_payload m (c, .credit X) 0 d)) $$ Hp
  ihave #Hall := (show iprop((bigSep T fun d => bigSep (Finset.range (d + 9)) (room (F := F) X c)) ∗ bigSep (S \ T) fun d => bigSep (Finset.range (d + 9)) (room X c))
      ⊢ bigSep S fun d => bigSep (Finset.range (d + 9)) (room X c) from by
    conv_rhs => rw [← Finset.union_sdiff_of_subset hTS]
    rw [bigSep_union Finset.disjoint_sdiff]; exact Entails.refl _) $$ [Hpays Hp']
  · isplitr; · iexact Hpays
    iexact Hp'
  ihave #Hr := (show (bigSep S fun d => bigSep (Finset.range (d + 9)) (room (F := F) X c)) ⊢ room X c (w + 8) from
    (bigSep_elim hdS).trans (bigSep_elim (Finset.mem_range.mpr (show w + 8 < d + 9 by omega)))) $$ Hall
  iapply Hk
  isplitl [HO]; · iexists _; iexact HO
  isplitl [Hat Hcs]
  · isplitl [Hat]
    · iexists S
      isplitr; · ipureintro; exact ⟨hcard, hSd⟩
      isplitl [Hat]; · iexact Hat
      iexact Hall
    isplitl [Hcs]; · iexact Hcs
    iexact Hroom
  iexact Hr

/-- For the first eight messages there is room from the barrier on. -/
theorem out_ready (X : Bool) (a : ℕ) (h : a < 8) : Out (F := F) X c a ⊢ OutR X c a := by
  unfold Out OutR Crd
  rw [show a - 8 = 0 by omega, show a - 7 = 0 by omega]
  iintro ⟨HS, HT, Hcs, #Hroom⟩
  ihave #Hr := (show (bigSep (Finset.range 8) (room (F := F) X c)) ⊢ room X c a from
    bigSep_elim (Finset.mem_range.mpr h)) $$ Hroom
  isplitl [HS]; · iexact HS
  isplitl [HT Hcs]
  · isplitl [HT]; · iexact HT
    isplitl [Hcs]; · iexact Hcs
    iexact Hroom
  iexact Hr

/-- Room is made for message `a`: for the first eight there is, from the barrier on. -/
theorem step_reuse (X : Bool) (a : ℕ) (ha : a < 120) {O : Owed} (hO : Above (2 * a) O) :
    Step m K κs c iprop(Ow c O ∗ Out X c a) iprop(Ow c O ∗ OutR X c a) (reuseK X a (slotOf a)) := by
  by_cases h : 8 ≤ a
  · obtain ⟨e, rfl⟩ : ∃ e, a = e + 8 := ⟨a - 8, by omega⟩
    have hf : reuseK (F := F) X (e + 8) (slotOf (e + 8)) = fun k => waitSendK X (slotOf e) (.op (.semWait (creditSem X) (1#32 : BitVec 32).toInt) fun _ => k) := by
      funext k; unfold reuseK; rw [show Nat.ble 8 (e + 8) = true from Nat.ble_eq.mpr h, cond_true, slotOf_next]
    rw [hf]
    have h1 := (step_waitSend (m := m) (K := K) (κs := κs) (c := c) X e (e + 8) (by omega) (le_refl _) (by omega) (hO.mono (Nat.zero_le _))).frame (Crd X c e)
    have h2 := (step_credit (m := m) (K := K) (κs := κs) (c := c) X e (by omega) (hO.mono (by omega))).frame (Snd X c (e + 1) (e + 8))
    refine Step.comp (h1.conseq ?_ (Entails.refl _)) (h2.conseq ?_ ?_)
    · unfold Out; rw [Nat.add_sub_cancel]
      iintro ⟨HO, HS, HC⟩; isplitl [HO HS]; · isplitl [HO] <;> iassumption
      iexact HC
    · iintro ⟨⟨HO, HS⟩, HC⟩; isplitl [HO HC]; · isplitl [HO] <;> iassumption
      iexact HS
    · unfold OutR; rw [show e + 8 - 7 = e + 1 by omega]
      iintro ⟨⟨HO, HC, HR⟩, HS⟩
      isplitl [HO]; · iexact HO
      isplitl [HS]; · iexact HS
      isplitl [HC] <;> iassumption
  · have hf : reuseK (F := F) X a (slotOf a) = fun k => k := by
      funext k; unfold reuseK; rw [show Nat.ble 8 a = false from by rw [← Bool.not_eq_true, Nat.ble_eq]; exact h, cond_false]
    rw [hf]
    refine (Step.id _).conseq (P := iprop(Ow c O ∗ OutR X c a)) ?_ (Entails.refl _)
    exact sep_mono_right (out_ready X a (by omega))

end Cert.KernelIdeal.Ring
end
-- ==== Proof.Send.lean ====
module
public import proofs.«01_k».proof.Proof.Msgs

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable {m : (ℓ : Loc nD τ sig) → Buf (Elt F) ℓ} {K : Dev nD × Kind → ℕ} {κs : Key → ℕ} {c : Dev nD}

/-! # Sending a message, and giving its slot back -/

/-- One slot is not held twice. -/
theorem slot_twice (X : Bool) (d : Dev nD) (k : Fin 8) : iprop(rbSlot (F := F) X d k ∗ rbSlot X d k) ⊢ (False : sProp 𝕄) := by
  unfold rbSlot; exact Release.slot_slot_false (slot_ne _ k)

/-- What has landed in an arrival slot is the message. -/
theorem msg_landed (X : Bool) (d : Dev nD) (a : ℕ) (v : FVec F S1x16x2048 .bf16) (hv : v = msg m X (srcOf X d) a)
    (fd : Buf (Elt F) (rbLoc X d (slotOf a))) (f : Buf (Elt F) (sbLoc X (srcOf X d) (slotOf a)))
    (hf : ((sbM X).access (slotR (slotOf a))).read (Elt F) f = v) (ha : a < 120) :
    (rbLoc X d (slotOf a) ↦[(slotV (rbM X) (slotOf a)).view.set]{fullShare}
        ((slotV (rbM X) (slotOf a)).view.write (Elt F) fd ((slotV (sbM X) (slotOf a)).view.read (Elt F) f) Finset.univ) : sProp 𝕄)
      ⊢ (Rd m).payload (kcell (d, .recv X (slotOf a))) (a / 8) 0 := by
  rw [Rd_payload]
  dsimp only [kpay]
  unfold rbHas
  rw [msgNum]
  iintro H
  iexists _
  isplitr
  · ipureintro
    exact (slot_pass (rbM X) (sbM X) (slotOf a) fd f).trans (hf.trans hv)
  iexact H

/-- The transfer itself. -/
theorem wp_msg (X : Bool) (d : Dev nD) (hd : srcOf X d = c) (a : ℕ) (ha : a < 120) {O₀ : Owed} (O : Owed)
    (hO : O₀ = O + tallyAt (kcell (d, .recv X (slotOf a))) (2 * a + 10) nMsg) {W : Waits sig ℕ}
    (fd : Buf (Elt F) (rbLoc X d (slotOf a))) (f : Buf (Elt F) (sbLoc X c (slotOf a)))
    (hf : ((sbM X).access (slotR (slotOf a))).read (Elt F) f = msg m X c a) {k : PUnit → PR F} {Q : PUnit → sProp 𝕄}
    {hsc : (slotV (rbM X) (slotOf a)).view.ref.isScScratch = false} {hsrc hdst hsem} :
    iprop(Ctx m K κs ∗ (sbLoc X c (slotOf a) ↦[(slotV (sbM X) (slotOf a)).view.set]{fullShare} f)
        ∗ (rbLoc X d (slotOf a) ↦[(slotV (rbM X) (slotOf a)).view.set]{fullShare} fd) ∗ owes (c.tc : Thread nD τ) O₀ W
        ∗ dutyTok ER (kcell (c, .send X (slotOf a))) (a / 8) 0 ∗ reached ER (kcell (c, .send X (slotOf a))) (a / 8)
        ∗ dutyTok ER (kcell (d, .recv X (slotOf a))) (a / 8) 0 ∗ reached ER (kcell (d, .recv X (slotOf a))) (a / 8))
      ⊢ iprop(((cred (tallyAt (kcell (c, .send X (slotOf a))) 0 nMsg) ∗ owes (c.tc : Thread nD τ) O W) -∗ WP c (k ⟨⟩) Q)
        -∗ WP c (.op (.enqueueDma (slotV (sbM X) (slotOf a)) (.remote (Dev.tc d : Thread nD τ) (slotV (rbM X) (slotOf a)) (.dma (sem8 (sendA X) (slotOf a))) hsc)
            (.dma (sem8 (recvA X) (slotOf a))) hsrc hdst hsem) k) Q) := by
  subst hd
  iintro ⟨#HC, Hs, Hd, HO, Ht1, Hr1, Ht2, Hr2⟩
  iapply (Rounds.wp_send_pointsTo 𝒱₀ ER (Rd m) ((srcOf X d).tc : Thread nD τ) none (κ₁ := K (srcOf X d, .send X (slotOf a))) (κ₂ := K (d, .recv X (slotOf a)))
    (r₁ := a / 8) (r₂ := a / 8) (d₁ := 0) (d₂ := 0) (fd := fd) (fs := f) (sS := csem (.send X (slotOf a))) (sem := csem (.recv X (slotOf a)))
    (c' := (d.tc : Thread nD τ))
    (by rw [show (Rd m).duties (((srcOf X d).tc : Thread nD τ), csem (.send X (slotOf a))) (a / 8) = _ from Rd_duties m (srcOf X d, .send X (slotOf a)) (a / 8)]
        dsimp only [kduties]; rw [if_pos (by omega)]; exact Finset.mem_singleton_self _)
    (by rw [show (Rd m).duties ((d.tc : Thread nD τ), csem (.recv X (slotOf a))) (a / 8) = _ from Rd_duties m (d, .recv X (slotOf a)) (a / 8)]
        dsimp only [kduties]; rw [if_pos (by omega)]; exact Finset.mem_singleton_self _)
    (2 * a + 10) 0 nMsg (rb_credit X _) (Rd_amount m (srcOf X d, .send X (slotOf a)) (a / 8) 0) (Rd_amount m (d, .recv X (slotOf a)) (a / 8) 0)
    O hO (W := W)
    (by rw [show (Rd m).payload (((srcOf X d).tc : Thread nD τ), csem (.send X (slotOf a))) (a / 8) 0 = _ from Rd_payload m (srcOf X d, .send X (slotOf a)) (a / 8) 0]
        dsimp only [kpay]; unfold sbSlot Release.slot
        iintro H; iexists _; iexact H)
    (msg_landed X d a _ rfl fd f hf ha))
  isplitr; · iapply (ctx_inv m K κs (srcOf X d, .send X (slotOf a))); iexact HC
  isplitr; · iapply (ctx_inv m K κs (d, .recv X (slotOf a))); iexact HC
  isplitl [Hs]; · iexact Hs
  isplitl [Hd]; · iexact Hd
  isplitl [HO]; · iexact HO
  isplitl [Ht1]; · iexact Ht1
  isplitl [Hr1]; · iexact Hr1
  isplitl [Ht2]; · iexact Ht2
  iexact Hr2

/-- Sending message `a`. -/
theorem step_send (X : Bool) (a b : ℕ) (ha : a < 120) (v : FVec F S1x16x2048 .bf16) (hv : v = msg m X c a) (R : Owed) :
    Step m K κs c iprop(Ow c (R + owedX c X a b) ∗ OutR X c a) iprop(Ow c (R + owedX c X (a + 1) b) ∗ Out X c (a + 1)) (sendK X (slotOf a) c v) := fun k Q => by
  unfold Out OutR sendK Ow Snd
  rw [show a + 1 - 8 = a - 7 by omega, bs_peel (show a < a - 7 + 8 by omega), bs_peel ha, bs_grow (show a - 7 ≤ a by omega)]
  unfold idle sendTok room mine sbSlot Release.slot
  iintro ⟨#HC, ⟨⟨%W, HO⟩, ⟨Hfl, ⟨⟨Hat, #Hrs, %f, Hsb⟩, Hid⟩, ⟨⟨Ht1, Ht2, Hw⟩, Htok⟩⟩, Hcr, #Hrel, #Hrr⟩, Hk⟩
  iapply (wp_load_rect 𝒱₀ (c.tc : Thread nD τ) none Set.univ (m := sbM X) (r := slotR (slotOf a)) (slot_set _ _).subset) $$ Hsb; iintro Hsb
  iapply (wp_store 𝒱₀ (c.tc : Thread nD τ) none Set.univ (m := sbM X) (r := slotR (slotOf a)) (Mk := Finset.univ) (slot_set _ _).subset) $$ Hsb; iintro Hsb
  imod (Release.slot_take ES (Set.mem_univ (κs (dstOf X c, X, slotOf a))) (a / 8 + 1)) $$ [Hw] with Hrb
  · isplitr; · iapply (ctx_slot m K κs (dstOf X c, X, slotOf a)); iexact HC
    isplitr; · iexact Hrel
    iexact Hw
  ihave Hrb' := (Entails.of_eq (show rbSlot (F := F) X (dstOf X c) (slotOf a) = _ by unfold rbSlot Release.slot; rfl)) $$ Hrb
  icases Hrb' with ⟨%fd, Hrb⟩
  iapply (wp_msg (K := K) (κs := κs) X (dstOf X c) (src_dst X c) a ha (O₀ := R + owedX c X a b) (R + owedX c X (a + 1) b)
    (by rw [owedX_send c X ha, ← add_assoc]; rfl) fd (((sbM X).access (slotR (slotOf a))).write (Elt F) f v Finset.univ)
    ((View.read_write_univ (v := (sbM X).access (slotR (slotOf a))) f v).trans hv)) $$ [HO Hsb Hrb Ht1 Ht2]
  · isplitr; · iexact HC
    isplitl [Hsb]; · iexact Hsb
    isplitl [Hrb]; · iexact Hrb
    isplitl [HO]; · iexact HO
    isplitl [Ht1]; · iexact Ht1
    isplitr; · iexact Hrs
    isplitl [Ht2]; · iexact Ht2
    iexact Hrr
  iintro ⟨Hc, HO⟩
  iapply Hk
  isplitl [HO]; · iexists _; iexact HO
  isplitr [Hcr]
  · isplitl [Hc Hat Hfl]
    · isplitl [Hc Hat]; · unfold inFlight; isplitl [Hc] <;> iassumption
      iexact Hfl
    isplitl [Hid]; · iexact Hid
    iexact Htok
  iexact Hcr

/-- Giving the slot of message `b` back to its writer, unless that has no more messages. -/
theorem step_give (X : Bool) (a b : ℕ) (hb : b < 120) (v : FVec F S1x16x2048 .bf16) (R : Owed) :
    Step m K κs c iprop(Ow c (R + owedX c X a b) ∗ RcvW X c b ∗ rbHas X c (slotOf b) v) iprop(Ow c (R + owedX c X a (b + 1)) ∗ Rcv X c (b + 1)) (creditK X b c) := by
  have hsl : rbHas X c (slotOf b) v ⊢ (rbSlot X c (slotOf b) : sProp 𝕄) := by
    unfold rbHas rbSlot Release.slot
    iintro ⟨%f, -, H⟩; iexists _; iexact H
  by_cases h : b < 112
  · have hf : creditK (F := F) X b c = fun k => .op (.semSignal ((srcOf X c).tc : Thread nD τ) (creditSem X) ((1 : ℕ) : ℤ)) fun _ => k := by
      funext k; unfold creditK; rw [show Nat.blt b 112 = true from Nat.ble_eq.mpr h, cond_true]; rfl
    rw [hf]
    intro k Q
    unfold RcvW Rcv Ow
    rw [show min (b + 8) 120 = b + 8 by omega, show min (b + 1 + 8) 120 = b + 8 + 1 by omega, bs_peel (show b < b + 8 by omega),
      bs_peel h, Finset.Ico_eq_empty (show ¬ 112 < b by omega), Finset.Ico_eq_empty (show ¬ 112 < b + 1 by omega)]
    iintro ⟨#HC, ⟨⟨%W, HO⟩, ⟨Hats, Hcs, ⟨Hrd, Hrds⟩, #Hmine, He, ⟨Ht, Htok⟩, #Hr⟩, Hrb⟩, Hk⟩
    imod (Release.slot_release ES (k := (c, X, slotOf b)) (S := rbSlot (F := F) X c (slotOf b)) (Set.mem_univ (κs (c, X, slotOf b))) (slot_twice X c (slotOf b)) (b / 8 + 1)) $$ [Hrd Hrb] with ⟨Hrd, #Hrel⟩
    · isplitr; · iapply (ctx_slot m K κs (c, X, slotOf b)); iexact HC
      isplitl [Hrd]; · iexact Hrd
      iapply hsl; iexact Hrb
    ihave #Hnew := (show iprop(Release.released ES (c, X, slotOf b) (b / 8 + 1 + 1) ∗ reached ER (kcell (c, .recv X (slotOf b))) (b / 8 + 1)) ⊢ mine (F := F) X c (b + 8) from by
      unfold mine; rw [slotOf_next, round_next]) $$ []
    · isplitr; · iexact Hrel
      iexact Hr
    ihave #Hmine' := (show iprop(mine (F := F) X c (b + 8) ∗ bigSep (Finset.range (b + 8)) (mine X c)) ⊢ bigSep (Finset.range (b + 8 + 1)) (mine X c) from by
      rw [bs_range_succ (b + 8)]) $$ []
    · isplitr; · iexact Hnew
      iexact Hmine
    iapply (Rounds.wp_signal 𝒱₀ ER (Rd m) (c.tc : Thread nD τ) none (dst := ((srcOf X c).tc : Thread nD τ)) (κ := K (srcOf X c, .credit X)) (d := b)
        (sem := creditSem X) (k' := 1) (r := 0)
        (show b ∈ (Rd m).duties (kcell (srcOf X c, .credit X)) 0 by
            rw [Rd_duties]; dsimp only [kduties]; rw [if_pos rfl]; exact Finset.mem_range.mpr h)
        (Rd_amount m (srcOf X c, .credit X) 0 b) (2 * b + 11) (O₀ := R + owedX c X a b) (R + owedX c X a (b + 1))
        (by rw [owedX_credit c X h, ← add_assoc]; rfl)) $$ [HO Ht]
    · isplitr; · iapply (ctx_inv m K κs (srcOf X c, .credit X)); iexact HC
      isplitl [HO]; · iexact HO
      isplitl [Ht]; · iexact Ht
      isplitr
      · ihave Hp := (Entails.of_eq (show bigSep (Finset.range (b + 8 + 1)) (mine (F := F) X c) = (Rd m).payload (((srcOf X c).tc : Thread nD τ), .reg (creditSem X)) 0 b from by
          rw [show (Rd m).payload (((srcOf X c).tc : Thread nD τ), .reg (creditSem X)) 0 b = _ from Rd_payload m (srcOf X c, .credit X) 0 b]
          dsimp only [kpay]; refine bigSep_congr fun d _ => ?_; unfold room; rw [dst_src])) $$ Hmine'
        iexact Hp
      iapply (ctx_reached m K κs (srcOf X c, .credit X)); iexact HC
    iintro HO
    iapply Hk
    isplitl [HO]; · iexists _; iexact HO
    isplitl [Hats]; · iexact Hats
    isplitl [Hcs]; · iexact Hcs
    isplitl [Hrd Hrds]
    · iapply (Entails.of_eq (bs_grow (show b + 1 ≤ b + 8 by omega) (fun mm => Release.readerAt (ES (F := F)) (c, X, slotOf mm) (mm / 8 + 1))).symm)
      isplitl [Hrd]
      · rw [slotOf_next, round_next]; iexact Hrd
      iexact Hrds
    isplitr; · iexact Hmine'
    isplitl [He]; · iexact He
    iexact Htok
  · have hf : creditK (F := F) X b c = fun k => k := by
      funext k; unfold creditK; rw [show Nat.blt b 112 = false from by rw [← Bool.not_eq_true]; exact fun h' => h (Nat.ble_eq.mp h'), cond_false]
    rw [hf]
    refine (Step.id _).conseq (P := iprop(Ow c (R + owedX c X a (b + 1)) ∗ Rcv X c (b + 1))) ?_ (Entails.refl _)
    rw [show owedX c X a (b + 1) = owedX c X a b by unfold owedX; rw [Finset.Ico_eq_empty (show ¬ b < 112 by omega), Finset.Ico_eq_empty (show ¬ b + 1 < 112 by omega)]]
    unfold RcvW Rcv
    rw [show min (b + 8) 120 = 120 by omega, show min (b + 1 + 8) 120 = 120 by omega, bs_peel (show b < 120 by omega),
      bs_grow (show 112 ≤ b by omega), Finset.Ico_eq_empty (show ¬ b < 112 by omega), Finset.Ico_eq_empty (show ¬ b + 1 < 112 by omega)]
    iintro ⟨HO, ⟨Hats, Hcs, ⟨-, Hrds⟩, #Hmine, He, Htok, -⟩, Hrb⟩
    isplitl [HO]; · iexact HO
    isplitl [Hats]; · iexact Hats
    isplitl [Hcs]; · iexact Hcs
    isplitl [Hrds]; · iexact Hrds
    isplitr; · iexact Hmine
    isplitl [He Hrb]
    · isplitl [Hrb]; · iapply hsl; iexact Hrb
      iexact He
    iexact Htok

end Cert.KernelIdeal.Ring
end
-- ==== Proof.Geo.lean ====
module
public import proofs.«01_k».proof.Proof.Res

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! # The rows of the accumulator and of the result, in pieces -/

/-- The direction, hop and quarter a row belongs to. -/
def dirAt (i : S2048x2048.Idx) : Bool := decide ((i 0).val % 128 < 64)
def hopAt (c : Dev nD) (X : Bool) (i : S2048x2048.Idx) : ℕ := hopOf X c ((i 0).val / 128)
def qtrAt (i : S2048x2048.Idx) : ℕ := (i 0).val % 64 / 16

/-- There are four quarters -/
theorem qtrAt_lt (i : S2048x2048.Idx) : qtrAt i < 4 := by unfold qtrAt; omega
/-- and sixteen hops. -/
theorem hopAt_lt (c : Dev nD) (X : Bool) (i : S2048x2048.Idx) : hopAt c X i < 16 := Nat.mod_lt _ (by decide)

/-- The places of 64 rows are those of their direction and hop; -/
theorem mem_R64 (X : Bool) (c : Dev nD) (t : ℕ) (ht : t < 16) (i : S2048x2048.Idx) :
    i ∈ (R64 X c t).set ↔ dirAt i = X ∧ hopAt c X i = t := by
  have hi : (i 0).val < 2048 := (i 0).isLt
  have h1 : (i 1).val < 2048 := (i 1).isLt
  have hp := pos_lt c
  have e : i ∈ (R64 X c t).set ↔ row X c t 0 ≤ (i 0).val ∧ (i 0).val < row X c t 0 + 64 := by
    rw [Rect.mem_set_unit]
    exact ⟨fun h => h 0, fun h a => match a with
      | 0 => h
      | 1 => ⟨Nat.zero_le _, by show (i 1).val < 0 + 2048; omega⟩⟩
  rw [e]
  unfold dirAt hopAt hopOf row chunk
  cases X <;> simp only [cond_true, cond_false, decide_eq_true_eq, decide_eq_false_iff_not] <;> omega

/-- those of 16 rows have the quarter too. -/
theorem mem_R16 (X : Bool) (c : Dev nD) (t : ℕ) (ht : t < 16) (q : Fin 4) (i : S2048x2048.Idx) :
    i ∈ (R16 X c t q).set ↔ (dirAt i = X ∧ hopAt c X i = t) ∧ qtrAt i = q.val := by
  have hi : (i 0).val < 2048 := (i 0).isLt
  have h1 : (i 1).val < 2048 := (i 1).isLt
  have hp := pos_lt c
  have hq := q.isLt
  have e : i ∈ (R16 X c t q).set ↔ row X c t q.val ≤ (i 0).val ∧ (i 0).val < row X c t q.val + 16 := by
    rw [Rect.mem_set_unit]
    exact ⟨fun h => h 0, fun h a => match a with
      | 0 => h
      | 1 => ⟨Nat.zero_le _, by show (i 1).val < 0 + 2048; omega⟩⟩
  rw [e]
  unfold dirAt hopAt hopOf qtrAt row chunk
  cases X <;> simp only [cond_true, cond_false, decide_eq_true_eq, decide_eq_false_iff_not] <;> omega

/-- The rows of one direction. -/
def half (X : Bool) : Finset S2048x2048.Idx := Finset.univ.filter fun i => dirAt i = X
/-- A direction's half has the places of that direction. -/
theorem mem_half (X : Bool) (i : S2048x2048.Idx) : i ∈ half X ↔ dirAt i = X := by unfold half; rw [Finset.mem_filter]; exact and_iff_right (Finset.mem_univ i)

/-- The two halves are the whole array -/
theorem halves : half true ∪ half false = Finset.univ := by
  ext i; rw [Finset.mem_union, mem_half, mem_half]; cases dirAt i <;> simp
/-- and share nothing. -/
theorem halves_disj : Disjoint (half true) (half false) := by
  rw [Finset.disjoint_left]; intro i h; rw [mem_half] at *; rw [h]; decide

/-- The blocks of different hops share nothing, -/
theorem hops_disj (X : Bool) (c : Dev nD) (S : Finset ℕ) (hS : S ⊆ Finset.range 16) :
    ∀ t ∈ S, ∀ t' ∈ S, t ≠ t' → Disjoint (R64 X c t).set (R64 X c t').set := fun t ht t' ht' hne => by
  rw [Finset.disjoint_left]; intro i h h'
  rw [mem_R64 X c _ (Finset.mem_range.mp (hS ht))] at h
  rw [mem_R64 X c _ (Finset.mem_range.mp (hS ht'))] at h'
  exact hne (h.2.symm.trans h'.2)
/-- and together they are a half. -/
theorem hops_half (X : Bool) (c : Dev nD) : (Finset.range 16).biUnion (fun t => (R64 X c t).set) = half X := by
  ext i
  rw [Finset.mem_biUnion, mem_half]
  constructor
  · rintro ⟨t, ht, h⟩; exact ((mem_R64 X c t (Finset.mem_range.mp ht) i).mp h).1
  · intro h; exact ⟨hopAt c X i, Finset.mem_range.mpr (hopAt_lt c X i), (mem_R64 X c _ (hopAt_lt c X i) i).mpr ⟨h, rfl⟩⟩

/-- The quarters of a block share nothing, -/
theorem quarters_disj (X : Bool) (c : Dev nD) (t : ℕ) (ht : t < 16) :
    ∀ q ∈ Finset.range 4, ∀ q' ∈ Finset.range 4, q ≠ q' → Disjoint (R16 X c t (qF q)).set (R16 X c t (qF q')).set := fun q hq q' hq' hne => by
  rw [Finset.disjoint_left]; intro i h h'
  rw [mem_R16 X c _ ht] at h h'
  have h1 := Finset.mem_range.mp hq; have h2 := Finset.mem_range.mp hq'
  have e := h.2.symm.trans h'.2
  have : q % 4 = q' % 4 := e
  omega
/-- and together they are the block. -/
theorem quarters_block (X : Bool) (c : Dev nD) (t : ℕ) (ht : t < 16) : (Finset.range 4).biUnion (fun q => (R16 X c t (qF q)).set) = (R64 X c t).set := by
  ext i
  rw [Finset.mem_biUnion, mem_R64 X c t ht]
  constructor
  · rintro ⟨q, hq, h⟩; exact ((mem_R16 X c t ht _ i).mp h).1
  · intro h
    refine ⟨qtrAt i, Finset.mem_range.mpr (qtrAt_lt i), (mem_R16 X c t ht _ i).mpr ⟨h, ?_⟩⟩
    show qtrAt i = qtrAt i % 4
    have := qtrAt_lt i; omega

/-- The first copy out takes the rows that the device finished, -/
theorem mem_cp_zero (X : Bool) (c : Dev nD) (i : S2048x2048.Idx) : i ∈ cpSet c X 0 ↔ dirAt i = X ∧ hopAt c X i = 15 :=
  mem_R64 X c 15 (by decide) i
/-- and each later one the quarter that a message brought. -/
theorem mem_cp_succ (X : Bool) (c : Dev nD) (n : ℕ) (hn : n < 60) (i : S2048x2048.Idx) :
    i ∈ cpSet c X (n + 1) ↔ dirAt i = X ∧ 4 * hopAt c X i + qtrAt i = n := by
  have e : i ∈ cpSet c X (n + 1) ↔ (dirAt i = X ∧ hopAt c X i = n / 4) ∧ qtrAt i = n % 4 := mem_R16 X c (n / 4) (by omega) (qF n) i
  rw [e]
  have := qtrAt_lt i
  constructor
  · rintro ⟨⟨h1, h2⟩, h3⟩; exact ⟨h1, by omega⟩
  · rintro ⟨h1, h2⟩; exact ⟨⟨h1, by omega⟩, by omega⟩

/-- The copies share nothing, -/
theorem cp_disj (X : Bool) (c : Dev nD) : ∀ j ∈ Finset.range 61, ∀ j' ∈ Finset.range 61, j ≠ j' → Disjoint (cpSet c X j) (cpSet c X j') := by
  have h0 : ∀ n < 60, Disjoint (cpSet c X 0) (cpSet c X (n + 1)) := fun n hn => by
    rw [Finset.disjoint_left]; intro i h h'
    rw [mem_cp_zero] at h; rw [mem_cp_succ X c n hn] at h'
    have := h.2; have := h'.2; omega
  intro j hj j' hj' hne
  rw [Finset.mem_range] at hj hj'
  match j, j' with
  | 0, 0 => exact absurd rfl hne
  | 0, n + 1 => exact h0 n (by omega)
  | n + 1, 0 => exact (h0 n (by omega)).symm
  | n + 1, n' + 1 =>
    rw [Finset.disjoint_left]; intro i h h'
    rw [mem_cp_succ X c n (by omega)] at h; rw [mem_cp_succ X c n' (by omega)] at h'
    have := h.2; have := h'.2; omega
/-- and together they are a half. -/
theorem cp_half (X : Bool) (c : Dev nD) : (Finset.range 61).biUnion (cpSet c X) = half X := by
  ext i
  rw [Finset.mem_biUnion, mem_half]
  constructor
  · rintro ⟨j, hj, h⟩
    rw [Finset.mem_range] at hj
    match j with
    | 0 => exact ((mem_cp_zero X c i).mp h).1
    | n + 1 => exact ((mem_cp_succ X c n (by omega) i).mp h).1
  · intro h
    have h1 := hopAt_lt c X i; have h2 := qtrAt_lt i
    by_cases e : hopAt c X i = 15
    · exact ⟨0, by decide, (mem_cp_zero X c i).mpr ⟨h, e⟩⟩
    · exact ⟨4 * hopAt c X i + qtrAt i + 1, Finset.mem_range.mpr (by omega), (mem_cp_succ X c _ (by omega) i).mpr ⟨h, rfl⟩⟩

/-- The fifteen gathered blocks are the sixty gathered quarters. -/
theorem blocks_quarters (X : Bool) (c : Dev nD) :
    (Finset.range 15).biUnion (fun t => (R64 X c t).set) = (Finset.range 60).biUnion (fun n => cpSet c X (n + 1)) := by
  ext i
  rw [Finset.mem_biUnion, Finset.mem_biUnion]
  have h2 := qtrAt_lt i
  constructor
  · rintro ⟨t, ht, h⟩
    rw [Finset.mem_range] at ht
    rw [mem_R64 X c t (by omega)] at h
    exact ⟨4 * hopAt c X i + qtrAt i, Finset.mem_range.mpr (by omega), (mem_cp_succ X c _ (by omega) i).mpr ⟨h.1, rfl⟩⟩
  · rintro ⟨n, hn, h⟩
    rw [Finset.mem_range] at hn
    rw [mem_cp_succ X c n hn] at h
    exact ⟨hopAt c X i, Finset.mem_range.mpr (by omega), (mem_R64 X c _ (by omega) i).mpr ⟨h.1, rfl⟩⟩

end Cert.KernelIdeal.Ring
end
-- ==== Proof.Acc.lean ====
module
public import proofs.«01_k».proof.Proof.Send

public import proofs.«01_k».proof.Proof.Geo
@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable {m : (ℓ : Loc nD τ sig) → Buf (Elt F) ℓ} {K : Dev nD × Kind → ℕ} {κs : Key → ℕ} {c : Dev nD}

/-! # The steps of the reduction -/

omit [FloatOps F] in
/-- Reading a quarter of the accumulator reads the array's rows there. -/
theorem read_quarter (off : Fin 2 → ℕ) (h) (X : Bool) (d : Dev nD) (t : ℕ) (q : Fin 4) (ho : off = ![row X d t q.val, 0])
    (f : Vec F S2048x2048 .f32) : (accV.access (accR off h)).read (Elt F) f = fun y => f ((R16 X d t q).emb y) := by subst ho; rfl

/-- A load of a quarter of a block held. -/
theorem wp_load_quarter (off : Fin 2 → ℕ) (h) (X : Bool) (t : ℕ) (q : Fin 4) (ho : off = ![row X c t q.val, 0])
    {S : Finset S2048x2048.Idx} (hS : (R16 X c t q).set ⊆ S) (f : Vec F S2048x2048 .f32) (w : Vec F S16x2048 .f32)
    (hw : ∀ y, f ((R16 X c t q).emb y) = w y) {hl} (k : Vec F S16x2048 .f32 → PR F) (Q : PUnit → sProp 𝕄) :
    (accLoc c ↦[S]{fullShare} f : sProp 𝕄)
      ⊢ iprop(((accLoc c ↦[S]{fullShare} f) -∗ WP c (k w) Q) -∗ WP c (.op (.load accV (accR off h).toLoadRect hl) k) Q) := by
  subst ho
  have e : (accV.access (accR ![row X c t q.val, 0] h)).read (Elt F) f = w := funext hw
  rw [← e]
  exact wp_load_rect 𝒱₀ (c.tc : Thread nD τ) none Set.univ (m := accV) (r := accR ![row X c t q.val, 0] h) (by rw [View.set_slice_whole]; exact hS)

/-- A store to a quarter of a block. -/
theorem wp_store_quarter (off : Fin 2 → ℕ) (h) (X : Bool) (t : ℕ) (q : Fin 4) (ho : off = ![row X c t q.val, 0])
    (f g : Vec F S2048x2048 .f32) (w : Vec F S16x2048 .f32) (hg : ∀ y, g ((R16 X c t q).emb y) = w y) {hx hm}
    (k : PUnit → PR F) (Q : PUnit → sProp 𝕄) :
    (accLoc c ↦[(R16 X c t q).set]{fullShare} f : sProp 𝕄)
      ⊢ iprop(((accLoc c ↦[(R16 X c t q).set]{fullShare} g) -∗ WP c (k ⟨⟩) Q) -∗ WP c (.op (.store accV (accR off h) w Finset.univ hx hm) k) Q) := by
  subst ho
  have e : (accLoc c ↦[(R16 X c t q).set]{fullShare} ((accV.access (accR ![row X c t q.val, 0] h)).write (Elt F) f w Finset.univ) : sProp 𝕄)
      = (accLoc c ↦[(R16 X c t q).set]{fullShare} g) := pointsTo_congr fun i hi => by
    rw [← Rect.map_emb_univ, Finset.mem_map] at hi
    obtain ⟨y, -, rfl⟩ := hi
    exact (View.write_emb_of_mem (v := accV.access (accR ![row X c t q.val, 0] h)) f w (Finset.mem_univ y)).trans (hg y).symm
  rw [← e]
  exact wp_store 𝒱₀ (c.tc : Thread nD τ) none Set.univ (m := accV) (r := accR ![row X c t q.val, 0] h) (Mk := Finset.univ)
    (by rw [View.setOn_univ, View.set_slice_whole])

/-- A store to a block. -/
theorem wp_store_block (off : Fin 2 → ℕ) (h) (X : Bool) (t : ℕ) (ho : off = ![row X c t 0, 0])
    (f g : Vec F S2048x2048 .f32) (w : Vec F S64x2048 .f32) (hg : ∀ y, g ((R64 X c t).emb y) = w y) {hx hm}
    (k : PUnit → PR F) (Q : PUnit → sProp 𝕄) :
    (accLoc c ↦[(R64 X c t).set]{fullShare} f : sProp 𝕄)
      ⊢ iprop(((accLoc c ↦[(R64 X c t).set]{fullShare} g) -∗ WP c (k ⟨⟩) Q) -∗ WP c (.op (.store accV (rowsR off h) w Finset.univ hx hm) k) Q) := by
  subst ho
  have e : (accLoc c ↦[(R64 X c t).set]{fullShare} ((accV.access (rowsR ![row X c t 0, 0] h)).write (Elt F) f w Finset.univ) : sProp 𝕄)
      = (accLoc c ↦[(R64 X c t).set]{fullShare} g) := pointsTo_congr fun i hi => by
    rw [← Rect.map_emb_univ, Finset.mem_map] at hi
    obtain ⟨y, -, rfl⟩ := hi
    exact (View.write_emb_of_mem (v := accV.access (rowsR ![row X c t 0, 0] h)) f w (Finset.mem_univ y)).trans (hg y).symm
  rw [← e]
  exact wp_store 𝒱₀ (c.tc : Thread nD τ) none Set.univ (m := accV) (r := rowsR ![row X c t 0, 0] h) (Mk := Finset.univ)
    (by rw [View.setOn_univ, View.set_slice_whole])

/-! ## The products -/

variable (m) in
/-- The operands a product is of. -/
def Ops (c : Dev nD) : sProp 𝕄 := iprop((avLoc c ↦{fullShare} aOf m c) ∗ (b16Loc c ↦{fullShare} b16 m c))
variable (m) in
/-- A block of products. -/
def blk (X : Bool) (c : Dev nD) (t : ℕ) : sProp 𝕄 := iprop(accLoc c ↦[(R64 X c t).set]{fullShare} dotAll m c)
/-- The room for one. -/
def blkAny (X : Bool) (c : Dev nD) (t : ℕ) : sProp 𝕄 := iprop(∃ f : Vec F S2048x2048 .f32, accLoc c ↦[(R64 X c t).set]{fullShare} f)

omit [FloatOps F] in
/-- Reading the whole rounded right operand reads all of it. -/
theorem read_b16 (f : Vec F S1024x2048 .bf16) : (b16V.access b16R).read (Elt F) f = f := by
  funext i
  refine congrArg f (funext fun a => Fin.ext ?_)
  show (b16R.emb i a).val = (i a).val
  rw [Rect.emb_apply]
  match a with
  | 0 => show 0 + 1 * (i 0).val = (i 0).val; omega
  | 1 => show 0 + 1 * (i 1).val = (i 1).val; omega

/-- The product of a block of rows. -/
theorem step_dot (X : Bool) (t : ℕ) (ht : t < 16) (offa offc : Fin 2 → ℕ) (ha hc) (hoa : offa = ![row X c t 0, 0]) (hoc : offc = ![row X c t 0, 0]) :
    Step m K κs c iprop(Ops m c ∗ blkAny X c t) iprop(Ops m c ∗ blk m X c t) (dotK offa offc ha hc) := fun k Q => by
  subst hoa
  unfold dotK Ops blkAny blk
  iintro ⟨#HC, ⟨⟨Ha, Hb⟩, %f, Hf⟩, Hk⟩
  iapply (wp_load_rect 𝒱₀ (c.tc : Thread nD τ) none Set.univ (m := aV) (r := aR ![row X c t 0, 0] ha) (Finset.subset_univ _)) $$ Ha; iintro Ha
  iapply (wp_load_rect 𝒱₀ (c.tc : Thread nD τ) none Set.univ (m := b16V) (r := b16R) (Finset.subset_univ _)) $$ Hb; iintro Hb
  iapply (wp_load_rect 𝒱₀ (c.tc : Thread nD τ) none Set.univ (m := accV) (r := rowsR offc hc) (S := (R64 X c t).set)
    (by subst hoc; rw [View.set_slice_whole])) $$ Hf; iintro Hf
  rw [read_b16]
  iapply (wp_store_block offc hc X t hoc f (dotAll m c) _ (fun y => dotAll_emb m c X t ht y)) $$ Hf; iintro Hf
  iapply Hk
  isplitl [Ha Hb]; · isplitl [Ha] <;> iassumption
  iexact Hf

end Cert.KernelIdeal.Ring
end
-- ==== Proof.Reduce.lean ====
module
public import proofs.«01_k».proof.Proof.Acc

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable {m : (ℓ : Loc nD τ sig) → Buf (Elt F) ℓ} {K : Dev nD × Kind → ℕ} {κs : Key → ℕ} {c : Dev nD}

/-! # The hops of the reduction, a direction at a time -/

/-! ## The messages, from one another -/

/-- The first messages hold rows of the device's own product. -/
theorem msg_first (X : Bool) (d : Dev nD) (q : ℕ) (hq : q < 4) : msg m X d q = cutPay (dotQ m d X 0 (qF q)) := by
  unfold msg; rw [if_pos (by omega), show q / 4 = 0 by omega]; rfl
/-- Four messages later it is the same quarter. -/
theorem qF_next (n : ℕ) : qF (n + 4) = qF n := Fin.ext (Nat.add_mod_right n 4)
/-- A later message of the reduction holds the sum of what arrived and the device's own. -/
theorem msg_sum (X : Bool) (d : Dev nD) (b : ℕ) (hb : b < 56) :
    msg m X d (b + 4) = cutPay (sumPay (dotQ m d X (b / 4 + 1) (qF b)) (msg m X (srcOf X d) b)) := by
  unfold msg; rw [if_pos (by omega), if_pos (by omega), qF_next, show (b + 4) / 4 = b / 4 + 1 by omega]; rfl
/-- The finished rows are the activation of the last such sum, -/
theorem gel_sum (X : Bool) (d : Dev nD) (b : ℕ) (h : 56 ≤ b) (hb : b < 60) :
    gel m X (qF b) d = geluPay (sumPay (dotQ m d X 15 (qF b)) (msg m X (srcOf X d) b)) := by
  unfold msg gel; rw [if_pos (by omega), show b / 4 = 14 by omega]
/-- and the first messages of the gathering hold them. -/
theorem msg_gel (X : Bool) (d : Dev nD) (b : ℕ) (h : 56 ≤ b) (hb : b < 60) : msg m X d (b + 4) = cutPay (gel m X (qF b) d) := by
  unfold msg; rw [if_neg (by omega), qF_next, show (b + 4) / 4 - 15 = 0 by omega]; rfl
/-- The later ones hold what arrived. -/
theorem msg_pass (X : Bool) (d : Dev nD) (b : ℕ) (h : 60 ≤ b) : msg m X d (b + 4) = passPay (msg m X (srcOf X d) b) := by
  unfold msg; rw [if_neg (by omega), if_neg (by omega), qF_next, show (b + 4) / 4 - 15 = b / 4 - 15 + 1 by omega]; rfl

/-! ## Loads -/

/-- A quarter is part of its block. -/
theorem quarter_sub (X : Bool) (c : Dev nD) (t : ℕ) (ht : t < 16) (q : Fin 4) : (R16 X c t q).set ⊆ (R64 X c t).set := fun i hi =>
  (mem_R64 X c t ht i).mpr ((mem_R16 X c t ht q i).mp hi).1

/-- Reading an arrived message. -/
theorem wp_load_msg (X : Bool) (k : Fin 8) (v : FVec F S1x16x2048 .bf16) {hl} (kk : Vec F S1x16x2048 .bf16 → PR F) (Q : PUnit → sProp 𝕄) :
    rbHas X c k v ⊢ iprop((rbHas X c k v -∗ WP c (kk v) Q) -∗ WP c (.op (.load (rbM X) (slotR k).toLoadRect hl) kk) Q) := by
  unfold rbHas
  iintro ⟨%f, %hf, H⟩ Hk
  iapply (wp_load_rect 𝒱₀ (c.tc : Thread nD τ) none Set.univ (m := rbM X) (r := slotR k) (slot_set _ _).subset) $$ H; iintro H
  rw [hf]
  iapply Hk
  iexists f
  isplitr; · ipureintro; exact hf
  iexact H

/-! ## The hops -/

/-- A step of direction `X` that takes what is owed from `(a, b)` to `(a', b')` while everything else owed is above `n`. -/
def DirStep (m : (ℓ : Loc nD τ sig) → Buf (Elt F) ℓ) (K : Dev nD × Kind → ℕ) (κs : Key → ℕ) (c : Dev nD) (X : Bool) (n a b a' b' : ℕ)
    (P P' : sProp 𝕄) (f : PR F → PR F) : Prop :=
  ∀ R : Owed, Above n R → Step m K κs c iprop(Ow c (R + owedX c X a b) ∗ P) iprop(Ow c (R + owedX c X a' b') ∗ P') f

/-- The first messages of a direction. -/
theorem dir_issue (X : Bool) (q : ℕ) (hq : q < 4) (off : Fin 2 → ℕ) (h) (ho : off = ![row X c 0 (qF q).val, 0]) :
    DirStep m K κs c X 0 q 0 (q + 1) 0 iprop(Out X c q ∗ blk m X c 0) iprop(Out X c (q + 1) ∗ blk m X c 0) (issueK X q c off h) := fun R hR k Q => by
  unfold issueK blk
  iintro ⟨#HC, ⟨HO, Hout, Hb⟩, Hk⟩
  iapply (wp_load_quarter off h X 0 (qF q) ho (quarter_sub X c 0 (by decide) _) (dotAll m c) (dotQ m c X 0 (qF q))
    (fun y => asm_emb c (dotQ m c) X 0 (by decide) (qF q) y)) $$ Hb; iintro Hb
  iapply (step_send (K := K) (κs := κs) X q 0 (by omega) _ (msg_first X c q hq).symm R k Q)
  isplitr; · iexact HC
  isplitl [HO Hout]
  · isplitl [HO]; · iexact HO
    iapply (out_ready X q (by omega)); iexact Hout
  iintro ⟨HO, Hout⟩
  iapply Hk
  isplitl [HO]; · iexact HO
  isplitl [Hout] <;> iassumption

/-- A hop of the reduction. -/
theorem dir_rs (X : Bool) (b : ℕ) (hb : b < 56) (off : Fin 2 → ℕ) (h) (ho : off = ![row X c (b / 4 + 1) (qF b).val, 0]) :
    DirStep m K κs c X (2 * b + 10) (b + 4) b (b + 5) (b + 1) iprop((Out X c (b + 4) ∗ Rcv X c b) ∗ blk m X c (b / 4 + 1))
      iprop((Out X c (b + 5) ∗ Rcv X c (b + 1)) ∗ blk m X c (b / 4 + 1)) (rsK X b c off h) := fun R hR k Q => by
  have hO : Above (2 * b + 10) (R + owedX c X (b + 4) b) := hR.add (owedX_above c X (by omega) (by omega))
  unfold rsK blk
  iintro ⟨#HC, ⟨HO, ⟨Hout, Hrcv⟩, Hb⟩, Hk⟩
  iapply (step_waitRecv (K := K) (κs := κs) X b (by omega) hO _ Q)
  isplitr; · iexact HC
  isplitl [HO Hrcv]; · isplitl [HO] <;> iassumption
  iintro ⟨HO, Hrcv, Hrb⟩
  iapply (wp_load_quarter off h X (b / 4 + 1) (qF b) ho (quarter_sub X c _ (by omega) _) (dotAll m c) (dotQ m c X (b / 4 + 1) (qF b))
    (fun y => asm_emb c (dotQ m c) X (b / 4 + 1) (by omega) (qF b) y)) $$ Hb; iintro Hb
  iapply (wp_load_msg X (slotOf b) (msg m X (srcOf X c) b)) $$ Hrb; iintro Hrb
  iapply (step_reuse (K := K) (κs := κs) (m := m) X (b + 4) (by omega) (hO.mono (by omega)) _ Q)
  isplitr; · iexact HC
  isplitl [HO Hout]; · isplitl [HO] <;> iassumption
  iintro ⟨HO, Hout⟩
  iapply (step_send (K := K) (κs := κs) X (b + 4) b (by omega) _ (msg_sum X c b hb).symm R _ Q)
  isplitr; · iexact HC
  isplitl [HO Hout]; · isplitl [HO] <;> iassumption
  iintro ⟨HO, Hout⟩
  iapply (step_give (K := K) (κs := κs) (m := m) X (b + 5) b (by omega) (msg m X (srcOf X c) b) R k Q)
  isplitr; · iexact HC
  isplitl [HO Hrcv Hrb]
  · isplitl [HO]; · iexact HO
    isplitl [Hrcv] <;> iassumption
  iintro ⟨HO, Hrcv⟩
  iapply Hk
  isplitl [HO]; · iexact HO
  isplitl [Hout Hrcv]; · isplitl [Hout] <;> iassumption
  iexact Hb

/-- The device's own rows are finished: a quarter of its last block before and after. -/
def qDot (m : (ℓ : Loc nD τ sig) → Buf (Elt F) ℓ) (X : Bool) (c : Dev nD) (q : ℕ) : sProp 𝕄 := iprop(accLoc c ↦[(R16 X c 15 (qF q)).set]{fullShare} dotAll m c)
def qOut (m : (ℓ : Loc nD τ sig) → Buf (Elt F) ℓ) (X : Bool) (c : Dev nD) (q : ℕ) : sProp 𝕄 := iprop(accLoc c ↦[(R16 X c 15 (qF q)).set]{fullShare} outAll m c)

/-- The rows of the result that the device itself finishes. -/
theorem outAll_own (X : Bool) (q : Fin 4) (y : S16x2048.Idx) : outAll m c ((R16 X c 15 q).emb y) = gel m X q c y := by
  unfold outAll; rw [asm_emb c (outQ m c) X 15 (by decide) q y]; unfold outQ; rw [if_neg (by decide)]

/-- The last hop of the reduction. -/
theorem dir_rsLast (X : Bool) (b : ℕ) (h56 : 56 ≤ b) (hb : b < 60) (off : Fin 2 → ℕ) (h) (ho : off = ![row X c 15 (qF b).val, 0]) :
    DirStep m K κs c X (2 * b + 10) (b + 4) b (b + 5) (b + 1) iprop((Out X c (b + 4) ∗ Rcv X c b) ∗ qDot m X c b)
      iprop((Out X c (b + 5) ∗ Rcv X c (b + 1)) ∗ qOut m X c b) (rsLastK X b c off h) := fun R hR k Q => by
  have hO : Above (2 * b + 10) (R + owedX c X (b + 4) b) := hR.add (owedX_above c X (by omega) (by omega))
  unfold rsLastK qDot qOut
  iintro ⟨#HC, ⟨HO, ⟨Hout, Hrcv⟩, Hb⟩, Hk⟩
  iapply (step_waitRecv (K := K) (κs := κs) X b (by omega) hO _ Q)
  isplitr; · iexact HC
  isplitl [HO Hrcv]; · isplitl [HO] <;> iassumption
  iintro ⟨HO, Hrcv, Hrb⟩
  iapply (wp_load_quarter off h X 15 (qF b) ho (Finset.Subset.refl _) (dotAll m c) (dotQ m c X 15 (qF b))
    (fun y => asm_emb c (dotQ m c) X 15 (by omega) (qF b) y)) $$ Hb; iintro Hb
  iapply (wp_load_msg X (slotOf b) (msg m X (srcOf X c) b)) $$ Hrb; iintro Hrb
  iapply (wp_load_quarter off h X 15 (qF b) ho (Finset.Subset.refl _) (dotAll m c) (dotQ m c X 15 (qF b))
    (fun y => asm_emb c (dotQ m c) X 15 (by omega) (qF b) y)) $$ Hb; iintro Hb
  rw [← gel_sum X c b h56 hb]
  iapply (wp_store_quarter off h X 15 (qF b) ho (dotAll m c) (outAll m c) (gel m X (qF b) c) (fun y => outAll_own X (qF b) y)) $$ Hb; iintro Hb
  iapply (wp_load_quarter off h X 15 (qF b) ho (Finset.Subset.refl _) (outAll m c) (gel m X (qF b) c)
    (fun y => outAll_own X (qF b) y)) $$ Hb; iintro Hb
  iapply (step_reuse (K := K) (κs := κs) (m := m) X (b + 4) (by omega) (hO.mono (by omega)) _ Q)
  isplitr; · iexact HC
  isplitl [HO Hout]; · isplitl [HO] <;> iassumption
  iintro ⟨HO, Hout⟩
  iapply (step_send (K := K) (κs := κs) X (b + 4) b (by omega) _ (msg_gel X c b h56 hb).symm R _ Q)
  isplitr; · iexact HC
  isplitl [HO Hout]; · isplitl [HO] <;> iassumption
  iintro ⟨HO, Hout⟩
  iapply (step_give (K := K) (κs := κs) (m := m) X (b + 5) b (by omega) (msg m X (srcOf X c) b) R k Q)
  isplitr; · iexact HC
  isplitl [HO Hrcv Hrb]
  · isplitl [HO]; · iexact HO
    isplitl [Hrcv] <;> iassumption
  iintro ⟨HO, Hrcv⟩
  iapply Hk
  isplitl [HO]; · iexact HO
  isplitl [Hout Hrcv]; · isplitl [Hout] <;> iassumption
  iexact Hb

end Cert.KernelIdeal.Ring
end
-- ==== Proof.Copies.lean ====
module
public import proofs.«01_k».proof.Proof.Reduce

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable {m : (ℓ : Loc nD τ sig) → Buf (Elt F) ℓ} {K : Dev nD × Kind → ℕ} {κs : Key → ℕ} {c : Dev nD}

/-! # The copies to the result -/

/-- Copy `j` of a direction among all the copies, in the order they use the eight semaphores. -/
abbrev cpIdx (X : Bool) (j : ℕ) : ℕ := 2 * j + bif X then 0 else 1
/-- What it counts. -/
def cpAmt (j : ℕ) : ℕ := if j = 0 then nOwn else nOut

abbrev cpKind (X : Bool) (j : ℕ) : Kind := .out (slotOf (cpIdx X j))
abbrev cpRound (X : Bool) (j : ℕ) : ℕ := cpIdx X j / 8

/-- Four copies of a direction later the same semaphore is used, -/
theorem cpKind_next (X : Bool) (j : ℕ) : cpKind X (j + 4) = cpKind X j := by
  unfold cpKind; rw [show cpIdx X (j + 4) = cpIdx X j + 8 by unfold cpIdx; omega, slotOf_next]
/-- in its next round. -/
theorem cpRound_next (X : Bool) (j : ℕ) : cpRound X (j + 4) = cpRound X j + 1 := by
  unfold cpRound; rw [show cpIdx X (j + 4) = cpIdx X j + 8 by unfold cpIdx; omega, round_next]
/-- A direction's copies are among the 122 of the device. -/
theorem cpIdx_lt (X : Bool) (j : ℕ) (hj : j < 61) : cpIdx X j < 122 := by unfold cpIdx; cases X <;> simp only [cond_true, cond_false] <;> omega
/-- A copy is the one thing that its semaphore's round waits for, -/
theorem cp_duties (X : Bool) (j : ℕ) (hj : j < 61) : kduties (cpKind X j) (cpRound X j) = {0} := by
  dsimp only [cpKind, kduties]; unfold cpRound; rw [msgNum, if_pos (cpIdx_lt X j hj)]
/-- it adds the size of what it moves, -/
theorem cp_amount (X : Bool) (j : ℕ) : kamount (cpKind X j) (cpRound X j) = cpAmt j := by
  dsimp only [cpKind, kamount]; unfold cpRound cpAmt; rw [msgNum]
  by_cases h : j = 0
  · rw [if_pos h, if_pos]; subst h; cases X <;> decide
  · rw [if_neg h, if_neg]; unfold cpIdx; omega
/-- and gives back the rows it read and the rows it wrote. -/
theorem cp_pay (X : Bool) (j : ℕ) (d : ℕ) : kpay m c (cpKind X j) (cpRound X j) d = cpDone m c X j := by
  dsimp only [cpKind, kpay]; unfold cpDir cpNum cpRound; rw [msgNum]
  cases X
  · rw [show decide (cpIdx false j % 2 = 0) = false from decide_eq_false (by unfold cpIdx; simp only [cond_false]; omega),
      show cpIdx false j / 2 = j by unfold cpIdx; simp only [cond_false]; omega]
  · rw [show decide (cpIdx true j % 2 = 0) = true from decide_eq_true (by unfold cpIdx; simp only [cond_true]; omega),
      show cpIdx true j / 2 = j by unfold cpIdx; simp only [cond_true]; omega]

/-- A copy on its way; the semaphore of one to come; the right to make one. -/
def cpFly (X : Bool) (c : Dev nD) (j : ℕ) : sProp 𝕄 :=
  iprop(cred (tallyAt (kcell (c, cpKind X j)) 0 (cpAmt j)) ∗ atPos ER (kcell (c, cpKind X j)) (cpRound X j) ∅ 0)
def cpIdle (X : Bool) (c : Dev nD) (j : ℕ) : sProp 𝕄 :=
  iprop(atPos ER (kcell (c, cpKind X j)) (cpRound X j) ∅ 0 ∗ reached ER (kcell (c, cpKind X j)) (cpRound X j))
def cpTok (X : Bool) (c : Dev nD) (j : ℕ) : sProp 𝕄 := iprop(dutyTok ER (kcell (c, cpKind X j)) (cpRound X j) 0)

/-- Copies below `lo` are done, copies `lo .. j - 1` on their way. -/
@[irreducible] def Cp (m : (ℓ : Loc nD τ sig) → Buf (Elt F) ℓ) (X : Bool) (c : Dev nD) (lo j : ℕ) : sProp 𝕄 :=
  iprop(bigSep (Finset.Ico lo j) (cpFly X c) ∗ bigSep (Finset.Ico j (lo + 4)) (cpIdle X c) ∗ bigSep (Finset.Ico j 61) (cpTok X c)
    ∗ bigSep (Finset.range lo) (cpDone m c X))

/-- Waiting for the oldest copy. -/
theorem step_cpWait (X : Bool) (lo j : ℕ) (h : lo < j) (hj : j ≤ lo + 4) (hlo : lo < 61) {O : Owed} (hO : Above 0 O)
    {w : TpuEff nD τ sig (Elt F) Λ₀ .tc PUnit}
    (hw : ∀ Kt : PUnit → sProp 𝕄, wpE (defs₀ (F := F)) 𝒱₀ (c.tc : Thread nD τ) none Set.univ w Kt
      = waitSpec (c.tc : Thread nD τ) Set.univ (csem (cpKind X lo)) (cpAmt lo) Kt) :
    Step m K κs c iprop(Ow c O ∗ Cp m X c lo j) iprop(Ow c O ∗ Cp m X c (lo + 1) j) (fun k => .op w fun _ => k) := fun k Q => by
  unfold Cp
  rw [bs_peel h, show lo + 1 + 4 = lo + 4 + 1 by omega, bs_grow hj, bs_range_succ lo]
  unfold cpFly cpIdle
  rw [cpKind_next, cpRound_next]
  iintro ⟨#HC, ⟨HO, ⟨⟨Hc, Hat⟩, Hfl⟩, Hid, Htok, Hdone⟩, Hk⟩
  iapply (wait_cell (K := K) (κs := κs) (m := m) (c := c) (cpKind X lo) (k' := cpAmt lo) hw (cpRound X lo) 0
    (by rw [cp_duties X lo hlo, cp_amount, Finset.card_singleton, Nat.one_mul]) (by omega) hO) $$ [HO Hat Hc]
  · isplitr; · iexact HC
    isplitl [Hc]; · iexact Hc
    isplitl [HO]; · iexact HO
    iexact Hat
  iintro ⟨HO, Hat, Hr, Hp⟩
  ihave Hp' := (Entails.of_eq (show (bigSep (kduties (cpKind X lo) (cpRound X lo)) (fun d => kpay m c (cpKind X lo) (cpRound X lo) d) : sProp 𝕄)
      = cpDone m c X lo by rw [cp_duties X lo hlo, bigSep_singleton, cp_pay])) $$ Hp
  iapply Hk
  isplitl [HO]; · iexact HO
  isplitl [Hfl]; · iexact Hfl
  isplitl [Hat Hr Hid]
  · isplitl [Hat Hr]; · isplitl [Hat] <;> iassumption
    iexact Hid
  isplitl [Htok]; · iexact Htok
  isplitl [Hp']; · iexact Hp'
  iexact Hdone

omit [FloatOps F] in
/-- What a copy between equal rectangles leaves. -/
theorem copied (r : Rect S2048x2048) (hr : ∀ a, r.stride a = 1) (fd g : Vec F S2048x2048 .f32) :
    ∀ i ∈ r.set, (oM.slice r hr).view.write (Elt F) fd ((accV.slice r hr).view.read (Elt F) g) Finset.univ i = g i := fun i hi => by
  rw [← Rect.map_emb_univ, Finset.mem_map] at hi
  obtain ⟨y, -, rfl⟩ := hi
  exact View.write_emb_of_mem (v := (oM.slice r hr).view) fd _ (Finset.mem_univ y)

/-- Rows that will be overwritten. -/
def oAny (X : Bool) (c : Dev nD) (j : ℕ) : sProp 𝕄 := iprop(∃ f : Vec F S2048x2048 .f32, oLoc c ↦[cpSet c X j]{fullShare} f)
def accAny (X : Bool) (c : Dev nD) (j : ℕ) : sProp 𝕄 := iprop(∃ f : Vec F S2048x2048 .f32, accLoc c ↦[cpSet c X j]{fullShare} f)
/-- Finished rows. -/
def accOut (m : (ℓ : Loc nD τ sig) → Buf (Elt F) ℓ) (X : Bool) (c : Dev nD) (j : ℕ) : sProp 𝕄 := iprop(accLoc c ↦[cpSet c X j]{fullShare} outAll m c)

/-- A copy of finished rows to the result. -/
theorem step_cpCopy (r : Rect S2048x2048) (hr : ∀ a, r.stride a = 1) (X : Bool) (lo j : ℕ) (hlo : lo ≤ j) (hj : j < lo + 4) (hj' : j < 61)
    (hset : r.set = cpSet c X j) (hamt : (oM.slice r hr).view.dmaCredit = cpAmt j) {h1 h2 h3} :
    Step m K κs c iprop(Cp m X c lo j ∗ accOut m X c j ∗ oAny X c j) (Cp m X c lo (j + 1))
      (fun k => .op (.enqueueDma (accV.slice r hr) (.here (oM.slice r hr)) (.dma (outSem (slotOf (cpIdx X j)))) h1 h2 h3) fun _ => k) := fun k Q => by
  unfold Cp
  rw [bs_peel hj, bs_peel hj', bs_grow hlo]
  unfold cpIdle cpTok accOut oAny
  rw [← hset]
  iintro ⟨#HC, ⟨⟨Hfl, ⟨⟨Hat, Hr⟩, Hid⟩, ⟨Ht, Htok⟩, Hdone⟩, Hacc, ⟨%fd, Hout⟩⟩, Hk⟩
  have es : (accV.slice r hr).view.set = r.set := by
    rw [show (accV.slice r hr).view.set = (accV.access r).set from rfl, View.set_slice_whole]
  have eo : (oM.slice r hr).view.set = r.set := by
    rw [show (oM.slice r hr).view.set = (oM.access r).set from rfl, View.set_slice_whole]
  iapply (Rounds.wp_copy_pointsTo 𝒱₀ ER (Rd m) (c.tc : Thread nD τ) none (κ := K (c, cpKind X j)) (src := accV.slice r hr) (dst := oM.slice r hr)
      (sem := csem (cpKind X j)) (q := fullShare) (fs := outAll m c) (fd := fd) (r := cpRound X j) (d := 0)
      (show 0 ∈ (Rd m).duties (kcell (c, cpKind X j)) (cpRound X j) by rw [Rd_duties, cp_duties X j hj']; exact Finset.mem_singleton_self _)
      0 (cpAmt j) hamt ((Rd_amount m (c, cpKind X j) (cpRound X j) 0).trans (cp_amount X j))
      (by
        rw [show (Rd m).payload ((c.tc : Thread nD τ), csem (cpKind X j)) (cpRound X j) 0 = _ from Rd_payload m (c, cpKind X j) (cpRound X j) 0, cp_pay]
        unfold cpDone
        rw [es, eo, ← hset]
        exact sep_mono_left (Entails.of_eq (pointsTo_congr (copied r hr fd (outAll m c)))))) $$ [Hacc Hout Ht Hr]
  · isplitr; · iapply (ctx_inv m K κs (c, cpKind X j)); iexact HC
    isplitl [Hacc]; · rw [es]; iexact Hacc
    isplitl [Hout]; · rw [eo]; iexact Hout
    isplitl [Ht]; · iexact Ht
    iexact Hr
  iintro Hc
  iapply Hk
  isplitl [Hc Hat Hfl]
  · isplitl [Hc Hat]; · unfold cpFly; isplitl [Hc]; (· iexact Hc); iexact Hat
    iexact Hfl
  isplitl [Hid]; · iexact Hid
  isplitl [Htok]; · iexact Htok
  iexact Hdone

/-- The device's own rows go to the result. -/
theorem step_own (X : Bool) (off : Fin 2 → ℕ) (h) (ho : off = ![row X c 15 0, 0]) :
    Step m K κs c iprop(Cp m X c 0 0 ∗ accOut m X c 0 ∗ oAny X c 0) (Cp m X c 0 1) (ownK (slotOf (cpIdx X 0)) off h) := by
  subst ho
  exact step_cpCopy (rowsR ![row X c 15 0, 0] h) (fun _ => rfl) X 0 0 (le_refl _) (by decide) (by decide) rfl (own_credit _ _)

/-- Block `n` of the gathered rows goes to the result. -/
theorem step_out (X : Bool) (n : ℕ) (hn : n < 60) (lo : ℕ) (hlo : lo ≤ n + 1) (hj : n + 1 < lo + 4) (off : Fin 2 → ℕ) (h) (ho : off = ![row X c (n / 4) (qF n).val, 0]) :
    Step m K κs c iprop(Cp m X c lo (n + 1) ∗ accOut m X c (n + 1) ∗ oAny X c (n + 1)) (Cp m X c lo (n + 2)) (outK (outSlot X n) off h) := by
  subst ho
  have e : outSlot X n = slotOf (cpIdx X (n + 1)) := congrArg slotOf (by unfold cpIdx; omega)
  rw [e]
  exact step_cpCopy (accR ![row X c (n / 4) (qF n).val, 0] h) (fun _ => rfl) X lo (n + 1) hlo hj (by omega) rfl (out_credit _ _)

/-- Before block `n` is copied, the fourth copy of its direction before it is waited for. -/
theorem step_room (X : Bool) (n : ℕ) (hn : n < 60) {O : Owed} (hO : Above 0 O) :
    Step m K κs c iprop(Ow c O ∗ Cp m X c (n - 3) (n + 1)) iprop(Ow c O ∗ Cp m X c (n - 2) (n + 1)) (roomK X c n) := by
  by_cases h4 : 4 ≤ n
  · have hf : roomK (F := F) X c n = waitOutK (slotOf (cpIdx X (n - 3))) (outOff X c (sF ((n - 4) / 4)) (qF (n - 4))) (outOff_inb X c _ _) := by
      funext k; unfold roomK; rw [show Nat.ble 4 n = true from Nat.ble_eq.mpr h4, cond_true]
      rw [show outSlot X n = slotOf (cpIdx X (n - 3)) by
        rw [← slotOf_next]; exact congrArg slotOf (by unfold cpIdx; omega)]
    rw [hf, show n - 2 = n - 3 + 1 by omega]
    exact step_cpWait X (n - 3) (n + 1) (by omega) (by omega) (by omega) hO fun Kt =>
      (wpE_waitDma2_eq 𝒱₀ (c.tc : Thread nD τ) none Set.univ Kt).trans (by
        rw [out_credit]; unfold cpAmt; rw [if_neg (by omega)]; rfl)
  by_cases h3 : 3 ≤ n
  · obtain rfl : n = 3 := by omega
    have hf : roomK (F := F) X c 3 = waitOwnK (slotOf (cpIdx X 0)) (ownOff X c) (ownOff_inb X c) := by
      funext k; unfold roomK; rw [show Nat.ble 4 3 = false from rfl, show Nat.ble 3 3 = true from rfl, cond_false, cond_true]
      rw [show outSlot X 3 = slotOf (cpIdx X 0) by cases X <;> rfl]
    rw [hf]
    exact step_cpWait X 0 4 (by omega) (by omega) (by omega) hO fun Kt =>
      (wpE_waitDma2_eq 𝒱₀ (c.tc : Thread nD τ) none Set.univ Kt).trans (by
        rw [own_credit]; unfold cpAmt; rw [if_pos rfl]; rfl)
  · have hf : roomK (F := F) X c n = fun k => k := by
      funext k; unfold roomK
      rw [show Nat.ble 4 n = false from by rw [← Bool.not_eq_true, Nat.ble_eq]; exact h4,
        show Nat.ble 3 n = false from by rw [← Bool.not_eq_true, Nat.ble_eq]; exact h3, cond_false, cond_false]
    rw [hf, show n - 3 = 0 by omega, show n - 2 = 0 by omega]
    exact Step.id _

end Cert.KernelIdeal.Ring
end
-- ==== Proof.Gather.lean ====
module
public import proofs.«01_k».proof.Proof.Copies

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable {m : (ℓ : Loc nD τ sig) → Buf (Elt F) ℓ} {K : Dev nD × Kind → ℕ} {κs : Key → ℕ} {c : Dev nD}

/-! # The hops of the gathering, a direction at a time -/

/-- The rows of the result that a message of the gathering brings. -/
theorem outAll_gathered (X : Bool) (n : ℕ) (hn : n < 60) (y : S16x2048.Idx) :
    outAll m c ((R16 X c (n / 4) (qF n)).emb y) = widePay (msg m X (srcOf X c) (60 + n)) y := by
  unfold outAll; rw [asm_emb c (outQ m c) X (n / 4) (by omega) (qF n) y]
  unfold outQ msg
  rw [if_pos (by omega), if_neg (by omega), show (60 + n) / 4 - 15 = n / 4 by omega, show qF (60 + n) = qF n from Fin.ext (by show (60 + n) % 4 = n % 4; omega)]

/-- The hop of such a message. -/
theorem sF_val (n : ℕ) (hn : n < 60) : (sF (n / 4)).val = n / 4 := Nat.mod_eq_of_lt (by omega)

/-- A gathered block is kept, its slot given back, and the block copied to the result. -/
theorem dir_keep (X : Bool) (a n : ℕ) (hn : n < 60) (ha : 60 + n < a) :
    DirStep m K κs c X 0 a (60 + n) a (61 + n)
      iprop((RcvW X c (60 + n) ∗ rbHas X c (slotOf (60 + n)) (msg m X (srcOf X c) (60 + n))) ∗ Cp m X c (n - 3) (n + 1) ∗ accAny X c (n + 1) ∗ oAny X c (n + 1))
      iprop(Rcv X c (61 + n) ∗ Cp m X c (n - 2) (n + 2)) (keepK X n c (msg m X (srcOf X c) (60 + n))) := fun R hR k Q => by
  have hag : agOff X c (sF (n / 4)) (qF n) = ![row X c (n / 4) (qF n).val, 0] := by rw [agOff_eq, sF_val n hn]
  have hou : outOff X c (sF (n / 4)) (qF n) = ![row X c (n / 4) (qF n).val, 0] := by rw [outOff_eq, sF_val n hn]
  unfold keepK accAny
  rw [show (cpSet c X (n + 1) : Finset S2048x2048.Idx) = (R16 X c (n / 4) (qF n)).set from rfl]
  iintro ⟨#HC, ⟨HO, ⟨Hrcv, Hrb⟩, Hcp, ⟨%f, Hacc⟩, Hout⟩, Hk⟩
  iapply (wp_load_quarter _ (agOff_inb X c _ _) X (n / 4) (qF n) hag (Finset.Subset.refl _) f _ (fun _ => rfl)) $$ Hacc; iintro Hacc
  iapply (wp_store_quarter _ (agOff_inb X c _ _) X (n / 4) (qF n) hag f (outAll m c) _ (fun y => outAll_gathered X n hn y)) $$ Hacc; iintro Hacc
  iapply (step_give (K := K) (κs := κs) (m := m) X a (60 + n) (by omega) (msg m X (srcOf X c) (60 + n)) R _ Q)
  isplitr; · iexact HC
  isplitl [HO Hrcv Hrb]
  · isplitl [HO]; · iexact HO
    isplitl [Hrcv] <;> iassumption
  rw [show 60 + n + 1 = 61 + n by omega]
  iintro ⟨HO, Hrcv⟩
  iapply (step_room (K := K) (κs := κs) (m := m) X n hn (O := R + owedX c X a (61 + n)) (hR.add (owedX_above c X (by omega) (by omega))) _ Q)
  isplitr; · iexact HC
  isplitl [HO Hcp]; · isplitl [HO] <;> iassumption
  iintro ⟨HO, Hcp⟩
  iapply (step_out (K := K) (κs := κs) (m := m) X n hn (n - 2) (by omega) (by omega) _ (outOff_inb X c _ _) hou k Q)
  isplitr; · iexact HC
  isplitl [Hcp Hacc Hout]
  · isplitl [Hcp]; · iexact Hcp
    isplitl [Hacc]; · unfold accOut; iexact Hacc
    iexact Hout
  iintro Hcp
  iapply Hk
  isplitl [HO]; · iexact HO
  isplitl [Hrcv] <;> iassumption

/-- A hop of the gathering. -/
theorem dir_ag (X : Bool) (n : ℕ) (hn : n < 56) :
    DirStep m K κs c X (2 * (60 + n) + 10) (64 + n) (60 + n) (65 + n) (61 + n)
      iprop((Out X c (64 + n) ∗ Rcv X c (60 + n)) ∗ Cp m X c (n - 3) (n + 1) ∗ accAny X c (n + 1) ∗ oAny X c (n + 1))
      iprop((Out X c (65 + n) ∗ Rcv X c (61 + n)) ∗ Cp m X c (n - 2) (n + 2)) (agK X n c) := fun R hR k Q => by
  have hO : Above (2 * (60 + n) + 10) (R + owedX c X (64 + n) (60 + n)) := hR.add (owedX_above c X (by omega) (by omega))
  unfold agK
  iintro ⟨#HC, ⟨HO, ⟨Hout, Hrcv⟩, Hkeep⟩, Hk⟩
  iapply (step_waitRecv (K := K) (κs := κs) X (60 + n) (by omega) hO _ Q)
  isplitr; · iexact HC
  isplitl [HO Hrcv]; · isplitl [HO] <;> iassumption
  iintro ⟨HO, Hrcv, Hrb⟩
  iapply (wp_load_msg X (slotOf (60 + n)) (msg m X (srcOf X c) (60 + n))) $$ Hrb; iintro Hrb
  iapply (step_reuse (K := K) (κs := κs) (m := m) X (64 + n) (by omega) (hO.mono (by omega)) _ Q)
  isplitr; · iexact HC
  isplitl [HO Hout]; · isplitl [HO] <;> iassumption
  iintro ⟨HO, Hout⟩
  iapply (step_send (K := K) (κs := κs) X (64 + n) (60 + n) (by omega) _
    ((msg_pass X c (60 + n) (by omega)).symm.trans (by rw [show 60 + n + 4 = 64 + n by omega])) R _ Q)
  isplitr; · iexact HC
  isplitl [HO Hout]; · isplitl [HO] <;> iassumption
  rw [show 64 + n + 1 = 65 + n by omega]
  iintro ⟨HO, Hout⟩
  iapply (wp_load_msg X (slotOf (60 + n)) (msg m X (srcOf X c) (60 + n))) $$ Hrb; iintro Hrb
  iapply (dir_keep (K := K) (κs := κs) (m := m) X (65 + n) n (by omega) (by omega) R (hR.mono (Nat.zero_le _)) k Q)
  isplitr; · iexact HC
  isplitl [HO Hrcv Hrb Hkeep]
  · isplitl [HO]; · iexact HO
    isplitl [Hrcv Hrb]; · isplitl [Hrcv] <;> iassumption
    iexact Hkeep
  iintro ⟨HO, Hrcv, Hcp⟩
  iapply Hk
  isplitl [HO]; · iexact HO
  isplitl [Hout Hrcv]; · isplitl [Hout] <;> iassumption
  iexact Hcp

/-- The last hop of the gathering. -/
theorem dir_agLast (X : Bool) (n : ℕ) (hn : n < 60) :
    DirStep m K κs c X (2 * (60 + n) + 10) 120 (60 + n) 120 (61 + n)
      iprop((Out X c 120 ∗ Rcv X c (60 + n)) ∗ Cp m X c (n - 3) (n + 1) ∗ accAny X c (n + 1) ∗ oAny X c (n + 1))
      iprop((Out X c 120 ∗ Rcv X c (61 + n)) ∗ Cp m X c (n - 2) (n + 2)) (agLastK X n c) := fun R hR k Q => by
  have hO : Above (2 * (60 + n) + 10) (R + owedX c X 120 (60 + n)) := hR.add (owedX_above c X (by omega) (by omega))
  unfold agLastK
  iintro ⟨#HC, ⟨HO, ⟨Hout, Hrcv⟩, Hkeep⟩, Hk⟩
  iapply (step_waitRecv (K := K) (κs := κs) X (60 + n) (by omega) hO _ Q)
  isplitr; · iexact HC
  isplitl [HO Hrcv]; · isplitl [HO] <;> iassumption
  iintro ⟨HO, Hrcv, Hrb⟩
  iapply (wp_load_msg X (slotOf (60 + n)) (msg m X (srcOf X c) (60 + n))) $$ Hrb; iintro Hrb
  iapply (dir_keep (K := K) (κs := κs) (m := m) X 120 n hn (by omega) R (hR.mono (Nat.zero_le _)) k Q)
  isplitr; · iexact HC
  isplitl [HO Hrcv Hrb Hkeep]
  · isplitl [HO]; · iexact HO
    isplitl [Hrcv Hrb]; · isplitl [Hrcv] <;> iassumption
    iexact Hkeep
  iintro ⟨HO, Hrcv, Hcp⟩
  iapply Hk
  isplitl [HO]; · iexact HO
  isplitl [Hout Hrcv]; · isplitl [Hout] <;> iassumption
  iexact Hcp

end Cert.KernelIdeal.Ring
end
-- ==== Proof.Phases.lean ====
module
public import proofs.«01_k».proof.Proof.Gather

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable {m : (ℓ : Loc nD τ sig) → Buf (Elt F) ℓ} {K : Dev nD × Kind → ℕ} {κs : Key → ℕ} {c : Dev nD}

/-! # The phases, both directions together -/

/-- What a device owes its neighbours at the end. -/
def Ex (c : Dev nD) : Owed := tallyAt (kcell (leftOf c, .exit)) 1000 1 + tallyAt (kcell (rightOf c, .exit)) 1000 1
/-- All it owes once both directions have sent the messages below `a` and answered those below `b`. -/
def tot (c : Dev nD) (a b : ℕ) : Owed := Ex c + owedX c true a b + owedX c false a b

/-- What is owed at the exit comes after every other wait. -/
theorem Ex_above (c : Dev nD) {n : ℕ} (hn : n < 1000) : Above n (Ex c) := (Above.tally _ hn (by decide) _).add (Above.tally _ hn (by decide) _)

/-- A step of each direction. -/
theorem pair {n a b a' b' : ℕ} {P P' Q Q' : sProp 𝕄} {f g : PR F → PR F} (hT : DirStep m K κs c true n a b a' b' P P' f)
    (hF : DirStep m K κs c false n a b a' b' Q Q' g) (hn : n < 1000) (h1 : Above n (owedX c false a b)) (h2 : Above n (owedX c true a' b')) :
    Step m K κs c iprop(Ow c (tot c a b) ∗ P ∗ Q) iprop(Ow c (tot c a' b') ∗ P' ∗ Q') (fun k => f (g k)) := by
  have e1 : tot c a b = Ex c + owedX c false a b + owedX c true a b := add_right_comm _ _ _
  have e2 : Ex c + owedX c false a b + owedX c true a' b' = Ex c + owedX c true a' b' + owedX c false a b := add_right_comm _ _ _
  have s1 := (hT (Ex c + owedX c false a b) ((Ex_above c hn).add h1)).frame Q
  have s2 := (hF (Ex c + owedX c true a' b') ((Ex_above c hn).add h2)).frame P'
  refine Step.comp (s1.conseq ?_ (Entails.refl _)) (s2.conseq ?_ ?_)
  · rw [e1]; iintro ⟨HO, HP, HQ⟩; isplitl [HO HP]; · isplitl [HO] <;> iassumption
    iexact HQ
  · rw [e2]; iintro ⟨⟨HO, HP⟩, HQ⟩; isplitl [HO HQ]; · isplitl [HO] <;> iassumption
    iexact HP
  · iintro ⟨⟨HO, HQ⟩, HP⟩
    isplitl [HO]; · iexact HO
    isplitl [HP] <;> iassumption

/-! ## The reduction -/

/-- A direction's blocks when those below `s` hold their products. -/
def Dots (m : (ℓ : Loc nD τ sig) → Buf (Elt F) ℓ) (X : Bool) (c : Dev nD) (s : ℕ) : sProp 𝕄 :=
  iprop(bigSep (Finset.range s) (blk m X c) ∗ bigSep (Finset.Ico s 16) (blkAny X c))

/-- One direction's product of a hop is computed, -/
theorem step_dotX (X : Bool) (s : ℕ) (hs : s < 16) (offa offc : Fin 2 → ℕ) (ha hc) (hoa : offa = ![row X c s 0, 0]) (hoc : offc = ![row X c s 0, 0]) :
    Step m K κs c iprop(Ops m c ∗ Dots m X c s) iprop(Ops m c ∗ Dots m X c (s + 1)) (dotK offa offc ha hc) := by
  unfold Dots
  rw [bs_peel hs, bs_range_succ]
  refine ((step_dot (m := m) (K := K) (κs := κs) X s hs offa offc ha hc hoa hoc).frame iprop(bigSep (Finset.range s) (blk m X c) ∗ bigSep (Finset.Ico (s + 1) 16) (blkAny X c))).conseq ?_ ?_
  · iintro ⟨HO, Hd, Ha, Hr⟩
    isplitl [HO Ha]; · isplitl [HO] <;> iassumption
    isplitl [Hd] <;> iassumption
  · iintro ⟨⟨HO, Ha⟩, Hd, Hr⟩
    isplitl [HO]; · iexact HO
    isplitl [Ha Hd]; · isplitl [Ha] <;> iassumption
    iexact Hr

/-- and both directions'. -/
theorem step_dot2 (s : ℕ) (hs : s < 16) (oa oc oa' oc' : Fin 2 → ℕ) (ha hc ha' hc') (h1 : oa = ![row true c s 0, 0]) (h2 : oc = ![row true c s 0, 0])
    (h3 : oa' = ![row false c s 0, 0]) (h4 : oc' = ![row false c s 0, 0]) :
    Step m K κs c iprop(Ops m c ∗ Dots m true c s ∗ Dots m false c s) iprop(Ops m c ∗ Dots m true c (s + 1) ∗ Dots m false c (s + 1))
      (fun k => dotK oa oc ha hc (dotK oa' oc' ha' hc' k)) := by
  refine Step.comp (((step_dotX (m := m) (K := K) (κs := κs) true s hs oa oc ha hc h1 h2).frame (Dots m false c s)).conseq ?_ (Entails.refl _))
    (((step_dotX (m := m) (K := K) (κs := κs) false s hs oa' oc' ha' hc' h3 h4).frame (Dots m true c (s + 1))).conseq ?_ ?_)
  · iintro ⟨HO, HT, HF⟩; isplitl [HO HT]; · isplitl [HO] <;> iassumption
    iexact HF
  · iintro ⟨⟨HO, HT⟩, HF⟩; isplitl [HO HF]; · isplitl [HO] <;> iassumption
    iexact HT
  · iintro ⟨⟨HO, HF⟩, HT⟩; isplitl [HO]; · iexact HO
    isplitl [HT] <;> iassumption

/-- The products of hop `s + 1`. -/
theorem step_dots (s : ℕ) (hs : s < 15) :
    Step m K κs c iprop(Ops m c ∗ Dots m true c (s + 1) ∗ Dots m false c (s + 1)) iprop(Ops m c ∗ Dots m true c (s + 2) ∗ Dots m false c (s + 2)) (dotsK c s) := by
  have e : (sF s).val = s := Nat.mod_eq_of_lt hs
  exact step_dot2 (s + 1) (by omega) _ _ _ _ (k0_off7_inb c _) (k0_off8_inb c _) (k0_off9_inb c _) (k0_off10_inb c _)
    (by rw [off7_eq, e]) (by rw [off8_eq, e]) (by rw [off9_eq, e]) (by rw [off10_eq, e])

/-- A direction's messages. -/
def DX (X : Bool) (c : Dev nD) (a b : ℕ) : sProp 𝕄 := iprop(Out X c a ∗ Rcv X c b)

/-- The four messages that start each direction. -/
theorem steps_issue :
    Step m K κs c iprop(Ow c (tot c 0 0) ∗ (Out true c 0 ∗ blk m true c 0) ∗ (Out false c 0 ∗ blk m false c 0))
      iprop(Ow c (tot c 4 0) ∗ (Out true c 4 ∗ blk m true c 0) ∗ (Out false c 4 ∗ blk m false c 0))
      (loopK (fun q K => issueK true q c (firstOff true c (qF q)) (firstOff_inb true c _) <|
        issueK false q c (firstOff false c (qF q)) (firstOff_inb false c _) K) 4 0) :=
  Step.loop (fun q => iprop(Ow c (tot c q 0) ∗ (Out true c q ∗ blk m true c 0) ∗ (Out false c q ∗ blk m false c 0))) _ 4 0 fun q _ hq =>
    pair (dir_issue true q (by omega) _ _ (firstOff_eq true c _)) (dir_issue false q (by omega) _ _ (firstOff_eq false c _)) (by decide)
      (owedX_above c false (by omega) (by omega)) (owedX_above c true (by omega) (by omega))

/-- The four messages of hop `s + 1` of the reduction. -/
theorem steps_rs (s : ℕ) (hs : s < 14) :
    Step m K κs c iprop(Ow c (tot c (4 * s + 4) (4 * s)) ∗ (DX true c (4 * s + 4) (4 * s) ∗ blk m true c (s + 1)) ∗ (DX false c (4 * s + 4) (4 * s) ∗ blk m false c (s + 1)))
      iprop(Ow c (tot c (4 * s + 8) (4 * s + 4)) ∗ (DX true c (4 * s + 8) (4 * s + 4) ∗ blk m true c (s + 1)) ∗ (DX false c (4 * s + 8) (4 * s + 4) ∗ blk m false c (s + 1)))
      (loopK (fun q K => rsOne true c s q <| rsOne false c s q K) 4 0) :=
  Step.loop (fun q => iprop(Ow c (tot c (4 * s + 4 + q) (4 * s + q)) ∗ (DX true c (4 * s + 4 + q) (4 * s + q) ∗ blk m true c (s + 1))
      ∗ (DX false c (4 * s + 4 + q) (4 * s + q) ∗ blk m false c (s + 1)))) _ 4 0 fun q _ hq => by
    have hd : ∀ X, DirStep m K κs c X (2 * (4 * s + q) + 10) (4 * s + 4 + q) (4 * s + q) (4 * s + 4 + (q + 1)) (4 * s + (q + 1))
        iprop(DX X c (4 * s + 4 + q) (4 * s + q) ∗ blk m X c (s + 1)) iprop(DX X c (4 * s + 4 + (q + 1)) (4 * s + (q + 1)) ∗ blk m X c (s + 1)) (rsOne X c s q) := fun X => by
      have h := dir_rs (m := m) (K := K) (κs := κs) X (4 * s + q) (by omega) (rsOff X c (sF s) (qF q)) (rsOff_inb X c _ _)
        (by rw [rsOff_eq, show (sF s).val = s from Nat.mod_eq_of_lt (by omega), show (4 * s + q) / 4 = s by omega,
              show (qF (4 * s + q)).val = (qF q).val by show (4 * s + q) % 4 = q % 4; omega])
      rw [show (4 * s + q) / 4 = s by omega, show 4 * s + q + 4 = 4 * s + 4 + q by omega, show 4 * s + q + 5 = 4 * s + 4 + (q + 1) by omega,
        show 4 * s + q + 1 = 4 * s + (q + 1) by omega] at h
      exact h
    exact pair (hd true) (hd false) (by omega) (owedX_above c false (by omega) (by omega)) (owedX_above c true (by omega) (by omega))

/-- A hop of the reduction, with its products. -/
theorem steps_hop (s : ℕ) (hs : s < 14) :
    Step m K κs c iprop(Ow c (tot c (4 * s + 4) (4 * s)) ∗ DX true c (4 * s + 4) (4 * s) ∗ DX false c (4 * s + 4) (4 * s) ∗ Ops m c ∗ Dots m true c (s + 1) ∗ Dots m false c (s + 1))
      iprop(Ow c (tot c (4 * s + 8) (4 * s + 4)) ∗ DX true c (4 * s + 8) (4 * s + 4) ∗ DX false c (4 * s + 8) (4 * s + 4) ∗ Ops m c ∗ Dots m true c (s + 2) ∗ Dots m false c (s + 2))
      (fun k => dotsK c s (loopK (fun q K => rsOne true c s q <| rsOne false c s q K) 4 0 k)) := by
  have h1 := (step_dots (m := m) (K := K) (κs := κs) (c := c) s (by omega)).frame iprop(Ow c (tot c (4 * s + 4) (4 * s)) ∗ DX true c (4 * s + 4) (4 * s) ∗ DX false c (4 * s + 4) (4 * s))
  have h2 := (steps_rs (m := m) (K := K) (κs := κs) (c := c) s hs).frame iprop(Ops m c
    ∗ (bigSep (Finset.range (s + 1)) (blk m true c) ∗ bigSep (Finset.Ico (s + 2) 16) (blkAny true c))
    ∗ (bigSep (Finset.range (s + 1)) (blk m false c) ∗ bigSep (Finset.Ico (s + 2) 16) (blkAny false c)))
  refine Step.comp (h1.conseq ?_ (Entails.refl _)) (h2.conseq ?_ ?_)
  · iintro ⟨HO, HT, HF, Hd⟩
    isplitl [Hd]; · iexact Hd
    isplitl [HO]; · iexact HO
    isplitl [HT] <;> iassumption
  · unfold Dots
    rw [bs_range_succ (s + 1), bs_range_succ (s + 1)]
    iintro ⟨⟨Hops, ⟨⟨Hb, Hbs⟩, Ha⟩, ⟨⟨Hb', Hbs'⟩, Ha'⟩⟩, HO, HT, HF⟩
    isplitl [HO HT HF Hb Hb']
    · isplitl [HO]; · iexact HO
      isplitl [HT Hb]; · isplitl [HT] <;> iassumption
      isplitl [HF] <;> iassumption
    isplitl [Hops]; · iexact Hops
    isplitl [Hbs Ha]; · isplitl [Hbs] <;> iassumption
    isplitl [Hbs'] <;> iassumption
  · unfold Dots
    rw [bs_range_succ (s + 1), bs_range_succ (s + 1)]
    iintro ⟨⟨HO, ⟨HT, Hb⟩, ⟨HF, Hb'⟩⟩, Hops, ⟨Hbs, Ha⟩, ⟨Hbs', Ha'⟩⟩
    isplitl [HO]; · iexact HO
    isplitl [HT]; · iexact HT
    isplitl [HF]; · iexact HF
    isplitl [Hops]; · iexact Hops
    isplitl [Hb Hbs Ha]
    · isplitl [Hb Hbs]; · isplitl [Hb] <;> iassumption
      iexact Ha
    isplitl [Hb' Hbs']; · isplitl [Hb'] <;> iassumption
    iexact Ha'

/-- The device's last block of a direction, when its quarters below `q` are finished. -/
def Last (m : (ℓ : Loc nD τ sig) → Buf (Elt F) ℓ) (X : Bool) (c : Dev nD) (q : ℕ) : sProp 𝕄 :=
  iprop(bigSep (Finset.range q) (qOut m X c) ∗ bigSep (Finset.Ico q 4) (qDot m X c))

/-- The last hop of the reduction. -/
theorem steps_last :
    Step m K κs c iprop(Ow c (tot c 60 56) ∗ (DX true c 60 56 ∗ Last m true c 0) ∗ (DX false c 60 56 ∗ Last m false c 0))
      iprop(Ow c (tot c 64 60) ∗ (DX true c 64 60 ∗ Last m true c 4) ∗ (DX false c 64 60 ∗ Last m false c 4))
      (loopK (fun q K => rsLastOne true c q <| rsLastOne false c q K) 4 0) :=
  Step.loop (fun q => iprop(Ow c (tot c (60 + q) (56 + q)) ∗ (DX true c (60 + q) (56 + q) ∗ Last m true c q)
      ∗ (DX false c (60 + q) (56 + q) ∗ Last m false c q))) _ 4 0 fun q _ hq => by
    have hd : ∀ X, DirStep m K κs c X (2 * (56 + q) + 10) (60 + q) (56 + q) (60 + (q + 1)) (56 + (q + 1))
        iprop(DX X c (60 + q) (56 + q) ∗ Last m X c q) iprop(DX X c (60 + (q + 1)) (56 + (q + 1)) ∗ Last m X c (q + 1)) (rsLastOne X c q) := fun X R hR => by
      have eq : qF (56 + q) = qF q := Fin.ext (by show (56 + q) % 4 = q % 4; omega)
      have h := (dir_rsLast (m := m) (K := K) (κs := κs) X (56 + q) (by omega) (by omega) (rsOff X c (sF 14) (qF q)) (rsOff_inb X c _ _)
        (by rw [rsOff_eq, eq]) R hR).frame iprop(bigSep (Finset.range q) (qOut m X c) ∗ bigSep (Finset.Ico (q + 1) 4) (qDot m X c))
      rw [show 56 + q + 4 = 60 + q by omega, show 56 + q + 5 = 60 + (q + 1) by omega,
        show 56 + q + 1 = 56 + (q + 1) by omega] at h
      unfold Last DX
      rw [bs_peel (show q < 4 by omega), bs_range_succ q]
      have e1 : qDot m X c (56 + q) = qDot m X c q := by unfold qDot; rw [eq]
      have e2 : qOut m X c (56 + q) = qOut m X c q := by unfold qOut; rw [eq]
      rw [e1, e2] at h
      refine h.conseq ?_ ?_
      · iintro ⟨HO, HX, Hr, Hd, Hds⟩
        isplitr [Hr Hds]
        · isplitl [HO]; · iexact HO
          isplitl [HX] <;> iassumption
        isplitl [Hr] <;> iassumption
      · iintro ⟨⟨HO, HX, Hd⟩, Hr, Hds⟩
        isplitl [HO]; · iexact HO
        isplitl [HX]; · iexact HX
        isplitl [Hr Hd]; · isplitl [Hd] <;> iassumption
        iexact Hds
    exact pair (hd true) (hd false) (by omega) (owedX_above c false (by omega) (by omega)) (owedX_above c true (by omega) (by omega))

/-- The accumulator, piece by piece. -/
theorem acc_pieces (f : Buf (Elt F) (accLoc c)) (S : Finset ℕ) (P : ℕ → Finset (Idx (accLoc c))) (h : ∀ t ∈ S, ∀ t' ∈ S, t ≠ t' → Disjoint (P t) (P t'))
    (U : Finset (Idx (accLoc c))) (hU : ∀ i, i ∈ U ↔ ∃ t ∈ S, i ∈ P t) :
    (accLoc c ↦[U]{fullShare} f : sProp 𝕄) = bigSep S fun t => (accLoc c ↦[P t]{fullShare} f : sProp 𝕄) := by
  have e : U = S.biUnion P := Finset.ext fun i => (hU i).trans Finset.mem_biUnion.symm
  rw [e]
  exact pointsTo_biUnion S P h
/-- The quarters of the last block. -/
theorem last_pieces (X : Bool) (f : Buf (Elt F) (accLoc c)) :
    (accLoc c ↦[(R64 X c 15).set]{fullShare} f : sProp 𝕄) = bigSep (Finset.range 4) fun q => (accLoc c ↦[(R16 X c 15 (qF q)).set]{fullShare} f : sProp 𝕄) :=
  acc_pieces f (Finset.range 4) (fun q => (R16 X c 15 (qF q)).set) (quarters_disj X c 15 (by decide)) _ fun i => by
    rw [← quarters_block X c 15 (by decide)]; exact Finset.mem_biUnion
/-- The last block and its quarters. -/
theorem last_split (X : Bool) : blk m X c 15 ⊢ Last m X c 0 := by
  unfold blk Last qDot
  rw [last_pieces, Finset.range_zero, bigSep_empty, show Finset.Ico 0 4 = Finset.range 4 from rfl]
  iintro H
  isplitr [H]; · iempintro
  iexact H
/-- The four finished quarters are the rows of the first copy out. -/
theorem last_join (X : Bool) : Last m X c 4 ⊢ accOut m X c 0 := by
  unfold accOut Last qOut
  rw [show (cpSet c X 0 : Finset S2048x2048.Idx) = (R64 X c 15).set from rfl, last_pieces]
  iintro ⟨H, -⟩
  iexact H
/-- Rows with some contents are rows that may be written. -/
theorem acc_any (X : Bool) (j : ℕ) (f : Vec F S2048x2048 .f32) : (accLoc c ↦[cpSet c X j]{fullShare} f) ⊢ accAny X c j := by
  unfold accAny
  iintro H; iexists _; iexact H
/-- The gathered blocks and their quarters. -/
theorem blocks_split (X : Bool) : bigSep (Finset.range 15) (blk m X c) ⊢ bigSep (Finset.range 60) (fun n => accAny X c (n + 1)) := by
  have h := acc_pieces (F := F) (c := c) (dotAll m c) (Finset.range 15) (fun t => (R64 X c t).set) (hops_disj X c (Finset.range 15) (Finset.range_subset_range.mpr (by decide)))
    ((Finset.range 15).biUnion fun t => (R64 X c t).set) (fun _ => Finset.mem_biUnion)
  have h' := acc_pieces (F := F) (c := c) (dotAll m c) (Finset.range 60) (fun n => cpSet c X (n + 1)) (fun n hn n' hn' hne => cp_disj X c (n + 1)
        (Finset.mem_range.mpr (by have := Finset.mem_range.mp hn; omega)) (n' + 1) (Finset.mem_range.mpr (by have := Finset.mem_range.mp hn'; omega)) (by omega))
    ((Finset.range 15).biUnion fun t => (R64 X c t).set) (fun i => by rw [blocks_quarters]; exact Finset.mem_biUnion)
  exact BIBase.Entails.trans (Entails.of_eq (h.symm.trans h')) (bigSep_mono fun n _ => acc_any X (n + 1) (dotAll m c))

/-- The reduction. -/
theorem step_rsPhase :
    Step m K κs c iprop(Ow c (tot c 0 0) ∗ DX true c 0 0 ∗ DX false c 0 0 ∗ Ops m c ∗ Dots m true c 1 ∗ Dots m false c 1)
      iprop(Ow c (tot c 64 60) ∗ DX true c 64 60 ∗ DX false c 64 60 ∗ Ops m c
        ∗ (accOut m true c 0 ∗ bigSep (Finset.range 60) (fun n => accAny true c (n + 1)))
        ∗ (accOut m false c 0 ∗ bigSep (Finset.range 60) (fun n => accAny false c (n + 1)))) (rsPhase c) := by
  have h1 := (steps_issue (m := m) (K := K) (κs := κs) (c := c)).frame iprop(Rcv true c 0 ∗ Rcv false c 0 ∗ Ops m c ∗ bigSep (Finset.Ico 1 16) (blkAny true c) ∗ bigSep (Finset.Ico 1 16) (blkAny false c))
  have h2 := Step.loop (m := m) (K := K) (κs := κs) (c := c) (fun s => iprop(Ow c (tot c (4 * s + 4) (4 * s)) ∗ DX true c (4 * s + 4) (4 * s) ∗ DX false c (4 * s + 4) (4 * s) ∗ Ops m c
    ∗ Dots m true c (s + 1) ∗ Dots m false c (s + 1))) (fun s k => dotsK c s (loopK (fun q K => rsOne true c s q <| rsOne false c s q K) 4 0 k)) 14 0
    (fun s _ hs => steps_hop s (by omega))
  have h3 := (step_dots (m := m) (K := K) (κs := κs) (c := c) 14 (by decide)).frame iprop(Ow c (tot c 60 56) ∗ DX true c 60 56 ∗ DX false c 60 56)
  have h4 := (steps_last (m := m) (K := K) (κs := κs) (c := c)).frame iprop(Ops m c ∗ bigSep (Finset.range 15) (blk m true c) ∗ bigSep (Finset.range 15) (blk m false c))
  refine Step.comp (f := loopK _ 4 0) (h1.conseq ?_ (Entails.refl _)) (Step.comp (f := loopK _ 14 0) (h2.conseq ?_ (Entails.refl _))
    (Step.comp (f := dotsK c 14) (h3.conseq ?_ (Entails.refl _)) (h4.conseq ?_ ?_)))
  · unfold Dots DX
    rw [bs_range_succ 0, bs_range_succ 0, Finset.range_zero, bigSep_empty, bigSep_empty]
    iintro ⟨HO, ⟨Ho, Hr⟩, ⟨Ho', Hr'⟩, Hops, ⟨⟨Hb, -⟩, Ha⟩, ⟨⟨Hb', -⟩, Ha'⟩⟩
    isplitl [HO Ho Hb Ho' Hb']
    · isplitl [HO]; · iexact HO
      isplitl [Ho Hb]; · isplitl [Ho] <;> iassumption
      isplitl [Ho'] <;> iassumption
    isplitl [Hr]; · iexact Hr
    isplitl [Hr']; · iexact Hr'
    isplitl [Hops]; · iexact Hops
    isplitl [Ha] <;> iassumption
  · unfold Dots DX
    rw [bs_range_succ 0, bs_range_succ 0, Finset.range_zero, bigSep_empty, bigSep_empty]
    iintro ⟨⟨HO, ⟨Ho, Hb⟩, ⟨Ho', Hb'⟩⟩, Hr, Hr', Hops, Ha, Ha'⟩
    isplitl [HO]; · iexact HO
    isplitl [Ho Hr]; · isplitl [Ho] <;> iassumption
    isplitl [Ho' Hr']; · isplitl [Ho'] <;> iassumption
    isplitl [Hops]; · iexact Hops
    isplitl [Hb Ha]
    · isplitl [Hb]
      · isplitl [Hb]; · iexact Hb
        iempintro
      iexact Ha
    isplitl [Hb']
    · isplitl [Hb']; · iexact Hb'
      iempintro
    iexact Ha'
  · iintro ⟨HO, HT, HF, Hd⟩
    isplitl [Hd]; · iexact Hd
    isplitl [HO]; · iexact HO
    isplitl [HT] <;> iassumption
  · unfold Dots
    rw [bs_range_succ 15, bs_range_succ 15]
    iintro ⟨⟨Hops, ⟨⟨Hb, Hbs⟩, -⟩, ⟨⟨Hb', Hbs'⟩, -⟩⟩, HO, HT, HF⟩
    isplitl [HO HT HF Hb Hb']
    · isplitl [HO]; · iexact HO
      isplitl [HT Hb]
      · isplitl [HT]; · iexact HT
        iapply (last_split true); iexact Hb
      isplitl [HF]; · iexact HF
      iapply (last_split false); iexact Hb'
    isplitl [Hops]; · iexact Hops
    isplitl [Hbs] <;> iassumption
  · iintro ⟨⟨HO, ⟨HT, Hl⟩, ⟨HF, Hl'⟩⟩, Hops, Hbs, Hbs'⟩
    isplitl [HO]; · iexact HO
    isplitl [HT]; · iexact HT
    isplitl [HF]; · iexact HF
    isplitl [Hops]; · iexact Hops
    isplitl [Hl Hbs]
    · isplitl [Hl]; · iapply (last_join true); iexact Hl
      iapply (blocks_split true); iexact Hbs
    isplitl [Hl']; · iapply (last_join false); iexact Hl'
    iapply (blocks_split false); iexact Hbs'

end Cert.KernelIdeal.Ring
end
-- ==== Proof.Tail.lean ====
module
public import proofs.«01_k».proof.Proof.Phases

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable {m : (ℓ : Loc nD τ sig) → Buf (Elt F) ℓ} {K : Dev nD × Kind → ℕ} {κs : Key → ℕ} {c : Dev nD}

/-! # The gathering and the end -/

/-- A direction of the gathering before its hop `n`. -/
def Gat (m : (ℓ : Loc nD τ sig) → Buf (Elt F) ℓ) (X : Bool) (c : Dev nD) (n : ℕ) : sProp 𝕄 :=
  iprop(Cp m X c (n - 3) (n + 1) ∗ bigSep (Finset.Ico n 60) (fun n => accAny X c (n + 1)) ∗ bigSep (Finset.Ico n 60) (fun n => oAny X c (n + 1)))

/-- A direction's step that keeps one more block keeps the rest. -/
theorem gat_step {X : Bool} {l a b a' b' n : ℕ} {P P' : sProp 𝕄} {f : PR F → PR F} (hn : n < 60)
    (h : DirStep m K κs c X l a b a' b' iprop(P ∗ Cp m X c (n - 3) (n + 1) ∗ accAny X c (n + 1) ∗ oAny X c (n + 1)) iprop(P' ∗ Cp m X c (n - 2) (n + 2)) f) :
    DirStep m K κs c X l a b a' b' iprop(P ∗ Gat m X c n) iprop(P' ∗ Gat m X c (n + 1)) f := fun R hR => by
  unfold Gat
  rw [bs_peel hn, bs_peel hn (fun n => oAny X c (n + 1)), show n + 1 - 3 = n - 2 by omega, show n + 1 + 1 = n + 2 by omega]
  refine ((h R hR).frame iprop(bigSep (Finset.Ico (n + 1) 60) (fun n => accAny X c (n + 1)) ∗ bigSep (Finset.Ico (n + 1) 60) (fun n => oAny X c (n + 1)))).conseq ?_ ?_
  · iintro ⟨HO, HP, Hcp, ⟨Ha, Has⟩, ⟨Ho, Hos⟩⟩
    isplitr [Has Hos]
    · isplitl [HO]; · iexact HO
      isplitl [HP]; · iexact HP
      isplitl [Hcp]; · iexact Hcp
      isplitl [Ha] <;> iassumption
    isplitl [Has] <;> iassumption
  · iintro ⟨⟨HO, HP, Hcp⟩, Has, Hos⟩
    isplitl [HO]; · iexact HO
    isplitl [HP]; · iexact HP
    isplitl [Hcp]; · iexact Hcp
    isplitl [Has] <;> iassumption

/-- The device's own rows go to the result. -/
theorem step_ownX (X : Bool) (off : Fin 2 → ℕ) (h) (ho : off = ![row X c 15 0, 0]) :
    Step m K κs c iprop(Cp m X c 0 0 ∗ accOut m X c 0 ∗ bigSep (Finset.range 60) (fun n => accAny X c (n + 1)) ∗ oAny X c 0 ∗ bigSep (Finset.range 60) (fun n => oAny X c (n + 1)))
      (Gat m X c 0) (ownK (slotOf (cpIdx X 0)) off h) := by
  unfold Gat
  refine ((step_own (m := m) (K := K) (κs := κs) X off h ho).frame iprop(bigSep (Finset.range 60) (fun n => accAny X c (n + 1)) ∗ bigSep (Finset.range 60) (fun n => oAny X c (n + 1)))).conseq ?_ (Entails.refl _)
  iintro ⟨Hcp, Ha, Has, Ho, Hos⟩
  isplitr [Has Hos]
  · isplitl [Hcp]; · iexact Hcp
    isplitl [Ha] <;> iassumption
  isplitl [Has] <;> iassumption

/-- The gathering. -/
theorem steps_ag :
    Step m K κs c iprop(Ow c (tot c 64 60) ∗ (DX true c 64 60 ∗ Gat m true c 0) ∗ (DX false c 64 60 ∗ Gat m false c 0))
      iprop(Ow c (tot c 120 116) ∗ (DX true c 120 116 ∗ Gat m true c 56) ∗ (DX false c 120 116 ∗ Gat m false c 56))
      (loopK (fun n K => agK true n c <| agK false n c K) 56 0) :=
  Step.loop (fun n => iprop(Ow c (tot c (64 + n) (60 + n)) ∗ (DX true c (64 + n) (60 + n) ∗ Gat m true c n) ∗ (DX false c (64 + n) (60 + n) ∗ Gat m false c n))) _ 56 0 fun n _ hn => by
    rw [show 64 + (n + 1) = 65 + n by omega, show 60 + (n + 1) = 61 + n by omega]
    exact pair (gat_step (by omega) (dir_ag true n (by omega))) (gat_step (by omega) (dir_ag false n (by omega))) (by omega)
      (owedX_above c false (by omega) (by omega)) (owedX_above c true (by omega) (by omega))

/-- The last hop of the gathering, in both directions. -/
theorem steps_agLast :
    Step m K κs c iprop(Ow c (tot c 120 116) ∗ (DX true c 120 116 ∗ Gat m true c 56) ∗ (DX false c 120 116 ∗ Gat m false c 56))
      iprop(Ow c (tot c 120 120) ∗ (DX true c 120 120 ∗ Gat m true c 60) ∗ (DX false c 120 120 ∗ Gat m false c 60))
      (loopK (fun n K => agLastK true n c <| agLastK false n c K) 4 56) :=
  Step.loop (fun n => iprop(Ow c (tot c 120 (60 + n)) ∗ (DX true c 120 (60 + n) ∗ Gat m true c n) ∗ (DX false c 120 (60 + n) ∗ Gat m false c n))) _ 4 56 fun n _ hn => by
    rw [show 60 + (n + 1) = 61 + n by omega]
    exact pair (gat_step (by omega) (dir_agLast true n (by omega))) (gat_step (by omega) (dir_agLast false n (by omega))) (by omega)
      (owedX_above c false (by omega) (by omega)) (owedX_above c true (by omega) (by omega))

/-- What the gathering of a direction starts from. -/
def Gat0 (m : (ℓ : Loc nD τ sig) → Buf (Elt F) ℓ) (X : Bool) (c : Dev nD) : sProp 𝕄 :=
  iprop(Cp m X c 0 0 ∗ accOut m X c 0 ∗ bigSep (Finset.range 60) (fun n => accAny X c (n + 1)) ∗ oAny X c 0 ∗ bigSep (Finset.range 60) (fun n => oAny X c (n + 1)))

/-- The whole gathering. -/
theorem step_agPhase :
    Step m K κs c iprop(Ow c (tot c 64 60) ∗ (DX true c 64 60 ∗ Gat0 m true c) ∗ (DX false c 64 60 ∗ Gat0 m false c))
      iprop(Ow c (tot c 120 120) ∗ (DX true c 120 120 ∗ Gat m true c 60) ∗ (DX false c 120 120 ∗ Gat m false c 60)) (agPhase c) := by
  have h1 := (step_ownX (m := m) (K := K) (κs := κs) (c := c) true (ownOff true c) (ownOff_inb true c) (ownOff_eq true c)).frame
    iprop(Ow c (tot c 64 60) ∗ DX true c 64 60 ∗ DX false c 64 60 ∗ Gat0 m false c)
  have h2 := (step_ownX (m := m) (K := K) (κs := κs) (c := c) false (ownOff false c) (ownOff_inb false c) (ownOff_eq false c)).frame
    iprop(Ow c (tot c 64 60) ∗ DX true c 64 60 ∗ DX false c 64 60 ∗ Gat m true c 0)
  refine Step.comp (f := ownK (slotOf 0) (ownOff true c) (ownOff_inb true c)) (h1.conseq ?_ (Entails.refl _))
    (Step.comp (f := ownK (slotOf 1) (ownOff false c) (ownOff_inb false c)) (h2.conseq ?_ (Entails.refl _))
      (Step.comp (f := loopK _ 56 0) (steps_ag.conseq ?_ (Entails.refl _)) steps_agLast))
  · iintro ⟨HO, ⟨HT, Hg⟩, HF, Hg'⟩
    isplitl [Hg]; · unfold Gat0; iexact Hg
    isplitl [HO]; · iexact HO
    isplitl [HT]; · iexact HT
    isplitl [HF] <;> iassumption
  · iintro ⟨Hg, HO, HT, HF, Hg'⟩
    isplitl [Hg']; · unfold Gat0; iexact Hg'
    isplitl [HO]; · iexact HO
    isplitl [HT]; · iexact HT
    isplitl [HF] <;> iassumption
  · iintro ⟨Hg', HO, HT, HF, Hg⟩
    isplitl [HO]; · iexact HO
    isplitl [HT Hg]; · isplitl [HT] <;> iassumption
    isplitl [HF] <;> iassumption

/-! ## The end -/

/-- At its end a direction owes nothing, -/
theorem owedX_end (c : Dev nD) (X : Bool) : owedX c X 120 120 = 0 := by
  unfold owedX; rw [Finset.Ico_self, Finset.Ico_eq_empty (by decide), Finset.sum_empty, Finset.sum_empty, add_zero]
/-- and only the exit's signals are owed. -/
theorem tot_end (c : Dev nD) : tot c 120 120 = Ex c := by unfold tot; rw [owedX_end, owedX_end, add_zero, add_zero]

/-- The last eight messages of each direction have left. -/
theorem steps_sent :
    Step m K κs c iprop(Ow c (Ex c) ∗ Snd true c 112 120 ∗ Snd false c 112 120) iprop(Ow c (Ex c) ∗ Snd true c 120 120 ∗ Snd false c 120 120)
      (loopK (fun k K => waitSendK true (slotOf k) <| waitSendK false (slotOf k) K) 8 0) :=
  Step.loop (fun k => iprop(Ow c (Ex c) ∗ Snd true c (112 + k) 120 ∗ Snd false c (112 + k) 120)) _ 8 0 fun k _ hk => by
    have e : slotOf k = slotOf (112 + k) := Fin.ext (by show k % 8 = (112 + k) % 8; omega)
    have h := fun X => step_waitSend (m := m) (K := K) (κs := κs) (c := c) X (112 + k) 120 (by omega) (by omega) (by omega) (Ex_above c (n := 0) (by decide))
    rw [e]
    refine Step.comp (((h true).frame (Snd false c (112 + k) 120)).conseq ?_ (Entails.refl _)) (((h false).frame (Snd true c (112 + (k + 1)) 120)).conseq ?_ ?_)
    · iintro ⟨HO, HT, HF⟩; isplitl [HO HT]; · isplitl [HO] <;> iassumption
      iexact HF
    · iintro ⟨⟨HO, HT⟩, HF⟩; isplitl [HO HF]; · isplitl [HO] <;> iassumption
      iexact HT
    · iintro ⟨⟨HO, HF⟩, HT⟩; isplitl [HO]; · iexact HO
      isplitl [HT] <;> iassumption

/-- The last copy slot's wait. -/
theorem step_lastOut (X : Bool) (n : ℕ) (hn : 56 ≤ n) (hn' : n < 60) {O : Owed} (hO : Above 0 O) :
    Step m K κs c iprop(Ow c O ∗ Cp m X c (n + 1) 61) iprop(Ow c O ∗ Cp m X c (n + 2) 61) (lastOut X c n) := by
  have hf : lastOut (F := F) X c n = waitOutK (slotOf (cpIdx X (n + 1))) (outOff X c (sF (n / 4)) (qF n)) (outOff_inb X c _ _) := by
    funext k; unfold lastOut
    rw [show outSlot X n = slotOf (cpIdx X (n + 1)) from congrArg slotOf (by unfold cpIdx; omega)]
  rw [hf]
  exact step_cpWait X (n + 1) 61 (by omega) (by omega) (by omega) hO fun Kt =>
    (wpE_waitDma2_eq 𝒱₀ (c.tc : Thread nD τ) none Set.univ Kt).trans (by
      rw [out_credit]; unfold cpAmt; rw [if_neg (by omega)]; rfl)

/-- The last four copies of each direction are done. -/
theorem steps_out :
    Step m K κs c iprop(Ow c (Ex c) ∗ Cp m true c 57 61 ∗ Cp m false c 57 61) iprop(Ow c (Ex c) ∗ Cp m true c 61 61 ∗ Cp m false c 61 61)
      (loopK (fun n K => lastOut true c n <| lastOut false c n K) 4 56) :=
  Step.loop (fun n => iprop(Ow c (Ex c) ∗ Cp m true c (n + 1) 61 ∗ Cp m false c (n + 1) 61)) _ 4 56 fun n hn hn' => by
    have h := fun X => step_lastOut (m := m) (K := K) (κs := κs) (c := c) X n hn (by omega) (Ex_above c (n := 0) (by decide))
    refine Step.comp (((h true).frame (Cp m false c (n + 1) 61)).conseq ?_ (Entails.refl _)) (((h false).frame (Cp m true c (n + 2) 61)).conseq ?_ ?_)
    · iintro ⟨HO, HT, HF⟩; isplitl [HO HT]; · isplitl [HO] <;> iassumption
      iexact HF
    · iintro ⟨⟨HO, HT⟩, HF⟩; isplitl [HO HF]; · isplitl [HO] <;> iassumption
      iexact HT
    · iintro ⟨⟨HO, HF⟩, HT⟩; isplitl [HO]; · iexact HO
      isplitl [HT] <;> iassumption

/-- A unit to a semaphore of a neighbour's, with what comes with it. -/
theorem step_signal (kd : Kind) (s : Sem sig) (hs : csem kd = .reg s) (d : Dev nD) (dty : ℕ) (hd : dty ∈ kduties kd 0) (ha : kamount kd 0 = 1) (ι : ℕ) (O : Owed) :
    Step m K κs c iprop(Ow c (O + tallyAt (kcell (d, kd)) ι 1) ∗ dutyTok ER (kcell (d, kd)) 0 dty ∗ kpay m d kd 0 dty) (Ow c O)
      (fun k => .op (.semSignal ((d.tc : Thread nD τ)) s (1#32 : BitVec 32).toInt) fun _ => k) := fun k Q => by
  have hk : kcell (d, kd) = ((d.tc : Thread nD τ), .reg s) := by unfold kcell; rw [hs]
  have hf : (fun k : PR F => (.op (.semSignal ((d.tc : Thread nD τ)) s (1#32 : BitVec 32).toInt) fun _ => k : PR F))
      = fun k => .op (.semSignal ((d.tc : Thread nD τ)) s ((1 : ℕ) : ℤ)) fun _ => k := rfl
  have hpay : kpay m d kd 0 dty = (Rd m).payload ((d.tc : Thread nD τ), .reg s) 0 dty := by
    rw [← hk]; exact (Rd_payload m (d, kd) 0 dty).symm
  rw [hf, hpay, hk]
  unfold Ow
  iintro ⟨#HC, ⟨⟨%W, HO⟩, Ht, Hp⟩, Hk⟩
  iapply (Rounds.wp_signal 𝒱₀ ER (Rd m) (c.tc : Thread nD τ) none (dst := (d.tc : Thread nD τ)) (κ := K (d, kd)) (d := dty)
      (sem := s) (k' := 1) (r := 0) (show dty ∈ (Rd m).duties ((d.tc : Thread nD τ), .reg s) 0 by rw [← hk, Rd_duties]; exact hd)
      (by rw [← hk, Rd_amount]; exact ha) ι (O₀ := O + tallyAt ((d.tc : Thread nD τ), .reg s) ι 1) O rfl) $$ [HO Ht Hp]
  · isplitr
    · rw [← hk]; iapply (ctx_inv m K κs (d, kd)); iexact HC
    isplitl [HO]; · iexact HO
    isplitl [Ht]; · iexact Ht
    isplitl [Hp]; · iexact Hp
    rw [← hk]; iapply (ctx_reached m K κs (d, kd)); iexact HC
  iintro HO
  iapply Hk
  iexists _; iexact HO

/-- Both neighbours and the device meet. -/
theorem step_meet (kd : Kind) (s : Sem sig) (hs : csem kd = .reg s) (hd : kduties kd 0 = {0, 1}) (ha : kamount kd 0 = 1) (ι : ℕ) (hι : ι < 1001) {O : Owed} (hO : Above ι O) :
    Step m K κs c iprop(Ow c (O + tallyAt (kcell (rightOf c, kd)) ι 1 + tallyAt (kcell (leftOf c, kd)) ι 1)
        ∗ (dutyTok ER (kcell (leftOf c, kd)) 0 1 ∗ dutyTok ER (kcell (rightOf c, kd)) 0 0) ∗ (kpay m (leftOf c) kd 0 1 ∗ kpay m (rightOf c) kd 0 0)
        ∗ cred (tallyAt (kcell (c, kd)) ι 2) ∗ atPos ER (kcell (c, kd)) 0 ∅ 0)
      iprop(Ow c O ∗ atPos ER (kcell (c, kd)) 1 ∅ 0 ∗ kpay m c kd 0 0 ∗ kpay m c kd 0 1)
      (fun k => .op (.semSignal ((leftOf c, .tc) : Thread nD τ) s (1#32 : BitVec 32).toInt) fun _ =>
        .op (.semSignal ((rightOf c, .tc) : Thread nD τ) s (1#32 : BitVec 32).toInt) fun _ => .op (.semWait s (2#32 : BitVec 32).toInt) fun _ => k) := fun k Q => by
  iintro ⟨#HC, ⟨HO, ⟨Ht, Ht'⟩, ⟨Hp, Hp'⟩, Hc, Hat⟩, Hk⟩
  iapply (step_signal (m := m) (K := K) (κs := κs) kd s hs (leftOf c) 1 (by rw [hd]; decide) ha ι _ _ Q)
  isplitr; · iexact HC
  isplitl [HO Ht Hp]
  · isplitl [HO]; · iexact HO
    isplitl [Ht] <;> iassumption
  iintro HO
  iapply (step_signal (m := m) (K := K) (κs := κs) kd s hs (rightOf c) 0 (by rw [hd]; decide) ha ι _ _ Q)
  isplitr; · iexact HC
  isplitl [HO Ht' Hp']
  · isplitl [HO]; · iexact HO
    isplitl [Ht'] <;> iassumption
  iintro HO
  iapply (wait_cell (K := K) (κs := κs) (m := m) (c := c) kd (k' := 2)
    (fun Kt => (wpE_semWait_eq 𝒱₀ (c.tc : Thread nD τ) none Set.univ Kt).trans (by rw [hs]; rfl)) 0 ι (by rw [hd, ha]; rfl) hι hO) $$ [Hc HO Hat]
  · isplitr; · iexact HC
    isplitl [Hc]; · iexact Hc
    isplitl [HO] <;> iassumption
  iintro ⟨HO, Hat, -, Hpay⟩
  ihave Hpay' := (Entails.of_eq (show (bigSep (kduties kd 0) (fun d => kpay m c kd 0 d) : sProp 𝕄) = iprop(kpay m c kd 0 0 ∗ kpay m c kd 0 1) by
    rw [hd, bigSep_insert (by decide), bigSep_singleton]; rfl)) $$ Hpay
  iapply Hk
  isplitl [HO]; · iexact HO
  isplitl [Hat] <;> iassumption

end Cert.KernelIdeal.Ring
end
-- ==== Proof.Enter.lean ====
module
public import proofs.«01_k».proof.Proof.Tail

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable {m : (ℓ : Loc nD τ sig) → Buf (Elt F) ℓ} {K : Dev nD × Kind → ℕ} {κs : Key → ℕ} {c : Dev nD}

/-! # The start -/

/-- What a direction's receiving starts from: every slot still its reader's. -/
def Rcv0 (X : Bool) (c : Dev nD) : sProp 𝕄 :=
  iprop((bigSep (Finset.range 8) fun mm => atPos ER (kcell (c, .recv X (slotOf mm))) (mm / 8) ∅ 0)
    ∗ (bigSep (Finset.range 120) fun mm => cred (tallyAt (kcell (c, .recv X (slotOf mm))) (2 * mm + 10) nMsg))
    ∗ (bigSep (Finset.range 8) fun mm => iprop(Release.readerAt ES (c, X, slotOf mm) 0 ∗ rbSlot X c (slotOf mm)))
    ∗ (bigSep (Finset.range 112) fun k => dutyTok ER (kcell (srcOf X c, .credit X)) 0 k))

/-- Every slot is given to the writer. -/
theorem slot_given (X : Bool) (mm : ℕ) (hm : mm < 8) :
    iprop(Ctx m K κs ∗ Release.readerAt ES (c, X, slotOf mm) 0 ∗ rbSlot X c (slotOf mm))
      ⊢ |={Set.univ}=> iprop(Release.readerAt ES (c, X, slotOf mm) (mm / 8 + 1) ∗ mine (F := F) X c mm) := by
  rw [show mm / 8 = 0 by omega]
  iintro ⟨#HC, Hrd, Hs⟩
  imod (Release.slot_release ES (k := (c, X, slotOf mm)) (S := rbSlot (F := F) X c (slotOf mm)) (Set.mem_univ (κs (c, X, slotOf mm))) (slot_twice X c (slotOf mm)) 0) $$ [Hrd Hs] with ⟨Hrd, #Hrel⟩
  · isplitr; · iapply (ctx_slot m K κs (c, X, slotOf mm)); iexact HC
    isplitl [Hrd] <;> iassumption
  imodintro
  isplitl [Hrd]; · iexact Hrd
  unfold mine
  rw [show mm / 8 = 0 by omega]
  isplitr; · iexact Hrel
  iapply (ctx_reached m K κs (c, .recv X (slotOf mm))); iexact HC

/-- A device gives its arrival slots to be written in turn, and keeps the right to the first round of each. -/
theorem slots_given (X : Bool) :
    iprop(Ctx m K κs ∗ Rcv0 X c) ⊢ |={Set.univ}=> iprop(Rcv X c 0 ∗ bigSep (Finset.range 8) (mine (F := F) X c)) := by
  have h : ∀ n ≤ 8, iprop(Ctx m K κs ∗ bigSep (Finset.range n) fun mm => iprop(Release.readerAt ES (c, X, slotOf mm) 0 ∗ rbSlot X c (slotOf mm)))
      ⊢ |={Set.univ}=> iprop((bigSep (Finset.range n) fun mm => Release.readerAt ES (c, X, slotOf mm) (mm / 8 + 1)) ∗ bigSep (Finset.range n) (mine (F := F) X c)) := by
    intro n hn
    induction n with
    | zero =>
      rw [Finset.range_zero, bigSep_empty, bigSep_empty, bigSep_empty]
      iintro -; imodintro; isplitr <;> iempintro
    | succ n ih =>
      rw [bs_range_succ, bs_range_succ, bs_range_succ]
      iintro ⟨#HC, H, Hs⟩
      imod (slot_given (m := m) (K := K) (κs := κs) X n (by omega)) $$ [H] with ⟨H1, H2⟩
      · isplitr; · iexact HC
        iexact H
      imod (ih (by omega)) $$ [Hs] with ⟨H3, H4⟩
      · isplitr; · iexact HC
        iexact Hs
      imodintro
      isplitl [H1 H3]; · isplitl [H1] <;> iassumption
      isplitl [H2] <;> iassumption
  unfold Rcv0 Rcv
  iintro ⟨#HC, Hat, Hc, Hs, Ht⟩
  imod (h 8 (le_refl 8)) $$ [Hs] with ⟨Hrd, #Hm⟩
  · isplitr; · iexact HC
    iexact Hs
  imodintro
  isplitl
  · rw [show min (0 + 8) 120 = 8 from rfl, Finset.range_eq_Ico 8, Finset.range_eq_Ico 120, Finset.range_eq_Ico 112, Finset.Ico_eq_empty (show ¬ 112 < 0 by decide), bigSep_empty]
    isplitl [Hat]; · iexact Hat
    isplitl [Hc]; · iexact Hc
    isplitl [Hrd]; · iexact Hrd
    isplitr; · iexact Hm
    isplitr; · iempintro
    iexact Ht
  iexact Hm

/-! ## Loading the operands -/

/-- The load of an operand begins. -/
theorem step_load (k : Fin 2) {s : Shape} {e : EltTy} (src : Memref sig .tc .hbm s e) (dst : Memref sig .tc .vmem s e) (fs : Buf (Elt F) (src.view.loc (c.tc : Thread nD τ)))
    (hN : dst.view.dmaCredit = kamount (.inn k) 0)
    (hpay : ∀ fd : Buf (Elt F) (dst.view.loc (c.tc : Thread nD τ)),
      iprop((dst.view.loc (c.tc : Thread nD τ) ↦[dst.view.set]{fullShare} (dst.view.write (Elt F) fd (src.view.read (Elt F) fs) Finset.univ))
        ∗ (src.view.loc (c.tc : Thread nD τ) ↦[src.view.set]{fullShare} fs)) ⊢ innDone m c k) {h1 h2 h3} :
    Step m K κs c iprop((src.view.loc (c.tc : Thread nD τ) ↦[src.view.set]{fullShare} fs) ∗ Release.slot (dst.view.loc (c.tc : Thread nD τ)) dst.view.set
        ∗ dutyTok ER (kcell (c, .inn k)) 0 0)
      (cred (tallyAt (kcell (c, .inn k)) 0 (kamount (.inn k) 0)))
      (fun K => .op (.enqueueDma src (.here dst) (.dma (inSem k)) h1 h2 h3) fun _ => K) := fun kk Q => by
  unfold Release.slot
  iintro ⟨#HC, ⟨Hs, ⟨%fd, Hd⟩, Ht⟩, Hk⟩
  iapply (Rounds.wp_copy_pointsTo 𝒱₀ ER (Rd m) (c.tc : Thread nD τ) none (κ := K (c, .inn k)) (src := src) (dst := dst)
      (sem := csem (.inn k)) (q := fullShare) (fs := fs) (fd := fd) (r := 0) (d := 0)
      (show 0 ∈ (Rd m).duties (kcell (c, .inn k)) 0 by rw [Rd_duties]; exact Finset.mem_singleton_self _)
      0 (kamount (.inn k) 0) hN (Rd_amount m (c, .inn k) 0 0)
      (by
        rw [show (Rd m).payload ((c.tc : Thread nD τ), csem (.inn k)) 0 0 = _ from Rd_payload m (c, .inn k) 0 0]
        exact hpay fd)) $$ [Hs Hd Ht]
  · isplitr; · iapply (ctx_inv m K κs (c, .inn k)); iexact HC
    isplitl [Hs]; · iexact Hs
    isplitl [Hd]; · iexact Hd
    isplitl [Ht]; · iexact Ht
    iapply (ctx_reached m K κs (c, .inn k)); iexact HC
  iintro Hc
  iapply Hk
  iexact Hc

/-- Waiting for an operand. -/
theorem step_loaded (k : Fin 2) {O : Owed} (hO : Above 0 O) {w : TpuEff nD τ sig (Elt F) Λ₀ .tc PUnit}
    (hw : ∀ Kt : PUnit → sProp 𝕄, wpE (defs₀ (F := F)) 𝒱₀ (c.tc : Thread nD τ) none Set.univ w Kt
      = waitSpec (c.tc : Thread nD τ) Set.univ (csem (.inn k)) (kamount (.inn k) 0) Kt) :
    Step m K κs c iprop(Ow c O ∗ cred (tallyAt (kcell (c, .inn k)) 0 (kamount (.inn k) 0)) ∗ atPos ER (kcell (c, .inn k)) 0 ∅ 0)
      iprop(Ow c O ∗ atPos ER (kcell (c, .inn k)) 1 ∅ 0 ∗ innDone m c k) (fun K => .op w fun _ => K) := fun kk Q => by
  iintro ⟨#HC, ⟨HO, Hc, Hat⟩, Hk⟩
  iapply (wait_cell (K := K) (κs := κs) (m := m) (c := c) (.inn k) hw 0 0 (show kamount (.inn k) 0 = (Finset.card {0}) * _ by rw [Finset.card_singleton, Nat.one_mul])
    (by decide) hO) $$ [Hc HO Hat]
  · isplitr; · iexact HC
    isplitl [Hc]; · iexact Hc
    isplitl [HO] <;> iassumption
  iintro ⟨HO, Hat, -, Hpay⟩
  ihave Hpay' := (Entails.of_eq (show (bigSep (kduties (.inn k) 0) (fun d => kpay m c (.inn k) 0 d) : sProp 𝕄) = innDone m c k from bigSep_singleton)) $$ Hpay
  iapply Hk
  isplitl [HO]; · iexact HO
  isplitl [Hat] <;> iassumption

omit [FloatOps F] in
/-- Reading the whole right operand reads all of it. -/
theorem read_bV (f : Vec F S1024x2048 .f32) : (bV.access b16R).read (Elt F) f = f := by
  funext i
  refine congrArg f (funext fun a => Fin.ext ?_)
  show (b16R.emb i a).val = (i a).val
  rw [Rect.emb_apply]
  match a with
  | 0 => show 0 + 1 * (i 0).val = (i 0).val; omega
  | 1 => show 0 + 1 * (i 1).val = (i 1).val; omega

omit [FloatOps F] in
/-- Writing the whole rounded right operand replaces all of it. -/
theorem write_b16 (f w : Vec F S1024x2048 .bf16) : (b16V.access b16R).write (Elt F) f w Finset.univ = w := by
  have e : ∀ i : S1024x2048.Idx, b16R.emb i = i := fun i => funext fun a => Fin.ext (by
    rw [Rect.emb_apply]
    match a with
    | 0 => show 0 + 1 * (i 0).val = (i 0).val; omega
    | 1 => show 0 + 1 * (i 1).val = (i 1).val; omega)
  funext i
  have h := View.write_emb_of_mem (v := b16V.access b16R) f w (Finset.mem_univ i)
  rw [show (b16V.access b16R).emb i = i from e i] at h
  exact h

end Cert.KernelIdeal.Ring
end
-- ==== Proof.Run.lean ====
module
public import proofs.«01_k».proof.Proof.Enter

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable {m : (ℓ : Loc nD τ sig) → Buf (Elt F) ℓ} {K : Dev nD × Kind → ℕ} {κs : Key → ℕ} {c : Dev nD}

/-! # The whole body -/

/-- What a device needs to meet its neighbours. -/
def Meet (kd : Kind) (ι : ℕ) (c : Dev nD) : sProp 𝕄 :=
  iprop((dutyTok ER (kcell (leftOf c, kd)) 0 1 ∗ dutyTok ER (kcell (rightOf c, kd)) 0 0) ∗ cred (tallyAt (kcell (c, kd)) ι 2) ∗ atPos ER (kcell (c, kd)) 0 ∅ 0)
/-- Nothing waited for of the credit signals. -/
def Crd0 (X : Bool) (c : Dev nD) : sProp 𝕄 :=
  iprop(atPos ER (kcell (c, .credit X)) 0 ∅ 0 ∗ bigSep (Finset.range 112) fun k => cred (tallyAt (kcell (c, .credit X)) (2 * k + 11) 1))
/-- What a load of an operand needs. -/
def Inn (k : Fin 2) (c : Dev nD) : sProp 𝕄 := iprop(dutyTok ER (kcell (c, .inn k)) 0 0 ∗ atPos ER (kcell (c, .inn k)) 0 ∅ 0)
/-- A direction at the start. -/
def Dir0 (m : (ℓ : Loc nD τ sig) → Buf (Elt F) ℓ) (X : Bool) (c : Dev nD) : sProp 𝕄 :=
  iprop(Snd X c 0 0 ∗ Crd0 X c ∗ Rcv0 X c ∗ bigSep (Finset.range 16) (blkAny X c) ∗ Cp m X c 0 0 ∗ oAny X c 0 ∗ bigSep (Finset.range 60) (fun n => oAny X c (n + 1)))
/-- A direction at the end. -/
def Dir1 (m : (ℓ : Loc nD τ sig) → Buf (Elt F) ℓ) (X : Bool) (c : Dev nD) : sProp 𝕄 :=
  iprop(Snd X c 120 120 ∗ Crd X c 112 ∗ Rcv X c 120 ∗ Cp m X c 61 61)
/-- The buffers of the operands. -/
def Mem0 (m : (ℓ : Loc nD τ sig) → Buf (Elt F) ℓ) (c : Dev nD) : sProp 𝕄 :=
  iprop((aLoc c ↦{fullShare} aOf m c) ∗ (bLoc c ↦{fullShare} bOf m c) ∗ Release.slot (avLoc c) Finset.univ ∗ Release.slot (bvLoc c) Finset.univ ∗ Release.slot (b16Loc c) Finset.univ)
/-- What a device owes at the start. -/
def owed0 (c : Dev nD) : Owed := tot c 0 0 + tallyAt (kcell (rightOf c, .bar)) 1 1 + tallyAt (kcell (leftOf c, .bar)) 1 1

/-- A device at the start. -/
def Start (m : (ℓ : Loc nD τ sig) → Buf (Elt F) ℓ) (c : Dev nD) : sProp 𝕄 :=
  iprop(Mem0 m c ∗ Dir0 m true c ∗ Dir0 m false c ∗ Meet .bar 1 c ∗ Meet .exit 1000 c ∗ Inn 0 c ∗ Inn 1 c)
/-- A device at the end. -/
def End (m : (ℓ : Loc nD τ sig) → Buf (Elt F) ℓ) (c : Dev nD) : sProp 𝕄 :=
  iprop(Mem0 m c ∗ Dir1 m true c ∗ Dir1 m false c ∗ atPos ER (kcell (c, .bar)) 1 ∅ 0 ∗ atPos ER (kcell (c, .exit)) 1 ∅ 0
    ∗ atPos ER (kcell (c, .inn 0)) 1 ∅ 0 ∗ atPos ER (kcell (c, .inn 1)) 1 ∅ 0)

/-- What is still owed at some point of the run comes after the waits until then. -/
theorem tot_above (c : Dev nD) {n a b : ℕ} (hn : n < 1000) (ha : n < 2 * a + 10) (hb : n < 2 * b + 11) : Above n (tot c a b) :=
  ((Ex_above c hn).add (owedX_above c true ha hb)).add (owedX_above c false ha hb)

/-- The left operand's load begins, -/
theorem step_loadA :
    Step m K κs c iprop((aLoc c ↦{fullShare} aOf m c) ∗ Release.slot (avLoc c) Finset.univ ∗ dutyTok ER (kcell (c, .inn 0)) 0 0)
      (cred (tallyAt (kcell (c, .inn 0)) 0 (kamount (.inn 0) 0)))
      (fun K => .op (.enqueueDma aM (.here aV) (.dma (inSem 0)) (Memref.isWhole_whole _).wordExact (Memref.isWhole_whole _).wordExact ⟨Or.inl rfl, trivial⟩) fun _ => K) := by
  have h := step_load (m := m) (K := K) (κs := κs) (c := c) 0 aM aV (aOf m c) rfl (fun fd => by
    rw [show aM.view.set = Finset.univ from View.set_whole _, show aV.view.set = Finset.univ from View.set_whole _,
      show aV.view.write (Elt F) fd (aM.view.read (Elt F) (aOf m c)) Finset.univ = aOf m c from View.write_whole_univ _ _ _]
    unfold innDone; rw [if_pos rfl])
    (h1 := (Memref.isWhole_whole _).wordExact) (h2 := (Memref.isWhole_whole _).wordExact) (h3 := ⟨Or.inl rfl, trivial⟩)
  rw [show aM.view.set = Finset.univ from View.set_whole _, show aV.view.set = Finset.univ from View.set_whole _] at h
  exact h

/-- and the right one's. -/
theorem step_loadB :
    Step m K κs c iprop((bLoc c ↦{fullShare} bOf m c) ∗ Release.slot (bvLoc c) Finset.univ ∗ dutyTok ER (kcell (c, .inn 1)) 0 0)
      (cred (tallyAt (kcell (c, .inn 1)) 0 (kamount (.inn 1) 0)))
      (fun K => .op (.enqueueDma bM (.here bV) (.dma (inSem 1)) (Memref.isWhole_whole _).wordExact (Memref.isWhole_whole _).wordExact ⟨Or.inl rfl, trivial⟩) fun _ => K) := by
  have h := step_load (m := m) (K := K) (κs := κs) (c := c) 1 bM bV (bOf m c) rfl (fun fd => by
    rw [show bM.view.set = Finset.univ from View.set_whole _, show bV.view.set = Finset.univ from View.set_whole _,
      show bV.view.write (Elt F) fd (bM.view.read (Elt F) (bOf m c)) Finset.univ = bOf m c from View.write_whole_univ _ _ _]
    unfold innDone; rw [if_neg (by decide)])
    (h1 := (Memref.isWhole_whole _).wordExact) (h2 := (Memref.isWhole_whole _).wordExact) (h3 := ⟨Or.inl rfl, trivial⟩)
  rw [show bM.view.set = Finset.univ from View.set_whole _, show bV.view.set = Finset.univ from View.set_whole _] at h
  exact h

/-- The left operand's load gives the array and its copy, -/
theorem inn_A : innDone m c 0 = iprop((avLoc c ↦{fullShare} aOf m c) ∗ (aLoc c ↦{fullShare} aOf m c)) := by unfold innDone; exact if_pos rfl
/-- and the right one's too. -/
theorem inn_B : innDone m c 1 = iprop((bvLoc c ↦{fullShare} bOf m c) ∗ (bLoc c ↦{fullShare} bOf m c)) := by unfold innDone; exact if_neg (by decide)

/-- The barrier's room, as the neighbours see it. -/
theorem bar_pay (X : Bool) : bigSep (Finset.range 8) (mine (F := F) X c) ⊢ kpay m (srcOf X c) .bar 0 X.toNat := by
  dsimp only [kpay]
  rw [show decide (X.toNat = 1) = X by cases X <;> rfl]
  exact Entails.of_eq (bigSep_congr fun mm _ => by unfold room; rw [dst_src])

/-- A neighbour's signal of the barrier brings the right to write its arrival slots. -/
theorem bar_room (X : Bool) : kpay m c .bar 0 X.toNat ⊢ bigSep (Finset.range 8) (room (F := F) X c) := by
  dsimp only [kpay]
  rw [show decide (X.toNat = 1) = X by cases X <;> rfl]

/-- The device is ready. -/
def Ready (m : (ℓ : Loc nD τ sig) → Buf (Elt F) ℓ) (c : Dev nD) : sProp 𝕄 :=
  iprop(Ow c (tot c 0 0) ∗ Ops m c ∗ ((aLoc c ↦{fullShare} aOf m c) ∗ (bLoc c ↦{fullShare} bOf m c) ∗ Release.slot (bvLoc c) Finset.univ)
    ∗ (Rcv true c 0 ∗ Rcv false c 0) ∗ (bigSep (Finset.range 8) (room true c) ∗ bigSep (Finset.range 8) (room false c))
    ∗ atPos ER (kcell (c, .bar)) 1 ∅ 0 ∗ atPos ER (kcell (c, .inn 0)) 1 ∅ 0 ∗ atPos ER (kcell (c, .inn 1)) 1 ∅ 0)

/-- A device learns its own number. -/
theorem wp_dev (k : Dev nD → PR F) (Q : PUnit → sProp 𝕄) : WP c (k c) Q ⊢ WP c (.op .deviceId k) Q :=
  Entails.of_eq (wp_deviceId 𝒱₀ (c.tc : Thread nD τ) none Set.univ).symm

/-- Entering. -/
theorem wp_enter (k : Dev nD → PR F) (Q : PUnit → sProp 𝕄) :
    iprop(Ctx m K κs ∗ (Ow c (owed0 c) ∗ Mem0 m c ∗ (Rcv0 true c ∗ Rcv0 false c) ∗ Meet .bar 1 c ∗ Inn 0 c ∗ Inn 1 c) ∗ (Ready m c -∗ WP c (k c) Q)) ⊢ WP c (enter k) Q := by
  unfold enter owed0 Mem0 Meet Inn
  iintro ⟨#HC, ⟨HO, ⟨Ha, Hb, Hav, Hbv, Hb16s⟩, ⟨Hr, Hr'⟩, ⟨Htb, Hcb, Hatb⟩, ⟨Ht0, Hat0⟩, ⟨Ht1, Hat1⟩⟩, Hk⟩
  ihave Hb16x := (Entails.of_eq (show (Release.slot (b16Loc c) Finset.univ : sProp 𝕄) = iprop(∃ f : Buf (Elt F) (b16Loc c), b16Loc c ↦{fullShare} f) from rfl)) $$ Hb16s
  icases Hb16x with ⟨%fb, Hb16⟩
  iapply (step_loadA (m := m) (K := K) (κs := κs) _ Q)
  isplitr; · iexact HC
  isplitl [Ha Hav Ht0]
  · isplitl [Ha]; · iexact Ha
    isplitl [Hav] <;> iassumption
  iintro Hc0
  iapply (step_loadB (m := m) (K := K) (κs := κs) _ Q)
  isplitr; · iexact HC
  isplitl [Hb Hbv Ht1]
  · isplitl [Hb]; · iexact Hb
    isplitl [Hbv] <;> iassumption
  iintro Hc1
  iapply (wp_dev (c := c) _ Q)
  beta_reduce
  imod (slots_given (m := m) (K := K) (κs := κs) (c := c) true) $$ [Hr] with ⟨Hr, Hm⟩
  · isplitr; · iexact HC
    iexact Hr
  imod (slots_given (m := m) (K := K) (κs := κs) (c := c) false) $$ [Hr'] with ⟨Hr', Hm'⟩
  · isplitr; · iexact HC
    iexact Hr'
  iapply (step_meet (m := m) (K := K) (κs := κs) .bar barSem rfl rfl rfl 1 (by decide) (tot_above c (a := 0) (b := 0) (by decide) (by decide) (by decide)) _ Q)
  isplitr; · iexact HC
  isplitl [HO Htb Hcb Hatb Hm Hm']
  · isplitl [HO]; · iexact HO
    isplitl [Htb]; · iexact Htb
    isplitl [Hm Hm']
    · isplitl [Hm]; · iapply (bar_pay true); iexact Hm
      iapply (bar_pay false); iexact Hm'
    isplitl [Hcb] <;> iassumption
  iintro ⟨HO, Hatb, Hroom', Hroom⟩
  iapply (step_loaded (m := m) (K := K) (κs := κs) 1 (tot_above c (a := 0) (b := 0) (by decide) (by decide) (by decide)) (w := .waitDma2 (inSem 1) bM bV (Memref.isWhole_whole _).wordExact (Memref.isWhole_whole _).wordExact)
    (fun Kt => (wpE_waitDma2_eq 𝒱₀ (c.tc : Thread nD τ) none Set.univ Kt).trans rfl) _ Q)
  isplitr; · iexact HC
  isplitl [HO Hc1 Hat1]
  · isplitl [HO]; · iexact HO
    isplitl [Hc1] <;> iassumption
  rw [inn_B]
  iintro ⟨HO, Hat1, ⟨Hbv, Hb⟩⟩
  iapply (wp_load_rect 𝒱₀ (c.tc : Thread nD τ) none Set.univ (m := bV) (r := b16R) (Finset.subset_univ _)) $$ Hbv; iintro Hbv
  iapply (wp_load_rect 𝒱₀ (c.tc : Thread nD τ) none Set.univ (m := b16V) (r := b16R) (Finset.subset_univ _)) $$ Hb16; iintro Hb16
  iapply (wp_store 𝒱₀ (c.tc : Thread nD τ) none Set.univ (m := b16V) (r := b16R) (Mk := Finset.univ) (Finset.subset_univ _)) $$ Hb16; iintro Hb16
  rw [write_b16, read_bV]
  iapply (step_loaded (m := m) (K := K) (κs := κs) 0 (tot_above c (a := 0) (b := 0) (by decide) (by decide) (by decide)) (w := .waitDma2 (inSem 0) aM aV (Memref.isWhole_whole _).wordExact (Memref.isWhole_whole _).wordExact)
    (fun Kt => (wpE_waitDma2_eq 𝒱₀ (c.tc : Thread nD τ) none Set.univ Kt).trans rfl) _ Q)
  isplitr; · iexact HC
  isplitl [HO Hc0 Hat0]
  · isplitl [HO]; · iexact HO
    isplitl [Hc0] <;> iassumption
  rw [inn_A]
  iintro ⟨HO, Hat0, ⟨Hav, Ha⟩⟩
  iapply Hk
  unfold Ready Ops
  isplitl [HO]; · iexact HO
  isplitl [Hav Hb16]; · isplitl [Hav]; (· iexact Hav); iexact Hb16
  isplitl [Ha Hb Hbv]
  · isplitl [Ha]; · iexact Ha
    isplitl [Hb]; · iexact Hb
    unfold Release.slot
    iexists _; iexact Hbv
  isplitl [Hr Hr']; · isplitl [Hr] <;> iassumption
  isplitl [Hroom Hroom']; · isplitl [Hroom]; (· iapply (bar_room (m := m) true); iexact Hroom); iapply (bar_room (m := m) false); iexact Hroom'
  isplitl [Hatb]; · iexact Hatb
  isplitl [Hat0] <;> iassumption

/-- With these the first eight messages may be sent. -/
theorem crd_start (X : Bool) : iprop(Crd0 (F := F) X c ∗ bigSep (Finset.range 8) (room X c)) ⊢ Crd X c 0 := by
  unfold Crd0 Crd
  rw [Finset.range_eq_Ico 112]
  iintro ⟨⟨Hat, Hc⟩, Hr⟩
  isplitl [Hat]
  · iexists (∅ : Finset ℕ)
    isplitr; · ipureintro; exact ⟨le_refl 0, Finset.empty_subset _⟩
    isplitl [Hat]; · iexact Hat
    rw [bigSep_empty]; iempintro
  isplitl [Hc]; · iexact Hc
  iexact Hr

/-- The state of the sending at the start, -/
theorem out_start (X : Bool) : iprop(Snd (F := F) X c 0 0 ∗ Crd X c 0) ⊢ Out X c 0 := by unfold Out; exact Entails.refl _
/-- and at the end. -/
theorem out_last (X : Bool) : Out (F := F) X c 120 ⊢ iprop(Snd X c 112 120 ∗ Crd X c 112) := by unfold Out; exact Entails.refl _

/-- A device's body. -/
theorem wp_body (Q : PUnit → sProp 𝕄) :
    iprop(Ctx m K κs ∗ (Ow c (owed0 c) ∗ Start m c) ∗ (Ow c 0 ∗ End m c -∗ WP c (.ret ⟨⟩) Q)) ⊢ WP c body Q := by
  unfold body Start Dir0
  iintro ⟨#HC, ⟨HO, Hmem, ⟨Hs, Hc, Hr, Hd, Hcp, Ho, Hos⟩, ⟨Hs', Hc', Hr', Hd', Hcp', Ho', Hos'⟩, Hbar, Hexit, Hi0, Hi1⟩, Hk⟩
  iapply (wp_enter (m := m) (K := K) (κs := κs) (c := c) _ Q)
  isplitr; · iexact HC
  isplitl [HO Hmem Hr Hr' Hbar Hi0 Hi1]
  · isplitl [HO]; · iexact HO
    isplitl [Hmem]; · iexact Hmem
    isplitl [Hr Hr']; · isplitl [Hr] <;> iassumption
    isplitl [Hbar]; · iexact Hbar
    isplitl [Hi0] <;> iassumption
  unfold Ready
  iintro ⟨HO, Hops, Hkeep, ⟨Hr, Hr'⟩, ⟨Hm, Hm'⟩, Hats⟩
  iapply (step_dot2 (m := m) (K := K) (κs := κs) (c := c) 0 (by decide) (k0_off1 c) (k0_off2 c) (k0_off3 c) (k0_off4 c)
    (k0_off1_inb c) (k0_off2_inb c) (k0_off3_inb c) (k0_off4_inb c) (off1_eq c) (off2_eq c) (off3_eq c) (off4_eq c) _ Q)
  isplitr; · iexact HC
  isplitl [Hops Hd Hd']
  · isplitl [Hops]; · iexact Hops
    unfold Dots
    rw [Finset.range_zero, bigSep_empty, bigSep_empty, Finset.range_eq_Ico 16]
    isplitl [Hd]; · isplitr; (· iempintro); iexact Hd
    isplitr; (· iempintro); iexact Hd'
  iintro ⟨Hops, Hd, Hd'⟩
  iapply (step_rsPhase (m := m) (K := K) (κs := κs) (c := c) _ Q)
  isplitr; · iexact HC
  isplitl [HO Hs Hc Hm Hr Hs' Hc' Hm' Hr' Hops Hd Hd']
  · isplitl [HO]; · iexact HO
    unfold DX
    isplitl [Hs Hc Hm Hr]
    · isplitl [Hs Hc Hm]
      · iapply (out_start true); isplitl [Hs]; · iexact Hs
        iapply (crd_start true); isplitl [Hc] <;> iassumption
      iexact Hr
    isplitl [Hs' Hc' Hm' Hr']
    · isplitl [Hs' Hc' Hm']
      · iapply (out_start false); isplitl [Hs']; · iexact Hs'
        iapply (crd_start false); isplitl [Hc'] <;> iassumption
      iexact Hr'
    isplitl [Hops]; · iexact Hops
    isplitl [Hd] <;> iassumption
  iintro ⟨HO, HT, HF, Hops, ⟨Ha, Has⟩, ⟨Ha', Has'⟩⟩
  iapply (step_agPhase (m := m) (K := K) (κs := κs) (c := c) _ Q)
  isplitr; · iexact HC
  isplitl [HO HT HF Ha Has Ha' Has' Hcp Ho Hos Hcp' Ho' Hos']
  · isplitl [HO]; · iexact HO
    unfold Gat0
    isplitl [HT Ha Has Hcp Ho Hos]
    · isplitl [HT]; · iexact HT
      isplitl [Hcp]; · iexact Hcp
      isplitl [Ha]; · iexact Ha
      isplitl [Has]; · iexact Has
      isplitl [Ho] <;> iassumption
    isplitl [HF]; · iexact HF
    isplitl [Hcp']; · iexact Hcp'
    isplitl [Ha']; · iexact Ha'
    isplitl [Has']; · iexact Has'
    isplitl [Ho'] <;> iassumption
  unfold DX Gat
  iintro ⟨HO, ⟨⟨Hout, Hr⟩, ⟨Hcp, -⟩⟩, ⟨⟨Hout', Hr'⟩, ⟨Hcp', -⟩⟩⟩
  ihave ⟨Hs, Hc⟩ := (out_last (c := c) true) $$ Hout
  ihave ⟨Hs', Hc'⟩ := (out_last (c := c) false) $$ Hout'
  rw [tot_end]
  unfold finish
  iapply (steps_sent (m := m) (K := K) (κs := κs) (c := c) _ Q)
  isplitr; · iexact HC
  isplitl [HO Hs Hs']
  · isplitl [HO]; · iexact HO
    isplitl [Hs] <;> iassumption
  iintro ⟨HO, Hs, Hs'⟩
  iapply (steps_out (m := m) (K := K) (κs := κs) (c := c) _ Q)
  isplitr; · iexact HC
  isplitl [HO Hcp Hcp']
  · isplitl [HO]; · iexact HO
    isplitl [Hcp] <;> iassumption
  iintro ⟨HO, Hcp, Hcp'⟩
  unfold Meet
  icases Hexit with ⟨Hte, Hce, Hate⟩
  rw [show Ex c = 0 + tallyAt (kcell (rightOf c, .exit)) 1000 1 + tallyAt (kcell (leftOf c, .exit)) 1000 1 by unfold Ex; rw [zero_add, add_comm]]
  iapply (step_meet (m := m) (K := K) (κs := κs) .exit exitSem rfl rfl rfl 1000 (by decide) (Above.zero _) _ Q)
  isplitr; · iexact HC
  isplitl [HO Hte Hce Hate]
  · isplitl [HO]; · iexact HO
    isplitl [Hte]; · iexact Hte
    isplitr; · dsimp only [kpay]; isplitr <;> iempintro
    isplitl [Hce] <;> iassumption
  iintro ⟨HO, Hate, -⟩
  iapply Hk
  isplitl [HO]; · iexact HO
  unfold End Mem0 Dir1 Ops
  icases Hkeep with ⟨Ha, Hb, Hbv⟩
  icases Hops with ⟨Hav, Hb16⟩
  icases Hats with ⟨Hatb, Hat0, Hat1⟩
  isplitl [Ha Hb Hbv Hav Hb16]
  · isplitl [Ha]; · iexact Ha
    isplitl [Hb]; · iexact Hb
    isplitl [Hav]; · unfold Release.slot; iexists _; iexact Hav
    isplitl [Hbv]; · iexact Hbv
    unfold Release.slot; iexists _; iexact Hb16
  isplitl [Hs Hc Hr Hcp]
  · isplitl [Hs]; · iexact Hs
    isplitl [Hc]; · iexact Hc
    isplitl [Hr] <;> iassumption
  isplitl [Hs' Hc' Hr' Hcp']
  · isplitl [Hs']; · iexact Hs'
    isplitl [Hc']; · iexact Hc'
    isplitl [Hr'] <;> iassumption
  isplitl [Hatb]; · iexact Hatb
  isplitl [Hate]; · iexact Hate
  isplitl [Hat0] <;> iassumption

end Cert.KernelIdeal.Ring
end
-- ==== Proof.Split.lean ====
module
public import proofs.«01_k».proof.Proof.Run

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable {m : (ℓ : Loc nD τ sig) → Buf (Elt F) ℓ} {K : Dev nD × Kind → ℕ} {κs : Key → ℕ} {c : Dev nD}

/-! # Runs of resources regrouped: by the uses of the semaphores, by slots and rounds, by directions -/

omit [FloatOps F]

/-- The uses of the semaphores as a sum of families. -/
def kindEquiv : ((Fin 2 ⊕ Bool) ⊕ (Bool × Fin 8 ⊕ Bool × Fin 8)) ⊕ (Fin 2 ⊕ Fin 8) ≃ Kind where
  toFun
    | .inl (.inl (.inl 0)) => .bar
    | .inl (.inl (.inl 1)) => .exit
    | .inl (.inl (.inr X)) => .credit X
    | .inl (.inr (.inl (X, k))) => .send X k
    | .inl (.inr (.inr (X, k))) => .recv X k
    | .inr (.inl k) => .inn k
    | .inr (.inr k) => .out k
  invFun
    | .bar => .inl (.inl (.inl 0))
    | .exit => .inl (.inl (.inl 1))
    | .credit X => .inl (.inl (.inr X))
    | .send X k => .inl (.inr (.inl (X, k)))
    | .recv X k => .inl (.inr (.inr (X, k)))
    | .inn k => .inr (.inl k)
    | .out k => .inr (.inr k)
  left_inv x := by
    rcases x with ((k | X) | (⟨X, k⟩ | ⟨X, k⟩)) | (k | k)
    · match k with
      | 0 => rfl
      | 1 => rfl
    all_goals rfl
  right_inv x := by cases x <;> rfl

/-- A family over both directions is a pair, -/
theorem bs_bool (Φ : Bool → sProp 𝕄) : bigSep Finset.univ Φ = iprop(Φ true ∗ Φ false) :=
  bigSep_univ_eq_bigSepL [true, false] (by decide) (by decide) Φ
/-- and so is one over two numbers. -/
theorem bs_two (Φ : Fin 2 → sProp 𝕄) : bigSep Finset.univ Φ = iprop(Φ 0 ∗ Φ 1) :=
  bigSep_univ_eq_bigSepL [0, 1] (by decide) (by decide) Φ

/-- What every semaphore of a device has, by families. -/
theorem kind_split (Φ : Kind → sProp 𝕄) :
    bigSep Finset.univ Φ = iprop((((Φ .bar ∗ Φ .exit) ∗ (Φ (.credit true) ∗ Φ (.credit false)))
      ∗ (((bigSep Finset.univ fun k => Φ (.send true k)) ∗ (bigSep Finset.univ fun k => Φ (.send false k)))
        ∗ ((bigSep Finset.univ fun k => Φ (.recv true k)) ∗ (bigSep Finset.univ fun k => Φ (.recv false k)))))
      ∗ ((Φ (.inn 0) ∗ Φ (.inn 1)) ∗ bigSep Finset.univ fun k => Φ (.out k))) := by
  rw [bigSep_univ_equiv kindEquiv Φ, bigSep_univ_sum, bigSep_univ_sum, bigSep_univ_sum, bigSep_univ_sum, bigSep_univ_sum, bigSep_univ_prod, bigSep_univ_prod,
    bs_two, bs_two, bs_bool, bs_bool, bs_bool]
  rfl

/-- A family over pairs, one index after the other. -/
theorem bs_prod {I : Type} [DecidableEq I] (S : Finset I) (T : Finset ℕ) (Φ : I × ℕ → sProp 𝕄) :
    bigSep (S ×ˢ T) Φ = bigSep S fun i => bigSep T fun j => Φ (i, j) := by
  have e : S ×ˢ T = S.biUnion fun i => ({i} : Finset I) ×ˢ T := by
    ext x
    simp only [Finset.mem_product, Finset.mem_biUnion, Finset.mem_singleton]
    exact ⟨fun h => ⟨x.1, h.1, rfl, h.2⟩, fun ⟨i, hi, h, h'⟩ => ⟨h ▸ hi, h'⟩⟩
  rw [e, bigSep_biUnion_eq S _ Φ fun i _ j _ hij => Finset.disjoint_product.mpr (.inl (Finset.disjoint_singleton.mpr hij))]
  refine bigSep_congr fun i _ => ?_
  rw [Finset.singleton_product, bigSep_map]
  rfl

/-- Message numbers as pairs of a slot and a round. -/
def slotRound : Fin 8 × ℕ ↪ ℕ := ⟨fun x => 8 * x.2 + x.1.val, fun x y h => by
  obtain ⟨k, r⟩ := x; obtain ⟨k', r'⟩ := y
  dsimp only at h
  have h1 := k.isLt; have h2 := k'.isLt
  have e1 : r = r' := by omega
  subst e1
  have e2 : k = k' := Fin.ext (by omega)
  rw [e2]⟩

/-- Message by message is slot by slot and round by round. -/
theorem by_round (R : ℕ) (Ψ : Fin 8 → ℕ → sProp 𝕄) :
    bigSep (Finset.range (8 * R)) (fun mm => Ψ (slotOf mm) (mm / 8)) = bigSep Finset.univ fun k => bigSep (Finset.range R) (Ψ k) := by
  have e : Finset.range (8 * R) = ((Finset.univ : Finset (Fin 8)) ×ˢ Finset.range R).map slotRound := by
    ext i
    rw [Finset.mem_range, Finset.mem_map]
    constructor
    · intro h
      exact ⟨(slotOf i, i / 8), Finset.mem_product.mpr ⟨Finset.mem_univ _, Finset.mem_range.mpr (by show i / 8 < R; omega)⟩, msgNum i⟩
    · rintro ⟨⟨k, r⟩, h, rfl⟩
      have := Finset.mem_range.mp (Finset.mem_product.mp h).2
      have := k.isLt
      show 8 * r + k.val < 8 * R
      dsimp only at *
      omega
  rw [e, bigSep_map, bs_prod]
  refine bigSep_congr fun k _ => bigSep_congr fun r _ => ?_
  have h := k.isLt
  have e1 : slotOf (slotRound (k, r)) = k := Fin.ext (show (8 * r + k.val) % 8 = k.val by omega)
  have e2 : slotRound (k, r) / 8 = r := show (8 * r + k.val) / 8 = r by omega
  rw [e1, e2]

/-- Eight numbers in a row use every slot once. -/
theorem eight (a : ℕ) (Φ : Fin 8 → sProp 𝕄) : bigSep (Finset.Ico a (a + 8)) (fun mm => Φ (slotOf mm)) = bigSep Finset.univ Φ := by
  induction a with
  | zero =>
    have h := by_round (F := F) 1 (fun k _ => Φ k)
    rw [show Finset.Ico 0 (0 + 8) = Finset.range (8 * 1) from rfl, h]
    exact bigSep_congr fun k _ => by rw [Finset.range_one, bigSep_singleton]
  | succ a ih =>
    rw [← ih, bs_peel (show a < a + 8 by omega) (fun mm => Φ (slotOf mm)), show a + 1 + 8 = a + 8 + 1 by omega,
      bs_grow (show a + 1 ≤ a + 8 by omega) (fun mm => Φ (slotOf mm)), slotOf_next]

/-- Four things in another order. -/
theorem sep_mix (A B C D : sProp 𝕄) : iprop(A ∗ B ∗ C ∗ D) = iprop((B ∗ C) ∗ A ∗ D) := by
  have h1 : iprop(A ∗ B ∗ C ∗ D) ⊢ iprop((B ∗ C) ∗ A ∗ D) := by
    iintro ⟨H1, H2, H3, H4⟩
    isplitl [H2 H3]; · isplitl [H2] <;> iassumption
    isplitl [H1] <;> iassumption
  have h2 : iprop((B ∗ C) ∗ A ∗ D) ⊢ iprop(A ∗ B ∗ C ∗ D) := by
    iintro ⟨⟨H2, H3⟩, H1, H4⟩
    isplitl [H1]; · iassumption
    isplitl [H2]; · iassumption
    isplitl [H3] <;> iassumption
  exact BI.Entails.antisymm h1 h2

/-- Even and odd numbers. -/
theorem twos {a b : ℕ} (h : a ≤ b) (f : ℕ → sProp 𝕄) :
    bigSep (Finset.Ico (2 * a) (2 * b)) f = iprop(bigSep (Finset.Ico a b) (fun j => f (2 * j)) ∗ bigSep (Finset.Ico a b) (fun j => f (2 * j + 1))) := by
  induction b, h using Nat.le_induction with
  | base => rw [Finset.Ico_self, Finset.Ico_self, bigSep_empty, bigSep_empty, bigSep_empty]; exact (BI.Entails.antisymm emp_sep.1 emp_sep.2).symm
  | succ b h ih =>
    rw [show 2 * (b + 1) = 2 * b + 1 + 1 by omega, bs_grow (show 2 * a ≤ 2 * b + 1 by omega) f, bs_grow (show 2 * a ≤ 2 * b by omega) f, ih,
      bs_grow h (fun j => f (2 * j)), bs_grow h (fun j => f (2 * j + 1))]
    exact sep_mix _ _ _ _

/-- The copies of both directions, in the order they use the eight semaphores. -/
theorem cp_twos {a b : ℕ} (h : a ≤ b) (f : ℕ → sProp 𝕄) :
    bigSep (Finset.Ico (2 * a) (2 * b)) f = iprop(bigSep (Finset.Ico a b) (fun j => f (cpIdx true j)) ∗ bigSep (Finset.Ico a b) (fun j => f (cpIdx false j))) :=
  twos h f

/-- A family follows member by member, -/
theorem bs_mono {I : Type} {S : Finset I} {Φ Ψ : I → sProp 𝕄} (h : ∀ i ∈ S, Φ i ⊢ Ψ i) : bigSep S Φ ⊢ bigSep S Ψ := bigSep_mono h
/-- and a pair part by part. -/
theorem two_mono {A A' B B' : sProp 𝕄} (h : A ⊢ A') (h' : B ⊢ B') : iprop(A ∗ B) ⊢ iprop(A' ∗ B') := BI.sep_mono h h'

/-- Every summand with a persistent fact gives one of another kind. -/
theorem bs_with {I : Type} [DecidableEq I] {S : Finset I} {R : sProp 𝕄} [Persistent R] {Φ Ψ : I → sProp 𝕄}
    (h : ∀ i ∈ S, iprop(R ∗ Φ i) ⊢ Ψ i) : iprop(R ∗ bigSep S Φ) ⊢ bigSep S Ψ :=
  BIBase.Entails.trans (sep_mono_left (BI.bigSep_of_persistent S R)) (by rw [← bigSep_sep']; exact bigSep_mono h)

end Cert.KernelIdeal.Ring
end
-- ==== Proof.Pieces.lean ====
module
public import proofs.«01_k».proof.Proof.Split

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable {m : (ℓ : Loc nD τ sig) → Buf (Elt F) ℓ} {K : Dev nD × Kind → ℕ} {κs : Key → ℕ} {c : Dev nD}

/-! # The buffers in pieces, and whole again -/

omit [FloatOps F] in
/-- A buffer of eight slots is its slots. -/
theorem slot_mem (M : Memref sig .tc .vmem S8x16x2048 .bf16) (k : Fin 8) (y : S8x16x2048.Idx) :
    M.view.emb y ∈ (slotV M k).view.set ↔ y 0 = k := by
  rw [← slot_set, show (M.access (slotR k)).set = (slotR k).set.map M.view.emb from View.set_slice _ _, Finset.mem_map' M.view.emb, Rect.mem_set_unit]
  have h0 : (y 0).val < 8 := (y 0).isLt
  have h1 : (y 1).val < 16 := (y 1).isLt
  have h2 : (y 2).val < 2048 := (y 2).isLt
  constructor
  · intro h
    have := h 0
    refine Fin.ext ?_
    have e1 : k.val ≤ (y 0).val := this.1
    have e2 : (y 0).val < k.val + 1 := this.2
    omega
  · intro h a
    match a with
    | 0 => exact ⟨by show k.val ≤ (y 0).val; rw [h], by show (y 0).val < k.val + 1; rw [h]; omega⟩
    | 1 => exact ⟨Nat.zero_le _, by show (y 1).val < 0 + 16; omega⟩
    | 2 => exact ⟨Nat.zero_le _, by show (y 2).val < 0 + 2048; omega⟩

omit [FloatOps F] in
/-- Different slots share nothing, -/
theorem slot_disj (M : Memref sig .tc .vmem S8x16x2048 .bf16) :
    ∀ k ∈ (Finset.univ : Finset (Fin 8)), ∀ k' ∈ (Finset.univ : Finset (Fin 8)), k ≠ k' → Disjoint (slotV M k).view.set (slotV M k').view.set := by
  intro k _ k' _ hne
  rw [Finset.disjoint_left]
  intro i h h'
  have hi : i ∈ M.view.set := by
    rw [← slot_set, show (M.access (slotR k)).set = (slotR k).set.map M.view.emb from View.set_slice _ _] at h
    obtain ⟨y, -, rfl⟩ := Finset.mem_map.mp h
    exact View.emb_mem_set _ y
  obtain ⟨y, -, rfl⟩ := Finset.mem_map.mp hi
  exact hne (((slot_mem M k y).mp h).symm.trans ((slot_mem M k' y).mp h'))

omit [FloatOps F] in
/-- and the slots are the whole buffer. -/
theorem slot_union (M : Memref sig .tc .vmem S8x16x2048 .bf16) (h : M.view.set = Finset.univ) (i : M.view.ty.Idx) : ∃ k ∈ (Finset.univ : Finset (Fin 8)), i ∈ (slotV M k).view.set := by
  have hi : i ∈ M.view.set := by rw [h]; exact Finset.mem_univ i
  obtain ⟨y, -, rfl⟩ := Finset.mem_map.mp hi
  exact ⟨y 0, Finset.mem_univ _, (slot_mem M _ y).mpr rfl⟩

omit [FloatOps F] in
/-- A whole buffer as pieces. -/
theorem whole_pieces {T : Type} (ℓ : Loc nD τ sig) (S : Finset T) (P : T → Finset (Idx ℓ)) (hd : ∀ k ∈ S, ∀ k' ∈ S, k ≠ k' → Disjoint (P k) (P k'))
    (U : Finset (Idx ℓ)) (hU : ∀ i, i ∈ U ↔ ∃ k ∈ S, i ∈ P k) (f : Buf (Elt F) ℓ) :
    (ℓ ↦[U]{fullShare} f : sProp 𝕄) = bigSep S fun k => (ℓ ↦[P k]{fullShare} f : sProp 𝕄) := by
  have e : U = S.biUnion P := Finset.ext fun i => (hU i).trans Finset.mem_biUnion.symm
  rw [e]
  exact pointsTo_biUnion S P hd

omit [FloatOps F] in
/-- Pieces that cover a buffer, whatever each holds, are the buffer at some contents. -/
theorem pieces_whole {T : Type} [DecidableEq T] (ℓ : Loc nD τ sig) (f₀ : Buf (Elt F) ℓ) (S : Finset T) (P : T → Finset (Idx ℓ))
    (hd : ∀ k ∈ S, ∀ k' ∈ S, k ≠ k' → Disjoint (P k) (P k')) (hU : ∀ i, ∃ k ∈ S, i ∈ P k) :
    bigSep S (fun k => Release.slot ℓ (P k)) ⊢ (iprop(∃ f : Buf (Elt F) ℓ, ℓ ↦{fullShare} f) : sProp 𝕄) := by
  have e : (Finset.univ : Finset (Idx ℓ)) = S.biUnion P := Finset.ext fun i => ⟨fun _ => Finset.mem_biUnion.mpr (hU i), fun _ => Finset.mem_univ i⟩
  haveI : Nonempty (Buf (Elt F) ℓ) := ⟨f₀⟩
  have h1 : bigSep S (fun k => Release.slot ℓ (P k)) ⊢ (iprop(∃ fs : T → Buf (Elt F) ℓ, bigSep S fun k => (ℓ ↦[P k]{fullShare} fs k)) : sProp 𝕄) :=
    bigSep_exists_pi S (fun k (f : Buf (Elt F) ℓ) => (ℓ ↦[P k]{fullShare} f : sProp 𝕄))
  iintro H
  ihave H' := h1 $$ H
  icases H' with ⟨%fs, H'⟩
  ihave Hg := (pointsTo_biUnion_join S P fs f₀ hd) $$ H'
  icases Hg with ⟨%g, -, Hg⟩
  iexists g
  rw [← e]
  iexact Hg

/-- A sending buffer is used whole, -/
theorem sb_set (X : Bool) : (sbM X).view.set = Finset.univ := by cases X <;> exact View.set_whole _
/-- and so is an arrival buffer. -/
theorem rb_set (X : Bool) : (rbM X).view.set = Finset.univ := by cases X <;> exact View.set_whole _

/-- The location of a direction's buffers. -/
abbrev sbW (X : Bool) (c : Dev nD) : Loc nD τ sig := (sbM X).view.loc (c.tc : Thread nD τ)
abbrev rbW (X : Bool) (c : Dev nD) : Loc nD τ sig := (rbM X).view.loc (c.tc : Thread nD τ)

/-- A sending buffer is cut into its slots, -/
theorem sb_cut (X : Bool) (f : Buf (Elt F) (sbW X c)) : (sbW X c ↦{fullShare} f) ⊢ bigSep Finset.univ (sbSlot (F := F) X c) := by
  have h := whole_pieces (sbW X c) Finset.univ (fun k => (slotV (sbM X) k).view.set) (slot_disj _) Finset.univ
    (fun i => ⟨fun _ => slot_union _ (sb_set X) i, fun _ => Finset.mem_univ i⟩) f
  refine BIBase.Entails.trans (Entails.of_eq h) (bs_mono fun k _ => ?_)
  unfold sbSlot Release.slot
  iintro H; iexists f; iexact H
/-- and so is an arrival buffer. -/
theorem rb_cut (X : Bool) (f : Buf (Elt F) (rbW X c)) : (rbW X c ↦{fullShare} f) ⊢ bigSep Finset.univ (rbSlot (F := F) X c) := by
  have h := whole_pieces (rbW X c) Finset.univ (fun k => (slotV (rbM X) k).view.set) (slot_disj _) Finset.univ
    (fun i => ⟨fun _ => slot_union _ (rb_set X) i, fun _ => Finset.mem_univ i⟩) f
  refine BIBase.Entails.trans (Entails.of_eq h) (bs_mono fun k _ => ?_)
  unfold rbSlot Release.slot
  iintro H; iexists f; iexact H
/-- The sending slots are put together again, -/
theorem sb_join (X : Bool) (f₀ : Buf (Elt F) (sbW X c)) : bigSep Finset.univ (sbSlot (F := F) X c) ⊢ iprop(∃ f : Buf (Elt F) (sbW X c), sbW X c ↦{fullShare} f) :=
  pieces_whole (sbW X c) f₀ Finset.univ (fun k => (slotV (sbM X) k).view.set) (slot_disj _) (slot_union _ (sb_set X))
/-- and so are the arrival slots. -/
theorem rb_join (X : Bool) (f₀ : Buf (Elt F) (rbW X c)) : bigSep Finset.univ (rbSlot (F := F) X c) ⊢ iprop(∃ f : Buf (Elt F) (rbW X c), rbW X c ↦{fullShare} f) :=
  pieces_whole (rbW X c) f₀ Finset.univ (fun k => (slotV (rbM X) k).view.set) (slot_disj _) (slot_union _ (rb_set X))

omit [FloatOps F] in
/-- Two halves of an array of the result's shape. -/
theorem two_halves (ℓ : Loc nD τ sig) (P : Bool → Finset (Idx ℓ)) (hd : Disjoint (P true) (P false)) (hU : P true ∪ P false = Finset.univ) (f : Buf (Elt F) ℓ) :
    (ℓ ↦{fullShare} f : sProp 𝕄) ⊣⊢ iprop((ℓ ↦[P true]{fullShare} f) ∗ (ℓ ↦[P false]{fullShare} f)) := by
  rw [← hU]
  exact pointsTo_union hd

omit [FloatOps F] in
/-- A half of the result by copies. -/
theorem out_half (X : Bool) (f : Buf (Elt F) (oLoc c)) :
    (oLoc c ↦[half X]{fullShare} f : sProp 𝕄) = bigSep (Finset.range 61) fun j => (oLoc c ↦[cpSet c X j]{fullShare} f : sProp 𝕄) :=
  whole_pieces (oLoc c) (Finset.range 61) (cpSet c X) (cp_disj X c) (half X) (fun i => by rw [← cp_half X c]; exact Finset.mem_biUnion) f
omit [FloatOps F] in
/-- A half of the accumulator by copies. -/
theorem acc_half (X : Bool) (f : Buf (Elt F) (accLoc c)) :
    (accLoc c ↦[half X]{fullShare} f : sProp 𝕄) = bigSep (Finset.range 61) fun j => (accLoc c ↦[cpSet c X j]{fullShare} f : sProp 𝕄) :=
  whole_pieces (accLoc c) (Finset.range 61) (cpSet c X) (cp_disj X c) (half X) (fun i => by rw [← cp_half X c]; exact Finset.mem_biUnion) f
omit [FloatOps F] in
/-- A half of the accumulator by hops. -/
theorem acc_hops (X : Bool) (f : Buf (Elt F) (accLoc c)) :
    (accLoc c ↦[half X]{fullShare} f : sProp 𝕄) = bigSep (Finset.range 16) fun t => (accLoc c ↦[(R64 X c t).set]{fullShare} f : sProp 𝕄) :=
  whole_pieces (accLoc c) (Finset.range 16) (fun t => (R64 X c t).set) (hops_disj X c (Finset.range 16) (Finset.Subset.refl _)) (half X)
    (fun i => by rw [← hops_half X c]; exact Finset.mem_biUnion) f

/-- The accumulator at the start. -/
theorem acc_cut (f : Buf (Elt F) (accLoc c)) : (accLoc c ↦{fullShare} f)
    ⊢ iprop(bigSep (Finset.range 16) (blkAny (F := F) true c) ∗ bigSep (Finset.range 16) (blkAny (F := F) false c)) := by
  have h (X : Bool) : (accLoc c ↦[half X]{fullShare} f) ⊢ bigSep (Finset.range 16) (blkAny (F := F) X c) :=
    BIBase.Entails.trans (Entails.of_eq (acc_hops X f)) (bs_mono fun t _ => by
      unfold blkAny
      iintro H; iexists f; iexact H)
  exact BIBase.Entails.trans (two_halves (accLoc c) half halves_disj halves f).1 (two_mono (h true) (h false))

/-- The result at the start. -/
theorem out_cut (f : Buf (Elt F) (oLoc c)) : (oLoc c ↦{fullShare} f)
    ⊢ iprop((oAny (F := F) true c 0 ∗ bigSep (Finset.range 60) fun n => oAny (F := F) true c (n + 1))
        ∗ (oAny (F := F) false c 0 ∗ bigSep (Finset.range 60) fun n => oAny (F := F) false c (n + 1))) := by
  have h (X : Bool) : (oLoc c ↦[half X]{fullShare} f) ⊢ iprop(oAny (F := F) X c 0 ∗ bigSep (Finset.range 60) fun n => oAny (F := F) X c (n + 1)) := by
    have e : bigSep (Finset.range 61) (oAny (F := F) X c) = iprop(oAny (F := F) X c 0 ∗ bigSep (Finset.range 60) fun n => oAny (F := F) X c (n + 1)) := by
      rw [show Finset.range 61 = insert 0 ((Finset.range 60).map ⟨(· + 1), fun _ _ => Nat.succ.inj⟩) by decide,
        bigSep_insert (by decide), bigSep_map]
      rfl
    rw [← e]
    exact BIBase.Entails.trans (Entails.of_eq (out_half X f)) (bs_mono fun t _ => by
      unfold oAny
      iintro H; iexists f; iexact H)
  exact BIBase.Entails.trans (two_halves (oLoc c) half halves_disj halves f).1 (two_mono (h true) (h false))

/-- The result and the accumulator at the end. -/
theorem cp_join : iprop(bigSep (Finset.range 61) (cpDone m c true) ∗ bigSep (Finset.range 61) (cpDone m c false))
    ⊢ iprop((oLoc c ↦{fullShare} outAll m c) ∗ (accLoc c ↦{fullShare} outAll m c)) := by
  have h (X : Bool) : bigSep (Finset.range 61) (cpDone m c X) ⊢ iprop((oLoc c ↦[half X]{fullShare} outAll m c) ∗ (accLoc c ↦[half X]{fullShare} outAll m c)) := by
    rw [out_half, acc_half, ← bigSep_sep']
    exact bs_mono fun j _ => by unfold cpDone; iintro H; iexact H
  iintro ⟨H, H'⟩
  ihave H1 := (h true) $$ H
  ihave H2 := (h false) $$ H'
  icases H1 with ⟨Ho, Ha⟩
  icases H2 with ⟨Ho', Ha'⟩
  isplitl [Ho Ho']
  · iapply (two_halves (oLoc c) half halves_disj halves (outAll m c)).2
    isplitl [Ho] <;> iassumption
  iapply (two_halves (accLoc c) half halves_disj halves (outAll m c)).2
  isplitl [Ha] <;> iassumption

end Cert.KernelIdeal.Ring
end
-- ==== Proof.Close.lean ====
module
public import proofs.«01_k».proof.Proof.Pieces

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable {m : (ℓ : Loc nD τ sig) → Buf (Elt F) ℓ} {K : Dev nD × Kind → ℕ} {κs : Key → ℕ} {c : Dev nD}

/-! # The end: every semaphore back at zero, every buffer whole -/

/-- A semaphore whose last round is over is back at zero. -/
theorem cell_end (kd : Kind) (R : ℕ) (hR : ∀ r, R ≤ r → kduties kd r = ∅) :
    iprop(Ctx m K κs ∗ atPos ER (kcell (c, kd)) R ∅ 0) ⊢ |={Set.univ}=> (semVal (kcell (c, kd)) 0 : sProp 𝕄) := by
  have h := Rounds.cell_close (ER (F := F)) (Rd m) (g := kcell (c, kd)) (κ := K (c, kd)) (Es := Set.univ) (Set.mem_univ _) (fun h => h) (R := R)
    (fun r hr => by rw [Rd_duties]; exact hR r hr)
  iintro ⟨#HC, Hat⟩
  iapply h
  isplitr; · iapply (ctx_inv m K κs (c, kd)); iexact HC
  iexact Hat

omit [FloatOps F] in
/-- An update of each member, which may use a lasting fact, updates the family. -/
theorem bs_update {I : Type} [DecidableEq I] {S : Finset I} {R : sProp 𝕄} [Persistent R] {Φ Ψ : I → sProp 𝕄}
    (h : ∀ i ∈ S, iprop(R ∗ Φ i) ⊢ |={Set.univ}=> Ψ i) : iprop(R ∗ bigSep S Φ) ⊢ |={Set.univ}=> bigSep S Ψ :=
  BIBase.Entails.trans (bs_with (R := R) (Ψ := fun i => iprop(|={Set.univ}=> Ψ i)) h) (bigSep_fupd S Ψ)

omit [FloatOps F] in
/-- A family of pairs is a pair of families. -/
theorem bs_pair {I : Type} [DecidableEq I] (S : Finset I) (Φ Ψ : I → sProp 𝕄) :
    bigSep S (fun i => iprop(Φ i ∗ Ψ i)) ⊢ iprop(bigSep S Φ ∗ bigSep S Ψ) := Entails.of_eq (bigSep_sep' S Φ Ψ)

/-- The send side. -/
theorem close_snd (X : Bool) : iprop(Ctx m K κs ∗ Snd X c 120 120)
    ⊢ |={Set.univ}=> iprop((bigSep Finset.univ fun k => (semVal (kcell (c, .send X k)) 0 : sProp 𝕄)) ∗ bigSep Finset.univ (sbSlot (F := F) X c)) := by
  unfold Snd
  have h : iprop(Ctx m K κs ∗ bigSep (Finset.Ico 120 (120 + 8)) (idle X c))
      ⊢ |={Set.univ}=> bigSep (Finset.Ico 120 (120 + 8)) (fun mm => iprop((semVal (kcell (c, .send X (slotOf mm))) 0 : sProp 𝕄) ∗ sbSlot (F := F) X c (slotOf mm))) :=
    bs_update fun mm hm => by
      have := Finset.mem_Ico.mp hm
      unfold idle
      iintro ⟨#HC, Hat, -, Hs⟩
      imod (cell_end (m := m) (K := K) (κs := κs) (c := c) (.send X (slotOf mm)) (mm / 8) (fun r hr => by dsimp only [kduties]; rw [if_neg (by omega)])) $$ [Hat] with Hv
      · isplitr; · iexact HC
        iexact Hat
      imodintro
      isplitl [Hv] <;> iassumption
  have e := eight (F := F) 120 (fun k => iprop((semVal (kcell (c, .send X k)) 0 : sProp 𝕄) ∗ sbSlot (F := F) X c k))
  iintro ⟨#HC, -, Hid, -⟩
  imod h $$ [Hid] with H
  · isplitr; · iexact HC
    iexact Hid
  imodintro
  ihave H' := (Entails.of_eq e) $$ H
  iapply bs_pair
  iexact H'

/-- The receive side. -/
theorem close_rcv (X : Bool) : iprop(Ctx m K κs ∗ Rcv X c 120)
    ⊢ |={Set.univ}=> iprop((bigSep Finset.univ fun k => (semVal (kcell (c, .recv X k)) 0 : sProp 𝕄)) ∗ bigSep Finset.univ (rbSlot (F := F) X c)) := by
  unfold Rcv
  have h : iprop(Ctx m K κs ∗ bigSep (Finset.Ico 120 (120 + 8)) fun mm => atPos ER (kcell (c, .recv X (slotOf mm))) (mm / 8) ∅ 0)
      ⊢ |={Set.univ}=> bigSep (Finset.Ico 120 (120 + 8)) (fun mm => (semVal (kcell (c, .recv X (slotOf mm))) 0 : sProp 𝕄)) :=
    bs_update fun mm hm => by
      have := Finset.mem_Ico.mp hm
      exact cell_end (m := m) (K := K) (κs := κs) (c := c) (.recv X (slotOf mm)) (mm / 8) (fun r hr => by dsimp only [kduties]; rw [if_neg (by omega)])
  have e := eight (F := F) 120 (fun k => (semVal (kcell (c, .recv X k)) 0 : sProp 𝕄))
  have e' := eight (F := F) 112 (rbSlot (F := F) X c)
  iintro ⟨#HC, Hat, -, -, -, Hs, -⟩
  imod h $$ [Hat] with H
  · isplitr; · iexact HC
    iexact Hat
  imodintro
  isplitl [H]; · iapply (Entails.of_eq e); iexact H
  iapply (Entails.of_eq e'); iexact Hs

/-- The credit signals. -/
theorem close_crd (X : Bool) : iprop(Ctx m K κs ∗ Crd X c 112) ⊢ |={Set.univ}=> (semVal (kcell (c, .credit X)) 0 : sProp 𝕄) := by
  unfold Crd
  iintro ⟨#HC, ⟨⟨%T, %hT, Hat, -⟩, -⟩⟩
  have eT : T = Finset.range 112 := Finset.eq_of_subset_of_card_le hT.2 (by rw [Finset.card_range]; exact hT.1)
  subst eT
  imod (Rounds.fupd_skip (ER (F := F)) (Rd m) (g := kcell (c, .credit X)) (κ := K (c, .credit X)) (R := 0) (m := 112) (T := Finset.range 112)
    (by rw [Rd_duties]; exact Finset.Subset.refl _) (by rw [Rd_expect]; rfl) (Set.mem_univ _)) $$ [Hat] with ⟨Hat, -⟩
  · isplitr; · iapply (ctx_inv m K κs (c, .credit X)); iexact HC
    iexact Hat
  iapply (cell_end (m := m) (K := K) (κs := κs) (c := c) (.credit X) 1 (fun r hr => by dsimp only [kduties]; rw [if_neg (by omega)]))
  isplitr; · iexact HC
  iexact Hat

/-- The copies to the result. -/
theorem close_cp : iprop(Ctx m K κs ∗ Cp m true c 61 61 ∗ Cp m false c 61 61)
    ⊢ |={Set.univ}=> iprop((bigSep Finset.univ fun k => (semVal (kcell (c, .out k)) 0 : sProp 𝕄))
      ∗ (oLoc c ↦{fullShare} outAll m c) ∗ (accLoc c ↦{fullShare} outAll m c)) := by
  unfold Cp
  have h (X : Bool) : iprop(Ctx m K κs ∗ bigSep (Finset.Ico 61 (61 + 4)) (cpIdle X c))
      ⊢ |={Set.univ}=> bigSep (Finset.Ico 61 65) (fun j => (semVal (kcell (c, .out (slotOf (cpIdx X j)))) 0 : sProp 𝕄)) :=
    bs_update fun j hj => by
      have := Finset.mem_Ico.mp hj
      unfold cpIdle
      iintro ⟨#HC, Hat, -⟩
      iapply (cell_end (m := m) (K := K) (κs := κs) (c := c) (cpKind X j) (cpRound X j) (fun r hr => by
        dsimp only [cpKind, kduties]
        have h1 := msgNum (cpIdx X j)
        have h2 : 122 ≤ cpIdx X j := by show 122 ≤ 2 * j + _; omega
        have h3 : cpIdx X j / 8 ≤ r := hr
        rw [if_neg (by omega)]))
      isplitr; · iexact HC
      iexact Hat
  have e := cp_twos (F := F) (show 61 ≤ 65 by decide) (fun i => (semVal (kcell (c, .out (slotOf i))) 0 : sProp 𝕄))
  have e' := eight (F := F) 122 (fun k => (semVal (kcell (c, .out k)) 0 : sProp 𝕄))
  iintro ⟨#HC, ⟨-, Hid, -, Hd⟩, ⟨-, Hid', -, Hd'⟩⟩
  imod (h true) $$ [Hid] with H
  · isplitr; · iexact HC
    iexact Hid
  imod (h false) $$ [Hid'] with H'
  · isplitr; · iexact HC
    iexact Hid'
  imodintro
  isplitl [H H']
  · iapply (Entails.of_eq e')
    iapply (Entails.of_eq e.symm)
    isplitl [H] <;> iassumption
  iapply (cp_join (m := m) (c := c))
  isplitl [Hd] <;> iassumption

/-- A device's scratch buffers, whatever they hold. -/
def Scr (c : Dev nD) : sProp 𝕄 :=
  iprop(((∃ f : Buf (Elt F) (avLoc c), avLoc c ↦{fullShare} f) ∗ (∃ f : Buf (Elt F) (bvLoc c), bvLoc c ↦{fullShare} f)
      ∗ (∃ f : Buf (Elt F) (accLoc c), accLoc c ↦{fullShare} f) ∗ (∃ f : Buf (Elt F) (b16Loc c), b16Loc c ↦{fullShare} f))
    ∗ ((∃ f : Buf (Elt F) (sbW true c), sbW true c ↦{fullShare} f) ∗ (∃ f : Buf (Elt F) (sbW false c), sbW false c ↦{fullShare} f))
    ∗ ((∃ f : Buf (Elt F) (rbW true c), rbW true c ↦{fullShare} f) ∗ (∃ f : Buf (Elt F) (rbW false c), rbW false c ↦{fullShare} f)))

/-- All semaphores of a device at zero. -/
def Zero (c : Dev nD) : sProp 𝕄 := bigSep Finset.univ fun kd : Kind => semVal (kcell (c, kd)) 0

/-- What the arrays hold at the end. -/
def Arr (m : (ℓ : Loc nD τ sig) → Buf (Elt F) ℓ) (c : Dev nD) : sProp 𝕄 :=
  iprop((aLoc c ↦{fullShare} aOf m c) ∗ (bLoc c ↦{fullShare} bOf m c) ∗ (oLoc c ↦{fullShare} outAll m c))

omit [FloatOps F] in
/-- A slot holds a buffer of some contents. -/
theorem slot_any {ℓ : Loc nD τ sig} : Release.slot ℓ Finset.univ ⊢ (iprop(∃ f : Buf (Elt F) ℓ, ℓ ↦{fullShare} f) : sProp 𝕄) := Entails.of_eq rfl

/-- The end of a device's run: arrays as they should be, scratch buffers whole, semaphores at zero. -/
theorem close : iprop(Ctx m K κs ∗ End m c) ⊢ |={Set.univ}=> iprop(Arr m c ∗ Scr (F := F) c ∗ Zero (F := F) c) := by
  have h1 (kd : Kind) (h : ∀ r, 1 ≤ r → kduties kd r = ∅) : iprop(Ctx m K κs ∗ atPos ER (kcell (c, kd)) 1 ∅ 0) ⊢ |={Set.univ}=> (semVal (kcell (c, kd)) 0 : sProp 𝕄) :=
    cell_end (m := m) (K := K) (κs := κs) (c := c) kd 1 h
  unfold End Mem0 Dir1
  iintro ⟨#HC, ⟨Ha, Hb, Hav, Hbv, Hb16⟩, ⟨Hs, Hc, Hr, Hcp⟩, ⟨Hs', Hc', Hr', Hcp'⟩, Hbar, Hexit, Hi0, Hi1⟩
  imod (close_snd (m := m) (K := K) (κs := κs) (c := c) true) $$ [Hs] with ⟨Hs, Hsb⟩
  · isplitr; · iexact HC
    iexact Hs
  imod (close_snd (m := m) (K := K) (κs := κs) (c := c) false) $$ [Hs'] with ⟨Hs', Hsb'⟩
  · isplitr; · iexact HC
    iexact Hs'
  imod (close_rcv (m := m) (K := K) (κs := κs) (c := c) true) $$ [Hr] with ⟨Hr, Hrb⟩
  · isplitr; · iexact HC
    iexact Hr
  imod (close_rcv (m := m) (K := K) (κs := κs) (c := c) false) $$ [Hr'] with ⟨Hr', Hrb'⟩
  · isplitr; · iexact HC
    iexact Hr'
  imod (close_crd (m := m) (K := K) (κs := κs) (c := c) true) $$ [Hc] with Hc
  · isplitr; · iexact HC
    iexact Hc
  imod (close_crd (m := m) (K := K) (κs := κs) (c := c) false) $$ [Hc'] with Hc'
  · isplitr; · iexact HC
    iexact Hc'
  imod (close_cp (m := m) (K := K) (κs := κs) (c := c)) $$ [Hcp Hcp'] with ⟨Hout, Ho, Hacc⟩
  · isplitr; · iexact HC
    isplitl [Hcp] <;> iassumption
  imod (h1 .bar (fun r hr => by dsimp only [kduties]; rw [if_neg (by omega)])) $$ [Hbar] with Hbar
  · isplitr; · iexact HC
    iexact Hbar
  imod (h1 .exit (fun r hr => by dsimp only [kduties]; rw [if_neg (by omega)])) $$ [Hexit] with Hexit
  · isplitr; · iexact HC
    iexact Hexit
  imod (h1 (.inn 0) (fun r hr => by dsimp only [kduties]; rw [if_neg (by omega)])) $$ [Hi0] with Hi0
  · isplitr; · iexact HC
    iexact Hi0
  imod (h1 (.inn 1) (fun r hr => by dsimp only [kduties]; rw [if_neg (by omega)])) $$ [Hi1] with Hi1
  · isplitr; · iexact HC
    iexact Hi1
  imodintro
  unfold Arr Scr Zero
  rw [kind_split]
  isplitl [Ha Hb Ho]
  · isplitl [Ha]; · iexact Ha
    isplitl [Hb] <;> iassumption
  isplitl [Hav Hbv Hb16 Hacc Hsb Hsb' Hrb Hrb']
  · isplitl [Hav Hbv Hb16 Hacc]
    · isplitl [Hav]; · iapply slot_any; iexact Hav
      isplitl [Hbv]; · iapply slot_any; iexact Hbv
      isplitl [Hacc]; · iexists _; iexact Hacc
      iapply slot_any; iexact Hb16
    isplitl [Hsb Hsb']
    · isplitl [Hsb]
      · iapply (sb_join (F := F) (c := c) true (fun _ => Classical.choice inferInstance)); iexact Hsb
      iapply (sb_join (F := F) (c := c) false (fun _ => Classical.choice inferInstance)); iexact Hsb'
    isplitl [Hrb]
    · iapply (rb_join (F := F) (c := c) true (fun _ => Classical.choice inferInstance)); iexact Hrb
    iapply (rb_join (F := F) (c := c) false (fun _ => Classical.choice inferInstance)); iexact Hrb'
  isplitl [Hbar Hexit Hc Hc' Hs Hs' Hr Hr']
  · isplitl [Hbar Hexit Hc Hc']
    · isplitl [Hbar Hexit]; · isplitl [Hbar] <;> iassumption
      isplitl [Hc] <;> iassumption
    isplitl [Hs Hs']; · isplitl [Hs] <;> iassumption
    isplitl [Hr] <;> iassumption
  isplitl [Hi0 Hi1]; · isplitl [Hi0] <;> iassumption
  iexact Hout

end Cert.KernelIdeal.Ring
end
-- ==== Proof.Deal.lean ====
module
public import proofs.«01_k».proof.Proof.Close

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable {m : (ℓ : Loc nD τ sig) → Buf (Elt F) ℓ} {K : Dev nD × Kind → ℕ} {κs : Key → ℕ} {c : Dev nD}

/-! # The rights of the launch, dealt round the ring -/

omit [FloatOps F]

/-- The rights to pay into one semaphore, round by round. -/
def kindToks (d : Dev nD) (kd : Kind) : sProp 𝕄 :=
  bigSep (Finset.range 16) fun r => bigSep (kduties kd r) fun e => dutyTok ER (kcell (d, kd)) r e

/-- The rights of a family of eight semaphores, message by message. -/
theorem fam_toks (d : Dev nD) (K8 : Fin 8 → Kind) (N : ℕ) (hN : N ≤ 128) (h : ∀ mm < N, kduties (K8 (slotOf mm)) (mm / 8) = {0}) :
    bigSep Finset.univ (fun k => kindToks (F := F) d (K8 k)) ⊢ bigSep (Finset.range N) fun mm => dutyTok ER (kcell (d, K8 (slotOf mm))) (mm / 8) 0 := by
  have e := by_round (F := F) 16 (fun k r => bigSep (kduties (K8 k) r) fun e => dutyTok ER (kcell (d, K8 k)) r e)
  refine BIBase.Entails.trans (Entails.of_eq e.symm) (BIBase.Entails.trans (bigSep_subset (Finset.range_subset_range.mpr hN)) (bs_mono fun mm hm => Entails.of_eq ?_))
  rw [h mm (Finset.mem_range.mp hm), bigSep_singleton]

/-- The rights of a semaphore used in one round. -/
theorem one_toks (d : Dev nD) (kd : Kind) : kindToks (F := F) d kd ⊢ bigSep (kduties kd 0) fun e => dutyTok ER (kcell (d, kd)) 0 e :=
  bigSep_elim (Φ := fun r => bigSep (kduties kd r) fun e => dutyTok ER (kcell (d, kd)) r e) (Finset.mem_range.mpr (show 0 < 16 by decide))

/-- The rights to pay into a device's semaphores of a direction. -/
def OwnDir (X : Bool) (d : Dev nD) : sProp 𝕄 :=
  iprop((bigSep (Finset.range 112) fun k => dutyTok ER (kcell (d, .credit X)) 0 k)
    ∗ (bigSep (Finset.range 120) fun mm => dutyTok ER (kcell (d, .send X (slotOf mm))) (mm / 8) 0)
    ∗ (bigSep (Finset.range 120) fun mm => dutyTok ER (kcell (d, .recv X (slotOf mm))) (mm / 8) 0)
    ∗ bigSep (Finset.range 61) (cpTok X d))
def OwnMeet (kd : Kind) (d : Dev nD) : sProp 𝕄 := iprop(dutyTok ER (kcell (d, kd)) 0 1 ∗ dutyTok ER (kcell (d, kd)) 0 0)
def OwnToks (d : Dev nD) : sProp 𝕄 :=
  iprop((OwnMeet .bar d ∗ OwnMeet .exit d) ∗ (OwnDir true d ∗ OwnDir false d) ∗ (dutyTok ER (kcell (d, .inn 0)) 0 0 ∗ dutyTok ER (kcell (d, .inn 1)) 0 0))

/-- The two tokens of a semaphore on which a device meets its neighbours. -/
theorem meet_toks (kd : Kind) (h : kduties kd 0 = {0, 1}) (d : Dev nD) : kindToks (F := F) d kd ⊢ OwnMeet kd d := by
  refine BIBase.Entails.trans (one_toks d kd) (Entails.of_eq ?_)
  rw [h, show ({0, 1} : Finset ℕ) = {1, 0} by decide, bigSep_insert (by decide), bigSep_singleton]
  rfl

/-- A device's tokens, kind by kind. -/
theorem own_toks (d : Dev nD) : bigSep Finset.univ (kindToks (F := F) d) ⊢ OwnToks d := by
  rw [kind_split]
  have hs (X : Bool) := fam_toks (F := F) d (.send X) 120 (by decide) (fun mm hm => by dsimp only [kduties]; rw [if_pos (by omega)])
  have hr (X : Bool) := fam_toks (F := F) d (.recv X) 120 (by decide) (fun mm hm => by dsimp only [kduties]; rw [if_pos (by omega)])
  have ho := fam_toks (F := F) d .out 122 (by decide) (fun mm hm => by dsimp only [kduties]; rw [msgNum, if_pos hm])
  have hc (X : Bool) : kindToks (F := F) d (.credit X) ⊢ bigSep (Finset.range 112) fun k => dutyTok ER (kcell (d, .credit X)) 0 k := one_toks d (.credit X)
  have hi (k : Fin 2) : kindToks (F := F) d (.inn k) ⊢ dutyTok ER (kcell (d, .inn k)) 0 0 :=
    BIBase.Entails.trans (one_toks d (.inn k)) (Entails.of_eq (show (bigSep ({0} : Finset ℕ) fun e => dutyTok (ER (F := F)) (kcell (d, .inn k)) 0 e) = _ from bigSep_singleton))
  have e := cp_twos (F := F) (show 0 ≤ 61 by decide) (fun i => dutyTok ER (kcell (d, .out (slotOf i))) (i / 8) 0)
  rw [show Finset.Ico (2 * 0) (2 * 61) = Finset.range 122 from (Finset.range_eq_Ico 122).symm, show Finset.Ico 0 61 = Finset.range 61 from (Finset.range_eq_Ico 61).symm] at e
  unfold OwnToks OwnDir
  iintro ⟨⟨⟨⟨Hb, He⟩, ⟨Hc, Hc'⟩⟩, ⟨⟨Hs, Hs'⟩, ⟨Hr, Hr'⟩⟩⟩, ⟨⟨Hi0, Hi1⟩, Ho⟩⟩
  ihave Ho1 := ho $$ Ho
  ihave Ho2 := (Entails.of_eq e) $$ Ho1
  icases Ho2 with ⟨Ho, Ho'⟩
  isplitl [Hb He]
  · isplitl [Hb]; · iapply (meet_toks (F := F) .bar rfl d); iexact Hb
    iapply (meet_toks (F := F) .exit rfl d); iexact He
  isplitr [Hi0 Hi1]
  · isplitl [Hc Hs Hr Ho]
    · isplitl [Hc]; · iapply (hc true); iexact Hc
      isplitl [Hs]; · iapply (hs true); iexact Hs
      isplitl [Hr]; · iapply (hr true); iexact Hr
      iexact Ho
    isplitl [Hc']; · iapply (hc false); iexact Hc'
    isplitl [Hs']; · iapply (hs false); iexact Hs'
    isplitl [Hr']; · iapply (hr false); iexact Hr'
    iexact Ho'
  isplitl [Hi0]; · iapply (hi 0); iexact Hi0
  iapply (hi 1); iexact Hi1

/-- The writers' rights to a device's slots. -/
def OwnWrite (X : Bool) (d : Dev nD) : sProp 𝕄 := bigSep (Finset.range 120) fun mm => Release.writeTok ES (d, X, slotOf mm) (mm / 8 + 1)

/-- The rights a device is given: to pay its neighbours, and itself. -/
def PayDir (X : Bool) (d : Dev nD) : sProp 𝕄 :=
  iprop((bigSep (Finset.range 112) fun k => dutyTok ER (kcell (srcOf X d, .credit X)) 0 k)
    ∗ (bigSep (Finset.range 120) fun mm => dutyTok ER (kcell (d, .send X (slotOf mm))) (mm / 8) 0)
    ∗ (bigSep (Finset.range 120) fun mm => dutyTok ER (kcell (dstOf X d, .recv X (slotOf mm))) (mm / 8) 0)
    ∗ bigSep (Finset.range 61) (cpTok X d) ∗ OwnWrite X (dstOf X d))
def PayMeet (kd : Kind) (d : Dev nD) : sProp 𝕄 := iprop(dutyTok ER (kcell (leftOf d, kd)) 0 1 ∗ dutyTok ER (kcell (rightOf d, kd)) 0 0)
def PayToks (d : Dev nD) : sProp 𝕄 :=
  iprop((PayMeet .bar d ∗ PayMeet .exit d) ∗ (PayDir true d ∗ PayDir false d) ∗ (dutyTok ER (kcell (d, .inn 0)) 0 0 ∗ dutyTok ER (kcell (d, .inn 1)) 0 0))

/-- One step along a direction. -/
def dstE (X : Bool) : Dev nD ≃ Dev nD := ⟨dstOf X, srcOf X, src_dst X, dst_src X⟩

/-- One thing for each device may be held by its predecessors in a direction, -/
theorem moved (X : Bool) (Φ : Dev nD → sProp 𝕄) : bigSep Finset.univ Φ ⊢ bigSep Finset.univ fun c => Φ (dstOf X c) :=
  Entails.of_eq (bigSep_univ_equiv (dstE X) Φ)
/-- or by its successors. -/
theorem moved_back (X : Bool) (Φ : Dev nD → sProp 𝕄) : bigSep Finset.univ Φ ⊢ bigSep Finset.univ fun c => Φ (srcOf X c) :=
  Entails.of_eq (bigSep_univ_equiv (dstE X).symm Φ)

/-- The tokens of a meeting go to the two neighbours that signal it. -/
theorem deal_meet (kd : Kind) : bigSep Finset.univ (OwnMeet (F := F) kd) ⊢ bigSep Finset.univ (PayMeet (F := F) kd) := by
  unfold OwnMeet PayMeet
  rw [bigSep_sep', bigSep_sep']
  exact two_mono (moved false fun c => dutyTok ER (kcell (c, kd)) 0 1) (moved true fun c => dutyTok ER (kcell (c, kd)) 0 0)

/-- A direction's tokens go to the devices that send, receive and give credit. -/
theorem deal_dir (X : Bool) : iprop(bigSep Finset.univ (OwnDir (F := F) X) ∗ bigSep Finset.univ (OwnWrite (F := F) X)) ⊢ bigSep Finset.univ (PayDir (F := F) X) := by
  unfold OwnDir PayDir
  rw [bigSep_sep', bigSep_sep', bigSep_sep', bigSep_sep', bigSep_sep', bigSep_sep', bigSep_sep']
  iintro ⟨⟨Hc, Hs, Hr, Hcp⟩, Hw⟩
  isplitl [Hc]; · iapply (moved_back X fun c => bigSep (Finset.range 112) fun k => dutyTok ER (kcell (c, .credit X)) 0 k); iexact Hc
  isplitl [Hs]; · iexact Hs
  isplitl [Hr]; · iapply (moved X fun c => bigSep (Finset.range 120) fun mm => dutyTok ER (kcell (c, .recv X (slotOf mm))) (mm / 8) 0); iexact Hr
  isplitl [Hcp]; · iexact Hcp
  iapply (moved X (OwnWrite (F := F) X)); iexact Hw

/-- All tokens go to the devices that use them. -/
theorem deal_toks : iprop(bigSep Finset.univ (OwnToks (F := F)) ∗ bigSep Finset.univ (OwnWrite (F := F) true) ∗ bigSep Finset.univ (OwnWrite (F := F) false))
    ⊢ bigSep Finset.univ (PayToks (F := F)) := by
  unfold OwnToks PayToks
  simp only [bigSep_sep']
  iintro ⟨⟨⟨Hb, He⟩, ⟨Hd, Hd'⟩, Hi⟩, Hw, Hw'⟩
  isplitl [Hb He]
  · isplitl [Hb]; · iapply (deal_meet .bar); iexact Hb
    iapply (deal_meet .exit); iexact He
  isplitr [Hi]
  · isplitl [Hd Hw]
    · iapply (deal_dir true); isplitl [Hd] <;> iassumption
    iapply (deal_dir false); isplitl [Hd'] <;> iassumption
  iexact Hi

/-- The writers' rights of the launch, device by device. -/
theorem own_write : bigSep ((Finset.univ : Finset Key) ×ˢ Finset.range 15) (fun x => Release.writeTok (ES (F := F)) x.1 (x.2 + 1))
    ⊢ iprop(bigSep Finset.univ (OwnWrite (F := F) true) ∗ bigSep Finset.univ (OwnWrite (F := F) false)) := by
  rw [bs_prod, bigSep_univ_prod, ← bigSep_sep']
  refine bs_mono fun d _ => ?_
  rw [bigSep_univ_prod, bs_bool]
  have h (X : Bool) := by_round (F := F) 15 (fun k r => Release.writeTok ES (d, X, k) (r + 1))
  exact two_mono (Entails.of_eq (h true).symm) (Entails.of_eq (h false).symm)
/-- The readers' records of the launch, device by device. -/
theorem own_read : bigSep (Finset.univ : Finset Key) (fun x => Release.readerAt (ES (F := F)) x 0)
    ⊢ bigSep Finset.univ fun c : Dev nD => iprop((bigSep Finset.univ fun k => Release.readerAt (ES (F := F)) (c, true, k) 0) ∗ (bigSep Finset.univ fun k => Release.readerAt (ES (F := F)) (c, false, k) 0)) := by
  rw [bigSep_univ_prod]
  refine bs_mono fun d _ => ?_
  rw [bigSep_univ_prod, bs_bool]

/-! ## The launch's element -/

/-- The semaphores of the protocol. -/
def cellSet : Finset (GSem nD τ sig) := Finset.univ.map ⟨kcell, kcell_inj⟩
/-- The rights to pay into one of them in one round. -/
def roundSet (x : Dev nD × Kind) (r : ℕ) : Finset (GSem nD τ sig × ℕ × ℕ) :=
  (kduties x.2 r).map ⟨fun e => (kcell x, r, e), fun _ _ h => congrArg (fun y : GSem nD τ sig × ℕ × ℕ => y.2.2) h⟩
/-- All the rights. -/
def tokSet : Finset (GSem nD τ sig × ℕ × ℕ) := Finset.univ.biUnion fun x : Dev nD × Kind => (Finset.range 16).biUnion (roundSet x)

/-- A token of a semaphore's round names that semaphore and round. -/
theorem mem_roundSet (x : Dev nD × Kind) (r : ℕ) (y) (h : y ∈ roundSet x r) : y.1 = kcell x ∧ y.2.1 = r := by
  obtain ⟨e, -, rfl⟩ := Finset.mem_map.mp h
  exact ⟨rfl, rfl⟩

/-- All tokens are those of every device and kind. -/
theorem tokSet_toks : bigSep tokSet (fun y => dutyTok (ER (F := F)) y.1 y.2.1 y.2.2) = bigSep Finset.univ fun c : Dev nD => bigSep Finset.univ (kindToks (F := F) c) := by
  unfold tokSet
  rw [bigSep_biUnion_eq _ _ _ (fun x _ x' _ hne => ?_), bigSep_univ_prod]
  · refine bigSep_congr fun c _ => bigSep_congr fun kd _ => ?_
    rw [bigSep_biUnion_eq _ _ _ (fun r _ r' _ hne => ?_)]
    · unfold kindToks roundSet
      refine bigSep_congr fun r _ => ?_
      rw [bigSep_map]
      rfl
    · rw [Finset.disjoint_left]; intro y h h'
      exact hne ((mem_roundSet _ r y h).2.symm.trans (mem_roundSet _ r' y h').2)
  · rw [Finset.disjoint_left]; intro y h h'
    obtain ⟨r, -, h⟩ := Finset.mem_biUnion.mp h
    obtain ⟨r', -, h'⟩ := Finset.mem_biUnion.mp h'
    exact hne (kcell_inj ((mem_roundSet x r y h).1.symm.trans (mem_roundSet x' r' y h').1))

/-- All semaphores are those of every device and kind. -/
theorem cellSet_all (Φ : GSem nD τ sig → sProp 𝕄) : bigSep cellSet Φ = bigSep Finset.univ fun c : Dev nD => bigSep Finset.univ fun kd : Kind => Φ (kcell (c, kd)) := by
  unfold cellSet; rw [bigSep_map, bigSep_univ_prod]; rfl

end Cert.KernelIdeal.Ring
end
-- ==== Proof.Credits.lean ====
module
public import proofs.«01_k».proof.Proof.Deal

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable {m : (ℓ : Loc nD τ sig) → Buf (Elt F) ℓ} {K : Dev nD × Kind → ℕ} {κs : Key → ℕ} {c : Dev nD}

/-! # The credit of the launch: what all devices together owe a device -/

omit [FloatOps F]

/-- If every device owes one unit's payment to the next one along `e`, a device is owed it once. -/
theorem launch_one (e : Dev nD ≃ Dev nD) (kd : Kind) (i n : ℕ) :
    (Pipeline.launchCred (fun d => (tallyAt (kcell (e d, kd)) i n : Owed)) c : sProp 𝕄) ⊢ cred (tallyAt (kcell (c, kd)) i n) := by
  have h : launchCredit (Pipeline.owing fun d => (tallyAt (kcell (e d, kd)) i n : Owed)) 0 (kcell (c, kd)) = Finsupp.single i n := by
    ext u
    rw [Pipeline.launchCredit_owing, Finset.sum_congr rfl (g := fun d => if d = e.symm c then (if u = i then n else 0) else 0) fun d _ => by
      rw [tallyAt_apply]
      by_cases h : d = e.symm c
      · subst h; rw [e.apply_symm_apply, if_pos rfl]
        by_cases hu : u = i
        · rw [if_pos ⟨rfl, hu⟩, if_pos hu]
        · rw [if_neg (fun h => hu h.2), if_neg hu]
      · rw [if_neg h, if_neg]
        rintro ⟨h1, -⟩
        have := congrArg Prod.fst (kcell_inj h1)
        exact h (by rw [show c = e d from this, e.symm_apply_apply]),
      Finset.sum_ite_eq' Finset.univ (e.symm c) fun _ => if u = i then n else 0, if_pos (Finset.mem_univ _), Finsupp.single_apply]
    simp only [eq_comm]
  have h' := Pipeline.launchCred_elim (Name := ℕ) (U := UU) (Lvl := ℕ) (Val := Elt F) (fun d => (tallyAt (kcell (e d, kd)) i n : Owed)) c (csem kd)
  rw [show ((c.tc : Thread nD τ), csem kd) = kcell (c, kd) from rfl, h] at h'
  exact h'

/-- What is owed in a sum comes summand by summand. -/
theorem launch_sum (S : Finset ℕ) (f : ℕ → Dev nD → Owed) :
    (Pipeline.launchCred (fun d => ∑ i ∈ S, f i d) c : sProp 𝕄) ⊢ bigSep S fun i => Pipeline.launchCred (f i) c := by
  induction S using Finset.induction_on with
  | empty => rw [bigSep_empty]; iintro -; iempintro
  | insert a S ha ih =>
    rw [bigSep_insert ha, show (fun d => ∑ i ∈ insert a S, f i d) = fun d => f a d + ∑ i ∈ S, f i d from funext fun d => Finset.sum_insert ha, Pipeline.launchCred_add]
    exact two_mono .rfl ih

/-- Two units of a semaphore's credit are a credit of two. -/
theorem cred_two (g : GSem nD τ sig) (i : ℕ) : iprop(cred (tallyAt g i 1) ∗ cred (tallyAt g i 1)) ⊢ (cred (tallyAt g i 2) : sProp 𝕄) := by
  have h : (tallyAt g i 2 : Owed) = tallyAt g i 1 + tallyAt g i 1 := by
    unfold tallyAt; rw [← tallyOn_add, ← Finsupp.single_add]
  rw [h]
  exact (cred_add _ _).2

/-- The credit of a direction. -/
def CredDir (X : Bool) (c : Dev nD) : sProp 𝕄 :=
  iprop((bigSep (Finset.range 120) fun mm => cred (tallyAt (kcell (c, .recv X (slotOf mm))) (2 * mm + 10) nMsg))
    ∗ bigSep (Finset.range 112) fun k => cred (tallyAt (kcell (c, .credit X)) (2 * k + 11) 1))
/-- The credit of a device. -/
def Creds (c : Dev nD) : sProp 𝕄 :=
  iprop(cred (tallyAt (kcell (c, .bar)) 1 2) ∗ cred (tallyAt (kcell (c, .exit)) 1000 2) ∗ CredDir true c ∗ CredDir false c)

/-- What all devices owe in a direction at the start is, at one device, the credit for its own waits there; -/
theorem launch_dir (X : Bool) : (Pipeline.launchCred (fun d => owedX d X 0 0) c : sProp 𝕄) ⊢ CredDir X c := by
  unfold CredDir owedX
  rw [Pipeline.launchCred_add]
  refine two_mono (BIBase.Entails.trans (launch_sum _ fun mm d => sendOwed d X mm) (bs_mono fun mm _ => ?_))
    (BIBase.Entails.trans (launch_sum _ fun k d => creditOwed d X k) (bs_mono fun k _ => ?_))
  · exact launch_one (dstE X) (.recv X (slotOf mm)) (2 * mm + 10) nMsg
  · exact launch_one (dstE X).symm (.credit X) (2 * k + 11) 1

/-- and so for everything that is owed. -/
theorem creds : (Pipeline.launchCred owed0 c : sProp 𝕄) ⊢ Creds c := by
  have e : (owed0 : Dev nD → Owed) = fun d => ((((tallyAt (kcell (leftOf d, .exit)) 1000 1 + tallyAt (kcell (rightOf d, .exit)) 1000 1) + owedX d true 0 0) + owedX d false 0 0)
      + tallyAt (kcell (rightOf d, .bar)) 1 1) + tallyAt (kcell (leftOf d, .bar)) 1 1 := rfl
  rw [e, Pipeline.launchCred_add, Pipeline.launchCred_add, Pipeline.launchCred_add, Pipeline.launchCred_add, Pipeline.launchCred_add]
  unfold Creds
  iintro ⟨⟨⟨⟨⟨He, He'⟩, Ht⟩, Hf⟩, Hb⟩, Hb'⟩
  isplitl [Hb Hb']
  · iapply cred_two
    isplitl [Hb]; · iapply (launch_one (dstE true) .bar 1 1); iexact Hb
    iapply (launch_one (dstE false) .bar 1 1); iexact Hb'
  isplitl [He He']
  · iapply cred_two
    isplitl [He]; · iapply (launch_one (dstE false) .exit 1000 1); iexact He
    iapply (launch_one (dstE true) .exit 1000 1); iexact He'
  isplitl [Ht]; · iapply (launch_dir true); iexact Ht
  iapply (launch_dir false); iexact Hf

end Cert.KernelIdeal.Ring
end
-- ==== Proof.Begin.lean ====
module
public import proofs.«01_k».proof.Proof.Credits

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable {m : (ℓ : Loc nD τ sig) → Buf (Elt F) ℓ} {K : Dev nD × Kind → ℕ} {κs : Key → ℕ} {c : Dev nD}

/-! # The start of a device: what the launch deals, as the run wants it -/

/-- A device's positions. -/
def Pos (c : Dev nD) : sProp 𝕄 := bigSep Finset.univ fun kd : Kind => atPos ER (kcell (c, kd)) 0 ∅ 0
/-- A device's records of its slots. -/
def Read (c : Dev nD) : sProp 𝕄 :=
  iprop((bigSep Finset.univ fun k => Release.readerAt ES (c, true, k) 0) ∗ (bigSep Finset.univ fun k => Release.readerAt ES (c, false, k) 0))

/-- The send side of a direction. -/
theorem begin_snd (X : Bool) :
    iprop(Ctx m K κs ∗ (bigSep Finset.univ fun k => atPos ER (kcell (c, .send X k)) 0 ∅ 0) ∗ bigSep Finset.univ (sbSlot (F := F) X c)
        ∗ (bigSep (Finset.range 120) fun mm => dutyTok ER (kcell (c, .send X (slotOf mm))) (mm / 8) 0)
        ∗ (bigSep (Finset.range 120) fun mm => dutyTok ER (kcell (dstOf X c, .recv X (slotOf mm))) (mm / 8) 0)
        ∗ OwnWrite X (dstOf X c)) ⊢ Snd X c 0 0 := by
  unfold Snd
  have h : iprop(Ctx m K κs ∗ bigSep (Finset.Ico 0 (0 + 8)) fun mm => iprop(atPos ER (kcell (c, .send X (slotOf mm))) 0 ∅ 0 ∗ sbSlot (F := F) X c (slotOf mm)))
      ⊢ bigSep (Finset.Ico 0 (0 + 8)) (idle X c) :=
    bs_with fun mm hm => by
      have := Finset.mem_Ico.mp hm
      unfold idle
      rw [show mm / 8 = 0 by omega]
      iintro ⟨#HC, Hat, Hs⟩
      isplitl [Hat]; · iexact Hat
      isplitr; · iapply (ctx_reached m K κs (c, .send X (slotOf mm))); iexact HC
      iexact Hs
  have e := eight (F := F) 0 (fun k => iprop(atPos ER (kcell (c, .send X k)) 0 ∅ 0 ∗ sbSlot (F := F) X c k))
  have e' : iprop((bigSep (Finset.range 120) fun mm => dutyTok ER (kcell (c, .send X (slotOf mm))) (mm / 8) 0)
      ∗ (bigSep (Finset.range 120) fun mm => dutyTok ER (kcell (dstOf X c, .recv X (slotOf mm))) (mm / 8) 0)
      ∗ OwnWrite X (dstOf X c)) ⊢ bigSep (Finset.Ico 0 120) (sendTok (F := F) X c) := by
    unfold OwnWrite
    rw [← bigSep_sep', ← bigSep_sep', show Finset.Ico 0 120 = Finset.range 120 from (Finset.range_eq_Ico 120).symm]
    exact bs_mono fun mm _ => by
      unfold sendTok
      iintro H; iexact H
  iintro ⟨#HC, Hat, Hs, Ht⟩
  rw [Finset.Ico_self, bigSep_empty]
  isplitr; · iempintro
  isplitl [Hat Hs]
  · iapply h
    isplitr; · iexact HC
    iapply (Entails.of_eq e.symm)
    iapply (Entails.of_eq (bigSep_sep' Finset.univ (fun k => atPos (ER (F := F)) (kcell (c, .send X k)) 0 ∅ 0) (fun k => sbSlot (F := F) X c k)).symm)
    isplitl [Hat] <;> iassumption
  iapply e'
  iexact Ht

/-- The receive side of a direction. -/
theorem begin_rcv (X : Bool) :
    iprop((bigSep Finset.univ fun k => atPos ER (kcell (c, .recv X k)) 0 ∅ 0) ∗ bigSep Finset.univ (rbSlot (F := F) X c)
        ∗ (bigSep Finset.univ fun k => Release.readerAt ES (c, X, k) 0)
        ∗ (bigSep (Finset.range 120) fun mm => cred (tallyAt (kcell (c, .recv X (slotOf mm))) (2 * mm + 10) nMsg))
        ∗ (bigSep (Finset.range 112) fun k => dutyTok ER (kcell (srcOf X c, .credit X)) 0 k)) ⊢ Rcv0 X c := by
  unfold Rcv0
  have e1 := eight (F := F) 0 (fun k => atPos ER (kcell (c, .recv X k)) 0 ∅ 0)
  have e2 := eight (F := F) 0 (fun k => iprop(Release.readerAt ES (c, X, k) 0 ∗ rbSlot (F := F) X c k))
  rw [show Finset.Ico 0 (0 + 8) = Finset.range 8 from (Finset.range_eq_Ico 8).symm] at e1 e2
  have e3 : bigSep (Finset.range 8) (fun mm => atPos (ER (F := F)) (kcell (c, .recv X (slotOf mm))) 0 ∅ 0)
      ⊢ bigSep (Finset.range 8) (fun mm => atPos (ER (F := F)) (kcell (c, .recv X (slotOf mm))) (mm / 8) ∅ 0) :=
    bs_mono fun mm hm => Entails.of_eq (by have := Finset.mem_range.mp hm; rw [show mm / 8 = 0 by omega])
  iintro ⟨Hat, Hs, Hr, Hc, Ht⟩
  isplitl [Hat]; · iapply e3; iapply (Entails.of_eq e1.symm); iexact Hat
  isplitl [Hc]; · iexact Hc
  isplitl [Hs Hr]
  · iapply (Entails.of_eq e2.symm)
    iapply (Entails.of_eq (bigSep_sep' Finset.univ (fun k => Release.readerAt (ES (F := F)) (c, X, k) 0) (fun k => rbSlot (F := F) X c k)).symm)
    isplitl [Hr] <;> iassumption
  iexact Ht

/-- The copies to the result. -/
theorem begin_cp :
    iprop(Ctx m K κs ∗ (bigSep Finset.univ fun k => atPos ER (kcell (c, .out k)) 0 ∅ 0) ∗ bigSep (Finset.range 61) (cpTok (F := F) true c)
        ∗ bigSep (Finset.range 61) (cpTok (F := F) false c)) ⊢ iprop(Cp m true c 0 0 ∗ Cp m false c 0 0) := by
  have h (X : Bool) : iprop(Ctx m K κs ∗ bigSep (Finset.Ico 0 4) fun j => atPos ER (kcell (c, .out (slotOf (cpIdx X j)))) 0 ∅ 0)
      ⊢ bigSep (Finset.Ico 0 (0 + 4)) (cpIdle (F := F) X c) :=
    bs_with fun j hj => by
      have := Finset.mem_Ico.mp hj
      unfold cpIdle
      have e : cpRound X j = 0 := by unfold cpRound cpIdx; cases X <;> simp only [cond_true, cond_false] <;> omega
      rw [e]
      iintro ⟨#HC, Hat⟩
      isplitl [Hat]; · iexact Hat
      iapply (ctx_reached m K κs (c, cpKind X j)); iexact HC
  have e := cp_twos (F := F) (show 0 ≤ 4 by decide) (fun i => atPos ER (kcell (c, .out (slotOf i))) 0 ∅ 0)
  have e' := eight (F := F) 0 (fun k => atPos ER (kcell (c, .out k)) 0 ∅ 0)
  unfold Cp
  rw [Finset.Ico_self, bigSep_empty, bigSep_empty, Finset.range_zero, bigSep_empty, bigSep_empty, show Finset.Ico 0 61 = Finset.range 61 from (Finset.range_eq_Ico 61).symm]
  iintro ⟨#HC, Hat, Ht, Ht'⟩
  ihave Hat1 := (Entails.of_eq e'.symm) $$ Hat
  ihave Hat2 := (Entails.of_eq (show bigSep (Finset.Ico 0 (0 + 8)) _ = _ from e)) $$ Hat1
  icases Hat2 with ⟨Hat, Hat'⟩
  isplitl [Hat Ht]
  · isplitr; · iempintro
    isplitl [Hat]
    · iapply (h true)
      isplitr; · iexact HC
      iexact Hat
    isplitl [Ht]; · iexact Ht
    iempintro
  isplitr; · iempintro
  isplitl [Hat']
  · iapply (h false)
    isplitr; · iexact HC
    iexact Hat'
  isplitl [Ht']; · iexact Ht'
  iempintro

/-- What the launch deals a device besides what everybody knows. -/
def Dealt (c : Dev nD) : sProp 𝕄 := iprop(Pos c ∗ PayToks c ∗ Read c)

omit [FloatOps F] in
/-- A buffer of any contents is a slot that may be written. -/
theorem any_slot {ℓ : Loc nD τ sig} : (iprop(∃ f : Buf (Elt F) ℓ, ℓ ↦{fullShare} f) : sProp 𝕄) ⊢ Release.slot ℓ Finset.univ := Entails.of_eq rfl

/-- What a device is dealt, its arguments and its scratch are what its body begins with. -/
theorem begin_all :
    iprop(Ctx m K κs ∗ Dealt (F := F) c ∗ Creds (F := F) c ∗ ((aLoc c ↦{fullShare} aOf m c) ∗ (bLoc c ↦{fullShare} bOf m c) ∗ (∃ f : Buf (Elt F) (oLoc c), oLoc c ↦{fullShare} f)) ∗ Scr (F := F) c)
      ⊢ Start m c := by
  unfold Dealt Pos PayToks PayDir PayMeet Read Creds CredDir Scr Start Mem0 Dir0 Meet Inn Crd0
  rw [kind_split]
  iintro ⟨#HC, ⟨⟨⟨⟨⟨Pb, Pe⟩, ⟨Pc, Pc'⟩⟩, ⟨⟨Ps, Ps'⟩, ⟨Pr, Pr'⟩⟩⟩, ⟨⟨Pi0, Pi1⟩, Po⟩⟩,
    ⟨⟨Tb, Te⟩, ⟨⟨Tc, Ts, Tr, To, Tw⟩, ⟨Tc', Ts', Tr', To', Tw'⟩⟩, ⟨Ti0, Ti1⟩⟩, ⟨Rd, Rd'⟩⟩,
    ⟨Cb, Ce, ⟨Cr, Cc⟩, ⟨Cr', Cc'⟩⟩, ⟨Ha, Hb, ⟨%fo, Ho⟩⟩, ⟨⟨Hav, Hbv, ⟨%facc, Hacc⟩, Hb16⟩, ⟨⟨%f1, Hsb⟩, ⟨%f2, Hsb'⟩⟩, ⟨⟨%f3, Hrb⟩, ⟨%f4, Hrb'⟩⟩⟩⟩
  ihave Hout := (out_cut (F := F) (c := c) fo) $$ Ho
  icases Hout with ⟨⟨Ho, Hos⟩, ⟨Ho', Hos'⟩⟩
  ihave Hbl := (acc_cut (F := F) (c := c) facc) $$ Hacc
  icases Hbl with ⟨Hbl, Hbl'⟩
  ihave Hsb := (sb_cut (F := F) (c := c) true f1) $$ Hsb
  ihave Hsb' := (sb_cut (F := F) (c := c) false f2) $$ Hsb'
  ihave Hrb := (rb_cut (F := F) (c := c) true f3) $$ Hrb
  ihave Hrb' := (rb_cut (F := F) (c := c) false f4) $$ Hrb'
  ihave Hcp := (begin_cp (m := m) (K := K) (κs := κs) (c := c)) $$ [Po To To']
  · isplitr; · iexact HC
    isplitl [Po]; · iexact Po
    isplitl [To] <;> iassumption
  icases Hcp with ⟨Hcp, Hcp'⟩
  isplitl [Ha Hb Hav Hbv Hb16]
  · isplitl [Ha]; · iexact Ha
    isplitl [Hb]; · iexact Hb
    isplitl [Hav]; · iapply any_slot; iexact Hav
    isplitl [Hbv]; · iapply any_slot; iexact Hbv
    iapply any_slot; iexact Hb16
  isplitl [Ps Hsb Ts Tr Tw Pc Cc Pr Hrb Rd Cr Tc Hbl Hcp Ho Hos]
  · isplitl [Ps Hsb Ts Tr Tw]
    · iapply (begin_snd (m := m) (K := K) (κs := κs) (c := c) true)
      isplitr; · iexact HC
      isplitl [Ps]; · iexact Ps
      isplitl [Hsb]; · iexact Hsb
      isplitl [Ts]; · iexact Ts
      isplitl [Tr] <;> iassumption
    isplitl [Pc Cc]; · isplitl [Pc] <;> iassumption
    isplitl [Pr Hrb Rd Cr Tc]
    · iapply (begin_rcv (F := F) (c := c) true)
      isplitl [Pr]; · iexact Pr
      isplitl [Hrb]; · iexact Hrb
      isplitl [Rd]; · iexact Rd
      isplitl [Cr] <;> iassumption
    isplitl [Hbl]; · iexact Hbl
    isplitl [Hcp]; · iexact Hcp
    isplitl [Ho] <;> iassumption
  isplitl [Ps' Hsb' Ts' Tr' Tw' Pc' Cc' Pr' Hrb' Rd' Cr' Tc' Hbl' Hcp' Ho' Hos']
  · isplitl [Ps' Hsb' Ts' Tr' Tw']
    · iapply (begin_snd (m := m) (K := K) (κs := κs) (c := c) false)
      isplitr; · iexact HC
      isplitl [Ps']; · iexact Ps'
      isplitl [Hsb']; · iexact Hsb'
      isplitl [Ts']; · iexact Ts'
      isplitl [Tr'] <;> iassumption
    isplitl [Pc' Cc']; · isplitl [Pc'] <;> iassumption
    isplitl [Pr' Hrb' Rd' Cr' Tc']
    · iapply (begin_rcv (F := F) (c := c) false)
      isplitl [Pr']; · iexact Pr'
      isplitl [Hrb']; · iexact Hrb'
      isplitl [Rd']; · iexact Rd'
      isplitl [Cr'] <;> iassumption
    isplitl [Hbl']; · iexact Hbl'
    isplitl [Hcp']; · iexact Hcp'
    isplitl [Ho'] <;> iassumption
  isplitl [Tb Cb Pb]
  · isplitl [Tb]; · iexact Tb
    isplitl [Cb] <;> iassumption
  isplitl [Te Ce Pe]
  · isplitl [Te]; · iexact Te
    isplitl [Ce] <;> iassumption
  isplitl [Ti0 Pi0]; · isplitl [Ti0] <;> iassumption
  isplitl [Ti1] <;> iassumption

end Cert.KernelIdeal.Ring
end
-- ==== Proof.Mint.lean ====
module
public import proofs.«01_k».proof.Proof.Begin

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable {m : (ℓ : Loc nD τ sig) → Buf (Elt F) ℓ} {K : Dev nD × Kind → ℕ} {κs : Key → ℕ} {c : Dev nD}

/-! # The launch: what it mints, and how it is dealt -/

/-- The semaphores a kernel allocates itself: all but the one of the mesh. -/
def osem : {kd : Kind // kd ≠ .bar} → SemLoc sig := fun kd => csem kd.1

/-- The semaphores of the kernel's scratch, listed. -/
theorem osem_facts : Pipeline.OwnSemFacts cfg0.spec osem := by
  refine ⟨fun kd => ?_, fun a b h => Subtype.ext (csem_inj h), fun kd w => w.elim0⟩
  have h0 : ∀ a ∈ kinds, a ≠ .bar → (csem a).isScoped .tc = true := by decide +kernel
  exact h0 kd.1 (mem_kinds kd.1) kd.2

omit [FloatOps F] in
/-- Those and the barrier are all that must end at zero. -/
theorem sems_zero (c : Dev nD) :
    iprop(Pipeline.ownSems0 (Ix := ℕ) (Name := ℕ) (U := UU) (Lvl := ℕ) (Val := Elt F) (τ := τ) osem c ∗ unscopedSems0 c) = Zero (F := F) c := by
  unfold Zero Pipeline.ownSems0 unscopedSems0
  rw [bigSep_univ_at _ Kind.bar, bigSep_eq_bigSepL_of_eq [SemLoc.reg barSem] (by decide) (by decide),
    ← bigSep_subtype_ne Kind.bar (fun kd => semVal (kcell (c, kd)) 0)]
  have h (A B : sProp 𝕄) : A ∗ B ⊢ B ∗ A := by
    iintro ⟨H, H'⟩
    isplitl [H'] <;> iassumption
  exact equiv_iff.mp ⟨h _ _, h _ _⟩

/-- The element the launch mints. -/
def u₀ : UU :=
  (initOf (Pipeline.cells cfgs cellOf_inj) (Pipeline.launchToks cfgs cellOf_inj), (initOf cellSet tokSet, Release.initSlots Finset.univ 15))

/-- The slots' part of it, all in the hands of the first device. -/
def SL (c : Dev nD) : sProp 𝕄 := if c = 0 then BI.own (ES (Release.initSlots (Finset.univ : Finset Key) 15)) else BI.emp

omit [FloatOps F] in
/-- The rights to all arrival slots, slot by slot. -/
theorem sl_all : bigSep Finset.univ (SL (F := F)) = BI.own (ES (Release.initSlots (Finset.univ : Finset Key) 15)) := by
  have h : bigSep (Finset.univ.erase (0 : Dev nD)) (SL (F := F)) = bigSep (Finset.univ.erase (0 : Dev nD)) (fun _ => (BI.emp : sProp 𝕄)) :=
    bigSep_congr fun c hc => by unfold SL; exact if_neg (Finset.ne_of_mem_erase hc)
  rw [bigSep_univ_at _ (0 : Dev nD), h, bigSep_emp_const]
  unfold SL
  rw [if_pos rfl]
  exact equiv_iff.mp sep_emp

variable (m) in
/-- What a device holds of the minted. -/
def G (c : Dev nD) : sProp 𝕄 :=
  iprop((bigSep Finset.univ fun kd : Kind => roundState ER (Rd m) (kcell (c, kd)) 0)
    ∗ (bigSep Finset.univ fun kd : Kind => reached ER (kcell (c, kd)) 0)
    ∗ Pos c ∗ bigSep Finset.univ (kindToks (F := F) c) ∗ SL c)

/-- What is made at the start is enough for every device. -/
theorem fund : BI.own (embR (initOf cellSet tokSet, Release.initSlots (Finset.univ : Finset Key) 15)) ⊢ (|==> bigSep Finset.univ (G m) : sProp 𝕄) := by
  iintro Hu
  ihave H := (own_pair_emb (embR : Emb UB 𝕄) (initOf cellSet tokSet) (Release.initSlots (Finset.univ : Finset Key) 15)) $$ Hu
  icases H with ⟨HX, HS⟩
  imod (Rounds.fund ER (Rd m) cellSet tokSet) $$ HX with ⟨Hst, Hr, Hat, Htok⟩
  imodintro
  ihave Hst' := (Entails.of_eq (cellSet_all fun g => roundState ER (Rd m) g 0)) $$ Hst
  ihave Hat' := (Entails.of_eq (cellSet_all (F := F) fun g => atPos ER g 0 ∅ 0)) $$ Hat
  ihave Hr' := (Entails.of_eq (cellSet_all (F := F) fun g => reached ER g 0)) $$ Hr
  ihave Htok' := (Entails.of_eq (tokSet_toks (F := F))) $$ Htok
  unfold G Pos; simp only [bigSep_sep']
  isplitl [Hst']; · iexact Hst'
  isplitl [Hr']; · iexact Hr'
  isplitl [Hat']; · iexact Hat'
  isplitl [Htok']; · iexact Htok'
  iapply (Entails.of_eq (sl_all (F := F)).symm)
  iexact HS

variable (m K κs) in
/-- What everybody knows, the levels aside. -/
def Know : sProp 𝕄 :=
  iprop((bigSep Finset.univ fun x : Dev nD × Kind => cellInv ER (Rd m) (K x) (kcell x))
    ∗ (bigSep Finset.univ fun x : Dev nD × Kind => reached ER (kcell x) 0)
    ∗ (bigSep Finset.univ fun k : Key => Release.slotInv ES (κs k) k (rbSlot k.2.1 k.1 k.2.2)))

instance Know_persistent : Persistent (Know m K κs) := by unfold Know; infer_instance

/-- What every device knows of the protocol. -/
theorem know_ctx : iprop(Know m K κs ∗ levAts L lv) ⊢ Ctx m K κs := by
  unfold Know Ctx Lev
  iintro ⟨⟨H1, H2, H3⟩, H4⟩
  isplitl [H1]; · iexact H1
  isplitl [H2]; · iexact H2
  isplitl [H3] <;> iassumption

variable (m) in
/-- What a device begins with. -/
def G' (c : Dev nD) : sProp 𝕄 := iprop(∃ K κs, Know m K κs ∗ Dealt (F := F) c)

/-- The semaphores of one device become invariants. -/
theorem alloc_cells (c : Dev nD) :
    iprop(Zero (F := F) c ∗ bigSep Finset.univ fun kd : Kind => roundState ER (Rd m) (kcell (c, kd)) 0)
      ⊢ |={Set.univ}=> bigSep Finset.univ fun kd : Kind => iprop(∃ κ : ℕ, cellInv ER (Rd m) κ (kcell (c, kd))) := by
  unfold Zero
  rw [← bigSep_sep']
  exact BIBase.Entails.trans (bs_mono fun kd _ => (Rounds.body_intro ER (Rd m) (kcell (c, kd))).trans inv_alloc) (bigSep_fupd _ _)

/-- All devices' semaphores become invariants, the slots too, and the rights go to those who use them. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) := by
  have h0 : (bigSep Finset.univ fun c => iprop(Pipeline.ownSems0 (Ix := ℕ) (Name := ℕ) (U := UU) (Lvl := ℕ) (Val := Elt F) (τ := τ) osem c ∗ unscopedSems0 c ∗ G m c) : sProp 𝕄)
      ⊢ bigSep Finset.univ fun c => iprop((Zero (F := F) c ∗ bigSep Finset.univ fun kd : Kind => roundState ER (Rd m) (kcell (c, kd)) 0)
        ∗ (bigSep Finset.univ fun kd : Kind => reached ER (kcell (c, kd)) 0) ∗ Pos c ∗ OwnToks c ∗ SL c) :=
    bs_mono fun c _ => by
      rw [← sems_zero]
      unfold G
      iintro ⟨Ho, Hu, Hst, Hr, Hat, Ht, Hs⟩
      isplitl [Ho Hu Hst]
      · isplitr [Hst]
        · isplitl [Ho] <;> iassumption
        iexact Hst
      isplitl [Hr]; · iexact Hr
      isplitl [Hat]; · iexact Hat
      isplitl [Ht]; · iapply (own_toks c); iexact Ht
      iexact Hs
  refine BIBase.Entails.trans h0 ?_
  rw [bigSep_sep', bigSep_sep', bigSep_sep', bigSep_sep', bigSep_sep', sl_all]
  iintro ⟨Hzs, Hr, Hat, Ht, Hs⟩
  ihave Hz := (Entails.of_eq (bigSep_sep' Finset.univ (Zero (F := F)) (fun c => bigSep Finset.univ fun kd : Kind => roundState ER (Rd m) (kcell (c, kd)) 0)).symm) $$ Hzs
  imod (BIBase.Entails.trans (bs_mono fun c _ => alloc_cells (m := m) c) (bigSep_fupd Finset.univ _)) $$ Hz with HI
  ihave HI' := (Entails.of_eq (bigSep_univ_prod (fun x : Dev nD × Kind => iprop(∃ κ : ℕ, cellInv ER (Rd m) κ (kcell x)))).symm) $$ HI
  ihave HK := (BI.bigSep_exists_pi Finset.univ (fun (x : Dev nD × Kind) (κ : ℕ) => (cellInv ER (Rd m) κ (kcell x) : sProp 𝕄))) $$ HI'
  icases HK with ⟨%K, HK⟩
  imod (Release.slots_init (ES (F := F)) (Finset.univ : Finset Key) 15 (fun k => rbSlot (F := F) k.2.1 k.1 k.2.2)) $$ Hs with ⟨%κs, -, Hinv, Hrd, Hwt⟩
  ihave Hr' := (Entails.of_eq (bigSep_univ_prod (fun x : Dev nD × Kind => reached (ER (F := F)) (kcell x) 0)).symm) $$ Hr
  ihave Hrd' := (own_read (F := F)) $$ Hrd
  ihave Hwt' := (own_write (F := F)) $$ Hwt
  icases Hwt' with ⟨Hw, Hw'⟩
  ihave Hp := (deal_toks (F := F)) $$ [Ht Hw Hw']
  · isplitl [Ht]; · iexact Ht
    isplitl [Hw] <;> iassumption
  imodintro
  iapply (bs_with (R := Know m K κs) (Φ := fun c => iprop(Pos (F := F) c ∗ PayToks (F := F) c ∗ Read (F := F) c)) (Ψ := G' m) fun c _ => by
    unfold G' Dealt
    iintro ⟨HC, H⟩
    iexists K; iexists κs
    isplitl [HC] <;> iassumption)
  isplitl [HK Hr' Hinv]
  · unfold Know
    isplitl [HK]; · iexact HK
    isplitl [Hr'] <;> iassumption
  iapply (Entails.of_eq (bigSep_sep' Finset.univ (Pos (F := F)) (fun c => iprop(PayToks (F := F) c ∗ Read (F := F) c))).symm)
  isplitl [Hat]; · iexact Hat
  iapply (Entails.of_eq (bigSep_sep' Finset.univ (PayToks (F := F)) (Read (F := F))).symm)
  isplitl [Hp]; · iexact Hp
  unfold Read
  iexact Hrd'

end Cert.KernelIdeal.Ring
end
-- ==== Proof.BodyEq.lean ====
module
public import proofs.«01_k».proof.Proof.Steps
public import proofs.«01_k».proof.Proof.Gen.KernelIdeal.Skeleton

@[expose] public section

namespace Cert.KernelIdeal.Ring

open Idealize.ShloMosaic Idealize.SL.Sem Cert.KernelIdeal.Gen

attribute [local irreducible] Scalar.addi Scalar.muli Scalar.select Scalar.remsi Scalar.divsi Scalar.cmpi Scalar.subi BitVec.toNat

variable {F : FTy → Type} [FloatOps F]

set_option maxRecDepth 65536 in
set_option maxHeartbeats 4000000 in
/-- The printed kernel is, statement by statement, the program of `Steps`. -/
theorem body_eq (t : Fin cfg0.N) : bodyAt0 (F := F) t = body (F := F) := by
  rfl

end Cert.KernelIdeal.Ring
end
-- ==== Proof.Launch.lean ====
module
public import proofs.«01_k».proof.Proof.Mint
public import proofs.«01_k».proof.Proof.BodyEq
public import Idealize.ShloMosaic.Lib.Pipeline.CollectiveSegs

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable {m : (ℓ : Loc nD τ sig) → Buf (Elt F) ℓ} {K : Dev nD × Kind → ℕ} {κs : Key → ℕ} {c : Dev nD}

/-! # The launch -/

variable (m : (ℓ : Loc nD τ sig) → Buf (Elt F) ℓ) (ρ : Dev nD → PrngReg)

/-- What a device holds when its run begins; -/
def start (c : Dev nD) : sProp 𝕄 :=
  iprop(G' m c ∗ levAts L lv ∗ Creds (F := F) c ∗ ((aLoc c ↦{fullShare} aOf m c) ∗ (bLoc c ↦{fullShare} bOf m c) ∗ (∃ f : Buf (Elt F) (oLoc c), oLoc c ↦{fullShare} f)))
/-- with its scratch; -/
def Φ₀ (c : Dev nD) : sProp 𝕄 := iprop(start m c ∗ Scr (F := F) c)
/-- and when it is over. -/
def Φ₁ (c : Dev nD) : sProp 𝕄 := iprop(Arr m c ∗ Scr (F := F) c ∗ Zero (F := F) c)

/-- The proof data of the kernel's one region: no windows, one point. -/
def dats (_ : Fin 1) (c : Dev nD) : Pipeline.Dat τ (Elt F) ℕ ℕ UU ℕ cfg0 c where
  A w := w.elim0
  after w := w.elim0
  Φ t := match t with
    | ⟨0, _⟩ => Φ₀ m c
    | ⟨_ + 1, _⟩ => Φ₁ m c
  q _ := fullShare
  owed t := match t with
    | ⟨0, _⟩ => owed0 c
    | ⟨_ + 1, _⟩ => 0

omit [FloatOps F] in
/-- The region has no windows. -/
theorem no_win (Φ : Fin cfg0.W → sProp 𝕄) : bigSep Finset.univ Φ = BI.emp := by
  rw [show (Finset.univ : Finset (Fin cfg0.W)) = ∅ from rfl, bigSep_empty]

/-- A device's run, from its start to its end. -/
theorem run_device (c : Dev nD) :
    iprop(Φ₀ m c ∗ Ow c (owed0 c)) ⊢ WP c body (fun _ => iprop(Φ₁ m c ∗ Ow (F := F) c 0)) := by
  unfold Φ₀ start G'
  iintro ⟨⟨⟨⟨%K, %κs, HK, HD⟩, Hlev, Hcr, Harr⟩, Hscr⟩, HO⟩
  ihave #HC := (know_ctx (m := m) (K := K) (κs := κs)) $$ [HK Hlev]
  · isplitl [HK] <;> iassumption
  ihave Hst := (begin_all (m := m) (K := K) (κs := κs) (c := c)) $$ [HD Hcr Harr Hscr]
  · isplitr; · iexact HC
    isplitl [HD]; · iexact HD
    isplitl [Hcr]; · iexact Hcr
    isplitl [Harr] <;> iassumption
  iapply (wp_body (m := m) (K := K) (κs := κs) (c := c) _)
  isplitr; · iexact HC
  isplitl [HO Hst]; · isplitl [HO] <;> iassumption
  iintro ⟨HO, Hend⟩
  unfold WP
  rw [wp_ret]
  imod (close (m := m) (K := K) (κs := κs) (c := c)) $$ [Hend] with H
  · isplitr; · iexact HC
    iexact Hend
  imodintro
  isplitl [H]; · unfold Φ₁; iexact H
  iexact HO

attribute [local irreducible] cc0_body body

/-- The region's body is the kernel's, at its one point. -/
theorem body_at : defs₀ (F := F) .tc cfg0.body (cfg0.bodyArgs t0_0 (cfg0.slots t0_0)) = bodyAt0 (F := F) t0_0 := rfl

/-- The body, run from what a device begins with, ends with what it should. -/
theorem body_obligation (c : Dev nD) : Pipeline.BodyObligation (dats m 0 c) (defs₀ (F := F)) 𝒱₀ 0 Set.univ := fun t => by
  rw [fin_N0 t]
  rw [no_win, no_win, body_at]
  have h := run_device m c
  rw [← body_eq t0_0] at h
  refine BIBase.Entails.trans ?_ (BIBase.Entails.trans h (wp_mono _ _ _ fun _ => ?_))
  · unfold Pipeline.Dat.owesAt Pipeline.owesWithin Ow
    rw [show (dats m 0 c).Φ t0_0.castSucc = Φ₀ m c from rfl, show (dats m 0 c).owed t0_0.castSucc = owed0 c from rfl]
    iintro ⟨H, ⟨%W, -, HO⟩, -⟩
    isplitl [H]; · iexact H
    iexists W; iexact HO
  · unfold Pipeline.Dat.owesAt Pipeline.owesWithin Ow
    rw [show (dats m 0 c).Φ t0_0.succ = Φ₁ m c from rfl, show (dats m 0 c).owed t0_0.succ = 0 from rfl]
    iintro ⟨H, ⟨%W, HO⟩⟩
    isplitl [H]; · iexact H
    isplitl [HO]
    · iexists W
      isplitr; · ipureintro; exact fun _ _ => Or.inl trivial
      iexact HO
    iempintro

/-! ## The theorem's side conditions -/

/-- What the launch hands a device is what its run begins with. -/
theorem start_intro (c : Dev nD) :
    iprop(Pipeline.unscopedRestP Pipeline.Prefetch.none cfg0.spec c (fun b => m ((c.tc : Thread nD τ).loc b)) ∗ levAts L lv
        ∗ Pipeline.launchCred owed0 c ∗ prngReg c (ρ c) ∗ G' m c)
      ⊢ |={Set.univ}=> iprop(start m c ∗ emp) := by
  rw [Pipeline.unscopedRestP_none, unscopedRest0_eq]
  iintro ⟨⟨Ha, Hb, Ho⟩, Hlev, Hcr, -, HG⟩
  ihave Hc := (creds (F := F) (c := c)) $$ Hcr
  imodintro
  unfold start
  isplitl
  · isplitl [HG]; · iexact HG
    isplitl [Hlev]; · iexact Hlev
    isplitl [Hc]; · iexact Hc
    isplitl [Ha]; · iexact Ha
    isplitl [Hb]; · iexact Hb
    iexists _; iexact Ho
  · iempintro

omit [FloatOps F] in
/-- The region's scratch, as the run names it. -/
theorem scr_eq (c : Dev nD) : (Pipeline.scopedRest (Ix := ℕ) (Name := ℕ) (U := UU) (Lvl := ℕ) (Val := Elt F) cfg0.spec c : sProp 𝕄) ⊢ Scr (F := F) c := by
  rw [scopedRest0_eq]
  unfold Scr
  iintro ⟨H0, H1, H2, H3, H4, H5, H6, H7⟩
  isplitl [H0 H1 H2 H3]
  · isplitl [H0]; · iexact H0
    isplitl [H1]; · iexact H1
    isplitl [H2] <;> iassumption
  isplitl [H4 H6]
  · isplitl [H4]; · iexact H4
    iexact H6
  isplitl [H5]; · iexact H5
  iexact H7
omit [FloatOps F] in
/-- A device's scratch is the region's scratch. -/
theorem scr_eq' (c : Dev nD) : Scr (F := F) c ⊢ (Pipeline.scopedRest (Ix := ℕ) (Name := ℕ) (U := UU) (Lvl := ℕ) (Val := Elt F) cfg0.spec c : sProp 𝕄) := by
  rw [scopedRest0_eq]
  unfold Scr
  iintro ⟨⟨H0, H1, H2, H3⟩, ⟨H4, H6⟩, ⟨H5, H7⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- With that scratch the region begins, -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (scr_eq c); iexact Hr

/-- and it leaves the arguments, the result, the scratch and semaphores at zero. -/
theorem phi1_exit (c : Dev nD) :
    (dats m 0 c).Φ (Fin.last cfg0.N) ⊢ iprop((unscopedSems0 c ∗ Arr m c) ∗ Pipeline.ownSems0 osem c ∗ Pipeline.scopedRest cfg0.spec c) := by
  rw [show (dats m 0 c).Φ (Fin.last cfg0.N) = Φ₁ m c from rfl]
  unfold Φ₁
  iintro ⟨Ha, Hr, Hz⟩
  ihave Hz' := (Entails.of_eq (sems_zero (F := F) c).symm) $$ Hz
  icases Hz' with ⟨Ho, Hu⟩
  isplitl [Hu Ha]; · isplitl [Hu] <;> iassumption
  isplitl [Ho]; · iexact Ho
  iapply (scr_eq' c); iexact Hr

/-- The launch itself waits for nothing. -/
theorem waits (c : Dev nD) : (levAts L lv : sProp 𝕄) ⊢ Pipeline.cellsWaits cfgs (dats m) 0 0 c :=
  Pipeline.cellsWaits_intro cfgs (dats m) 0 0 c fun w => w.elim0

/-- What the run says of a device's arrays at the end. -/
def ends (c : Dev nD) (s : MemSt nD τ sig (Elt F)) : Prop :=
  s.mem (aLoc c) = aOf m c ∧ s.mem (bLoc c) = bOf m c ∧ s.mem (oLoc c) = outAll m c

omit [FloatOps F] in
/-- A buffer that is held has those contents in memory. -/
theorem read_one (ℓ : Loc nD τ sig) (f : Buf (Elt F) ℓ) (s' : Phys nD τ sig (Elt F)) :
    (iprop((ℓ ↦{fullShare} f) ∗ SI s') : sProp 𝕄) ⊢ iprop(⌜s'.mem.mem ℓ = f⌝ ∗ SI s') := by
  iintro ⟨Hi, HSI⟩
  icombine HSI Hi gives %h
  isplitr
  · ipureintro; exact Buf.eq_of_forall_mem_univ h
  iexact HSI

/-- So at the end the arguments, the result and the counters can be read off. -/
theorem read_ends (c : Dev nD) (s' : Phys nD τ sig (Elt F)) :
    iprop((unscopedSems0 c ∗ Arr m c) ∗ emp ∗ SI s')
      ⊢ |={Set.univ}=> iprop(⌜ends m c s'.mem ∧ ∀ sm : SemLoc sig, sm.isScoped .tc = false → s'.mem.sem ((c.tc : Thread nD τ), sm) = 0⌝ ∗ SI s') := by
  unfold Arr
  iintro ⟨⟨Hu, Ha, Hb, Ho⟩, -, HSI⟩
  ihave H := (read_one (F := F) _ _ s') $$ [Ha HSI]
  · isplitl [Ha] <;> iassumption
  icases H with ⟨%ha, HSI⟩
  ihave H := (read_one (F := F) _ _ s') $$ [Hb HSI]
  · isplitl [Hb] <;> iassumption
  icases H with ⟨%hb, HSI⟩
  ihave H := (read_one (F := F) _ _ s') $$ [Ho HSI]
  · isplitl [Ho] <;> iassumption
  icases H with ⟨%ho, HSI⟩
  imod (Pipeline.unscopedSems0_read (X := unscopedSems0 c) (c := c) fupd_intro s') $$ [Hu HSI] with ⟨%hs, HSI⟩
  · isplitl [Hu] <;> iassumption
  imodintro
  isplitr; · ipureintro; exact ⟨⟨ha, hb, ho⟩, hs⟩
  iexact HSI

set_option maxRecDepth 8000 in
/-- From any memory with its counters at zero, for any float values, every weakly fair execution of the sixteen devices
    ends, with every device's result at `outAll`, its arguments unchanged, and every counter back at zero. -/
theorem run_main : θ_run defs (onTc (τ := τ) (main (F := F))) ⟨m, fun _ => 0, ρ⟩ (fun r => (∀ c, ends m c r.2) ∧ r.2.sem = fun _ => 0) :=
  Pipeline.θ_run_region_owing_glob_pf (fun p => (cfgs p).toPCfg) (fun p => (cfgs p).toPCfg_adm) (dats m) 0 cellOf_inj (0 : Fin 1)
    winFacts0.to₀ osem_facts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := owed0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund (m := m)) $$ HX with HG
      imodintro
      isplitl [HP] <;> iassumption)
    (hglob := glob)
    (hA := fun _ w => w.elim0) (hpf := fun _ k => k.elim0)
    (X := start m) (Y := fun c => iprop(unscopedSems0 c ∗ Arr m c)) (Z := fun _ => iprop(emp))
    (hX := start_intro m ρ) (hin := phi0_intro m) (hout := phi1_exit m)
    (QY := fun c s => ends m c s ∧ ∀ sm : SemLoc sig, sm.isScoped .tc = false → s.sem ((c.tc : Thread nD τ), sm) = 0)
    (hY := read_ends m)
    (hQ := fun _ h hs => ⟨fun c => (h c).2.2.1, sem_eq_zero hs fun c => (h c).2.2.2⟩)

end Cert.KernelIdeal.Ring
end
-- ==== Proof.Ideal.lean ====
module
public import proofs.«01_k».proof.Proof.Vals
public import Idealize.ShloMosaic.Lib.Pointwise

@[expose] public section

noncomputable section

namespace Cert.KernelIdeal.Ring

open Idealize.ShloMosaic Idealize.SL.Sem Cert.KernelIdeal Cert.KernelIdeal.Gen

/-! # What the kernel computes, in exact arithmetic

At `Ideal` a rounding changes nothing, so a partial sum that travels round the ring is the sum of the products of the
devices it has passed. -/

variable (m : (ℓ : Loc nD τ sig) → Buf (Elt Ideal) ℓ)

/-- One device's share of an entry of the product: its columns of the left operand with its rows of the right one. -/
def D (c : Dev nD) (i : S2048x2048.Idx) : EReal := ∑ k : Fin 1024, aOf m c (ix2 (i 0) k) * bOf m c (ix2 k (i 1))

/-- A quarter of 64 rows begins where the whole array's row does. -/
theorem quarter_emb (X : Bool) (c : Dev nD) (t : ℕ) (q : Fin 4) (y : S16x2048.Idx) (k : Fin 1024) :
    (aR ![row X c t 0, 0] (inb64a X c t)).emb (ix2 (((Rq q).emb y) 0) k) = ix2 (((R16 X c t q).emb y) 0) k := by
  funext a
  match a with
  | 0 => exact Fin.ext (by
      rw [Rect.emb_apply]
      show row X c t 0 + 1 * (16 * q.val + 1 * (y 0).val) = row X c t q.val + 1 * (y 0).val
      rw [row_quarter X c t q.val]; omega)
  | 1 => exact Fin.ext (by
      rw [Rect.emb_apply]
      show 0 + 1 * k.val = k.val
      omega)

/-- A block of the device's product holds its shares of the block's entries. -/
theorem dotQ_eq (c : Dev nD) (X : Bool) (t : ℕ) (q : Fin 4) (y : S16x2048.Idx) :
    dotQ m c X t q y = D m c ((R16 X c t q).emb y) := by
  unfold dotQ dotBlk b16
  generalize hz : (Rq q).emb y = z
  pointwise [dotPay, b16Pay]
  unfold D
  have e1 : z 1 = (R16 X c t q).emb y 1 := by subst hz; rfl
  refine Finset.sum_congr rfl fun k _ => ?_
  subst hz
  rw [quarter_emb X c t q y k]
  rfl

/-- The rows of the sender's block at a hop are those of the receiver's at the next. -/
theorem emb_src (X : Bool) (c : Dev nD) (t : ℕ) (ht : t < 16) (q : Fin 4) (y : S16x2048.Idx) :
    (R16 X (srcOf X c) t q).emb y = (R16 X c (t + 1) q).emb y := by
  funext a
  match a with
  | 0 => exact Fin.ext (by
      show row X (srcOf X c) t q.val + 1 * (y 0).val = row X c (t + 1) q.val + 1 * (y 0).val
      rw [row_src X c t q.val ht])
  | 1 => rfl

/-- Adding an arrived partial sum adds its entries. -/
theorem sumPay_eq (v : Vec Ideal S16x2048 .f32) (r : Vec Ideal S1x16x2048 .bf16) (a : Fin 16) (b : Fin 2048) :
    sumPay v r (ix2 a b) = (v (ix2 a b) + r (ix3 0 a b) : EReal) := by
  pointwise [sumPay]

/-- Cutting rows down to send them changes no entry; -/
theorem cutPay_eq (v : Vec Ideal S16x2048 .f32) (a : Fin 16) (b : Fin 2048) :
    cutPay v (ix3 0 a b) = (v (ix2 a b) : EReal) := by
  pointwise [cutPay]
/-- nor does passing them on, -/
theorem passPay_eq (r : Vec Ideal S1x16x2048 .bf16) (a : Fin 16) (b : Fin 2048) :
    passPay r (ix3 0 a b) = (r (ix3 0 a b) : EReal) := by
  pointwise [passPay]
/-- nor widening what arrived. -/
theorem widePay_eq (r : Vec Ideal S1x16x2048 .bf16) (a : Fin 16) (b : Fin 2048) :
    widePay r (ix2 a b) = (r (ix3 0 a b) : EReal) := by
  pointwise [widePay]

/-- The partial sum sent at a hop: the shares of the devices passed so far. -/
theorem rsHop_eq (X : Bool) (q : Fin 4) (a : Fin 16) (b : Fin 2048) : ∀ (n : ℕ) (_ : n < 16) (c : Dev nD),
    rsHop m X q n c (ix3 0 a b) = ∑ j ∈ Finset.range (n + 1), D m ((srcOf X)^[j] c) ((R16 X c n q).emb (ix2 a b))
  | 0, _, c => by
    rw [Finset.sum_range_one]
    exact (cutPay_eq _ a b).trans (dotQ_eq m c X 0 q _)
  | n + 1, hn, c => by
    have ih := rsHop_eq X q a b n (by omega) (srcOf X c)
    rw [emb_src X c n (by omega)] at ih
    rw [Finset.sum_range_succ', add_comm (Finset.sum _ _)]
    refine (cutPay_eq _ a b).trans ((sumPay_eq _ _ a b).trans ?_)
    rw [dotQ_eq]
    exact congrArg (D m c _ + ·) ih

/-- The activation of one number. -/
def act (x : EReal) : EReal :=
  Ideal.ofBits .f32 0x3F000000#32 * x * (1 + Ideal.tanh (Ideal.ofBits .f32 0x3F4C422A#32
    * (x + Ideal.ofBits .f32 0x3D372713#32 * x * x * x)))

/-- The activation of a block is taken entry by entry. -/
theorem geluPay_eq (v : FVec Ideal S16x2048 .f32) (y : S16x2048.Idx) : geluPay v y = act (v y) := by
  unfold act
  pointwise [geluPay]

/-- Where on the ring the device is whose messages arrive after some hops. -/
theorem pos_iter (X : Bool) : ∀ (j : ℕ) (c : Dev nD), pos ((srcOf X)^[j] c) = (pos c + (bif X then 15 else 1) * j) % 16
  | 0, c => by have := pos_lt c; cases X <;> simp only [cond_true, cond_false, Function.iterate_zero, id] <;> omega
  | j + 1, c => by
    rw [Function.iterate_succ_apply, pos_iter X j]
    cases X
    · simp only [cond_false]; rw [show srcOf false c = rightOf c from rfl, rightOf_pos]; omega
    · simp only [cond_true]; rw [show srcOf true c = leftOf c from rfl, leftOf_pos]; omega

/-- Going round the ring meets every device once. -/
theorem sum_ring (X : Bool) (c : Dev nD) (f : Dev nD → EReal) :
    ∑ j ∈ Finset.range 16, f ((srcOf X)^[j] c) = ∑ d, f d := by
  rw [Finset.sum_range]
  have hinj : Function.Injective fun j : Fin 16 => (srcOf X)^[j.val] c := fun i j h => by
    have e := congrArg pos h
    simp only [pos_iter] at e
    have := i.isLt; have := j.isLt
    apply Fin.ext
    cases X <;> simp only [cond_true, cond_false] at e <;> omega
  have hbij := (Fintype.bijective_iff_injective_and_card _).mpr ⟨hinj, rfl⟩
  exact (Equiv.ofBijective _ hbij).sum_comp f

/-- A finished block: the activation of the whole product's entries. -/
theorem gel_eq (X : Bool) (q : Fin 4) (c : Dev nD) (a : Fin 16) (b : Fin 2048) :
    gel m X q c (ix2 a b) = act (∑ d, D m d ((R16 X c 15 q).emb (ix2 a b))) := by
  unfold gel
  rw [geluPay_eq, sumPay_eq, dotQ_eq, rsHop_eq m X q _ _ 14 (by omega), emb_src X c 14 (by omega)]
  rw [← sum_ring X c, Finset.sum_range_succ' _ 15, add_comm (Finset.sum _ _)]
  rfl

/-- The rows that arrive in the gathering are finished blocks of the device that they started at. -/
theorem agHop_eq (X : Bool) (q : Fin 4) (a : Fin 16) (b : Fin 2048) : ∀ (n : ℕ) (c : Dev nD),
    agHop m X q n c (ix3 0 a b) = (gel m X q ((srcOf X)^[n] c) (ix2 a b) : EReal)
  | 0, c => cutPay_eq _ a b
  | n + 1, c => (passPay_eq _ a b).trans (agHop_eq X q a b n (srcOf X c))

/-- After sixteen hops a device is back at the chunk it began with. -/
theorem row_wrap (X : Bool) (c : Dev nD) (q : ℕ) : row X c 16 q = row X c 0 q := by
  unfold row chunk; cases X <;> simp only [cond_true, cond_false] <;> omega

/-- The chunk that a device finishes is the one it is handed on as. -/
theorem row_iter (X : Bool) (q : ℕ) : ∀ (n : ℕ) (_ : n < 16) (c : Dev nD), row X ((srcOf X)^[n + 1] c) 15 q = row X c n q
  | 0, _, c => (row_src X c 15 q (by omega)).trans (row_wrap X c q)
  | n + 1, h, c => (row_iter X q n (by omega) (srcOf X c)).trans (row_src X c n q (by omega))

/-- Every block that a device ends with is the activation of the whole product's entries. -/
theorem outQ_eq (c : Dev nD) (X : Bool) (t : ℕ) (ht : t < 16) (q : Fin 4) (a : Fin 16) (b : Fin 2048) :
    outQ m c X t q (ix2 a b) = act (∑ d, D m d ((R16 X c t q).emb (ix2 a b))) := by
  unfold outQ
  split
  · refine (widePay_eq _ a b).trans ((agHop_eq m X q a b t _).trans ?_)
    rw [gel_eq, ← Function.iterate_succ_apply (srcOf X) t c]
    have e : (R16 X ((srcOf X)^[t + 1] c) 15 q).emb (ix2 a b) = (R16 X c t q).emb (ix2 a b) := by
      funext z
      match z with
      | 0 => exact Fin.ext (by
          show row X ((srcOf X)^[t + 1] c) 15 q.val + 1 * a.val = row X c t q.val + 1 * a.val
          rw [row_iter X q.val t ht c])
      | 1 => rfl
    rw [e]
  · obtain rfl : t = 15 := by omega
    exact gel_eq m X q c a b

/-- **Every device's result: at each place the activation of the sum of all devices' shares.** -/
theorem outAll_eq (c : Dev nD) (i : S2048x2048.Idx) : outAll m c i = act (∑ d, D m d i) := by
  have h0 : (i 0).val < 2048 := (i 0).isLt
  unfold outAll asm
  generalize hX : decide ((i 0).val % 128 < 64) = X
  have ht : hopOf X c ((i 0).val / 128) < 16 := Nat.mod_lt _ (by decide)
  have e : (R16 X c (hopOf X c ((i 0).val / 128)) (qF ((i 0).val % 64 / 16))).emb
      (ix2 (⟨(i 0).val % 16, Nat.mod_lt _ (by decide)⟩ : Fin 16) (i 1 : Fin 2048)) = i := by
    funext z
    match z with
    | 0 => exact Fin.ext (by
        show row X c (hopOf X c ((i 0).val / 128)) ((i 0).val % 64 / 16 % 4) + 1 * ((i 0).val % 16) = (i 0).val
        have := pos_lt c
        unfold row chunk hopOf
        cases X
        · have := of_decide_eq_false hX
          simp only [cond_false]; omega
        · have := of_decide_eq_true hX
          simp only [cond_true]; omega)
    | 1 => exact Fin.ext (by show 0 + 1 * (i 1).val = (i 1).val; omega)
  have o := outQ_eq m c X _ ht (qF ((i 0).val % 64 / 16)) ⟨(i 0).val % 16, Nat.mod_lt _ (by decide)⟩ (i 1)
  rw [e] at o
  refine Eq.trans ?_ o
  congr 1
  funext z
  match z with
  | 0 => rfl
  | 1 => rfl

end Cert.KernelIdeal.Ring
end
-- ==== Proof.Value.lean ====
module
public import proofs.«01_k».proof.Proof.Ideal
public import proofs.«01_k».proof.Proof.Gen.ReferenceIdeal.Run
public import Idealize.ShloMosaic.Lib.Layout

@[expose] public section

noncomputable section

namespace Cert.KernelIdeal.Ring

open Idealize.ShloMosaic Idealize.SL.Sem Cert.KernelIdeal Cert.KernelIdeal.Gen

/-! # The reference's result is what every device ends with -/

variable (m : (ℓ : Loc nD τ sig) → Buf (Elt Ideal) ℓ)

/-- The whole operands. -/
abbrev Whole₀ := FVec Ideal Cert.ReferenceIdeal.S2048x16384 .f32
abbrev Whole₁ := FVec Ideal Cert.ReferenceIdeal.S16384x2048 .f32

/-- The place of a device's column of the left operand, which is that of its row of the right one, among all of them. -/
def place (d : Dev nD) (k : Fin 1024) : Fin 16384 := finProdFinEquiv (m := 16) (n := 1024) (d, k)

/-- That place as a number. -/
theorem place_val (d : Dev nD) (k : Fin 1024) : (place d k).val = k.val + 1024 * d.val := rfl

/-- A sum over all of them is the sum over the devices of each device's. -/
theorem sum_place (f : Fin 16384 → EReal) : ∑ k, f k = ∑ d : Dev nD, ∑ k : Fin 1024, f (place d k) := by
  rw [← Fintype.sum_prod_type' (f := fun (d : Fin 16) (k : Fin 1024) => f (place d k))]
  exact ((finProdFinEquiv (m := 16) (n := 1024)).sum_comp f).symm

/-- A device's share of an entry, by the whole operands. -/
theorem share_eq (A : Whole₀) (B : Whole₁) (c : Dev nD)
    (hA : aOf m c = Layout.block ⟨2, ![2048, 1024]⟩ ⟨2, ![2048, 16384]⟩ 1 16 c A)
    (hB : bOf m c = Layout.block ⟨2, ![1024, 2048]⟩ ⟨2, ![16384, 2048]⟩ 0 16 c B) (a b : Fin 2048) :
    D m c (ix2 a b) = ∑ k : Fin 1024, A (ix2 a (place c k)) * B (ix2 (place c k) b) := by
  unfold D
  rw [hA, hB]
  refine Finset.sum_congr rfl fun k _ => ?_
  refine congr (congrArg HMul.hMul (congrArg A ?_)) (congrArg B ?_)
  · funext z
    match z with
    | 0 => exact Fin.ext rfl
    | 1 => exact Fin.ext (by show c.val * 1024 + k.val = (place c k).val; rw [place_val]; omega)
  · funext z
    match z with
    | 0 => exact Fin.ext (by show c.val * 1024 + k.val = (place c k).val; rw [place_val]; omega)
    | 1 => exact Fin.ext rfl

open Cert.ReferenceIdeal Cert.ReferenceIdeal.Gen in
/-- What the reference computes of the whole operands. -/
def refOf (A : Whole₀) (B : Whole₁) : FVec Ideal Cert.ReferenceIdeal.S2048x2048 .f32 :=
  let Z := Host.dotGeneral dot_S2048x16384_S16384x2048_S2048x2048_1_0_0_1_n_n none A B
  mulf (mulf (broadcastInDim S2048x2048 ![] bcast_S_S2048x2048 (constant S_ .f32 0x3F000000#32)) Z)
    (addf (broadcastInDim S2048x2048 ![] bcast_S_S2048x2048 (constant S_ .f32 0x3F800000#32))
      (Host.tanh (mulf (broadcastInDim S2048x2048 ![] bcast_S_S2048x2048 (constant S_ .f32 0x3F4C422A#32))
        (addf Z (mulf (mulf (mulf (broadcastInDim S2048x2048 ![] bcast_S_S2048x2048 (constant S_ .f32 0x3D372713#32)) Z) Z) Z)))))

/-- It is the activation of the product's entries. -/
theorem refOf_eq (A : Whole₀) (B : Whole₁) (a b : Fin 2048) :
    refOf A B (ix2 a b) = act (∑ k : Fin 16384, A (ix2 a k) * B (ix2 k b)) := by
  unfold act
  pointwise [refOf]

/-- **Every device ends with the reference's result.** -/
theorem value (A : Whole₀) (B : Whole₁)
    (h : ∀ c : Dev nD, aOf m c = Layout.block ⟨2, ![2048, 1024]⟩ ⟨2, ![2048, 16384]⟩ 1 16 c A
      ∧ bOf m c = Layout.block ⟨2, ![1024, 2048]⟩ ⟨2, ![16384, 2048]⟩ 0 16 c B) (c : Dev nD) :
    outAll m c = refOf A B := by
  funext i
  rw [outAll_eq]
  obtain ⟨a, b, rfl⟩ : ∃ a b : Fin 2048, i = ix2 a b := ⟨i 0, i 1, eq_ix2 i⟩
  rw [refOf_eq, sum_place]
  exact congrArg act (Finset.sum_congr rfl fun d _ => share_eq m A B d (h d).1 (h d).2 a b)

end Cert.KernelIdeal.Ring
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The kernel runs to its end, leaves its arguments and every counter as they were. -/
theorem frame_kernel : Cert.quiescent_Kernel := fun m ρ _ =>
  (θ_run Cert.KernelIdeal.defs _ _).mono (fun _ h => ⟨fun c => ⟨(h.1 c).1, (h.1 c).2.1⟩, h.2⟩)
    (Cert.KernelIdeal.Ring.run_main (F := Bits) m ρ)

/-- So does its idealization. -/
theorem frame_ideal : Cert.quiescent_KernelIdeal := fun m ρ _ =>
  (θ_run Cert.KernelIdeal.defs _ _).mono (fun _ h => ⟨fun c => ⟨(h.1 c).1, (h.1 c).2.1⟩, h.2⟩)
    (Cert.KernelIdeal.Ring.run_main (F := Ideal) m ρ)

/-- So does the reference, which has no semaphores. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- In exact arithmetic every device ends with the reference's result. -/
theorem same_value : Cert.algebraic_KernelIdeal_ReferenceIdeal := fun m ρ m' ρ' _ hag =>
  ⟨Cert.KernelIdeal.Ring.refOf _ _,
    (θ_run Cert.KernelIdeal.defs _ _).mono
      (fun _ h c => ⟨(h.1 c).2.2.trans (Cert.KernelIdeal.Ring.value m _ _ hag c), (h.1 c).1, (h.1 c).2.1⟩)
      (Cert.KernelIdeal.Ring.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts, by
  exact ⟨frame_kernel, frame_ideal, frame_reference, trivial, same_value⟩⟩

end Cert.Proof

end
